-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite [hPre_finite : Cert.Pre_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnPle (m : (ℓ : Loc Cert.FfnPle.nD Cert.FfnPle.τ Cert.FfnPle.sig) → Buf (Elt Bits) ℓ) : Prop :=
  True

def Pre_FfnPleIdeal (m : (ℓ : Loc Cert.FfnPleIdeal.nD Cert.FfnPleIdeal.τ Cert.FfnPleIdeal.sig) → Buf (Elt Ideal) ℓ) : Prop :=
  True

def Pre_FfnPleRefIdeal (m : (ℓ : Loc Cert.FfnPleRefIdeal.nD Cert.FfnPleRefIdeal.τ Cert.FfnPleRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13))
      ∧ r.2.sem = fun _ => 0)

def quiescent_MixerRefIdeal_pre_finite [hMixerRefIdeal : Cert.MixerRefIdeal.Facts] [hPre_finite : Cert.Pre_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnPle [hFfnPle : Cert.FfnPle.Facts] : Prop :=
  ∀ (m : (ℓ : Loc Cert.FfnPle.nD Cert.FfnPle.τ Cert.FfnPle.sig) → Buf (Elt Bits) ℓ) (g : Dev Cert.FfnPle.nD → PrngReg), Pre_FfnPle m →
    θ_run (Cert.FfnPle.defs (F := Bits)) (onTc (τ := Cert.FfnPle.τ) (Cert.FfnPle.main (F := Bits))) ⟨m, fun _ => 0, g⟩ (fun r => (∀ c : Dev Cert.FfnPle.nD,
      r.2.mem ((c.tc : Thread Cert.FfnPle.nD Cert.FfnPle.τ).loc Cert.FfnPle.main_arg0) = m ((c.tc : Thread Cert.FfnPle.nD Cert.FfnPle.τ).loc Cert.FfnPle.main_arg0)
      ∧ r.2.mem ((c.tc : Thread Cert.FfnPle.nD Cert.FfnPle.τ).loc Cert.FfnPle.main_arg1) = m ((c.tc : Thread Cert.FfnPle.nD Cert.FfnPle.τ).loc Cert.FfnPle.main_arg1)
      ∧ r.2.mem ((c.tc : Thread Cert.FfnPle.nD Cert.FfnPle.τ).loc Cert.FfnPle.main_arg2) = m ((c.tc : Thread Cert.FfnPle.nD Cert.FfnPle.τ).loc Cert.FfnPle.main_arg2)
      ∧ r.2.mem ((c.tc : Thread Cert.FfnPle.nD Cert.FfnPle.τ).loc Cert.FfnPle.main_arg3) = m ((c.tc : Thread Cert.FfnPle.nD Cert.FfnPle.τ).loc Cert.FfnPle.main_arg3)
      ∧ r.2.mem ((c.tc : Thread Cert.FfnPle.nD Cert.FfnPle.τ).loc Cert.FfnPle.main_arg4) = m ((c.tc : Thread Cert.FfnPle.nD Cert.FfnPle.τ).loc Cert.FfnPle.main_arg4)
      ∧ r.2.mem ((c.tc : Thread Cert.FfnPle.nD Cert.FfnPle.τ).loc Cert.FfnPle.main_arg5) = m ((c.tc : Thread Cert.FfnPle.nD Cert.FfnPle.τ).loc Cert.FfnPle.main_arg5)
      ∧ r.2.mem ((c.tc : Thread Cert.FfnPle.nD Cert.FfnPle.τ).loc Cert.FfnPle.main_arg6) = m ((c.tc : Thread Cert.FfnPle.nD Cert.FfnPle.τ).loc Cert.FfnPle.main_arg6))
      ∧ r.2.sem = fun _ => 0)

def quiescent_FfnPleIdeal [hFfnPleIdeal : Cert.FfnPleIdeal.Facts] : Prop :=
  ∀ (m : (ℓ : Loc Cert.FfnPleIdeal.nD Cert.FfnPleIdeal.τ Cert.FfnPleIdeal.sig) → Buf (Elt Ideal) ℓ) (g : Dev Cert.FfnPleIdeal.nD → PrngReg), Pre_FfnPleIdeal m →
    θ_run (Cert.FfnPleIdeal.defs (F := Ideal)) (onTc (τ := Cert.FfnPleIdeal.τ) (Cert.FfnPleIdeal.main (F := Ideal))) ⟨m, fun _ => 0, g⟩ (fun r => (∀ c : Dev Cert.FfnPleIdeal.nD,
      r.2.mem ((c.tc : Thread Cert.FfnPleIdeal.nD Cert.FfnPleIdeal.τ).loc Cert.FfnPleIdeal.main_arg0) = m ((c.tc : Thread Cert.FfnPleIdeal.nD Cert.FfnPleIdeal.τ).loc Cert.FfnPleIdeal.main_arg0)
      ∧ r.2.mem ((c.tc : Thread Cert.FfnPleIdeal.nD Cert.FfnPleIdeal.τ).loc Cert.FfnPleIdeal.main_arg1) = m ((c.tc : Thread Cert.FfnPleIdeal.nD Cert.FfnPleIdeal.τ).loc Cert.FfnPleIdeal.main_arg1)
      ∧ r.2.mem ((c.tc : Thread Cert.FfnPleIdeal.nD Cert.FfnPleIdeal.τ).loc Cert.FfnPleIdeal.main_arg2) = m ((c.tc : Thread Cert.FfnPleIdeal.nD Cert.FfnPleIdeal.τ).loc Cert.FfnPleIdeal.main_arg2)
      ∧ r.2.mem ((c.tc : Thread Cert.FfnPleIdeal.nD Cert.FfnPleIdeal.τ).loc Cert.FfnPleIdeal.main_arg3) = m ((c.tc : Thread Cert.FfnPleIdeal.nD Cert.FfnPleIdeal.τ).loc Cert.FfnPleIdeal.main_arg3)
      ∧ r.2.mem ((c.tc : Thread Cert.FfnPleIdeal.nD Cert.FfnPleIdeal.τ).loc Cert.FfnPleIdeal.main_arg4) = m ((c.tc : Thread Cert.FfnPleIdeal.nD Cert.FfnPleIdeal.τ).loc Cert.FfnPleIdeal.main_arg4)
      ∧ r.2.mem ((c.tc : Thread Cert.FfnPleIdeal.nD Cert.FfnPleIdeal.τ).loc Cert.FfnPleIdeal.main_arg5) = m ((c.tc : Thread Cert.FfnPleIdeal.nD Cert.FfnPleIdeal.τ).loc Cert.FfnPleIdeal.main_arg5)
      ∧ r.2.mem ((c.tc : Thread Cert.FfnPleIdeal.nD Cert.FfnPleIdeal.τ).loc Cert.FfnPleIdeal.main_arg6) = m ((c.tc : Thread Cert.FfnPleIdeal.nD Cert.FfnPleIdeal.τ).loc Cert.FfnPleIdeal.main_arg6))
      ∧ r.2.sem = fun _ => 0)

def quiescent_FfnPleRefIdeal [hFfnPleRefIdeal : Cert.FfnPleRefIdeal.Facts] : Prop :=
  ∀ (m : (ℓ : Loc Cert.FfnPleRefIdeal.nD Cert.FfnPleRefIdeal.τ Cert.FfnPleRefIdeal.sig) → Buf (Elt Ideal) ℓ) (g : Dev Cert.FfnPleRefIdeal.nD → PrngReg), Pre_FfnPleRefIdeal m →
    θ_run (Cert.FfnPleRefIdeal.defs (F := Ideal)) (onTc (τ := Cert.FfnPleRefIdeal.τ) (Cert.FfnPleRefIdeal.main (F := Ideal))) ⟨m, fun _ => 0, g⟩ (fun r => (∀ c : Dev Cert.FfnPleRefIdeal.nD,
      r.2.mem ((c.tc : Thread Cert.FfnPleRefIdeal.nD Cert.FfnPleRefIdeal.τ).loc Cert.FfnPleRefIdeal.main_arg0) = m ((c.tc : Thread Cert.FfnPleRefIdeal.nD Cert.FfnPleRefIdeal.τ).loc Cert.FfnPleRefIdeal.main_arg0)
      ∧ r.2.mem ((c.tc : Thread Cert.FfnPleRefIdeal.nD Cert.FfnPleRefIdeal.τ).loc Cert.FfnPleRefIdeal.main_arg1) = m ((c.tc : Thread Cert.FfnPleRefIdeal.nD Cert.FfnPleRefIdeal.τ).loc Cert.FfnPleRefIdeal.main_arg1)
      ∧ r.2.mem ((c.tc : Thread Cert.FfnPleRefIdeal.nD Cert.FfnPleRefIdeal.τ).loc Cert.FfnPleRefIdeal.main_arg2) = m ((c.tc : Thread Cert.FfnPleRefIdeal.nD Cert.FfnPleRefIdeal.τ).loc Cert.FfnPleRefIdeal.main_arg2)
      ∧ r.2.mem ((c.tc : Thread Cert.FfnPleRefIdeal.nD Cert.FfnPleRefIdeal.τ).loc Cert.FfnPleRefIdeal.main_arg3) = m ((c.tc : Thread Cert.FfnPleRefIdeal.nD Cert.FfnPleRefIdeal.τ).loc Cert.FfnPleRefIdeal.main_arg3)
      ∧ r.2.mem ((c.tc : Thread Cert.FfnPleRefIdeal.nD Cert.FfnPleRefIdeal.τ).loc Cert.FfnPleRefIdeal.main_arg4) = m ((c.tc : Thread Cert.FfnPleRefIdeal.nD Cert.FfnPleRefIdeal.τ).loc Cert.FfnPleRefIdeal.main_arg4)
      ∧ r.2.mem ((c.tc : Thread Cert.FfnPleRefIdeal.nD Cert.FfnPleRefIdeal.τ).loc Cert.FfnPleRefIdeal.main_arg5) = m ((c.tc : Thread Cert.FfnPleRefIdeal.nD Cert.FfnPleRefIdeal.τ).loc Cert.FfnPleRefIdeal.main_arg5)
      ∧ r.2.mem ((c.tc : Thread Cert.FfnPleRefIdeal.nD Cert.FfnPleRefIdeal.τ).loc Cert.FfnPleRefIdeal.main_arg6) = m ((c.tc : Thread Cert.FfnPleRefIdeal.nD Cert.FfnPleRefIdeal.τ).loc Cert.FfnPleRefIdeal.main_arg6))
      ∧ r.2.sem = fun _ => 0)

def preserves_Mixer_MixerIdeal : Prop :=
  True

def algebraic_MixerIdeal_MixerRefIdeal_pre_finite [hMixerIdeal : Cert.MixerIdeal.Facts] [hMixerRefIdeal : Cert.MixerRefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)) →
    ∃ (v0 : (c : Dev Cert.MixerIdeal.nD) → Buf (Elt Ideal) ((c.tc : Thread Cert.MixerIdeal.nD Cert.MixerIdeal.τ).loc Cert.MixerIdeal.main_v70)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v70) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v757) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnPle_FfnPleIdeal : Prop :=
  True

def algebraic_FfnPleIdeal_FfnPleRefIdeal [hFfnPleIdeal : Cert.FfnPleIdeal.Facts] [hFfnPleRefIdeal : Cert.FfnPleRefIdeal.Facts] : Prop :=
  ∀ (m : (ℓ : Loc Cert.FfnPleIdeal.nD Cert.FfnPleIdeal.τ Cert.FfnPleIdeal.sig) → Buf (Elt Ideal) ℓ) (g : Dev Cert.FfnPleIdeal.nD → PrngReg)
    (m' : (ℓ : Loc Cert.FfnPleRefIdeal.nD Cert.FfnPleRefIdeal.τ Cert.FfnPleRefIdeal.sig) → Buf (Elt Ideal) ℓ) (g' : Dev Cert.FfnPleRefIdeal.nD → PrngReg), Pre_FfnPleIdeal m →
    (∀ c : Dev Cert.FfnPleIdeal.nD,
      m' ((c.tc : Thread Cert.FfnPleRefIdeal.nD Cert.FfnPleRefIdeal.τ).loc Cert.FfnPleRefIdeal.main_arg0) = m ((c.tc : Thread Cert.FfnPleIdeal.nD Cert.FfnPleIdeal.τ).loc Cert.FfnPleIdeal.main_arg0)
      ∧ m' ((c.tc : Thread Cert.FfnPleRefIdeal.nD Cert.FfnPleRefIdeal.τ).loc Cert.FfnPleRefIdeal.main_arg1) = m ((c.tc : Thread Cert.FfnPleIdeal.nD Cert.FfnPleIdeal.τ).loc Cert.FfnPleIdeal.main_arg1)
      ∧ m' ((c.tc : Thread Cert.FfnPleRefIdeal.nD Cert.FfnPleRefIdeal.τ).loc Cert.FfnPleRefIdeal.main_arg2) = m ((c.tc : Thread Cert.FfnPleIdeal.nD Cert.FfnPleIdeal.τ).loc Cert.FfnPleIdeal.main_arg2)
      ∧ m' ((c.tc : Thread Cert.FfnPleRefIdeal.nD Cert.FfnPleRefIdeal.τ).loc Cert.FfnPleRefIdeal.main_arg3) = m ((c.tc : Thread Cert.FfnPleIdeal.nD Cert.FfnPleIdeal.τ).loc Cert.FfnPleIdeal.main_arg3)
      ∧ m' ((c.tc : Thread Cert.FfnPleRefIdeal.nD Cert.FfnPleRefIdeal.τ).loc Cert.FfnPleRefIdeal.main_arg4) = m ((c.tc : Thread Cert.FfnPleIdeal.nD Cert.FfnPleIdeal.τ).loc Cert.FfnPleIdeal.main_arg4)
      ∧ m' ((c.tc : Thread Cert.FfnPleRefIdeal.nD Cert.FfnPleRefIdeal.τ).loc Cert.FfnPleRefIdeal.main_arg5) = m ((c.tc : Thread Cert.FfnPleIdeal.nD Cert.FfnPleIdeal.τ).loc Cert.FfnPleIdeal.main_arg5)
      ∧ m' ((c.tc : Thread Cert.FfnPleRefIdeal.nD Cert.FfnPleRefIdeal.τ).loc Cert.FfnPleRefIdeal.main_arg6) = m ((c.tc : Thread Cert.FfnPleIdeal.nD Cert.FfnPleIdeal.τ).loc Cert.FfnPleIdeal.main_arg6)) →
    ∃ (v0 : (c : Dev Cert.FfnPleIdeal.nD) → Buf (Elt Ideal) ((c.tc : Thread Cert.FfnPleIdeal.nD Cert.FfnPleIdeal.τ).loc Cert.FfnPleIdeal.main_v2)),
      θ_run (Cert.FfnPleIdeal.defs (F := Ideal)) (onTc (τ := Cert.FfnPleIdeal.τ) (Cert.FfnPleIdeal.main (F := Ideal))) ⟨m, fun _ => 0, g⟩ (fun r => ∀ c : Dev Cert.FfnPleIdeal.nD,
          r.2.mem ((c.tc : Thread Cert.FfnPleIdeal.nD Cert.FfnPleIdeal.τ).loc Cert.FfnPleIdeal.main_v2) = v0 c
          ∧ r.2.mem ((c.tc : Thread Cert.FfnPleIdeal.nD Cert.FfnPleIdeal.τ).loc Cert.FfnPleIdeal.main_arg0) = m ((c.tc : Thread Cert.FfnPleIdeal.nD Cert.FfnPleIdeal.τ).loc Cert.FfnPleIdeal.main_arg0)
          ∧ r.2.mem ((c.tc : Thread Cert.FfnPleIdeal.nD Cert.FfnPleIdeal.τ).loc Cert.FfnPleIdeal.main_arg1) = m ((c.tc : Thread Cert.FfnPleIdeal.nD Cert.FfnPleIdeal.τ).loc Cert.FfnPleIdeal.main_arg1)
          ∧ r.2.mem ((c.tc : Thread Cert.FfnPleIdeal.nD Cert.FfnPleIdeal.τ).loc Cert.FfnPleIdeal.main_arg2) = m ((c.tc : Thread Cert.FfnPleIdeal.nD Cert.FfnPleIdeal.τ).loc Cert.FfnPleIdeal.main_arg2)
          ∧ r.2.mem ((c.tc : Thread Cert.FfnPleIdeal.nD Cert.FfnPleIdeal.τ).loc Cert.FfnPleIdeal.main_arg3) = m ((c.tc : Thread Cert.FfnPleIdeal.nD Cert.FfnPleIdeal.τ).loc Cert.FfnPleIdeal.main_arg3)
          ∧ r.2.mem ((c.tc : Thread Cert.FfnPleIdeal.nD Cert.FfnPleIdeal.τ).loc Cert.FfnPleIdeal.main_arg4) = m ((c.tc : Thread Cert.FfnPleIdeal.nD Cert.FfnPleIdeal.τ).loc Cert.FfnPleIdeal.main_arg4)
          ∧ r.2.mem ((c.tc : Thread Cert.FfnPleIdeal.nD Cert.FfnPleIdeal.τ).loc Cert.FfnPleIdeal.main_arg5) = m ((c.tc : Thread Cert.FfnPleIdeal.nD Cert.FfnPleIdeal.τ).loc Cert.FfnPleIdeal.main_arg5)
          ∧ r.2.mem ((c.tc : Thread Cert.FfnPleIdeal.nD Cert.FfnPleIdeal.τ).loc Cert.FfnPleIdeal.main_arg6) = m ((c.tc : Thread Cert.FfnPleIdeal.nD Cert.FfnPleIdeal.τ).loc Cert.FfnPleIdeal.main_arg6))
      ∧ θ_run (Cert.FfnPleRefIdeal.defs (F := Ideal)) (onTc (τ := Cert.FfnPleRefIdeal.τ) (Cert.FfnPleRefIdeal.main (F := Ideal))) ⟨m', fun _ => 0, g'⟩ (fun r => ∀ c : Dev Cert.FfnPleRefIdeal.nD,
          r.2.mem ((c.tc : Thread Cert.FfnPleRefIdeal.nD Cert.FfnPleRefIdeal.τ).loc Cert.FfnPleRefIdeal.main_v78) = v0 c
          ∧ r.2.mem ((c.tc : Thread Cert.FfnPleRefIdeal.nD Cert.FfnPleRefIdeal.τ).loc Cert.FfnPleRefIdeal.main_arg0) = m' ((c.tc : Thread Cert.FfnPleRefIdeal.nD Cert.FfnPleRefIdeal.τ).loc Cert.FfnPleRefIdeal.main_arg0)
          ∧ r.2.mem ((c.tc : Thread Cert.FfnPleRefIdeal.nD Cert.FfnPleRefIdeal.τ).loc Cert.FfnPleRefIdeal.main_arg1) = m' ((c.tc : Thread Cert.FfnPleRefIdeal.nD Cert.FfnPleRefIdeal.τ).loc Cert.FfnPleRefIdeal.main_arg1)
          ∧ r.2.mem ((c.tc : Thread Cert.FfnPleRefIdeal.nD Cert.FfnPleRefIdeal.τ).loc Cert.FfnPleRefIdeal.main_arg2) = m' ((c.tc : Thread Cert.FfnPleRefIdeal.nD Cert.FfnPleRefIdeal.τ).loc Cert.FfnPleRefIdeal.main_arg2)
          ∧ r.2.mem ((c.tc : Thread Cert.FfnPleRefIdeal.nD Cert.FfnPleRefIdeal.τ).loc Cert.FfnPleRefIdeal.main_arg3) = m' ((c.tc : Thread Cert.FfnPleRefIdeal.nD Cert.FfnPleRefIdeal.τ).loc Cert.FfnPleRefIdeal.main_arg3)
          ∧ r.2.mem ((c.tc : Thread Cert.FfnPleRefIdeal.nD Cert.FfnPleRefIdeal.τ).loc Cert.FfnPleRefIdeal.main_arg4) = m' ((c.tc : Thread Cert.FfnPleRefIdeal.nD Cert.FfnPleRefIdeal.τ).loc Cert.FfnPleRefIdeal.main_arg4)
          ∧ r.2.mem ((c.tc : Thread Cert.FfnPleRefIdeal.nD Cert.FfnPleRefIdeal.τ).loc Cert.FfnPleRefIdeal.main_arg5) = m' ((c.tc : Thread Cert.FfnPleRefIdeal.nD Cert.FfnPleRefIdeal.τ).loc Cert.FfnPleRefIdeal.main_arg5)
          ∧ r.2.mem ((c.tc : Thread Cert.FfnPleRefIdeal.nD Cert.FfnPleRefIdeal.τ).loc Cert.FfnPleRefIdeal.main_arg6) = m' ((c.tc : Thread Cert.FfnPleRefIdeal.nD Cert.FfnPleRefIdeal.τ).loc Cert.FfnPleRefIdeal.main_arg6))

def Claim : Prop :=
  ∃ (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hFfnPle : Cert.FfnPle.Facts) (hFfnPleIdeal : Cert.FfnPleIdeal.Facts) (hFfnPleRefIdeal : Cert.FfnPleRefIdeal.Facts) (hPre_finite : Cert.Pre_finite.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerRefIdeal (hMixerRefIdeal := hMixerRefIdeal)
    ∧ quiescent_MixerRefIdeal_pre_finite (hMixerRefIdeal := hMixerRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnPle (hFfnPle := hFfnPle)
    ∧ quiescent_FfnPleIdeal (hFfnPleIdeal := hFfnPleIdeal)
    ∧ quiescent_FfnPleRefIdeal (hFfnPleRefIdeal := hFfnPleRefIdeal)
    ∧ preserves_Mixer_MixerIdeal
    ∧ algebraic_MixerIdeal_MixerRefIdeal_pre_finite (hMixerIdeal := hMixerIdeal) (hMixerRefIdeal := hMixerRefIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnPle_FfnPleIdeal
    ∧ algebraic_FfnPleIdeal_FfnPleRefIdeal (hFfnPleIdeal := hFfnPleIdeal) (hFfnPleRefIdeal := hFfnPleRefIdeal)
-- ==== Pre_finite.lean ====
abbrev S16384x1024 : Shape := ⟨2, ![16384, 1024]⟩
abbrev S8x1024 : Shape := ⟨2, ![8, 1024]⟩
abbrev S1024x2048 : Shape := ⟨2, ![1024, 2048]⟩
abbrev S1024x1024 : Shape := ⟨2, ![1024, 1024]⟩
abbrev S1024x128 : Shape := ⟨2, ![1024, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S1x1024 : Shape := ⟨2, ![1, 1024]⟩
abbrev S1024x1536 : Shape := ⟨2, ![1024, 1536]⟩
abbrev S1024x8 : Shape := ⟨2, ![1024, 8]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S8x1024_S1x1024_2_0 : S8x1024.Slices ![2, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S1024x2048_S1024x1536_0_0 : S1024x2048.Slices ![0, 0] S1024x1536
  bitsLt_bf16_f32 : FTy.bits .bf16 < FTy.bits .f32
  bcast_S_S1024x1536 : S_.BroadcastsInDim S1024x1536 (![] : Fin 0 → Fin S1024x1536.rank)
  reducesTo_S1024x1536_S_d0_1 : S1024x1536.ReducesTo [0, 1] S_
  slices_S1024x128_S1024x8_0_0 : S1024x128.Slices ![0, 0] S1024x8
  bcast_S_S1024x8 : S_.BroadcastsInDim S1024x8 (![] : Fin 0 → Fin S1024x8.rank)
  reducesTo_S1024x8_S_d0_1 : S1024x8.ReducesTo [0, 1] S_
  bcast_S_S4x1024 : S_.BroadcastsInDim S4x1024 (![] : Fin 0 → Fin S4x1024.rank)
  reducesTo_S4x1024_S_d0_1 : S4x1024.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_v34 : IVec S_ 1) (main_v35 : FVec F S8 .f32) : IVec S_ 1 :=
  let main_cst_10 : FVec F S_ .f32 := constant S_ .f32 0x7F800000#32
  let main_v36 : FVec F S8 .f32 := broadcastInDim S8 ![] bcast_S_S8 main_cst_10
  let main_v37 : IVec S8 1 := cmpf .olt main_v35 main_v36
  let main_c_11 : IVec S_ 1 := constantI S_ 1 1#1
  let main_v38 : IVec S_ 1 := (fun x v => Host.reduce IntOp.andi x v reducesTo_S8_S_d0 h_S_) main_v37 main_c_11
  let main_v39 : IVec S_ 1 := andi main_v34 main_v38
  main_v39

def fn_part1 {F : FTy → Type} [FloatOps F] (main_arg4 : FVec F S1024x128 .bf16) (main_arg5 : FVec F S4x1024 .f32) (main_arg6 : FVec F S1024 .f32) (main_arg7 : FVec F S8 .f32) (main_v17 : IVec S_ 1) : IVec S_ 1 :=
  let main_v18 : FVec F S1024x8 .bf16 := (extractStridedSlice S1024x8 ![0, 0] · slices_S1024x128_S1024x8_0_0) main_arg4
  let main_v19 : FVec F S1024x8 .f32 := (extf .f32 · bitsLt_bf16_f32) main_v18
  let main_v20 : FVec F S1024x8 .f32 := Host.absf main_v19
  let main_cst_4 : FVec F S_ .f32 := constant S_ .f32 0x7F800000#32
  let main_v21 : FVec F S1024x8 .f32 := broadcastInDim S1024x8 ![] bcast_S_S1024x8 main_cst_4
  let main_v22 : IVec S1024x8 1 := cmpf .olt main_v20 main_v21
  let main_c_5 : IVec S_ 1 := constantI S_ 1 1#1
  let main_v23 : IVec S_ 1 := (fun x v => Host.reduce IntOp.andi x v reducesTo_S1024x8_S_d0_1 h_S_) main_v22 main_c_5
  let main_v24 : IVec S_ 1 := andi main_v17 main_v23
  let main_v25 : FVec F S4x1024 .f32 := Host.absf main_arg5
  let main_cst_6 : FVec F S_ .f32 := constant S_ .f32 0x7F800000#32
  let main_v26 : FVec F S4x1024 .f32 := broadcastInDim S4x1024 ![] bcast_S_S4x1024 main_cst_6
  let main_v27 : IVec S4x1024 1 := cmpf .olt main_v25 main_v26
  let main_c_7 : IVec S_ 1 := constantI S_ 1 1#1
  let main_v28 : IVec S_ 1 := (fun x v => Host.reduce IntOp.andi x v reducesTo_S4x1024_S_d0_1 h_S_) main_v27 main_c_7
  let main_v29 : IVec S_ 1 := andi main_v24 main_v28
  let main_v30 : FVec F S1024 .f32 := Host.absf main_arg6
  let main_cst_8 : FVec F S_ .f32 := constant S_ .f32 0x7F800000#32
  let main_v31 : FVec F S1024 .f32 := broadcastInDim S1024 ![] bcast_S_S1024 main_cst_8
  let main_v32 : IVec S1024 1 := cmpf .olt main_v30 main_v31
  let main_c_9 : IVec S_ 1 := constantI S_ 1 1#1
  let main_v33 : IVec S_ 1 := (fun x v => Host.reduce IntOp.andi x v reducesTo_S1024_S_d0 h_S_) main_v32 main_c_9
  let main_v34 : IVec S_ 1 := andi main_v29 main_v33
  let main_v35 : FVec F S8 .f32 := Host.absf main_arg7
  fn_part2 (F := F) main_v34 main_v35

def fn {F : FTy → Type} [FloatOps F] (main_arg0 : FVec F S16384x1024 .f32) (main_arg1 : FVec F S8x1024 .f32) (main_arg2 : FVec F S1024x2048 .bf16) (main_arg3 : FVec F S1024x1024 .bf16) (main_arg4 : FVec F S1024x128 .bf16) (main_arg5 : FVec F S4x1024 .f32) (main_arg6 : FVec F S1024 .f32) (main_arg7 : FVec F S8 .f32) (main_arg8 : FVec F S512 .f32) (main_arg9 : FVec F S512 .f32) (main_arg10 : FVec F S512 .f32) (main_arg11 : FVec F S4x128x128 .f32) (main_arg12 : FVec F S4x128 .f32) (main_arg13 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := (extractStridedSlice S1x1024 ![2, 0] · slices_S8x1024_S1x1024_2_0) main_arg1
  let main_v5 : FVec F S1024 .f32 := shapeCast S1024 main_v4 shapeCasts_S1x1024_S1024
  let main_v6 : FVec F S1024 .f32 := Host.absf main_v5
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v3 main_v9
  let main_v11 : FVec F S1024x1536 .bf16 := (extractStridedSlice S1024x1536 ![0, 0] · slices_S1024x2048_S1024x1536_0_0) main_arg2
  let main_v12 : FVec F S1024x1536 .f32 := (extf .f32 · bitsLt_bf16_f32) main_v11
  let main_v13 : FVec F S1024x1536 .f32 := Host.absf main_v12
  let main_cst_2 : FVec F S_ .f32 := constant S_ .f32 0x7F800000#32
  let main_v14 : FVec F S1024x1536 .f32 := broadcastInDim S1024x1536 ![] bcast_S_S1024x1536 main_cst_2
  let main_v15 : IVec S1024x1536 1 := cmpf .olt main_v13 main_v14
  let main_c_3 : IVec S_ 1 := constantI S_ 1 1#1
  let main_v16 : IVec S_ 1 := (fun x v => Host.reduce IntOp.andi x v reducesTo_S1024x1536_S_d0_1 h_S_) main_v15 main_c_3
  let main_v17 : IVec S_ 1 := andi main_v10 main_v16
  fn_part1 (F := F) main_arg4 main_arg5 main_arg6 main_arg7 main_v17
-- ==== Mixer.lean ====
abbrev S16384x1024 : Shape := ⟨2, ![16384, 1024]⟩
abbrev S8x1024 : Shape := ⟨2, ![8, 1024]⟩
abbrev S1024x2048 : Shape := ⟨2, ![1024, 2048]⟩
abbrev S1024x1024 : Shape := ⟨2, ![1024, 1024]⟩
abbrev S1024x128 : Shape := ⟨2, ![1024, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S8x1 : Shape := ⟨2, ![8, 1]⟩
abbrev S8x128 : Shape := ⟨2, ![8, 128]⟩
abbrev S128x256 : Shape := ⟨2, ![128, 256]⟩
abbrev S_ : Shape := ⟨0, ![]⟩
abbrev S4x128x384 : Shape := ⟨3, ![4, 128, 384]⟩
abbrev S256x128 : Shape := ⟨2, ![256, 128]⟩
abbrev S4x2x2048x1024 : Shape := ⟨4, ![4, 2, 2048, 1024]⟩
abbrev S1x1024 : Shape := ⟨2, ![1, 1024]⟩
abbrev S1x512 : Shape := ⟨2, ![1, 512]⟩
abbrev S128x4 : Shape := ⟨2, ![128, 4]⟩
abbrev S1x2x512x1024 : Shape := ⟨4, ![1, 2, 512, 1024]⟩
abbrev S2x520x1024 : Shape := ⟨3, ![2, 520, 1024]⟩
abbrev S2x4x128x256 : Shape := ⟨4, ![2, 4, 128, 256]⟩
abbrev S2x8x128 : Shape := ⟨3, ![2, 8, 128]⟩
abbrev S2x512x512 : Shape := ⟨3, ![2, 512, 512]⟩
abbrev S2x512x1024 : Shape := ⟨3, ![2, 512, 1024]⟩
abbrev S2x8x1024 : Shape := ⟨3, ![2, 8, 1024]⟩
abbrev S128x128 : Shape := ⟨2, ![128, 128]⟩
abbrev S1x128x128 : Shape := ⟨3, ![1, 128, 128]⟩
abbrev S128x1 : Shape := ⟨2, ![128, 1]⟩
abbrev S1x1x512x1024 : Shape := ⟨4, ![1, 1, 512, 1024]⟩
abbrev S512x1024 : Shape := ⟨2, ![512, 1024]⟩
abbrev S512x1 : Shape := ⟨2, ![512, 1]⟩
abbrev S512x128 : Shape := ⟨2, ![512, 128]⟩
abbrev S1024x256 : Shape := ⟨2, ![1024, 256]⟩
abbrev S512x256 : Shape := ⟨2, ![512, 256]⟩
abbrev S1x512x256 : Shape := ⟨3, ![1, 512, 256]⟩
abbrev S32x128 : Shape := ⟨2, ![32, 128]⟩
abbrev S96x128 : Shape := ⟨2, ![96, 128]⟩
abbrev S96x256 : Shape := ⟨2, ![96, 256]⟩
abbrev S32x256 : Shape := ⟨2, ![32, 256]⟩
abbrev S1x512x1024 : Shape := ⟨3, ![1, 512, 1024]⟩
abbrev S1x8x1024 : Shape := ⟨3, ![1, 8, 1024]⟩
abbrev S512x512 : Shape := ⟨2, ![512, 512]⟩
abbrev S1x512x512 : Shape := ⟨3, ![1, 512, 512]⟩
abbrev S32x1 : Shape := ⟨2, ![32, 1]⟩
abbrev S1x8x128 : Shape := ⟨3, ![1, 8, 128]⟩
abbrev S72x128 : Shape := ⟨2, ![72, 128]⟩
abbrev S1x128x384 : Shape := ⟨3, ![1, 128, 384]⟩
abbrev S128x384 : Shape := ⟨2, ![128, 384]⟩
abbrev S1x128 : Shape := ⟨2, ![1, 128]⟩
abbrev S1x1x128x256 : Shape := ⟨4, ![1, 1, 128, 256]⟩
abbrev S1x256 : Shape := ⟨2, ![1, 256]⟩

abbrev nBuf : Space → Nat
  | .hbm => 125
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1024x2048, .bf16⟩
  | .hbm, ⟨3, _⟩ => ⟨S1024x1024, .bf16⟩
  | .hbm, ⟨4, _⟩ => ⟨S1024x128, .bf16⟩
  | .hbm, ⟨5, _⟩ => ⟨S4x1024, .f32⟩
  | .hbm, ⟨6, _⟩ => ⟨S1024, .f32⟩
  | .hbm, ⟨7, _⟩ => ⟨S8, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S4x128, .f32⟩
  | .hbm, ⟨13, _⟩ => ⟨S1024x1024, .f32⟩
  | .hbm, ⟨14, _⟩ => ⟨S8x1, .f32⟩
  | .hbm, ⟨15, _⟩ => ⟨S8x128, .f32⟩
  | .hbm, ⟨16, _⟩ => ⟨S128x256, .i32⟩
  | .hbm, ⟨17, _⟩ => ⟨S128x256, .i32⟩
  | .hbm, ⟨18, _⟩ => ⟨S128x256, .i1⟩
  | .hbm, ⟨19, _⟩ => ⟨S_, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S4x128x384, .i32⟩
  | .hbm, ⟨25, _⟩ => ⟨S4x128x384, .i32⟩
  | .hbm, ⟨26, _⟩ => ⟨S4x128x384, .i32⟩
  | .hbm, ⟨27, _⟩ => ⟨S_, .f32⟩
  | .hbm, ⟨28, _⟩ => ⟨S4x128x384, .f32⟩
  | .hbm, ⟨29, _⟩ => ⟨S_, .i32⟩
  | .hbm, ⟨30, _⟩ => ⟨S4x128x384, .i32⟩
  | .hbm, ⟨31, _⟩ => ⟨S4x128x384, .i1⟩
  | .hbm, ⟨32, _⟩ => ⟨S_, .i32⟩
  | .hbm, ⟨33, _⟩ => ⟨S4x128x384, .i32⟩
  | .hbm, ⟨34, _⟩ => ⟨S4x128x384, .i1⟩
  | .hbm, ⟨35, _⟩ => ⟨S4x128x384, .i1⟩
  | .hbm, ⟨36, _⟩ => ⟨S_, .i32⟩
  | .hbm, ⟨37, _⟩ => ⟨S4x128x384, .i32⟩
  | .hbm, ⟨38, _⟩ => ⟨S4x128x384, .i32⟩
  | .hbm, ⟨39, _⟩ => ⟨S4x128x384, .i1⟩
  | .hbm, ⟨40, _⟩ => ⟨S4x128x384, .i1⟩
  | .hbm, ⟨41, _⟩ => ⟨S_, .f32⟩
  | .hbm, ⟨42, _⟩ => ⟨S_, .f32⟩
  | .hbm, ⟨43, _⟩ => ⟨S4x128x384, .f32⟩
  | .hbm, ⟨44, _⟩ => ⟨S4x128x384, .f32⟩
  | .hbm, ⟨45, _⟩ => ⟨S_, .i32⟩
  | .hbm, ⟨46, _⟩ => ⟨S4x128x384, .i32⟩
  | .hbm, ⟨47, _⟩ => ⟨S4x128x384, .i32⟩
  | .hbm, ⟨48, _⟩ => ⟨S4x128x384, .i1⟩
  | .hbm, ⟨49, _⟩ => ⟨S4x128x384, .i1⟩
  | .hbm, ⟨50, _⟩ => ⟨S_, .f32⟩
  | .hbm, ⟨51, _⟩ => ⟨S_, .f32⟩
  | .hbm, ⟨52, _⟩ => ⟨S4x128x384, .f32⟩
  | .hbm, ⟨53, _⟩ => ⟨S4x128x384, .f32⟩
  | .hbm, ⟨54, _⟩ => ⟨S_, .i32⟩
  | .hbm, ⟨55, _⟩ => ⟨S4x128x384, .i32⟩
  | .hbm, ⟨56, _⟩ => ⟨S4x128x384, .i32⟩
  | .hbm, ⟨57, _⟩ => ⟨S4x128x384, .i1⟩
  | .hbm, ⟨58, _⟩ => ⟨S4x128x384, .i1⟩
  | .hbm, ⟨59, _⟩ => ⟨S_, .f32⟩
  | .hbm, ⟨60, _⟩ => ⟨S_, .f32⟩
  | .hbm, ⟨61, _⟩ => ⟨S4x128x384, .f32⟩
  | .hbm, ⟨62, _⟩ => ⟨S4x128x384, .f32⟩
  | .hbm, ⟨63, _⟩ => ⟨S_, .i32⟩
  | .hbm, ⟨64, _⟩ => ⟨S4x128x384, .i32⟩
  | .hbm, ⟨65, _⟩ => ⟨S4x128x384, .i1⟩
  | .hbm, ⟨66, _⟩ => ⟨S_, .i32⟩
  | .hbm, ⟨67, _⟩ => ⟨S4x128x384, .i32⟩
  | .hbm, ⟨68, _⟩ => ⟨S4x128x384, .i1⟩
  | .hbm, ⟨69, _⟩ => ⟨S4x128x384, .i1⟩
  | .hbm, ⟨70, _⟩ => ⟨S_, .i32⟩
  | .hbm, ⟨71, _⟩ => ⟨S4x128x384, .i32⟩
  | .hbm, ⟨72, _⟩ => ⟨S4x128x384, .i32⟩
  | .hbm, ⟨73, _⟩ => ⟨S4x128x384, .i1⟩
  | .hbm, ⟨74, _⟩ => ⟨S4x128x384, .i1⟩
  | .hbm, ⟨75, _⟩ => ⟨S_, .f32⟩
  | .hbm, ⟨76, _⟩ => ⟨S_, .f32⟩
  | .hbm, ⟨77, _⟩ => ⟨S4x128x384, .f32⟩
  | .hbm, ⟨78, _⟩ => ⟨S4x128x384, .f32⟩
  | .hbm, ⟨79, _⟩ => ⟨S_, .i32⟩
  | .hbm, ⟨80, _⟩ => ⟨S4x128x384, .i32⟩
  | .hbm, ⟨81, _⟩ => ⟨S4x128x384, .i32⟩
  | .hbm, ⟨82, _⟩ => ⟨S4x128x384, .i1⟩
  | .hbm, ⟨83, _⟩ => ⟨S4x128x384, .i1⟩
  | .hbm, ⟨84, _⟩ => ⟨S_, .f32⟩
  | .hbm, ⟨85, _⟩ => ⟨S_, .f32⟩
  | .hbm, ⟨86, _⟩ => ⟨S4x128x384, .f32⟩
  | .hbm, ⟨87, _⟩ => ⟨S4x128x384, .f32⟩
  | .hbm, ⟨88, _⟩ => ⟨S_, .i32⟩
  | .hbm, ⟨89, _⟩ => ⟨S4x128x384, .i32⟩
  | .hbm, ⟨90, _⟩ => ⟨S4x128x384, .i1⟩
  | .hbm, ⟨91, _⟩ => ⟨S_, .i32⟩
  | .hbm, ⟨92, _⟩ => ⟨S4x128x384, .i32⟩
  | .hbm, ⟨93, _⟩ => ⟨S4x128x384, .i1⟩
  | .hbm, ⟨94, _⟩ => ⟨S4x128x384, .i1⟩
  | .hbm, ⟨95, _⟩ => ⟨S_, .i32⟩
  | .hbm, ⟨96, _⟩ => ⟨S4x128x384, .i32⟩
  | .hbm, ⟨97, _⟩ => ⟨S4x128x384, .i32⟩
  | .hbm, ⟨98, _⟩ => ⟨S4x128x384, .i1⟩
  | .hbm, ⟨99, _⟩ => ⟨S4x128x384, .i1⟩
  | .hbm, ⟨100, _⟩ => ⟨S_, .f32⟩
  | .hbm, ⟨101, _⟩ => ⟨S_, .f32⟩
  | .hbm, ⟨102, _⟩ => ⟨S4x128x384, .f32⟩
  | .hbm, ⟨103, _⟩ => ⟨S4x128x384, .f32⟩
  | .hbm, ⟨104, _⟩ => ⟨S_, .i32⟩
  | .hbm, ⟨105, _⟩ => ⟨S4x128x384, .i32⟩
  | .hbm, ⟨106, _⟩ => ⟨S4x128x384, .i32⟩
  | .hbm, ⟨107, _⟩ => ⟨S4x128x384, .i1⟩
  | .hbm, ⟨108, _⟩ => ⟨S4x128x384, .i1⟩
  | .hbm, ⟨109, _⟩ => ⟨S_, .f32⟩
  | .hbm, ⟨110, _⟩ => ⟨S_, .f32⟩
  | .hbm, ⟨111, _⟩ => ⟨S4x128x384, .f32⟩
  | .hbm, ⟨112, _⟩ => ⟨S4x128x384, .f32⟩
  | .hbm, ⟨113, _⟩ => ⟨S_, .f32⟩
  | .hbm, ⟨114, _⟩ => ⟨S256x128, .f32⟩
  | .hbm, ⟨115, _⟩ => ⟨S128x256, .bf16⟩
  | .hbm, ⟨116, _⟩ => ⟨S4x128x384, .bf16⟩
  | .hbm, ⟨117, _⟩ => ⟨S256x128, .bf16⟩
  | .hbm, ⟨118, _⟩ => ⟨S4x2x2048x1024, .f32⟩
  | .hbm, ⟨119, _⟩ => ⟨S1x1024, .f32⟩
  | .hbm, ⟨120, _⟩ => ⟨S1x512, .f32⟩
  | .hbm, ⟨121, _⟩ => ⟨S1x512, .f32⟩
  | .hbm, ⟨122, _⟩ => ⟨S1x512, .f32⟩
  | .hbm, ⟨123, _⟩ => ⟨S128x4, .f32⟩
  | .hbm, ⟨124, _⟩ => ⟨S4x2x2048x1024, .f32⟩
  | .local _ .vmem, ⟨0, _⟩ => ⟨S1x2x512x1024, .f32⟩
  | .local _ .vmem, ⟨1, _⟩ => ⟨S1x2x512x1024, .f32⟩
  | .local _ .vmem, ⟨2, _⟩ => ⟨S8x1024, .f32⟩
  | .local _ .vmem, ⟨3, _⟩ => ⟨S1024x2048, .bf16⟩
  | .local _ .vmem, ⟨4, _⟩ => ⟨S1024x1024, .bf16⟩
  | .local _ .vmem, ⟨5, _⟩ => ⟨S1024x128, .bf16⟩
  | .local _ .vmem, ⟨6, _⟩ => ⟨S8x128, .f32⟩
  | .local _ .vmem, ⟨7, _⟩ => ⟨S4x1024, .f32⟩
  | .local _ .vmem, ⟨8, _⟩ => ⟨S1x1024, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S128x4, .f32⟩
  | .local _ .vmem, ⟨14, _⟩ => ⟨S1024x1024, .f32⟩
  | .local _ .vmem, ⟨15, _⟩ => ⟨S128x256, .bf16⟩
  | .local _ .vmem, ⟨16, _⟩ => ⟨S4x128x384, .bf16⟩
  | .local _ .vmem, ⟨17, _⟩ => ⟨S256x128, .bf16⟩
  | .local _ .vmem, ⟨18, _⟩ => ⟨S1x2x512x1024, .f32⟩
  | .local _ .vmem, ⟨19, _⟩ => ⟨S1x2x512x1024, .f32⟩
  | .local _ .vmem, ⟨20, _⟩ => ⟨S2x520x1024, .f32⟩
  | .local _ .vmem, ⟨21, _⟩ => ⟨S2x4x128x256, .f32⟩
  | .local _ .vmem, ⟨22, _⟩ => ⟨S2x8x128, .f32⟩
  | .local _ .vmem, ⟨23, _⟩ => ⟨S2x512x512, .bf16⟩
  | .local _ .vmem, ⟨24, _⟩ => ⟨S2x512x512, .f32⟩
  | .local _ .vmem, ⟨25, _⟩ => ⟨S2x512x512, .bf16⟩
  | .local _ .vmem, ⟨26, _⟩ => ⟨S2x512x512, .f32⟩
  | .local _ .vmem, ⟨27, _⟩ => ⟨S2x512x512, .bf16⟩
  | .local _ .vmem, ⟨28, _⟩ => ⟨S2x512x512, .f32⟩
  | .local _ .vmem, ⟨29, _⟩ => ⟨S2x512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v24 : Ref sig .tc := ⟨.hbm, 53, rfl⟩
abbrev main_c_7 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_call3_v0 : Ref sig .tc := ⟨.hbm, 60, rfl⟩
abbrev main_call3_v1 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_c_10 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_11 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_12 : Ref sig .tc := ⟨.hbm, 75, rfl⟩
abbrev main_call4_v0 : Ref sig .tc := ⟨.hbm, 76, rfl⟩
abbrev main_call4_v1 : Ref sig .tc := ⟨.hbm, 77, rfl⟩
abbrev main_v39 : Ref sig .tc := ⟨.hbm, 78, rfl⟩
abbrev main_c_13 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_14 : Ref sig .tc := ⟨.hbm, 84, rfl⟩
abbrev main_call5_v0 : Ref sig .tc := ⟨.hbm, 85, rfl⟩
abbrev main_call5_v1 : Ref sig .tc := ⟨.hbm, 86, rfl⟩
abbrev main_v44 : Ref sig .tc := ⟨.hbm, 87, rfl⟩
abbrev main_c_15 : Ref sig .tc := ⟨.hbm, 88, rfl⟩
abbrev main_v45 : Ref sig .tc := ⟨.hbm, 89, rfl⟩
abbrev main_v46 : Ref sig .tc := ⟨.hbm, 90, rfl⟩
abbrev main_c_16 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_17 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_18 : Ref sig .tc := ⟨.hbm, 100, rfl⟩
abbrev main_call6_v0 : Ref sig .tc := ⟨.hbm, 101, rfl⟩
abbrev main_call6_v1 : Ref sig .tc := ⟨.hbm, 102, rfl⟩
abbrev main_v54 : Ref sig .tc := ⟨.hbm, 103, rfl⟩
abbrev main_c_19 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_20 : Ref sig .tc := ⟨.hbm, 109, rfl⟩
abbrev main_call7_v0 : Ref sig .tc := ⟨.hbm, 110, rfl⟩
abbrev main_call7_v1 : Ref sig .tc := ⟨.hbm, 111, rfl⟩
abbrev main_v59 : Ref sig .tc := ⟨.hbm, 112, rfl⟩
abbrev main_cst_21 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x128x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x2x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MixerRefIdeal.lean ====
abbrev S16384x1024 : Shape := ⟨2, ![16384, 1024]⟩
abbrev S8x1024 : Shape := ⟨2, ![8, 1024]⟩
abbrev S1024x2048 : Shape := ⟨2, ![1024, 2048]⟩
abbrev S1024x1024 : Shape := ⟨2, ![1024, 1024]⟩
abbrev S1024x128 : Shape := ⟨2, ![1024, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S8x2048x1024 : Shape := ⟨3, ![8, 2048, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x512 : Shape := ⟨3, ![8, 2048, 512]⟩
abbrev S8x2048x128 : Shape := ⟨3, ![8, 2048, 128]⟩
abbrev S8x2048x8 : Shape := ⟨3, ![8, 2048, 8]⟩
abbrev S8x3x1024 : Shape := ⟨3, ![8, 3, 1024]⟩
abbrev S8x2051x1024 : Shape := ⟨3, ![8, 2051, 1024]⟩
abbrev S1x1x8 : Shape := ⟨3, ![1, 1, 8]⟩
abbrev S8x2048x4 : Shape := ⟨3, ![8, 2048, 4]⟩
abbrev S8x4x2048 : Shape := ⟨3, ![8, 4, 2048]⟩
abbrev S8x2048x4x128 : Shape := ⟨4, ![8, 2048, 4, 128]⟩
abbrev S8x4x2048x128 : Shape := ⟨4, ![8, 4, 2048, 128]⟩
abbrev S8x4x16x128x128 : Shape := ⟨5, ![8, 4, 16, 128, 128]⟩
abbrev S8x4x16x128 : Shape := ⟨4, ![8, 4, 16, 128]⟩
abbrev S8x4x16x1 : Shape := ⟨4, ![8, 4, 16, 1]⟩
abbrev S8x4x16 : Shape := ⟨3, ![8, 4, 16]⟩
abbrev S128x128 : Shape := ⟨2, ![128, 128]⟩
abbrev S8x4x16x128x1 : Shape := ⟨5, ![8, 4, 16, 128, 1]⟩
abbrev S8x4x16x1x128 : Shape := ⟨5, ![8, 4, 16, 1, 128]⟩
abbrev S8x4x128x128 : Shape := ⟨4, ![8, 4, 128, 128]⟩
abbrev S8x4x128 : Shape := ⟨3, ![8, 4, 128]⟩
abbrev S8x4 : Shape := ⟨2, ![8, 4]⟩
abbrev S8x4x1 : Shape := ⟨3, ![8, 4, 1]⟩
abbrev S8x4x1x128x128 : Shape := ⟨5, ![8, 4, 1, 128, 128]⟩
abbrev S8x4x1x128 : Shape := ⟨4, ![8, 4, 1, 128]⟩
abbrev S8x4x1x1 : Shape := ⟨4, ![8, 4, 1, 1]⟩
abbrev S8x2048x4x1 : Shape := ⟨4, ![8, 2048, 4, 1]⟩
abbrev S1x1x4x128 : Shape := ⟨4, ![1, 1, 4, 128]⟩
abbrev S1x1x512 : Shape := ⟨3, ![1, 1, 512]⟩
abbrev S8x16x128x4x128 : Shape := ⟨5, ![8, 16, 128, 4, 128]⟩
abbrev S4x8x16x128x128 : Shape := ⟨5, ![4, 8, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x2x2048x1024 : Shape := ⟨4, ![4, 2, 2048, 1024]⟩

abbrev nBuf : Space → Nat
  | .hbm => 851
  | .vmem => 0
  | .smem => 0
  | _ => 0

abbrev hbmTy0_0 (i : Nat) : BufTy := match i % 128 with
  | 0 => ⟨S16384x1024, .f32⟩
  | 1 => ⟨S8x1024, .f32⟩
  | 2 => ⟨S1024x2048, .bf16⟩
  | 3 => ⟨S1024x1024, .bf16⟩
  | 4 => ⟨S1024x128, .bf16⟩
  | 5 => ⟨S4x1024, .f32⟩
  | 6 => ⟨S1024, .f32⟩
  | 7 => ⟨S8, .f32⟩
  | 8 => ⟨S512, .f32⟩
  | 9 => ⟨S512, .f32⟩
  | 10 => ⟨S512, .f32⟩
  | 11 => ⟨S4x128x128, .f32⟩
  | 12 => ⟨S4x128, .f32⟩
  | 13 => ⟨S1024x1024, .f32⟩
  | 14 => ⟨S8x2048x1024, .f32⟩
  | 15 => ⟨S1x1024, .f32⟩
  | 16 => ⟨S1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S1024x2048, .f32⟩
  | 34 => ⟨S8x2048x2048, .f32⟩
  | 35 => ⟨S8x2048x1024, .f32⟩
  | 36 => ⟨S8x2048x512, .f32⟩
  | 37 => ⟨S8x2048x512, .f32⟩
  | 38 => ⟨S1024x128, .f32⟩
  | 39 => ⟨S8x2048x128, .f32⟩
  | 40 => ⟨S8x2048x8, .f32⟩
  | 41 => ⟨S1024x1024, .f32⟩
  | 42 => ⟨S8x2048x1024, .f32⟩
  | 43 => ⟨S8x2048x512, .f32⟩
  | 44 => ⟨S8x2048x512, .f32⟩
  | 45 => ⟨S8x3x1024, .f32⟩
  | 46 => ⟨S_, .f32⟩
  | 47 => ⟨S8x3x1024, .f32⟩
  | 48 => ⟨S8x2051x1024, .f32⟩
  | 49 => ⟨S1x1024, .f32⟩
  | 50 => ⟨S1024, .f32⟩
  | 51 => ⟨S8x2048x1024, .f32⟩
  | 52 => ⟨S1x1x1024, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S1x1024, .f32⟩
  | 59 => ⟨S1024, .f32⟩
  | 60 => ⟨S8x2048x1024, .f32⟩
  | 61 => ⟨S1x1x1024, .f32⟩
  | 62 => ⟨S8x2048x1024, .f32⟩
  | 63 => ⟨S8x2048x1024, .f32⟩
  | 64 => ⟨S8x2048x1024, .f32⟩
  | 65 => ⟨S1x1024, .f32⟩
  | 66 => ⟨S1024, .f32⟩
  | 67 => ⟨S8x2048x1024, .f32⟩
  | 68 => ⟨S1x1x1024, .f32⟩
  | 69 => ⟨S8x2048x1024, .f32⟩
  | 70 => ⟨S8x2048x1024, .f32⟩
  | 71 => ⟨S8x2048x1024, .f32⟩
  | 72 => ⟨S1x1024, .f32⟩
  | 73 => ⟨S1024, .f32⟩
  | 74 => ⟨S8x2048x1024, .f32⟩
  | 75 => ⟨S1x1x1024, .f32⟩
  | 76 => ⟨S8x2048x1024, .f32⟩
  | 77 => ⟨S8x2048x1024, .f32⟩
  | 78 => ⟨S8x2048x1024, .f32⟩
  | 79 => ⟨S1x1x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S_, .f32⟩
  | 85 => ⟨S8x2048x1024, .f32⟩
  | 86 => ⟨S8x2048x1024, .f32⟩
  | 87 => ⟨S_, .f32⟩
  | 88 => ⟨S8x2048x1024, .f32⟩
  | 89 => ⟨S8x2048x1024, .f32⟩
  | 90 => ⟨S8x2048x1024, .f32⟩
  | 91 => ⟨S8x2048x512, .f32⟩
  | 92 => ⟨S8x2048x512, .f32⟩
  | 93 => ⟨S1x1x8, .f32⟩
  | 94 => ⟨S8x2048x8, .f32⟩
  | 95 => ⟨S8x2048x8, .f32⟩
  | 96 => ⟨S8x2048x4, .f32⟩
  | 97 => ⟨S8x4x2048, .f32⟩
  | 98 => ⟨S8x2048x4, .f32⟩
  | 99 => ⟨S8x2048x4, .f32⟩
  | 100 => ⟨S_, .f32⟩
  | 101 => ⟨S8x2048x4, .f32⟩
  | 102 => ⟨S8x2048x4, .f32⟩
  | 103 => ⟨S8x2048x4, .f32⟩
  | 104 => ⟨S8x2048x4, .f32⟩
  | 105 => ⟨S8x2048x4, .i1⟩
  | 106 => ⟨S8x2048x4, .f32⟩
  | 107 => ⟨S8x2048x4, .f32⟩
  | 108 => ⟨S8x2048x4, .f32⟩
  | 109 => ⟨S8x2048x4, .f32⟩
  | 110 => ⟨S8x2048x4, .f32⟩
  | 111 => ⟨S8x2048x4, .f32⟩
  | 112 => ⟨S8x2048x4, .f32⟩
  | 113 => ⟨S8x2048x4, .f32⟩
  | 114 => ⟨S8x2048x4, .f32⟩
  | 115 => ⟨S8x4x2048, .f32⟩
  | 116 => ⟨S8x2048x4x128, .f32⟩
  | 117 => ⟨S8x4x2048x128, .f32⟩
  | 118 => ⟨S8x2048x4x128, .f32⟩
  | 119 => ⟨S8x4x2048x128, .f32⟩
  | 120 => ⟨S_, .f32⟩
  | 121 => ⟨S8x4x2048x128, .f32⟩
  | 122 => ⟨S8x4x2048x128, .f32⟩
  | 123 => ⟨S8x2048x4x128, .f32⟩
  | 124 => ⟨S8x4x2048x128, .f32⟩
  | 125 => ⟨S8x4x16x128x128, .f32⟩
  | 126 => ⟨S8x4x16x128x128, .f32⟩
  | 127 => ⟨S8x4x16x128x128, .f32⟩
  | _ => ⟨S16384x1024, .f32⟩

abbrev hbmTy0_1 (i : Nat) : BufTy := match i % 128 with
  | 0 => ⟨S8x4x16x128, .f32⟩
  | 1 => ⟨S8x4x16x128, .f32⟩
  | 2 => ⟨S_, .f32⟩
  | 3 => ⟨S_, .f32⟩
  | 4 => ⟨S8x4x16x128, .f32⟩
  | 5 => ⟨S8x4x16x1, .f32⟩
  | 6 => ⟨S8x4x16, .f32⟩
  | 7 => ⟨S_, .i1⟩
  | 8 => ⟨S128x128, .i1⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .i1⟩
  | 16 => ⟨S128x128, .i1⟩
  | 17 => ⟨S128x128, .i1⟩
  | 18 => ⟨S8x4x16x128x1, .f32⟩
  | 19 => ⟨S8x4x16x1x128, .f32⟩
  | 20 => ⟨S8x4x16x128x128, .f32⟩
  | 21 => ⟨S8x4x16x128x128, .f32⟩
  | 22 => ⟨S8x4x16x128x128, .f32⟩
  | 23 => ⟨S8x4x16x1x128, .f32⟩
  | 24 => ⟨S8x4x16x128x128, .f32⟩
  | 25 => ⟨S8x4x16x128x128, .f32⟩
  | 26 => ⟨S_, .f32⟩
  | 27 => ⟨S_, .f32⟩
  | 28 => ⟨S8x4x16x128x128, .i1⟩
  | 29 => ⟨S8x4x16x128x128, .f32⟩
  | 30 => ⟨S8x4x16x128x128, .f32⟩
  | 31 => ⟨S8x4x16x1, .f32⟩
  | 32 => ⟨S8x4x16x128, .f32⟩
  | 33 => ⟨S8x4x16x128, .f32⟩
  | 34 => ⟨S8x4x16x128, .f32⟩
  | 35 => ⟨S_, .f32⟩
  | 36 => ⟨S8x4x16, .f32⟩
  | 37 => ⟨S8x4x16x1, .f32⟩
  | 38 => ⟨S8x4x16x128, .f32⟩
  | 39 => ⟨S8x4x16x128, .f32⟩
  | 40 => ⟨S8x4x16x128, .f32⟩
  | 41 => ⟨S8x4x16x128x1, .f32⟩
  | 42 => ⟨S8x4x16x128x128, .f32⟩
  | 43 => ⟨S8x4x16x128x128, .f32⟩
  | 44 => ⟨S8x4x16x128x128, .f32⟩
  | 45 => ⟨S_, .f32⟩
  | 46 => ⟨S8x4x16x128, .f32⟩
  | 47 => ⟨S_, .f32⟩
  | 48 => ⟨S8x4x128x128, .f32⟩
  | 49 => ⟨S_, .f32⟩
  | 50 => ⟨S8x4x128, .f32⟩
  | 51 => ⟨S_, .f32⟩
  | 52 => ⟨S8x4, .f32⟩
  | 53 => ⟨S8x4x1, .f32⟩
  | 54 => ⟨S8x4, .f32⟩
  | 55 => ⟨S8x4x1, .f32⟩
  | 56 => ⟨S8x4, .f32⟩
  | 57 => ⟨S8x4x1x128x128, .f32⟩
  | 58 => ⟨S8x4x128x128, .f32⟩
  | 59 => ⟨S8x4x1x128, .f32⟩
  | 60 => ⟨S8x4x128, .f32⟩
  | 61 => ⟨S8x4, .f32⟩
  | 62 => ⟨S8x4, .f32⟩
  | 63 => ⟨S8x4, .f32⟩
  | 64 => ⟨S8x4, .f32⟩
  | 65 => ⟨S8x4, .f32⟩
  | 66 => ⟨S8x4, .f32⟩
  | 67 => ⟨S8x4, .f32⟩
  | 68 => ⟨S8x4x1x1, .f32⟩
  | 69 => ⟨S8x4x128x128, .f32⟩
  | 70 => ⟨S8x4x128x128, .f32⟩
  | 71 => ⟨S8x4x1x1, .f32⟩
  | 72 => ⟨S8x4x128x128, .f32⟩
  | 73 => ⟨S8x4x128x128, .f32⟩
  | 74 => ⟨S8x4x128x128, .f32⟩
  | 75 => ⟨S8x4x1, .f32⟩
  | 76 => ⟨S8x4x128, .f32⟩
  | 77 => ⟨S8x4x128, .f32⟩
  | 78 => ⟨S8x4x1, .f32⟩
  | 79 => ⟨S8x4x128, .f32⟩
  | 80 => ⟨S8x4x128, .f32⟩
  | 81 => ⟨S8x4x128, .f32⟩
  | 82 => ⟨S8x4x1, .f32⟩
  | 83 => ⟨S8x4, .f32⟩
  | 84 => ⟨S8x4x1, .f32⟩
  | 85 => ⟨S8x4, .f32⟩
  | 86 => ⟨S8x4x1x128x128, .f32⟩
  | 87 => ⟨S8x4x128x128, .f32⟩
  | 88 => ⟨S8x4x1x128, .f32⟩
  | 89 => ⟨S8x4x128, .f32⟩
  | 90 => ⟨S8x4, .f32⟩
  | 91 => ⟨S8x4, .f32⟩
  | 92 => ⟨S8x4, .f32⟩
  | 93 => ⟨S8x4, .f32⟩
  | 94 => ⟨S8x4, .f32⟩
  | 95 => ⟨S8x4, .f32⟩
  | 96 => ⟨S8x4, .f32⟩
  | 97 => ⟨S8x4x1x1, .f32⟩
  | 98 => ⟨S8x4x128x128, .f32⟩
  | 99 => ⟨S8x4x128x128, .f32⟩
  | 100 => ⟨S8x4x1x1, .f32⟩
  | 101 => ⟨S8x4x128x128, .f32⟩
  | 102 => ⟨S8x4x128x128, .f32⟩
  | 103 => ⟨S8x4x128x128, .f32⟩
  | 104 => ⟨S8x4x1, .f32⟩
  | 105 => ⟨S8x4x128, .f32⟩
  | 106 => ⟨S8x4x128, .f32⟩
  | 107 => ⟨S8x4x1, .f32⟩
  | 108 => ⟨S8x4x128, .f32⟩
  | 109 => ⟨S8x4x128, .f32⟩
  | 110 => ⟨S8x4x128, .f32⟩
  | 111 => ⟨S8x4x1, .f32⟩
  | 112 => ⟨S8x4, .f32⟩
  | 113 => ⟨S8x4x1, .f32⟩
  | 114 => ⟨S8x4, .f32⟩
  | 115 => ⟨S8x4x1x128x128, .f32⟩
  | 116 => ⟨S8x4x128x128, .f32⟩
  | 117 => ⟨S8x4x1x128, .f32⟩
  | 118 => ⟨S8x4x128, .f32⟩
  | 119 => ⟨S8x4, .f32⟩
  | 120 => ⟨S8x4, .f32⟩
  | 121 => ⟨S8x4, .f32⟩
  | 122 => ⟨S8x4, .f32⟩
  | 123 => ⟨S8x4, .f32⟩
  | 124 => ⟨S8x4, .f32⟩
  | 125 => ⟨S8x4, .f32⟩
  | 126 => ⟨S8x4x1x1, .f32⟩
  | 127 => ⟨S8x4x128x128, .f32⟩
  | _ => ⟨S16384x1024, .f32⟩

abbrev hbmTy0_2 (i : Nat) : BufTy := match i % 128 with
  | 0 => ⟨S8x4x128x128, .f32⟩
  | 1 => ⟨S8x4x1x1, .f32⟩
  | 2 => ⟨S8x4x128x128, .f32⟩
  | 3 => ⟨S8x4x128x128, .f32⟩
  | 4 => ⟨S8x4x128x128, .f32⟩
  | 5 => ⟨S8x4x1, .f32⟩
  | 6 => ⟨S8x4x128, .f32⟩
  | 7 => ⟨S8x4x128, .f32⟩
  | 8 => ⟨S8x4x1, .f32⟩
  | 9 => ⟨S8x4x128, .f32⟩
  | 10 => ⟨S8x4x128, .f32⟩
  | 11 => ⟨S8x4x128, .f32⟩
  | 12 => ⟨S8x4x1, .f32⟩
  | 13 => ⟨S8x4, .f32⟩
  | 14 => ⟨S8x4x1, .f32⟩
  | 15 => ⟨S8x4, .f32⟩
  | 16 => ⟨S8x4x1x128x128, .f32⟩
  | 17 => ⟨S8x4x128x128, .f32⟩
  | 18 => ⟨S8x4x1x128, .f32⟩
  | 19 => ⟨S8x4x128, .f32⟩
  | 20 => ⟨S8x4, .f32⟩
  | 21 => ⟨S8x4, .f32⟩
  | 22 => ⟨S8x4, .f32⟩
  | 23 => ⟨S8x4, .f32⟩
  | 24 => ⟨S8x4, .f32⟩
  | 25 => ⟨S8x4, .f32⟩
  | 26 => ⟨S8x4, .f32⟩
  | 27 => ⟨S8x4x1x1, .f32⟩
  | 28 => ⟨S8x4x128x128, .f32⟩
  | 29 => ⟨S8x4x128x128, .f32⟩
  | 30 => ⟨S8x4x1x1, .f32⟩
  | 31 => ⟨S8x4x128x128, .f32⟩
  | 32 => ⟨S8x4x128x128, .f32⟩
  | 33 => ⟨S8x4x128x128, .f32⟩
  | 34 => ⟨S8x4x1, .f32⟩
  | 35 => ⟨S8x4x128, .f32⟩
  | 36 => ⟨S8x4x128, .f32⟩
  | 37 => ⟨S8x4x1, .f32⟩
  | 38 => ⟨S8x4x128, .f32⟩
  | 39 => ⟨S8x4x128, .f32⟩
  | 40 => ⟨S8x4x128, .f32⟩
  | 41 => ⟨S8x4x1, .f32⟩
  | 42 => ⟨S8x4, .f32⟩
  | 43 => ⟨S8x4x1, .f32⟩
  | 44 => ⟨S8x4, .f32⟩
  | 45 => ⟨S8x4x1x128x128, .f32⟩
  | 46 => ⟨S8x4x128x128, .f32⟩
  | 47 => ⟨S8x4x1x128, .f32⟩
  | 48 => ⟨S8x4x128, .f32⟩
  | 49 => ⟨S8x4, .f32⟩
  | 50 => ⟨S8x4, .f32⟩
  | 51 => ⟨S8x4, .f32⟩
  | 52 => ⟨S8x4, .f32⟩
  | 53 => ⟨S8x4, .f32⟩
  | 54 => ⟨S8x4, .f32⟩
  | 55 => ⟨S8x4, .f32⟩
  | 56 => ⟨S8x4x1x1, .f32⟩
  | 57 => ⟨S8x4x128x128, .f32⟩
  | 58 => ⟨S8x4x128x128, .f32⟩
  | 59 => ⟨S8x4x1x1, .f32⟩
  | 60 => ⟨S8x4x128x128, .f32⟩
  | 61 => ⟨S8x4x128x128, .f32⟩
  | 62 => ⟨S8x4x128x128, .f32⟩
  | 63 => ⟨S8x4x1, .f32⟩
  | 64 => ⟨S8x4x128, .f32⟩
  | 65 => ⟨S8x4x128, .f32⟩
  | 66 => ⟨S8x4x1, .f32⟩
  | 67 => ⟨S8x4x128, .f32⟩
  | 68 => ⟨S8x4x128, .f32⟩
  | 69 => ⟨S8x4x128, .f32⟩
  | 70 => ⟨S8x4x1, .f32⟩
  | 71 => ⟨S8x4, .f32⟩
  | 72 => ⟨S8x4x1, .f32⟩
  | 73 => ⟨S8x4, .f32⟩
  | 74 => ⟨S8x4x1x128x128, .f32⟩
  | 75 => ⟨S8x4x128x128, .f32⟩
  | 76 => ⟨S8x4x1x128, .f32⟩
  | 77 => ⟨S8x4x128, .f32⟩
  | 78 => ⟨S8x4, .f32⟩
  | 79 => ⟨S8x4, .f32⟩
  | 80 => ⟨S8x4, .f32⟩
  | 81 => ⟨S8x4, .f32⟩
  | 82 => ⟨S8x4, .f32⟩
  | 83 => ⟨S8x4, .f32⟩
  | 84 => ⟨S8x4, .f32⟩
  | 85 => ⟨S8x4x1x1, .f32⟩
  | 86 => ⟨S8x4x128x128, .f32⟩
  | 87 => ⟨S8x4x128x128, .f32⟩
  | 88 => ⟨S8x4x1x1, .f32⟩
  | 89 => ⟨S8x4x128x128, .f32⟩
  | 90 => ⟨S8x4x128x128, .f32⟩
  | 91 => ⟨S8x4x128x128, .f32⟩
  | 92 => ⟨S8x4x1, .f32⟩
  | 93 => ⟨S8x4x128, .f32⟩
  | 94 => ⟨S8x4x128, .f32⟩
  | 95 => ⟨S8x4x1, .f32⟩
  | 96 => ⟨S8x4x128, .f32⟩
  | 97 => ⟨S8x4x128, .f32⟩
  | 98 => ⟨S8x4x128, .f32⟩
  | 99 => ⟨S8x4x1, .f32⟩
  | 100 => ⟨S8x4, .f32⟩
  | 101 => ⟨S8x4x1, .f32⟩
  | 102 => ⟨S8x4, .f32⟩
  | 103 => ⟨S8x4x1x128x128, .f32⟩
  | 104 => ⟨S8x4x128x128, .f32⟩
  | 105 => ⟨S8x4x1x128, .f32⟩
  | 106 => ⟨S8x4x128, .f32⟩
  | 107 => ⟨S8x4, .f32⟩
  | 108 => ⟨S8x4, .f32⟩
  | 109 => ⟨S8x4, .f32⟩
  | 110 => ⟨S8x4, .f32⟩
  | 111 => ⟨S8x4, .f32⟩
  | 112 => ⟨S8x4, .f32⟩
  | 113 => ⟨S8x4, .f32⟩
  | 114 => ⟨S8x4x1x1, .f32⟩
  | 115 => ⟨S8x4x128x128, .f32⟩
  | 116 => ⟨S8x4x128x128, .f32⟩
  | 117 => ⟨S8x4x1x1, .f32⟩
  | 118 => ⟨S8x4x128x128, .f32⟩
  | 119 => ⟨S8x4x128x128, .f32⟩
  | 120 => ⟨S8x4x128x128, .f32⟩
  | 121 => ⟨S8x4x1, .f32⟩
  | 122 => ⟨S8x4x128, .f32⟩
  | 123 => ⟨S8x4x128, .f32⟩
  | 124 => ⟨S8x4x1, .f32⟩
  | 125 => ⟨S8x4x128, .f32⟩
  | 126 => ⟨S8x4x128, .f32⟩
  | 127 => ⟨S8x4x128, .f32⟩
  | _ => ⟨S16384x1024, .f32⟩

abbrev hbmTy0_3 (i : Nat) : BufTy := match i % 128 with
  | 0 => ⟨S8x4x1, .f32⟩
  | 1 => ⟨S8x4, .f32⟩
  | 2 => ⟨S8x4x1, .f32⟩
  | 3 => ⟨S8x4, .f32⟩
  | 4 => ⟨S8x4x1x128x128, .f32⟩
  | 5 => ⟨S8x4x128x128, .f32⟩
  | 6 => ⟨S8x4x1x128, .f32⟩
  | 7 => ⟨S8x4x128, .f32⟩
  | 8 => ⟨S8x4, .f32⟩
  | 9 => ⟨S8x4, .f32⟩
  | 10 => ⟨S8x4, .f32⟩
  | 11 => ⟨S8x4, .f32⟩
  | 12 => ⟨S8x4, .f32⟩
  | 13 => ⟨S8x4, .f32⟩
  | 14 => ⟨S8x4, .f32⟩
  | 15 => ⟨S8x4x1x1, .f32⟩
  | 16 => ⟨S8x4x128x128, .f32⟩
  | 17 => ⟨S8x4x128x128, .f32⟩
  | 18 => ⟨S8x4x1x1, .f32⟩
  | 19 => ⟨S8x4x128x128, .f32⟩
  | 20 => ⟨S8x4x128x128, .f32⟩
  | 21 => ⟨S8x4x128x128, .f32⟩
  | 22 => ⟨S8x4x1, .f32⟩
  | 23 => ⟨S8x4x128, .f32⟩
  | 24 => ⟨S8x4x128, .f32⟩
  | 25 => ⟨S8x4x1, .f32⟩
  | 26 => ⟨S8x4x128, .f32⟩
  | 27 => ⟨S8x4x128, .f32⟩
  | 28 => ⟨S8x4x128, .f32⟩
  | 29 => ⟨S8x4x1, .f32⟩
  | 30 => ⟨S8x4, .f32⟩
  | 31 => ⟨S8x4x1, .f32⟩
  | 32 => ⟨S8x4, .f32⟩
  | 33 => ⟨S8x4x1x128x128, .f32⟩
  | 34 => ⟨S8x4x128x128, .f32⟩
  | 35 => ⟨S8x4x1x128, .f32⟩
  | 36 => ⟨S8x4x128, .f32⟩
  | 37 => ⟨S8x4, .f32⟩
  | 38 => ⟨S8x4, .f32⟩
  | 39 => ⟨S8x4, .f32⟩
  | 40 => ⟨S8x4, .f32⟩
  | 41 => ⟨S8x4, .f32⟩
  | 42 => ⟨S8x4, .f32⟩
  | 43 => ⟨S8x4, .f32⟩
  | 44 => ⟨S8x4x1x1, .f32⟩
  | 45 => ⟨S8x4x128x128, .f32⟩
  | 46 => ⟨S8x4x128x128, .f32⟩
  | 47 => ⟨S8x4x1x1, .f32⟩
  | 48 => ⟨S8x4x128x128, .f32⟩
  | 49 => ⟨S8x4x128x128, .f32⟩
  | 50 => ⟨S8x4x128x128, .f32⟩
  | 51 => ⟨S8x4x1, .f32⟩
  | 52 => ⟨S8x4x128, .f32⟩
  | 53 => ⟨S8x4x128, .f32⟩
  | 54 => ⟨S8x4x1, .f32⟩
  | 55 => ⟨S8x4x128, .f32⟩
  | 56 => ⟨S8x4x128, .f32⟩
  | 57 => ⟨S8x4x128, .f32⟩
  | 58 => ⟨S8x4x1, .f32⟩
  | 59 => ⟨S8x4, .f32⟩
  | 60 => ⟨S8x4x1, .f32⟩
  | 61 => ⟨S8x4, .f32⟩
  | 62 => ⟨S8x4x1x128x128, .f32⟩
  | 63 => ⟨S8x4x128x128, .f32⟩
  | 64 => ⟨S8x4x1x128, .f32⟩
  | 65 => ⟨S8x4x128, .f32⟩
  | 66 => ⟨S8x4, .f32⟩
  | 67 => ⟨S8x4, .f32⟩
  | 68 => ⟨S8x4, .f32⟩
  | 69 => ⟨S8x4, .f32⟩
  | 70 => ⟨S8x4, .f32⟩
  | 71 => ⟨S8x4, .f32⟩
  | 72 => ⟨S8x4, .f32⟩
  | 73 => ⟨S8x4x1x1, .f32⟩
  | 74 => ⟨S8x4x128x128, .f32⟩
  | 75 => ⟨S8x4x128x128, .f32⟩
  | 76 => ⟨S8x4x1x1, .f32⟩
  | 77 => ⟨S8x4x128x128, .f32⟩
  | 78 => ⟨S8x4x128x128, .f32⟩
  | 79 => ⟨S8x4x128x128, .f32⟩
  | 80 => ⟨S8x4x1, .f32⟩
  | 81 => ⟨S8x4x128, .f32⟩
  | 82 => ⟨S8x4x128, .f32⟩
  | 83 => ⟨S8x4x1, .f32⟩
  | 84 => ⟨S8x4x128, .f32⟩
  | 85 => ⟨S8x4x128, .f32⟩
  | 86 => ⟨S8x4x128, .f32⟩
  | 87 => ⟨S8x4x1, .f32⟩
  | 88 => ⟨S8x4, .f32⟩
  | 89 => ⟨S8x4x1, .f32⟩
  | 90 => ⟨S8x4, .f32⟩
  | 91 => ⟨S8x4x1x128x128, .f32⟩
  | 92 => ⟨S8x4x128x128, .f32⟩
  | 93 => ⟨S8x4x1x128, .f32⟩
  | 94 => ⟨S8x4x128, .f32⟩
  | 95 => ⟨S8x4, .f32⟩
  | 96 => ⟨S8x4, .f32⟩
  | 97 => ⟨S8x4, .f32⟩
  | 98 => ⟨S8x4, .f32⟩
  | 99 => ⟨S8x4, .f32⟩
  | 100 => ⟨S8x4, .f32⟩
  | 101 => ⟨S8x4, .f32⟩
  | 102 => ⟨S8x4x1x1, .f32⟩
  | 103 => ⟨S8x4x128x128, .f32⟩
  | 104 => ⟨S8x4x128x128, .f32⟩
  | 105 => ⟨S8x4x1x1, .f32⟩
  | 106 => ⟨S8x4x128x128, .f32⟩
  | 107 => ⟨S8x4x128x128, .f32⟩
  | 108 => ⟨S8x4x128x128, .f32⟩
  | 109 => ⟨S8x4x1, .f32⟩
  | 110 => ⟨S8x4x128, .f32⟩
  | 111 => ⟨S8x4x128, .f32⟩
  | 112 => ⟨S8x4x1, .f32⟩
  | 113 => ⟨S8x4x128, .f32⟩
  | 114 => ⟨S8x4x128, .f32⟩
  | 115 => ⟨S8x4x128, .f32⟩
  | 116 => ⟨S8x4x1, .f32⟩
  | 117 => ⟨S8x4, .f32⟩
  | 118 => ⟨S8x4x1, .f32⟩
  | 119 => ⟨S8x4, .f32⟩
  | 120 => ⟨S8x4x1x128x128, .f32⟩
  | 121 => ⟨S8x4x128x128, .f32⟩
  | 122 => ⟨S8x4x1x128, .f32⟩
  | 123 => ⟨S8x4x128, .f32⟩
  | 124 => ⟨S8x4, .f32⟩
  | 125 => ⟨S8x4, .f32⟩
  | 126 => ⟨S8x4, .f32⟩
  | 127 => ⟨S8x4, .f32⟩
  | _ => ⟨S16384x1024, .f32⟩

abbrev hbmTy0_4 (i : Nat) : BufTy := match i % 128 with
  | 0 => ⟨S8x4, .f32⟩
  | 1 => ⟨S8x4, .f32⟩
  | 2 => ⟨S8x4, .f32⟩
  | 3 => ⟨S8x4x1x1, .f32⟩
  | 4 => ⟨S8x4x128x128, .f32⟩
  | 5 => ⟨S8x4x128x128, .f32⟩
  | 6 => ⟨S8x4x1x1, .f32⟩
  | 7 => ⟨S8x4x128x128, .f32⟩
  | 8 => ⟨S8x4x128x128, .f32⟩
  | 9 => ⟨S8x4x128x128, .f32⟩
  | 10 => ⟨S8x4x1, .f32⟩
  | 11 => ⟨S8x4x128, .f32⟩
  | 12 => ⟨S8x4x128, .f32⟩
  | 13 => ⟨S8x4x1, .f32⟩
  | 14 => ⟨S8x4x128, .f32⟩
  | 15 => ⟨S8x4x128, .f32⟩
  | 16 => ⟨S8x4x128, .f32⟩
  | 17 => ⟨S8x4x1, .f32⟩
  | 18 => ⟨S8x4, .f32⟩
  | 19 => ⟨S8x4x1, .f32⟩
  | 20 => ⟨S8x4, .f32⟩
  | 21 => ⟨S8x4x1x128x128, .f32⟩
  | 22 => ⟨S8x4x128x128, .f32⟩
  | 23 => ⟨S8x4x1x128, .f32⟩
  | 24 => ⟨S8x4x128, .f32⟩
  | 25 => ⟨S8x4, .f32⟩
  | 26 => ⟨S8x4, .f32⟩
  | 27 => ⟨S8x4, .f32⟩
  | 28 => ⟨S8x4, .f32⟩
  | 29 => ⟨S8x4, .f32⟩
  | 30 => ⟨S8x4, .f32⟩
  | 31 => ⟨S8x4, .f32⟩
  | 32 => ⟨S8x4x1x1, .f32⟩
  | 33 => ⟨S8x4x128x128, .f32⟩
  | 34 => ⟨S8x4x128x128, .f32⟩
  | 35 => ⟨S8x4x1x1, .f32⟩
  | 36 => ⟨S8x4x128x128, .f32⟩
  | 37 => ⟨S8x4x128x128, .f32⟩
  | 38 => ⟨S8x4x128x128, .f32⟩
  | 39 => ⟨S8x4x1, .f32⟩
  | 40 => ⟨S8x4x128, .f32⟩
  | 41 => ⟨S8x4x128, .f32⟩
  | 42 => ⟨S8x4x1, .f32⟩
  | 43 => ⟨S8x4x128, .f32⟩
  | 44 => ⟨S8x4x128, .f32⟩
  | 45 => ⟨S8x4x128, .f32⟩
  | 46 => ⟨S8x4x1, .f32⟩
  | 47 => ⟨S8x4, .f32⟩
  | 48 => ⟨S8x4x1, .f32⟩
  | 49 => ⟨S8x4, .f32⟩
  | 50 => ⟨S8x4x1x128x128, .f32⟩
  | 51 => ⟨S8x4x128x128, .f32⟩
  | 52 => ⟨S8x4x1x128, .f32⟩
  | 53 => ⟨S8x4x128, .f32⟩
  | 54 => ⟨S8x4, .f32⟩
  | 55 => ⟨S8x4, .f32⟩
  | 56 => ⟨S8x4, .f32⟩
  | 57 => ⟨S8x4, .f32⟩
  | 58 => ⟨S8x4, .f32⟩
  | 59 => ⟨S8x4, .f32⟩
  | 60 => ⟨S8x4, .f32⟩
  | 61 => ⟨S8x4x1x1, .f32⟩
  | 62 => ⟨S8x4x128x128, .f32⟩
  | 63 => ⟨S8x4x128x128, .f32⟩
  | 64 => ⟨S8x4x1x1, .f32⟩
  | 65 => ⟨S8x4x128x128, .f32⟩
  | 66 => ⟨S8x4x128x128, .f32⟩
  | 67 => ⟨S8x4x128x128, .f32⟩
  | 68 => ⟨S8x4x1, .f32⟩
  | 69 => ⟨S8x4x128, .f32⟩
  | 70 => ⟨S8x4x128, .f32⟩
  | 71 => ⟨S8x4x1, .f32⟩
  | 72 => ⟨S8x4x128, .f32⟩
  | 73 => ⟨S8x4x128, .f32⟩
  | 74 => ⟨S8x4x128, .f32⟩
  | 75 => ⟨S8x4x1, .f32⟩
  | 76 => ⟨S8x4, .f32⟩
  | 77 => ⟨S8x4x1, .f32⟩
  | 78 => ⟨S8x4, .f32⟩
  | 79 => ⟨S8x4x1x128x128, .f32⟩
  | 80 => ⟨S8x4x128x128, .f32⟩
  | 81 => ⟨S8x4x1x128, .f32⟩
  | 82 => ⟨S8x4x128, .f32⟩
  | 83 => ⟨S8x4, .f32⟩
  | 84 => ⟨S8x4, .f32⟩
  | 85 => ⟨S8x4, .f32⟩
  | 86 => ⟨S8x4, .f32⟩
  | 87 => ⟨S8x4, .f32⟩
  | 88 => ⟨S8x4, .f32⟩
  | 89 => ⟨S8x4, .f32⟩
  | 90 => ⟨S8x4x1x1, .f32⟩
  | 91 => ⟨S8x4x128x128, .f32⟩
  | 92 => ⟨S8x4x128x128, .f32⟩
  | 93 => ⟨S8x4x1x1, .f32⟩
  | 94 => ⟨S8x4x128x128, .f32⟩
  | 95 => ⟨S8x4x128x128, .f32⟩
  | 96 => ⟨S8x4x128x128, .f32⟩
  | 97 => ⟨S8x4x1, .f32⟩
  | 98 => ⟨S8x4x128, .f32⟩
  | 99 => ⟨S8x4x128, .f32⟩
  | 100 => ⟨S8x4x1, .f32⟩
  | 101 => ⟨S8x4x128, .f32⟩
  | 102 => ⟨S8x4x128, .f32⟩
  | 103 => ⟨S8x4x128, .f32⟩
  | 104 => ⟨S8x4x1, .f32⟩
  | 105 => ⟨S8x4, .f32⟩
  | 106 => ⟨S8x4x1, .f32⟩
  | 107 => ⟨S8x4, .f32⟩
  | 108 => ⟨S8x4x1x128x128, .f32⟩
  | 109 => ⟨S8x4x128x128, .f32⟩
  | 110 => ⟨S8x4x1x128, .f32⟩
  | 111 => ⟨S8x4x128, .f32⟩
  | 112 => ⟨S8x4, .f32⟩
  | 113 => ⟨S8x4, .f32⟩
  | 114 => ⟨S8x4, .f32⟩
  | 115 => ⟨S8x4, .f32⟩
  | 116 => ⟨S8x4, .f32⟩
  | 117 => ⟨S8x4, .f32⟩
  | 118 => ⟨S8x4, .f32⟩
  | 119 => ⟨S8x4x1x1, .f32⟩
  | 120 => ⟨S8x4x128x128, .f32⟩
  | 121 => ⟨S8x4x128x128, .f32⟩
  | 122 => ⟨S8x4x1x1, .f32⟩
  | 123 => ⟨S8x4x128x128, .f32⟩
  | 124 => ⟨S8x4x128x128, .f32⟩
  | 125 => ⟨S8x4x128x128, .f32⟩
  | 126 => ⟨S8x4x1, .f32⟩
  | 127 => ⟨S8x4x128, .f32⟩
  | _ => ⟨S16384x1024, .f32⟩

abbrev hbmTy0_5 (i : Nat) : BufTy := match i % 128 with
  | 0 => ⟨S8x4x128, .f32⟩
  | 1 => ⟨S8x4x1, .f32⟩
  | 2 => ⟨S8x4x128, .f32⟩
  | 3 => ⟨S8x4x128, .f32⟩
  | 4 => ⟨S8x4x128, .f32⟩
  | 5 => ⟨S8x4x1x128x128, .f32⟩
  | 6 => ⟨S8x4x1x128x128, .f32⟩
  | 7 => ⟨S8x4x1x128x128, .f32⟩
  | 8 => ⟨S8x4x1x128x128, .f32⟩
  | 9 => ⟨S8x4x1x128x128, .f32⟩
  | 10 => ⟨S8x4x1x128x128, .f32⟩
  | 11 => ⟨S8x4x1x128x128, .f32⟩
  | 12 => ⟨S8x4x1x128x128, .f32⟩
  | 13 => ⟨S8x4x1x128x128, .f32⟩
  | 14 => ⟨S8x4x1x128x128, .f32⟩
  | 15 => ⟨S8x4x1x128x128, .f32⟩
  | 16 => ⟨S8x4x1x128x128, .f32⟩
  | 17 => ⟨S8x4x1x128x128, .f32⟩
  | 18 => ⟨S8x4x1x128x128, .f32⟩
  | 19 => ⟨S8x4x1x128x128, .f32⟩
  | 20 => ⟨S8x4x1x128x128, .f32⟩
  | 21 => ⟨S8x4x16x128x128, .f32⟩
  | 22 => ⟨S8x4x1x128, .f32⟩
  | 23 => ⟨S8x4x1x128, .f32⟩
  | 24 => ⟨S8x4x1x128, .f32⟩
  | 25 => ⟨S8x4x1x128, .f32⟩
  | 26 => ⟨S8x4x1x128, .f32⟩
  | 27 => ⟨S8x4x1x128, .f32⟩
  | 28 => ⟨S8x4x1x128, .f32⟩
  | 29 => ⟨S8x4x1x128, .f32⟩
  | 30 => ⟨S8x4x1x128, .f32⟩
  | 31 => ⟨S8x4x1x128, .f32⟩
  | 32 => ⟨S8x4x1x128, .f32⟩
  | 33 => ⟨S8x4x1x128, .f32⟩
  | 34 => ⟨S8x4x1x128, .f32⟩
  | 35 => ⟨S8x4x1x128, .f32⟩
  | 36 => ⟨S8x4x1x128, .f32⟩
  | 37 => ⟨S8x4x1x128, .f32⟩
  | 38 => ⟨S8x4x16x128, .f32⟩
  | 39 => ⟨S8x4x1, .f32⟩
  | 40 => ⟨S8x4x1, .f32⟩
  | 41 => ⟨S8x4x1, .f32⟩
  | 42 => ⟨S8x4x1, .f32⟩
  | 43 => ⟨S8x4x1, .f32⟩
  | 44 => ⟨S8x4x1, .f32⟩
  | 45 => ⟨S8x4x1, .f32⟩
  | 46 => ⟨S8x4x1, .f32⟩
  | 47 => ⟨S8x4x1, .f32⟩
  | 48 => ⟨S8x4x1, .f32⟩
  | 49 => ⟨S8x4x1, .f32⟩
  | 50 => ⟨S8x4x1, .f32⟩
  | 51 => ⟨S8x4x1, .f32⟩
  | 52 => ⟨S8x4x1, .f32⟩
  | 53 => ⟨S8x4x1, .f32⟩
  | 54 => ⟨S8x4x1, .f32⟩
  | 55 => ⟨S8x4x16, .f32⟩
  | 56 => ⟨S8x4x16x1, .f32⟩
  | 57 => ⟨S8x4x16x128, .f32⟩
  | 58 => ⟨S8x4x16x128, .f32⟩
  | 59 => ⟨S_, .f32⟩
  | 60 => ⟨S8x4x16x128, .f32⟩
  | 61 => ⟨S8x4x16x128, .f32⟩
  | 62 => ⟨S8x4x16x128, .f32⟩
  | 63 => ⟨S8x4x16x128, .f32⟩
  | 64 => ⟨S8x4x16x128x1, .f32⟩
  | 65 => ⟨S8x4x16x128x128, .f32⟩
  | 66 => ⟨S8x4x16x128x128, .f32⟩
  | 67 => ⟨S8x4x16x128x128, .f32⟩
  | 68 => ⟨S8x4x16x128x128, .f32⟩
  | 69 => ⟨S8x4x16x128x128, .f32⟩
  | 70 => ⟨S8x4x16x128x1, .f32⟩
  | 71 => ⟨S8x4x16x128x128, .f32⟩
  | 72 => ⟨S8x4x16x128x128, .f32⟩
  | 73 => ⟨S8x4x16x128x128, .f32⟩
  | 74 => ⟨S8x4x16x128x128, .f32⟩
  | 75 => ⟨S8x4x16x128x128, .f32⟩
  | 76 => ⟨S8x4x16x128, .f32⟩
  | 77 => ⟨S8x4x16x128, .f32⟩
  | 78 => ⟨S_, .f32⟩
  | 79 => ⟨S8x4x16x128, .f32⟩
  | 80 => ⟨S8x4x16x128, .f32⟩
  | 81 => ⟨S8x4x16x128, .f32⟩
  | 82 => ⟨S8x4x16x128, .f32⟩
  | 83 => ⟨S8x4x16x128, .f32⟩
  | 84 => ⟨S8x4x16x128, .f32⟩
  | 85 => ⟨S8x4x16x128x1, .f32⟩
  | 86 => ⟨S8x4x16x128x128, .f32⟩
  | 87 => ⟨S8x4x16x128x128, .f32⟩
  | 88 => ⟨S8x4x2048x128, .f32⟩
  | 89 => ⟨S8x2048x4x128, .f32⟩
  | 90 => ⟨S8x2048x4x128, .f32⟩
  | 91 => ⟨S_, .f32⟩
  | 92 => ⟨S8x2048x4, .f32⟩
  | 93 => ⟨S8x2048x4x1, .f32⟩
  | 94 => ⟨S_, .f32⟩
  | 95 => ⟨S8x2048x4x1, .f32⟩
  | 96 => ⟨S8x2048x4x1, .f32⟩
  | 97 => ⟨S_, .f32⟩
  | 98 => ⟨S8x2048x4x1, .f32⟩
  | 99 => ⟨S8x2048x4x1, .f32⟩
  | 100 => ⟨S8x2048x4x1, .f32⟩
  | 101 => ⟨S8x2048x4x128, .f32⟩
  | 102 => ⟨S8x2048x4x128, .f32⟩
  | 103 => ⟨S4x128, .f32⟩
  | 104 => ⟨S1x1x4x128, .f32⟩
  | 105 => ⟨S8x2048x4x128, .f32⟩
  | 106 => ⟨S8x2048x4x128, .f32⟩
  | 107 => ⟨S8x2048x512, .f32⟩
  | 108 => ⟨S8x2048x512, .f32⟩
  | 109 => ⟨S8x2048x512, .f32⟩
  | 110 => ⟨S_, .f32⟩
  | 111 => ⟨S8x2048x512, .f32⟩
  | 112 => ⟨S8x2048x512, .f32⟩
  | 113 => ⟨S_, .f32⟩
  | 114 => ⟨S8x2048x512, .f32⟩
  | 115 => ⟨S8x2048x512, .f32⟩
  | 116 => ⟨S8x2048x512, .f32⟩
  | 117 => ⟨S_, .f32⟩
  | 118 => ⟨S8x2048x512, .f32⟩
  | 119 => ⟨S8x2048x512, .f32⟩
  | 120 => ⟨S8x2048x512, .f32⟩
  | 121 => ⟨S_, .f32⟩
  | 122 => ⟨S8x2048x512, .f32⟩
  | 123 => ⟨S8x2048x512, .f32⟩
  | 124 => ⟨S8x2048x512, .f32⟩
  | 125 => ⟨S8x2048x512, .f32⟩
  | 126 => ⟨S_, .f32⟩
  | 127 => ⟨S8x2048x512, .f32⟩
  | _ => ⟨S16384x1024, .f32⟩

abbrev hbmTy0_6 (i : Nat) : BufTy := match i % 128 with
  | 0 => ⟨S8x2048x512, .f32⟩
  | 1 => ⟨S8x2048x512, .f32⟩
  | 2 => ⟨S_, .f32⟩
  | 3 => ⟨S8x2048x512, .f32⟩
  | 4 => ⟨S8x2048x512, .f32⟩
  | 5 => ⟨S8x2048x512, .f32⟩
  | 6 => ⟨S8x2048x512, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S8x2048x512, .f32⟩
  | 14 => ⟨S8x2048x512, .f32⟩
  | 15 => ⟨S8x2048x512, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S8x2048x512, .f32⟩
  | 23 => ⟨S8x2048x512, .f32⟩
  | 24 => ⟨S_, .f32⟩
  | 25 => ⟨S8x2048x1, .f32⟩
  | 26 => ⟨S8x2048x1, .f32⟩
  | 27 => ⟨S8x2048x1, .f32⟩
  | 28 => ⟨S8x2048x512, .f32⟩
  | 29 => ⟨S8x2048x512, .f32⟩
  | 30 => ⟨S1x1x512, .f32⟩
  | 31 => ⟨S8x2048x512, .f32⟩
  | 32 => ⟨S8x2048x512, .f32⟩
  | 33 => ⟨S1x1x512, .f32⟩
  | 34 => ⟨S8x2048x512, .f32⟩
  | 35 => ⟨S8x2048x512, .f32⟩
  | 36 => ⟨S8x16x128x4x128, .f32⟩
  | 37 => ⟨S_, .i1⟩
  | 38 => ⟨S128x128, .i1⟩
  | 39 => ⟨S128x128, .i32⟩
  | 40 => ⟨S_, .i32⟩
  | 41 => ⟨S128x128, .i32⟩
  | 42 => ⟨S128x128, .i32⟩
  | 43 => ⟨S128x128, .i32⟩
  | 44 => ⟨S128x128, .i1⟩
  | 45 => ⟨S_, .i1⟩
  | 46 => ⟨S128x128, .i1⟩
  | 47 => ⟨S128x128, .i1⟩
  | 48 => ⟨S_, .f32⟩
  | 49 => ⟨S4x128x128, .f32⟩
  | 50 => ⟨S4x128x128, .i1⟩
  | 51 => ⟨S4x128x128, .f32⟩
  | 52 => ⟨S4x8x16x128x128, .f32⟩
  | 53 => ⟨S8x16x128x4x128, .f32⟩
  | 54 => ⟨S128x4, .f32⟩
  | 55 => ⟨S128x4x1, .f32⟩
  | 56 => ⟨S1x1x128x4x1, .f32⟩
  | 57 => ⟨S8x16x128x4x128, .f32⟩
  | 58 => ⟨S8x16x128x4x128, .f32⟩
  | 59 => ⟨S8x2048x512, .f32⟩
  | 60 => ⟨S8x2048x512, .f32⟩
  | 61 => ⟨S8x2048x1024, .f32⟩
  | 62 => ⟨S8x2048x1024, .f32⟩
  | 63 => ⟨S1x1024, .f32⟩
  | 64 => ⟨S1024, .f32⟩
  | 65 => ⟨S8x2048x1024, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S_, .f32⟩
  | 73 => ⟨S8x2048x1, .f32⟩
  | 74 => ⟨S8x2048x1, .f32⟩
  | 75 => ⟨S8x2048x1, .f32⟩
  | 76 => ⟨S8x2048x1024, .f32⟩
  | 77 => ⟨S8x2048x1024, .f32⟩
  | 78 => ⟨S1x1x1024, .f32⟩
  | 79 => ⟨S8x2048x1024, .f32⟩
  | 80 => ⟨S8x2048x1024, .f32⟩
  | 81 => ⟨S8x2048x1024, .f32⟩
  | 82 => ⟨S4x2x2048x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_v0 : Ref sig .tc := ⟨.hbm, 99, rfl⟩
abbrev main_call1_call0_cst : Ref sig .tc := ⟨.hbm, 100, rfl⟩
abbrev main_call1_call0_v0 : Ref sig .tc := ⟨.hbm, 101, rfl⟩
abbrev main_call1_call0_v1 : Ref sig .tc := ⟨.hbm, 102, rfl⟩
abbrev main_call1_call0_v2 : Ref sig .tc := ⟨.hbm, 103, rfl⟩
abbrev main_call1_call0_v3 : Ref sig .tc := ⟨.hbm, 104, rfl⟩
abbrev main_call1_call0_v4 : Ref sig .tc := ⟨.hbm, 105, rfl⟩
abbrev main_call1_call0_v5 : Ref sig .tc := ⟨.hbm, 106, rfl⟩
abbrev main_call1_call0_v6 : Ref sig .tc := ⟨.hbm, 107, rfl⟩
abbrev main_call1_call0_v7 : Ref sig .tc := ⟨.hbm, 108, rfl⟩
abbrev main_call1_call0_v8 : Ref sig .tc := ⟨.hbm, 109, rfl⟩
abbrev main_call1_call0_v9 : Ref sig .tc := ⟨.hbm, 110, rfl⟩
abbrev main_call1_call0_v10 : Ref sig .tc := ⟨.hbm, 111, rfl⟩
abbrev main_call1_call0_v11 : Ref sig .tc := ⟨.hbm, 112, rfl⟩
abbrev main_call1_v1 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_4 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call2_call0_cst : Ref sig .tc := ⟨.hbm, 130, rfl⟩
abbrev main_call2_call0_v0 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c : Ref sig .tc := ⟨.hbm, 135, rfl⟩
abbrev main_v90 : Ref sig .tc := ⟨.hbm, 136, rfl⟩
abbrev main_call3_v0 : Ref sig .tc := ⟨.hbm, 137, rfl⟩
abbrev main_call3_c : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_c_0 : Ref sig .tc := ⟨.hbm, 143, rfl⟩
abbrev main_call3_v5 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_5 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_6 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_7 : Ref sig .tc := ⟨.hbm, 173, rfl⟩
abbrev main_v114 : Ref sig .tc := ⟨.hbm, 174, rfl⟩
abbrev main_cst_8 : Ref sig .tc := ⟨.hbm, 175, rfl⟩
abbrev main_v115 : Ref sig .tc := ⟨.hbm, 176, rfl⟩
abbrev main_cst_9 : Ref sig .tc := ⟨.hbm, 177, rfl⟩
abbrev main_v116 : Ref sig .tc := ⟨.hbm, 178, rfl⟩
abbrev main_cst_10 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_v321 : Ref sig .tc := ⟨.hbm, 384, rfl⟩
abbrev main_v322 : Ref sig .tc := ⟨.hbm, 385, rfl⟩
abbrev main_v323 : Ref sig .tc := ⟨.hbm, 386, rfl⟩
abbrev main_v324 : Ref sig .tc := ⟨.hbm, 387, rfl⟩
abbrev main_v325 : Ref sig .tc := ⟨.hbm, 388, rfl⟩
abbrev main_v326 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩
abbrev main_v372 : Ref sig .tc := ⟨.hbm, 435, rfl⟩
abbrev main_v373 : Ref sig .tc := ⟨.hbm, 436, rfl⟩
abbrev main_v374 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_v389 : Ref sig .tc := ⟨.hbm, 452, rfl⟩
abbrev main_v390 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_v395 : Ref sig .tc := ⟨.hbm, 458, rfl⟩
abbrev main_v396 : Ref sig .tc := ⟨.hbm, 459, rfl⟩
abbrev main_v397 : Ref sig .tc := ⟨.hbm, 460, rfl⟩
abbrev main_v398 : Ref sig .tc := ⟨.hbm, 461, rfl⟩
abbrev main_v399 : Ref sig .tc := ⟨.hbm, 462, rfl⟩
abbrev main_v400 : Ref sig .tc := ⟨.hbm, 463, rfl⟩
abbrev main_v401 : Ref sig .tc := ⟨.hbm, 464, rfl⟩
abbrev main_v402 : Ref sig .tc := ⟨.hbm, 465, rfl⟩
abbrev main_v403 : Ref sig .tc := ⟨.hbm, 466, rfl⟩
abbrev main_v404 : Ref sig .tc := ⟨.hbm, 467, rfl⟩
abbrev main_v405 : Ref sig .tc := ⟨.hbm, 468, rfl⟩
abbrev main_v406 : Ref sig .tc := ⟨.hbm, 469, rfl⟩
abbrev main_v407 : Ref sig .tc := ⟨.hbm, 470, rfl⟩
abbrev main_v408 : Ref sig .tc := ⟨.hbm, 471, rfl⟩
abbrev main_v409 : Ref sig .tc := ⟨.hbm, 472, rfl⟩
abbrev main_v410 : Ref sig .tc := ⟨.hbm, 473, rfl⟩
abbrev main_v411 : Ref sig .tc := ⟨.hbm, 474, rfl⟩
abbrev main_v412 : Ref sig .tc := ⟨.hbm, 475, rfl⟩
abbrev main_v413 : Ref sig .tc := ⟨.hbm, 476, rfl⟩
abbrev main_v414 : Ref sig .tc := ⟨.hbm, 477, rfl⟩
abbrev main_v415 : Ref sig .tc := ⟨.hbm, 478, rfl⟩
abbrev main_v416 : Ref sig .tc := ⟨.hbm, 479, rfl⟩
abbrev main_v417 : Ref sig .tc := ⟨.hbm, 480, rfl⟩
abbrev main_v418 : Ref sig .tc := ⟨.hbm, 481, rfl⟩
abbrev main_v419 : Ref sig .tc := ⟨.hbm, 482, rfl⟩
abbrev main_v420 : Ref sig .tc := ⟨.hbm, 483, rfl⟩
abbrev main_v421 : Ref sig .tc := ⟨.hbm, 484, rfl⟩
abbrev main_v422 : Ref sig .tc := ⟨.hbm, 485, rfl⟩
abbrev main_v423 : Ref sig .tc := ⟨.hbm, 486, rfl⟩
abbrev main_v424 : Ref sig .tc := ⟨.hbm, 487, rfl⟩
abbrev main_v425 : Ref sig .tc := ⟨.hbm, 488, rfl⟩
abbrev main_v426 : Ref sig .tc := ⟨.hbm, 489, rfl⟩
abbrev main_v427 : Ref sig .tc := ⟨.hbm, 490, rfl⟩
abbrev main_v428 : Ref sig .tc := ⟨.hbm, 491, rfl⟩
abbrev main_v429 : Ref sig .tc := ⟨.hbm, 492, rfl⟩
abbrev main_v430 : Ref sig .tc := ⟨.hbm, 493, rfl⟩
abbrev main_v431 : Ref sig .tc := ⟨.hbm, 494, rfl⟩
abbrev main_v432 : Ref sig .tc := ⟨.hbm, 495, rfl⟩
abbrev main_v433 : Ref sig .tc := ⟨.hbm, 496, rfl⟩
abbrev main_v434 : Ref sig .tc := ⟨.hbm, 497, rfl⟩
abbrev main_v435 : Ref sig .tc := ⟨.hbm, 498, rfl⟩
abbrev main_v436 : Ref sig .tc := ⟨.hbm, 499, rfl⟩
abbrev main_v437 : Ref sig .tc := ⟨.hbm, 500, rfl⟩
abbrev main_v438 : Ref sig .tc := ⟨.hbm, 501, rfl⟩
abbrev main_v439 : Ref sig .tc := ⟨.hbm, 502, rfl⟩
abbrev main_v440 : Ref sig .tc := ⟨.hbm, 503, rfl⟩
abbrev main_v441 : Ref sig .tc := ⟨.hbm, 504, rfl⟩
abbrev main_v442 : Ref sig .tc := ⟨.hbm, 505, rfl⟩
abbrev main_v443 : Ref sig .tc := ⟨.hbm, 506, rfl⟩
abbrev main_v444 : Ref sig .tc := ⟨.hbm, 507, rfl⟩
abbrev main_v445 : Ref sig .tc := ⟨.hbm, 508, rfl⟩
abbrev main_v446 : Ref sig .tc := ⟨.hbm, 509, rfl⟩
abbrev main_v447 : Ref sig .tc := ⟨.hbm, 510, rfl⟩
abbrev main_v448 : Ref sig .tc := ⟨.hbm, 511, rfl⟩
abbrev main_v449 : Ref sig .tc := ⟨.hbm, 512, rfl⟩
abbrev main_v450 : Ref sig .tc := ⟨.hbm, 513, rfl⟩
abbrev main_v451 : Ref sig .tc := ⟨.hbm, 514, rfl⟩
abbrev main_v452 : Ref sig .tc := ⟨.hbm, 515, rfl⟩
abbrev main_v453 : Ref sig .tc := ⟨.hbm, 516, rfl⟩
abbrev main_v454 : Ref sig .tc := ⟨.hbm, 517, rfl⟩
abbrev main_v455 : Ref sig .tc := ⟨.hbm, 518, rfl⟩
abbrev main_v456 : Ref sig .tc := ⟨.hbm, 519, rfl⟩
abbrev main_v457 : Ref sig .tc := ⟨.hbm, 520, rfl⟩
abbrev main_v458 : Ref sig .tc := ⟨.hbm, 521, rfl⟩
abbrev main_v459 : Ref sig .tc := ⟨.hbm, 522, rfl⟩
abbrev main_v460 : Ref sig .tc := ⟨.hbm, 523, rfl⟩
abbrev main_v461 : Ref sig .tc := ⟨.hbm, 524, rfl⟩
abbrev main_v462 : Ref sig .tc := ⟨.hbm, 525, rfl⟩
abbrev main_v463 : Ref sig .tc := ⟨.hbm, 526, rfl⟩
abbrev main_v464 : Ref sig .tc := ⟨.hbm, 527, rfl⟩
abbrev main_v465 : Ref sig .tc := ⟨.hbm, 528, rfl⟩
abbrev main_v466 : Ref sig .tc := ⟨.hbm, 529, rfl⟩
abbrev main_v467 : Ref sig .tc := ⟨.hbm, 530, rfl⟩
abbrev main_v468 : Ref sig .tc := ⟨.hbm, 531, rfl⟩
abbrev main_v469 : Ref sig .tc := ⟨.hbm, 532, rfl⟩
abbrev main_v470 : Ref sig .tc := ⟨.hbm, 533, rfl⟩
abbrev main_v471 : Ref sig .tc := ⟨.hbm, 534, rfl⟩
abbrev main_v472 : Ref sig .tc := ⟨.hbm, 535, rfl⟩
abbrev main_v473 : Ref sig .tc := ⟨.hbm, 536, rfl⟩
abbrev main_v474 : Ref sig .tc := ⟨.hbm, 537, rfl⟩
abbrev main_v475 : Ref sig .tc := ⟨.hbm, 538, rfl⟩
abbrev main_v476 : Ref sig .tc := ⟨.hbm, 539, rfl⟩
abbrev main_v477 : Ref sig .tc := ⟨.hbm, 540, rfl⟩
abbrev main_v478 : Ref sig .tc := ⟨.hbm, 541, rfl⟩
abbrev main_v479 : Ref sig .tc := ⟨.hbm, 542, rfl⟩
abbrev main_v480 : Ref sig .tc := ⟨.hbm, 543, rfl⟩
abbrev main_v481 : Ref sig .tc := ⟨.hbm, 544, rfl⟩
abbrev main_v482 : Ref sig .tc := ⟨.hbm, 545, rfl⟩
abbrev main_v483 : Ref sig .tc := ⟨.hbm, 546, rfl⟩
abbrev main_v484 : Ref sig .tc := ⟨.hbm, 547, rfl⟩
abbrev main_v485 : Ref sig .tc := ⟨.hbm, 548, rfl⟩
abbrev main_v486 : Ref sig .tc := ⟨.hbm, 549, rfl⟩
abbrev main_v487 : Ref sig .tc := ⟨.hbm, 550, rfl⟩
abbrev main_v488 : Ref sig .tc := ⟨.hbm, 551, rfl⟩
abbrev main_v489 : Ref sig .tc := ⟨.hbm, 552, rfl⟩
abbrev main_v490 : Ref sig .tc := ⟨.hbm, 553, rfl⟩
abbrev main_v491 : Ref sig .tc := ⟨.hbm, 554, rfl⟩
abbrev main_v492 : Ref sig .tc := ⟨.hbm, 555, rfl⟩
abbrev main_v493 : Ref sig .tc := ⟨.hbm, 556, rfl⟩
abbrev main_v494 : Ref sig .tc := ⟨.hbm, 557, rfl⟩
abbrev main_v495 : Ref sig .tc := ⟨.hbm, 558, rfl⟩
abbrev main_v496 : Ref sig .tc := ⟨.hbm, 559, rfl⟩
abbrev main_v497 : Ref sig .tc := ⟨.hbm, 560, rfl⟩
abbrev main_v498 : Ref sig .tc := ⟨.hbm, 561, rfl⟩
abbrev main_v499 : Ref sig .tc := ⟨.hbm, 562, rfl⟩
abbrev main_v500 : Ref sig .tc := ⟨.hbm, 563, rfl⟩
abbrev main_v501 : Ref sig .tc := ⟨.hbm, 564, rfl⟩
abbrev main_v502 : Ref sig .tc := ⟨.hbm, 565, rfl⟩
abbrev main_v503 : Ref sig .tc := ⟨.hbm, 566, rfl⟩
abbrev main_v504 : Ref sig .tc := ⟨.hbm, 567, rfl⟩
abbrev main_v505 : Ref sig .tc := ⟨.hbm, 568, rfl⟩
abbrev main_v506 : Ref sig .tc := ⟨.hbm, 569, rfl⟩
abbrev main_v507 : Ref sig .tc := ⟨.hbm, 570, rfl⟩
abbrev main_v508 : Ref sig .tc := ⟨.hbm, 571, rfl⟩
abbrev main_v509 : Ref sig .tc := ⟨.hbm, 572, rfl⟩
abbrev main_v510 : Ref sig .tc := ⟨.hbm, 573, rfl⟩
abbrev main_v511 : Ref sig .tc := ⟨.hbm, 574, rfl⟩
abbrev main_v512 : Ref sig .tc := ⟨.hbm, 575, rfl⟩
abbrev main_v513 : Ref sig .tc := ⟨.hbm, 576, rfl⟩
abbrev main_v514 : Ref sig .tc := ⟨.hbm, 577, rfl⟩
abbrev main_v515 : Ref sig .tc := ⟨.hbm, 578, rfl⟩
abbrev main_v516 : Ref sig .tc := ⟨.hbm, 579, rfl⟩
abbrev main_v517 : Ref sig .tc := ⟨.hbm, 580, rfl⟩
abbrev main_v518 : Ref sig .tc := ⟨.hbm, 581, rfl⟩
abbrev main_v519 : Ref sig .tc := ⟨.hbm, 582, rfl⟩
abbrev main_v520 : Ref sig .tc := ⟨.hbm, 583, rfl⟩
abbrev main_v521 : Ref sig .tc := ⟨.hbm, 584, rfl⟩
abbrev main_v522 : Ref sig .tc := ⟨.hbm, 585, rfl⟩
abbrev main_v523 : Ref sig .tc := ⟨.hbm, 586, rfl⟩
abbrev main_v524 : Ref sig .tc := ⟨.hbm, 587, rfl⟩
abbrev main_v525 : Ref sig .tc := ⟨.hbm, 588, rfl⟩
abbrev main_v526 : Ref sig .tc := ⟨.hbm, 589, rfl⟩
abbrev main_v527 : Ref sig .tc := ⟨.hbm, 590, rfl⟩
abbrev main_v528 : Ref sig .tc := ⟨.hbm, 591, rfl⟩
abbrev main_v529 : Ref sig .tc := ⟨.hbm, 592, rfl⟩
abbrev main_v530 : Ref sig .tc := ⟨.hbm, 593, rfl⟩
abbrev main_v531 : Ref sig .tc := ⟨.hbm, 594, rfl⟩
abbrev main_v532 : Ref sig .tc := ⟨.hbm, 595, rfl⟩
abbrev main_v533 : Ref sig .tc := ⟨.hbm, 596, rfl⟩
abbrev main_v534 : Ref sig .tc := ⟨.hbm, 597, rfl⟩
abbrev main_v535 : Ref sig .tc := ⟨.hbm, 598, rfl⟩
abbrev main_v536 : Ref sig .tc := ⟨.hbm, 599, rfl⟩
abbrev main_v537 : Ref sig .tc := ⟨.hbm, 600, rfl⟩
abbrev main_v538 : Ref sig .tc := ⟨.hbm, 601, rfl⟩
abbrev main_v539 : Ref sig .tc := ⟨.hbm, 602, rfl⟩
abbrev main_v540 : Ref sig .tc := ⟨.hbm, 603, rfl⟩
abbrev main_v541 : Ref sig .tc := ⟨.hbm, 604, rfl⟩
abbrev main_v542 : Ref sig .tc := ⟨.hbm, 605, rfl⟩
abbrev main_v543 : Ref sig .tc := ⟨.hbm, 606, rfl⟩
abbrev main_v544 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_v549 : Ref sig .tc := ⟨.hbm, 612, rfl⟩
abbrev main_v550 : Ref sig .tc := ⟨.hbm, 613, rfl⟩
abbrev main_v551 : Ref sig .tc := ⟨.hbm, 614, rfl⟩
abbrev main_v552 : Ref sig .tc := ⟨.hbm, 615, rfl⟩
abbrev main_v553 : Ref sig .tc := ⟨.hbm, 616, rfl⟩
abbrev main_v554 : Ref sig .tc := ⟨.hbm, 617, rfl⟩
abbrev main_v555 : Ref sig .tc := ⟨.hbm, 618, rfl⟩
abbrev main_v556 : Ref sig .tc := ⟨.hbm, 619, rfl⟩
abbrev main_v557 : Ref sig .tc := ⟨.hbm, 620, rfl⟩
abbrev main_v558 : Ref sig .tc := ⟨.hbm, 621, rfl⟩
abbrev main_v559 : Ref sig .tc := ⟨.hbm, 622, rfl⟩
abbrev main_v560 : Ref sig .tc := ⟨.hbm, 623, rfl⟩
abbrev main_v561 : Ref sig .tc := ⟨.hbm, 624, rfl⟩
abbrev main_v562 : Ref sig .tc := ⟨.hbm, 625, rfl⟩
abbrev main_v563 : Ref sig .tc := ⟨.hbm, 626, rfl⟩
abbrev main_v564 : Ref sig .tc := ⟨.hbm, 627, rfl⟩
abbrev main_v565 : Ref sig .tc := ⟨.hbm, 628, rfl⟩
abbrev main_v566 : Ref sig .tc := ⟨.hbm, 629, rfl⟩
abbrev main_v567 : Ref sig .tc := ⟨.hbm, 630, rfl⟩
abbrev main_v568 : Ref sig .tc := ⟨.hbm, 631, rfl⟩
abbrev main_v569 : Ref sig .tc := ⟨.hbm, 632, rfl⟩
abbrev main_v570 : Ref sig .tc := ⟨.hbm, 633, rfl⟩
abbrev main_v571 : Ref sig .tc := ⟨.hbm, 634, rfl⟩
abbrev main_v572 : Ref sig .tc := ⟨.hbm, 635, rfl⟩
abbrev main_v573 : Ref sig .tc := ⟨.hbm, 636, rfl⟩
abbrev main_v574 : Ref sig .tc := ⟨.hbm, 637, rfl⟩
abbrev main_v575 : Ref sig .tc := ⟨.hbm, 638, rfl⟩
abbrev main_v576 : Ref sig .tc := ⟨.hbm, 639, rfl⟩
abbrev main_v577 : Ref sig .tc := ⟨.hbm, 640, rfl⟩
abbrev main_v578 : Ref sig .tc := ⟨.hbm, 641, rfl⟩
abbrev main_v579 : Ref sig .tc := ⟨.hbm, 642, rfl⟩
abbrev main_v580 : Ref sig .tc := ⟨.hbm, 643, rfl⟩
abbrev main_v581 : Ref sig .tc := ⟨.hbm, 644, rfl⟩
abbrev main_v582 : Ref sig .tc := ⟨.hbm, 645, rfl⟩
abbrev main_v583 : Ref sig .tc := ⟨.hbm, 646, rfl⟩
abbrev main_v584 : Ref sig .tc := ⟨.hbm, 647, rfl⟩
abbrev main_v585 : Ref sig .tc := ⟨.hbm, 648, rfl⟩
abbrev main_v586 : Ref sig .tc := ⟨.hbm, 649, rfl⟩
abbrev main_v587 : Ref sig .tc := ⟨.hbm, 650, rfl⟩
abbrev main_v588 : Ref sig .tc := ⟨.hbm, 651, rfl⟩
abbrev main_v589 : Ref sig .tc := ⟨.hbm, 652, rfl⟩
abbrev main_v590 : Ref sig .tc := ⟨.hbm, 653, rfl⟩
abbrev main_v591 : Ref sig .tc := ⟨.hbm, 654, rfl⟩
abbrev main_v592 : Ref sig .tc := ⟨.hbm, 655, rfl⟩
abbrev main_v593 : Ref sig .tc := ⟨.hbm, 656, rfl⟩
abbrev main_v594 : Ref sig .tc := ⟨.hbm, 657, rfl⟩
abbrev main_v595 : Ref sig .tc := ⟨.hbm, 658, rfl⟩
abbrev main_v596 : Ref sig .tc := ⟨.hbm, 659, rfl⟩
abbrev main_v597 : Ref sig .tc := ⟨.hbm, 660, rfl⟩
abbrev main_v598 : Ref sig .tc := ⟨.hbm, 661, rfl⟩
abbrev main_v599 : Ref sig .tc := ⟨.hbm, 662, rfl⟩
abbrev main_v600 : Ref sig .tc := ⟨.hbm, 663, rfl⟩
abbrev main_v601 : Ref sig .tc := ⟨.hbm, 664, rfl⟩
abbrev main_v602 : Ref sig .tc := ⟨.hbm, 665, rfl⟩
abbrev main_v603 : Ref sig .tc := ⟨.hbm, 666, rfl⟩
abbrev main_v604 : Ref sig .tc := ⟨.hbm, 667, rfl⟩
abbrev main_v605 : Ref sig .tc := ⟨.hbm, 668, rfl⟩
abbrev main_v606 : Ref sig .tc := ⟨.hbm, 669, rfl⟩
abbrev main_v607 : Ref sig .tc := ⟨.hbm, 670, rfl⟩
abbrev main_v608 : Ref sig .tc := ⟨.hbm, 671, rfl⟩
abbrev main_v609 : Ref sig .tc := ⟨.hbm, 672, rfl⟩
abbrev main_v610 : Ref sig .tc := ⟨.hbm, 673, rfl⟩
abbrev main_v611 : Ref sig .tc := ⟨.hbm, 674, rfl⟩
abbrev main_v612 : Ref sig .tc := ⟨.hbm, 675, rfl⟩
abbrev main_v613 : Ref sig .tc := ⟨.hbm, 676, rfl⟩
abbrev main_v614 : Ref sig .tc := ⟨.hbm, 677, rfl⟩
abbrev main_v615 : Ref sig .tc := ⟨.hbm, 678, rfl⟩
abbrev main_v616 : Ref sig .tc := ⟨.hbm, 679, rfl⟩
abbrev main_v617 : Ref sig .tc := ⟨.hbm, 680, rfl⟩
abbrev main_v618 : Ref sig .tc := ⟨.hbm, 681, rfl⟩
abbrev main_v619 : Ref sig .tc := ⟨.hbm, 682, rfl⟩
abbrev main_v620 : Ref sig .tc := ⟨.hbm, 683, rfl⟩
abbrev main_v621 : Ref sig .tc := ⟨.hbm, 684, rfl⟩
abbrev main_v622 : Ref sig .tc := ⟨.hbm, 685, rfl⟩
abbrev main_v623 : Ref sig .tc := ⟨.hbm, 686, rfl⟩
abbrev main_v624 : Ref sig .tc := ⟨.hbm, 687, rfl⟩
abbrev main_v625 : Ref sig .tc := ⟨.hbm, 688, rfl⟩
abbrev main_v626 : Ref sig .tc := ⟨.hbm, 689, rfl⟩
abbrev main_v627 : Ref sig .tc := ⟨.hbm, 690, rfl⟩
abbrev main_v628 : Ref sig .tc := ⟨.hbm, 691, rfl⟩
abbrev main_v629 : Ref sig .tc := ⟨.hbm, 692, rfl⟩
abbrev main_v630 : Ref sig .tc := ⟨.hbm, 693, rfl⟩
abbrev main_v631 : Ref sig .tc := ⟨.hbm, 694, rfl⟩
abbrev main_v632 : Ref sig .tc := ⟨.hbm, 695, rfl⟩
abbrev main_v633 : Ref sig .tc := ⟨.hbm, 696, rfl⟩
abbrev main_v634 : Ref sig .tc := ⟨.hbm, 697, rfl⟩
abbrev main_v635 : Ref sig .tc := ⟨.hbm, 698, rfl⟩
abbrev main_cst_11 : Ref sig .tc := ⟨.hbm, 699, rfl⟩
abbrev main_v636 : Ref sig .tc := ⟨.hbm, 700, rfl⟩
abbrev main_v637 : Ref sig .tc := ⟨.hbm, 701, rfl⟩
abbrev main_v638 : Ref sig .tc := ⟨.hbm, 702, rfl⟩
abbrev main_v639 : Ref sig .tc := ⟨.hbm, 703, rfl⟩
abbrev main_v640 : Ref sig .tc := ⟨.hbm, 704, rfl⟩
abbrev main_v641 : Ref sig .tc := ⟨.hbm, 705, rfl⟩
abbrev main_v642 : Ref sig .tc := ⟨.hbm, 706, rfl⟩
abbrev main_v643 : Ref sig .tc := ⟨.hbm, 707, rfl⟩
abbrev main_v644 : Ref sig .tc := ⟨.hbm, 708, rfl⟩
abbrev main_v645 : Ref sig .tc := ⟨.hbm, 709, rfl⟩
abbrev main_v646 : Ref sig .tc := ⟨.hbm, 710, rfl⟩
abbrev main_v647 : Ref sig .tc := ⟨.hbm, 711, rfl⟩
abbrev main_v648 : Ref sig .tc := ⟨.hbm, 712, rfl⟩
abbrev main_v649 : Ref sig .tc := ⟨.hbm, 713, rfl⟩
abbrev main_v650 : Ref sig .tc := ⟨.hbm, 714, rfl⟩
abbrev main_v651 : Ref sig .tc := ⟨.hbm, 715, rfl⟩
abbrev main_v652 : Ref sig .tc := ⟨.hbm, 716, rfl⟩
abbrev main_v653 : Ref sig .tc := ⟨.hbm, 717, rfl⟩
abbrev main_cst_12 : Ref sig .tc := ⟨.hbm, 718, rfl⟩
abbrev main_v654 : Ref sig .tc := ⟨.hbm, 719, rfl⟩
abbrev main_v655 : Ref sig .tc := ⟨.hbm, 720, rfl⟩
abbrev main_v656 : Ref sig .tc := ⟨.hbm, 721, rfl⟩
abbrev main_v657 : Ref sig .tc := ⟨.hbm, 722, rfl⟩
abbrev main_v658 : Ref sig .tc := ⟨.hbm, 723, rfl⟩
abbrev main_v659 : Ref sig .tc := ⟨.hbm, 724, rfl⟩
abbrev main_v660 : Ref sig .tc := ⟨.hbm, 725, rfl⟩
abbrev main_v661 : Ref sig .tc := ⟨.hbm, 726, rfl⟩
abbrev main_v662 : Ref sig .tc := ⟨.hbm, 727, rfl⟩
abbrev main_v663 : Ref sig .tc := ⟨.hbm, 728, rfl⟩
abbrev main_v664 : Ref sig .tc := ⟨.hbm, 729, rfl⟩
abbrev main_v665 : Ref sig .tc := ⟨.hbm, 730, rfl⟩
abbrev main_cst_13 : Ref sig .tc := ⟨.hbm, 731, rfl⟩
abbrev main_v666 : Ref sig .tc := ⟨.hbm, 732, rfl⟩
abbrev main_v667 : Ref sig .tc := ⟨.hbm, 733, rfl⟩
abbrev main_cst_14 : Ref sig .tc := ⟨.hbm, 734, rfl⟩
abbrev main_v668 : Ref sig .tc := ⟨.hbm, 735, rfl⟩
abbrev main_v669 : Ref sig .tc := ⟨.hbm, 736, rfl⟩
abbrev main_cst_15 : Ref sig .tc := ⟨.hbm, 737, rfl⟩
abbrev main_v670 : Ref sig .tc := ⟨.hbm, 738, rfl⟩
abbrev main_v671 : Ref sig .tc := ⟨.hbm, 739, rfl⟩
abbrev main_v672 : Ref sig .tc := ⟨.hbm, 740, rfl⟩
abbrev main_v673 : Ref sig .tc := ⟨.hbm, 741, rfl⟩
abbrev main_v674 : Ref sig .tc := ⟨.hbm, 742, rfl⟩
abbrev main_v675 : Ref sig .tc := ⟨.hbm, 743, rfl⟩
abbrev main_v676 : Ref sig .tc := ⟨.hbm, 744, rfl⟩
abbrev main_v677 : Ref sig .tc := ⟨.hbm, 745, rfl⟩
abbrev main_v678 : Ref sig .tc := ⟨.hbm, 746, rfl⟩
abbrev main_v679 : Ref sig .tc := ⟨.hbm, 747, rfl⟩
abbrev main_v680 : Ref sig .tc := ⟨.hbm, 748, rfl⟩
abbrev main_v681 : Ref sig .tc := ⟨.hbm, 749, rfl⟩
abbrev main_cst_16 : Ref sig .tc := ⟨.hbm, 750, rfl⟩
abbrev main_v682 : Ref sig .tc := ⟨.hbm, 751, rfl⟩
abbrev main_v683 : Ref sig .tc := ⟨.hbm, 752, rfl⟩
abbrev main_cst_17 : Ref sig .tc := ⟨.hbm, 753, rfl⟩
abbrev main_v684 : Ref sig .tc := ⟨.hbm, 754, rfl⟩
abbrev main_v685 : Ref sig .tc := ⟨.hbm, 755, rfl⟩
abbrev main_v686 : Ref sig .tc := ⟨.hbm, 756, rfl⟩
abbrev main_cst_18 : Ref sig .tc := ⟨.hbm, 757, rfl⟩
abbrev main_v687 : Ref sig .tc := ⟨.hbm, 758, rfl⟩
abbrev main_v688 : Ref sig .tc := ⟨.hbm, 759, rfl⟩
abbrev main_v689 : Ref sig .tc := ⟨.hbm, 760, rfl⟩
abbrev main_cst_19 : Ref sig .tc := ⟨.hbm, 761, rfl⟩
abbrev main_v690 : Ref sig .tc := ⟨.hbm, 762, rfl⟩
abbrev main_v691 : Ref sig .tc := ⟨.hbm, 763, rfl⟩
abbrev main_v692 : Ref sig .tc := ⟨.hbm, 764, rfl⟩
abbrev main_v693 : Ref sig .tc := ⟨.hbm, 765, rfl⟩
abbrev main_cst_20 : Ref sig .tc := ⟨.hbm, 766, rfl⟩
abbrev main_v694 : Ref sig .tc := ⟨.hbm, 767, rfl⟩
abbrev main_v695 : Ref sig .tc := ⟨.hbm, 768, rfl⟩
abbrev main_v696 : Ref sig .tc := ⟨.hbm, 769, rfl⟩
abbrev main_cst_21 : Ref sig .tc := ⟨.hbm, 770, rfl⟩
abbrev main_v697 : Ref sig .tc := ⟨.hbm, 771, rfl⟩
abbrev main_v698 : Ref sig .tc := ⟨.hbm, 772, rfl⟩
abbrev main_v699 : Ref sig .tc := ⟨.hbm, 773, rfl⟩
abbrev main_v700 : Ref sig .tc := ⟨.hbm, 774, rfl⟩
abbrev main_cst_22 : Ref sig .tc := ⟨.hbm, 775, rfl⟩
abbrev main_v701 : Ref sig .tc := ⟨.hbm, 776, rfl⟩
abbrev main_v702 : Ref sig .tc := ⟨.hbm, 777, rfl⟩
abbrev main_cst_23 : Ref sig .tc := ⟨.hbm, 778, rfl⟩
abbrev main_v703 : Ref sig .tc := ⟨.hbm, 779, rfl⟩
abbrev main_v704 : Ref sig .tc := ⟨.hbm, 780, rfl⟩
abbrev main_v705 : Ref sig .tc := ⟨.hbm, 781, rfl⟩
abbrev main_v706 : Ref sig .tc := ⟨.hbm, 782, rfl⟩
abbrev main_v707 : Ref sig .tc := ⟨.hbm, 783, rfl⟩
abbrev main_cst_24 : Ref sig .tc := ⟨.hbm, 784, rfl⟩
abbrev main_v708 : Ref sig .tc := ⟨.hbm, 785, rfl⟩
abbrev main_v709 : Ref sig .tc := ⟨.hbm, 786, rfl⟩
abbrev main_cst_25 : Ref sig .tc := ⟨.hbm, 787, rfl⟩
abbrev main_v710 : Ref sig .tc := ⟨.hbm, 788, rfl⟩
abbrev main_v711 : Ref sig .tc := ⟨.hbm, 789, rfl⟩
abbrev main_v712 : Ref sig .tc := ⟨.hbm, 790, rfl⟩
abbrev main_v713 : Ref sig .tc := ⟨.hbm, 791, rfl⟩
abbrev main_cst_26 : Ref sig .tc := ⟨.hbm, 792, rfl⟩
abbrev main_v714 : Ref sig .tc := ⟨.hbm, 793, rfl⟩
abbrev main_v715 : Ref sig .tc := ⟨.hbm, 794, rfl⟩
abbrev main_v716 : Ref sig .tc := ⟨.hbm, 795, rfl⟩
abbrev main_v717 : Ref sig .tc := ⟨.hbm, 796, rfl⟩
abbrev main_v718 : Ref sig .tc := ⟨.hbm, 797, rfl⟩
abbrev main_v719 : Ref sig .tc := ⟨.hbm, 798, rfl⟩
abbrev main_v720 : Ref sig .tc := ⟨.hbm, 799, rfl⟩
abbrev main_v721 : Ref sig .tc := ⟨.hbm, 800, rfl⟩
abbrev main_v722 : Ref sig .tc := ⟨.hbm, 801, rfl⟩
abbrev main_v723 : Ref sig .tc := ⟨.hbm, 802, rfl⟩
abbrev main_v724 : Ref sig .tc := ⟨.hbm, 803, rfl⟩
abbrev main_v725 : Ref sig .tc := ⟨.hbm, 804, rfl⟩
abbrev main_c_27 : Ref sig .tc := ⟨.hbm, 805, rfl⟩
abbrev main_v726 : Ref sig .tc := ⟨.hbm, 806, rfl⟩
abbrev main_call5_v0 : Ref sig .tc := ⟨.hbm, 807, rfl⟩
abbrev main_call5_c : Ref sig .tc := ⟨.hbm, 808, rfl⟩
abbrev main_call5_v1 : Ref sig .tc := ⟨.hbm, 809, rfl⟩
abbrev main_call5_v2 : Ref sig .tc := ⟨.hbm, 810, rfl⟩
abbrev main_call5_v3 : Ref sig .tc := ⟨.hbm, 811, rfl⟩
abbrev main_call5_v4 : Ref sig .tc := ⟨.hbm, 812, rfl⟩
abbrev main_call5_c_0 : Ref sig .tc := ⟨.hbm, 813, rfl⟩
abbrev main_call5_v5 : Ref sig .tc := ⟨.hbm, 814, rfl⟩
abbrev main_v727 : Ref sig .tc := ⟨.hbm, 815, rfl⟩
abbrev main_cst_28 : Ref sig .tc := ⟨.hbm, 816, rfl⟩
abbrev main_v728 : Ref sig .tc := ⟨.hbm, 817, rfl⟩
abbrev main_call6_v0 : Ref sig .tc := ⟨.hbm, 818, rfl⟩
abbrev main_v729 : Ref sig .tc := ⟨.hbm, 819, rfl⟩
abbrev main_v730 : Ref sig .tc := ⟨.hbm, 820, rfl⟩
abbrev main_v731 : Ref sig .tc := ⟨.hbm, 821, rfl⟩
abbrev main_v732 : Ref sig .tc := ⟨.hbm, 822, rfl⟩
abbrev main_v733 : Ref sig .tc := ⟨.hbm, 823, rfl⟩
abbrev main_v734 : Ref sig .tc := ⟨.hbm, 824, rfl⟩
abbrev main_v735 : Ref sig .tc := ⟨.hbm, 825, rfl⟩
abbrev main_v736 : Ref sig .tc := ⟨.hbm, 826, rfl⟩
abbrev main_v737 : Ref sig .tc := ⟨.hbm, 827, rfl⟩
abbrev main_v738 : Ref sig .tc := ⟨.hbm, 828, rfl⟩
abbrev main_v739 : Ref sig .tc := ⟨.hbm, 829, rfl⟩
abbrev main_v740 : Ref sig .tc := ⟨.hbm, 830, rfl⟩
abbrev main_v741 : Ref sig .tc := ⟨.hbm, 831, rfl⟩
abbrev main_v742 : Ref sig .tc := ⟨.hbm, 832, rfl⟩
abbrev main_v743 : Ref sig .tc := ⟨.hbm, 833, rfl⟩
abbrev main_cst_29 : Ref sig .tc := ⟨.hbm, 834, rfl⟩
abbrev main_v744 : Ref sig .tc := ⟨.hbm, 835, rfl⟩
abbrev main_v745 : Ref sig .tc := ⟨.hbm, 836, rfl⟩
abbrev main_cst_30 : Ref sig .tc := ⟨.hbm, 837, rfl⟩
abbrev main_v746 : Ref sig .tc := ⟨.hbm, 838, rfl⟩
abbrev main_v747 : Ref sig .tc := ⟨.hbm, 839, rfl⟩
abbrev main_cst_31 : Ref sig .tc := ⟨.hbm, 840, rfl⟩
abbrev main_v748 : Ref sig .tc := ⟨.hbm, 841, rfl⟩
abbrev main_v749 : Ref sig .tc := ⟨.hbm, 842, rfl⟩
abbrev main_v750 : Ref sig .tc := ⟨.hbm, 843, rfl⟩
abbrev main_v751 : Ref sig .tc := ⟨.hbm, 844, rfl⟩
abbrev main_v752 : Ref sig .tc := ⟨.hbm, 845, rfl⟩
abbrev main_v753 : Ref sig .tc := ⟨.hbm, 846, rfl⟩
abbrev main_v754 : Ref sig .tc := ⟨.hbm, 847, rfl⟩
abbrev main_v755 : Ref sig .tc := ⟨.hbm, 848, rfl⟩
abbrev main_v756 : Ref sig .tc := ⟨.hbm, 849, rfl⟩
abbrev main_v757 : Ref sig .tc := ⟨.hbm, 850, rfl⟩

abbrev nD : Nat := 1
abbrev τ : Topo := Topo.v7x

variable {F : FTy → Type} [FloatOps F]
-- ==== Ffn.lean ====
abbrev S16384x1024 : Shape := ⟨2, ![16384, 1024]⟩
abbrev S8x1024 : Shape := ⟨2, ![8, 1024]⟩
abbrev S1024x5632 : Shape := ⟨2, ![1024, 5632]⟩
abbrev S2816x1024 : Shape := ⟨2, ![2816, 1024]⟩
abbrev S512x1024 : Shape := ⟨2, ![512, 1024]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S128x1024 : Shape := ⟨2, ![128, 1024]⟩
abbrev S128x256 : Shape := ⟨2, ![128, 256]⟩
abbrev S512x256 : Shape := ⟨2, ![512, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1024x5632, .f32⟩
  | .hbm, ⟨3, _⟩ => ⟨S2816x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x5632, .f32⟩
  | .local _ .vmem, ⟨4, _⟩ => ⟨S2816x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S16384x1024 : Shape := ⟨2, ![16384, 1024]⟩
abbrev S8x1024 : Shape := ⟨2, ![8, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== FfnPle.lean ====
abbrev S16384x1024 : Shape := ⟨2, ![16384, 1024]⟩
abbrev S8x1024 : Shape := ⟨2, ![8, 1024]⟩
abbrev S1024x5632 : Shape := ⟨2, ![1024, 5632]⟩
abbrev S2816x1024 : Shape := ⟨2, ![2816, 1024]⟩
abbrev S16384x256 : Shape := ⟨2, ![16384, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512x2816 : Shape := ⟨2, ![512, 2816]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S128x1024 : Shape := ⟨2, ![128, 1024]⟩
abbrev S128x256 : Shape := ⟨2, ![128, 256]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1024x5632, .f32⟩
  | .hbm, ⟨3, _⟩ => ⟨S2816x1024, .f32⟩
  | .hbm, ⟨4, _⟩ => ⟨S16384x256, .f32⟩
  | .hbm, ⟨5, _⟩ => ⟨S1024x1024, .f32⟩
  | .hbm, ⟨6, _⟩ => ⟨S256x1024, .f32⟩
  | .hbm, ⟨7, _⟩ => ⟨S1024x1024, .bf16⟩
  | .hbm, ⟨8, _⟩ => ⟨S256x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x5632, .f32⟩
  | .local _ .vmem, ⟨4, _⟩ => ⟨S2816x1024, .f32⟩
  | .local _ .vmem, ⟨5, _⟩ => ⟨S512x256, .f32⟩
  | .local _ .vmem, ⟨6, _⟩ => ⟨S512x256, .f32⟩
  | .local _ .vmem, ⟨7, _⟩ => ⟨S1024x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnPleRefIdeal.lean ====
abbrev S16384x1024 : Shape := ⟨2, ![16384, 1024]⟩
abbrev S8x1024 : Shape := ⟨2, ![8, 1024]⟩
abbrev S1024x5632 : Shape := ⟨2, ![1024, 5632]⟩
abbrev S2816x1024 : Shape := ⟨2, ![2816, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1024, .f32⟩
  | .hbm, ⟨2, _⟩ => ⟨S1024x5632, .f32⟩
  | .hbm, ⟨3, _⟩ => ⟨S2816x1024, .f32⟩
  | .hbm, ⟨4, _⟩ => ⟨S16384x256, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S1x1024, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S1024, .f32⟩
  | .hbm, ⟨92, _⟩ => ⟨S16384x1024, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384x1, .f32⟩
  | .hbm, ⟨103, _⟩ => ⟨S16384x1024, .f32⟩
  | .hbm, ⟨104, _⟩ => ⟨S16384x1024, .f32⟩
  | .hbm, ⟨105, _⟩ => ⟨S1x1024, .f32⟩
  | .hbm, ⟨106, _⟩ => ⟨S16384x1024, .f32⟩
  | .hbm, ⟨107, _⟩ => ⟨S16384x1024, .f32⟩
  | .hbm, ⟨108, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.SymCore.lean ====
/- Functions of two numbers, and with them the stages of the mixer kernel's body for one sequence at one grid step. -/
module

public import Idealize.ShloMosaic.PureOps.Ideal.Laws
public import Idealize.ShloMosaic.Lib.ValueIdx

@[expose] public section

noncomputable section

namespace Cert.Sym

open Idealize.ShloMosaic

/-- The coordinate of an index along an axis, zero where the shape has no such axis. -/
def nth {s : Shape} (i : s.Idx) (k : ℕ) : ℕ := if h : k < s.rank then (i ⟨k, h⟩ : ℕ) else 0

/-- A function of two numbers. -/
abbrev Fn2 : Type := ℕ → ℕ → EReal

/-- The array of a given shape that reads a function of one, two, three or four numbers. -/
def A1 (s : Shape) (f : ℕ → EReal) : s.Idx → EReal := fun i => f (nth i 0)
def A2 (s : Shape) (f : Fn2) : s.Idx → EReal := fun i => f (nth i 0) (nth i 1)
def A3 (s : Shape) (f : ℕ → Fn2) : s.Idx → EReal := fun i => f (nth i 0) (nth i 1) (nth i 2)
def A4 (s : Shape) (f : ℕ → ℕ → Fn2) : s.Idx → EReal := fun i => f (nth i 0) (nth i 1) (nth i 2) (nth i 3)

def k2 (c : EReal) : Fn2 := fun _ _ => c
def z3 : ℕ → Fn2 := fun _ _ _ => 0
def z4 : ℕ → ℕ → Fn2 := fun _ _ _ _ => 0
def c1 (f : ℕ → EReal) : Fn2 := fun i _ => f i
def up (f : Fn2) : ℕ → Fn2 := fun _ => f
def up4 (f : Fn2) : ℕ → ℕ → Fn2 := fun _ _ => f
def add2 (f g : Fn2) : Fn2 := fun i j => f i j + g i j
def sub2 (f g : Fn2) : Fn2 := fun i j => f i j - g i j
def mul2 (f g : Fn2) : Fn2 := fun i j => f i j * g i j
def div2 (f g : Fn2) : Fn2 := fun i j => Ideal.div (f i j) (g i j)
def max2 (f g : Fn2) : Fn2 := fun i j => max (f i j) (g i j)
def abs2 (f : Fn2) : Fn2 := fun i j => max (f i j) (-(f i j))
def exp2 (f : Fn2) : Fn2 := fun i j => Ideal.exp (f i j)
def log1p2 (f : Fn2) : Fn2 := fun i j => Ideal.log1p (f i j)
def rsqrt2 (f : Fn2) : Fn2 := fun i j => Ideal.rsqrt (f i j)
def erf2 (f : Fn2) : Fn2 := fun i j => Ideal.erf (f i j)
def sh2 (a b : ℕ) (f : Fn2) : Fn2 := fun i j => f (a + i) (b + j)
def sh3 (a b c : ℕ) (f : ℕ → Fn2) : ℕ → Fn2 := fun i j k => f (a + i) (b + j) (c + k)
def sh4 (a b c d : ℕ) (f : ℕ → ℕ → Fn2) : ℕ → ℕ → Fn2 := fun i j k l => f (a + i) (b + j) (c + k) (d + l)
def tr (f : Fn2) : Fn2 := fun i j => f j i
def mm (K : ℕ) (f g : Fn2) : Fn2 := fun i j => ∑ k : Fin K, f i k * g k j
def rsum (K : ℕ) (f : Fn2) : ℕ → EReal := fun i => ∑ k : Fin K, f i k
def rowb (f : Fn2) : Fn2 := fun _ j => f 0 j
def colb (f : Fn2) : Fn2 := fun i _ => f i 0
def rot0 (f : Fn2) : Fn2 := fun i j => f ((i + 8 - 4) % 8) j
def rot1 (n : ℕ) (f : Fn2) : Fn2 := fun i j => f i ((j + 128 - n) % 128)
def ge1 (n : ℕ) (f g : Fn2) : Fn2 := fun i j => if n ≤ j then f i j else g i j
def caus (f g : Fn2) : Fn2 := fun i j => if j ≤ i then f i j else g i j
def cat1 (n : ℕ) (f g : Fn2) : Fn2 := fun i j => if j < n then f i j else g i (j - n)
def cat0 (n : ℕ) (f g : Fn2) : Fn2 := fun i j => if i < n then f i j else g (i - n) j

/-- A single-precision word read as an extended real. -/
abbrev wd (b : BitVec 32) : EReal := FloatOps.ofBits (F := Ideal) .f32 b
/-- The half-precision word of one. -/
abbrev oneh : EReal := FloatOps.ofBits (F := Ideal) .bf16 0x3F80#16

/-- What the kernel reads besides the residual stream: the weights and the constant tables. -/
structure Par where
  (gains wa wb wg bias cw cb mhg lng lnb bs wo ut ones : Fn2)
  (ws sel : ℕ → Fn2)

def sig2 (f : Fn2) : Fn2 := div2 (k2 (wd 0x3F800000#32)) (add2 (k2 (wd 0x3F800000#32)) (exp2 (sub2 (k2 (wd 0x00000000#32)) f)))
def gelu2 (f : Fn2) : Fn2 := mul2 (mul2 (k2 (wd 0x3F000000#32)) f) (add2 (k2 (wd 0x3F800000#32)) (erf2 (mul2 f (k2 (wd 0x3F3504F3#32)))))
def lsig (f : Fn2) : Fn2 := sub2 (k2 (wd 0x00000000#32)) (add2 (max2 (sub2 (k2 (wd 0x00000000#32)) f) (k2 (wd 0x00000000#32)))
  (log1p2 (exp2 (sub2 (k2 (wd 0x00000000#32)) (abs2 f)))))
def rms2 (X g : Fn2) : Fn2 := mul2 (mul2 X (colb (rsqrt2 (add2 (div2 (c1 (rsum 1024 (mul2 X X))) (k2 (wd 0x44800000#32))) (k2 (wd 0x358637BD#32)))))) (rowb g)
def scan1 (n : ℕ) (f : Fn2) : Fn2 := ge1 n (max2 f (rot1 n f)) f
/-- The rows `k` back: from the eight rows carried where they lie before the block. -/
def lag (k : ℕ) (h f : Fn2) : Fn2 := fun r c => if r < k then h (8 - k + r) c else f (r - k) c
/-- Sixteen tiles of 128 by 128 on either side of column 512. -/
def mixOf (H G : ℕ → ℕ → Fn2) : Fn2 := fun i j => if j < 512 then H (i / 128) (j / 128) (i % 128) (j % 128) else G (i / 128) ((j - 512) / 128) (i % 128) ((j - 512) % 128)

/-- The memory a sequence enters with, by head. -/
def cEnt (D : ℕ → ℕ → Fn2) (t : ℕ) : ℕ → Fn2 := fun hd => sh2 0 0 (D t hd)
/-- A family of memories, marked as such. -/
def cu (D : ℕ → ℕ → Fn2) : ℕ → ℕ → Fn2 := D
theorem f_cu (D : ℕ → ℕ → Fn2) (t hd : ℕ) : sh2 0 0 (cu D t hd) = cEnt D t hd := rfl
theorem f_cz (t hd : ℕ) : sh2 0 0 (z4 t hd) = cEnt z4 t hd := rfl

section kernel
variable (P : Par) (X Q M : Fn2) (C : ℕ → Fn2) (D : ℕ → ℕ → Fn2) (t : ℕ)

def kA : Fn2 := rms2 X (sh2 2 0 P.gains)
def kW : Fn2 := mm 1024 (kA P X) P.wa
def kU : Fn2 := mm 1024 (kA P X) P.wb
def kG : Fn2 := mm 1024 (kA P X) P.wg
def kGate (c : ℕ) : Fn2 := add2 (sh2 0 0 (tr (sh2 (128 * c) 0 (kG P X)))) (sh2 0 0 P.bias)
def kI : Fn2 := cat0 8 (kGate P X 0) (cat0 8 (kGate P X 1) (cat0 8 (kGate P X 2) (kGate P X 3)))
def kF : Fn2 := cat0 8 (rot0 (lsig (kGate P X 0))) (cat0 8 (rot0 (lsig (kGate P X 1))) (cat0 8 (rot0 (lsig (kGate P X 2))) (rot0 (lsig (kGate P X 3)))))
def s32 (f : Fn2) : Fn2 := sub2 f f
def kD : Fn2 := mm 128 (cat0 32 (kF P X) (cat0 32 (s32 (kF P X)) (s32 (s32 (kF P X))))) (sh2 0 0 P.ut)
def kR : Fn2 := add2 (add2 (sh2 0 0 (kD P X)) (sh2 32 0 (kD P X))) (sh2 64 0 (kD P X))
def kCb : Fn2 := sub2 (kI P X) (sh2 0 0 (kR P X))
def kCm : Fn2 := scan1 64 (scan1 32 (scan1 16 (scan1 8 (scan1 4 (scan1 2 (scan1 1 (kCb P X)))))))
def kCl : Fn2 := colb (sh2 0 127 (kCm P X))
def kMl : Fn2 := add2 (sh2 0 128 (kR P X)) (kCl P X)
def kE : Fn2 := exp2 (sub2 (kCb P X) (kCl P X))
def kM : ℕ → Fn2
  | 0 => M
  | n + 1 => max2 (add2 (sh2 (8 * n) 128 (kR P X)) (kM n)) (sh2 (8 * n) 0 (kMl P X))
def kSp (n : ℕ) : Fn2 := exp2 (sub2 (add2 (sh2 (8 * n) 128 (kR P X)) (kM P X M n)) (kM P X M (n + 1)))
def kSl (n : ℕ) : Fn2 := exp2 (sub2 (sh2 (8 * n) 0 (kMl P X)) (kM P X M (n + 1)))
def kIn : Fn2 := add2 (sh2 0 0 (kR P X)) (cat0 8 M (cat0 8 (kM P X M 1) (cat0 8 (kM P X M 2) (kM P X M 3))))
def kMt : Fn2 := max2 (kIn P X M) (add2 (sh2 0 0 (kR P X)) (kCm P X))
def kRt : Fn2 := sub2 (sh2 0 0 (kR P X)) (kMt P X M)
def kEi : Fn2 := exp2 (sub2 (kIn P X M) (kMt P X M))
def kEn : Fn2 := exp2 (sub2 (k2 (wd 0x00000000#32)) (kMt P X M))
def kP (c : ℕ) : Fn2 := tr (cat0 8 (sh2 (8 * c) 0 (kRt P X M)) (cat0 8 (sh2 (8 * c) 0 (s32 (kRt P X M))) (cat0 8 (sh2 (8 * c) 0 (s32 (s32 (kRt P X M))))
  (cat0 8 (sh2 (8 * c) 0 (kEi P X M)) (cat0 8 (sh2 (8 * c) 0 (s32 (kEi P X M))) (cat0 8 (sh2 (8 * c) 0 (kEn P X M)) (cat0 8 (sh2 (8 * c) 0 (s32 (kEn P X M)))
  (k2 (wd 0x00000000#32)))))))))
def kBc (c hd : ℕ) : Fn2 := mm 128 (kP P X M c) (P.sel hd)
def kConv : Fn2 := add2 (add2 (add2 (add2 (rowb (sh2 0 0 P.cb)) (mul2 (kW P X) (rowb (sh2 3 0 P.cw)))) (mul2 (lag 1 Q (kW P X)) (rowb (sh2 2 0 P.cw))))
  (mul2 (lag 2 Q (kW P X)) (rowb (sh2 1 0 P.cw)))) (mul2 (lag 3 Q (kW P X)) (rowb (sh2 0 0 P.cw)))
def kAct : Fn2 := mul2 (kConv P X Q) (sig2 (kConv P X Q))
def kK : Fn2 := mul2 (sh2 0 512 (kAct P X Q)) (k2 (wd 0x3DB504F3#32))
def kV : Fn2 := sh2 0 512 (gelu2 (kU P X))
def kMu : Fn2 := div2 (c1 (rsum 512 (kV P X))) (k2 (wd 0x44000000#32))
def kVar : Fn2 := div2 (c1 (rsum 512 (mul2 (sub2 (kV P X) (colb (kMu P X))) (sub2 (kV P X) (colb (kMu P X)))))) (k2 (wd 0x44000000#32))
def kVN : Fn2 := add2 (mul2 (mul2 (sub2 (kV P X) (colb (kMu P X))) (colb (rsqrt2 (add2 (kVar P X) (k2 (wd 0x358637BD#32)))))) (rowb (sh2 0 0 P.lng))) (rowb (sh2 0 0 P.lnb))
def kGm (c hd : ℕ) : Fn2 := mul2 (sh2 (128 * c) (128 * hd) (gelu2 (kU P X)))
  (add2 (mm 128 (caus (sh2 0 0 (P.ws hd)) (k2 (wd 0x00000000#32))) (sh2 (128 * c) (128 * hd) (kVN P X))) (colb (sh2 0 hd P.bs)))
def kS (c hd : ℕ) : Fn2 := mm 128 (sh2 (128 * c) (128 * hd) (kAct P X Q)) (tr (sh2 (128 * c) (128 * hd) (kK P X Q)))
def kVa (c hd : ℕ) : Fn2 := cat1 128 (sh2 (128 * c) (1024 + 128 * hd) (kW P X)) (k2 oneh)
def kPv (c hd : ℕ) : Fn2 := mm 128 (mul2 (kS P X Q c hd) (exp2 (caus (add2 (sh2 0 0 (kBc P X M c hd)) (rowb (sh2 (8 * c + hd) 0 (kCb P X)))) (k2 (wd 0xFF800000#32))))) (kVa P X c hd)
def kLoc (c hd : ℕ) : Fn2 := mm 128 (mul2 (tr (sh2 (128 * c) (128 * hd) (kK P X Q))) (rowb (sh2 (8 * c + hd) 0 (kE P X)))) (kVa P X c hd)
def kC (hd : ℕ) : ℕ → Fn2
  | 0 => C hd
  | n + 1 => add2 (mul2 (rowb (cat1 128 (sh2 hd 0 (kSp P X M n)) (sh2 hd 0 (kSp P X M n)))) (kC hd n))
      (mul2 (rowb (cat1 128 (sh2 hd 0 (kSl P X M n)) (sh2 hd 0 (kSl P X M n)))) (kLoc P X Q n hd))
def kQc (c hd : ℕ) : Fn2 := mm 128 (sh2 (128 * c) (128 * hd) (kAct P X Q)) (kC P X Q M C hd c)
def kHh (c hd : ℕ) : Fn2 := div2 (add2 (mul2 (sh2 0 128 (kBc P X M c hd)) (sh2 0 0 (kQc P X Q M C c hd))) (sh2 0 0 (kPv P X Q M c hd)))
  (max2 (abs2 (add2 (mul2 (sh2 0 128 (kBc P X M c hd)) (sh2 0 128 (kQc P X Q M C c hd))) (sh2 0 128 (kPv P X Q M c hd)))) (sh2 0 256 (kBc P X M c hd)))
def kSs (c hd : ℕ) : Fn2 := mm 256 (cat1 128 (mul2 (kHh P X Q M C c hd) (kHh P X Q M C c hd)) (s32 (mul2 (kHh P X Q M C c hd) (kHh P X Q M C c hd)))) (sh2 0 0 P.ones)
def kHm (c hd : ℕ) : Fn2 := mul2 (mul2 (mul2 (kHh P X Q M C c hd) (rsqrt2 (add2 (mul2 (kSs P X Q M C c hd) (k2 (wd 0x3C000000#32))) (k2 (wd 0x358637BD#32)))))
  (rowb (sh2 0 (128 * hd) P.mhg))) (sh2 (128 * c) (1536 + 128 * hd) (sig2 (kW P X)))
def kMix : Fn2 := mixOf (kHm P X Q M C) (kGm P X)
def kY : Fn2 := mm 1024 (kMix P X Q M C) P.wo
def kOut : Fn2 := add2 X (rms2 (kY P X Q M C) (sh2 3 0 P.gains))

end kernel

end Cert.Sym
end
-- ==== Proof.Spec.lean ====
/- The mixer of one sequence, written as the layer's own formulas: gates, log-space decays, the memory chunk by chunk, the read-out, and the gated MLP. -/
module

public import proofs.«01_k».proof.Proof.SymCore

@[expose] public section

noncomputable section

namespace Cert.Sym

open Idealize.ShloMosaic

def sSig (x : EReal) : EReal := Ideal.div (wd 0x3F800000#32) (wd 0x3F800000#32 + Ideal.exp (-x))
def sGelu (x : EReal) : EReal := (wd 0x3F000000#32 * x) * Ideal.erfc ((-x) * wd 0x3F3504F3#32)
/-- The logarithm of the sigmoid, as minus the softplus of the negated argument. -/
def sLs (g : EReal) : EReal := -(max (-g) 0 + Ideal.log1p (Ideal.exp (-(max (-g) (-(-g))))))

section spec
variable (P : Par) (X : Fn2)

/-- The first projection `n` rows back, zero before the sequence starts. -/
def sLag (n r k : ℕ) : EReal := if r < n then 0 else kW P X (r - n) k
/-- The causal depthwise convolution of width four. -/
def sConv (r k : ℕ) : EReal := ((((0 + P.cw 0 k * sLag P X 3 r k) + P.cw 1 k * sLag P X 2 r k) + P.cw 2 k * sLag P X 1 r k) + P.cw 3 k * sLag P X 0 r k) + P.cb 0 k
def sAct (r k : ℕ) : EReal := sConv P X r k * sSig (sConv P X r k)
/-- Query, scaled key and value of head `hd` at row `t` of chunk `c`. -/
def sQ (hd c t k : ℕ) : EReal := sAct P X (128 * c + t) (128 * hd + k)
def sK (hd c t k : ℕ) : EReal := sAct P X (128 * c + t) (512 + (128 * hd + k)) * wd 0x3DB504F3#32
def sV (hd c t k : ℕ) : EReal := kW P X (128 * c + t) (1024 + (128 * hd + k))
def sGt (r q : ℕ) : EReal := kG P X r q + P.bias q 0
/-- The input gate and the logarithm of the forget gate. -/
def sLi (hd c t : ℕ) : EReal := sGt P X (128 * c + t) hd
def sLf (hd c t : ℕ) : EReal := sLs (sGt P X (128 * c + t) (4 + hd))
/-- The decay from the start of the chunk to row `t`, and over the whole chunk. -/
def sB (hd c t : ℕ) : EReal := ∑ k : Fin 128, if (k : ℕ) ≤ t then sLf P X hd c k else 0
def sA (hd c : ℕ) : EReal := sB P X hd c 127
/-- The weight of row `s` at row `t`, in log space, and at the end of the chunk. -/
def sT (hd c t s : ℕ) : EReal := if s ≤ t then (sB P X hd c t - sB P X hd c s) + sLi P X hd c s else ⊥
def sL (hd c s : ℕ) : EReal := (sA P X hd c - sB P X hd c s) + sLi P X hd c s
def sMl (hd c : ℕ) : EReal := Finset.univ.sup fun s : Fin 128 => sL P X hd c s
def sE (hd c s : ℕ) : EReal := Ideal.exp (sL P X hd c s - sMl P X hd c)
/-- What one chunk adds to the memory and to its normaliser. -/
def sCl (hd c k l : ℕ) : EReal := ∑ s : Fin 128, (sK P X hd c s k * sE P X hd c s) * sV P X hd c s l
def sNl (hd c k : ℕ) : EReal := ∑ s : Fin 128, sK P X hd c s k * sE P X hd c s
/-- The running maximum entering each chunk, and the two factors of the update. -/
def sM (hd : ℕ) : ℕ → EReal
  | 0 => 0
  | c + 1 => max (sA P X hd c + sM hd c) (sMl P X hd c)
def sP (hd c : ℕ) : EReal := Ideal.exp ((sA P X hd c + sM P X hd c) - sM P X hd (c + 1))
def sW (hd c : ℕ) : EReal := Ideal.exp (sMl P X hd c - sM P X hd (c + 1))
/-- The memory and its normaliser entering each chunk. -/
def sC (hd k l : ℕ) : ℕ → EReal
  | 0 => 0
  | c + 1 => sP P X hd c * sC hd k l c + sW P X hd c * sCl P X hd c k l
def sN (hd k : ℕ) : ℕ → EReal
  | 0 => 0
  | c + 1 => sP P X hd c * sN hd k c + sW P X hd c * sNl P X hd c k
def sIn (hd c t : ℕ) : EReal := sB P X hd c t + sM P X hd c
/-- The stabiliser of row `t`. -/
def sMt (hd c t : ℕ) : EReal := max (sIn P X hd c t) (Finset.univ.sup fun s : Fin 128 => sT P X hd c t s)
def sEi (hd c t : ℕ) : EReal := Ideal.exp (sIn P X hd c t - sMt P X hd c t)
def sS (hd c t s : ℕ) : EReal := ∑ k : Fin 128, sQ P X hd c t k * sK P X hd c s k
def sSE (hd c t s : ℕ) : EReal := sS P X hd c t s * Ideal.exp (sT P X hd c t s - sMt P X hd c t)
def sNum (hd c t l : ℕ) : EReal := sEi P X hd c t * (∑ k : Fin 128, sQ P X hd c t k * sC P X hd k l c) + ∑ s : Fin 128, sSE P X hd c t s * sV P X hd c s l
def sDen (hd c t : ℕ) : EReal := sEi P X hd c t * (∑ k : Fin 128, sQ P X hd c t k * sN P X hd k c) + ∑ s : Fin 128, sSE P X hd c t s
/-- The read-out of a head. -/
def sH (hd c t l : ℕ) : EReal := Ideal.div (sNum P X hd c t l) (max (max (sDen P X hd c t) (-(sDen P X hd c t))) (Ideal.exp (-(sMt P X hd c t))))
/-- The read-out normalised over the head, scaled, and gated by the output gate. -/
def sHm (hd c t l : ℕ) : EReal :=
  ((sH P X hd c t l * Ideal.rsqrt (Ideal.div (∑ k : Fin 128, sH P X hd c t k * sH P X hd c t k) (wd 0x43000000#32) + wd 0x358637BD#32)) * P.mhg 0 (128 * hd + l))
    * sSig (kW P X (128 * c + t) (1536 + (128 * hd + l)))
/-- The second branch: the gate half of the second projection, its layer norm, and the spatial mixing. -/
def sVg (r k : ℕ) : EReal := sGelu (kU P X r (512 + k))
def sMu (r : ℕ) : EReal := Ideal.div (∑ k : Fin 512, sVg P X r k) (wd 0x44000000#32)
def sVar (r : ℕ) : EReal := Ideal.div (∑ k : Fin 512, (sVg P X r k - sMu P X r) * (sVg P X r k - sMu P X r)) (wd 0x44000000#32)
def sVN (r k : ℕ) : EReal := ((sVg P X r k - sMu P X r) * Ideal.rsqrt (sVar P X r + wd 0x358637BD#32)) * P.lng 0 k + P.lnb 0 k
def sGm (hd c t l : ℕ) : EReal :=
  sGelu (kU P X (128 * c + t) (128 * hd + l)) * ((∑ s : Fin 128, sVN P X (128 * c + s) (128 * hd + l) * (if (s : ℕ) ≤ t then P.ws hd t s else 0)) + P.bs t hd)
def sMix (r k : ℕ) : EReal := if k < 512 then sHm P X (k / 128) (r / 128) (r % 128) (k % 128) else sGm P X ((k - 512) / 128) (r / 128) (r % 128) ((k - 512) % 128)
/-- The layer's output for the sequence. -/
def sOut : Fn2 := add2 X (rms2 (mm 1024 (sMix P X) P.wo) (sh2 3 0 P.gains))

end spec

end Cert.Sym
end
-- ==== Proof.Reals.lean ====
/- Which stages of the mixer are finite, and the few facts on sums, maxima and words the comparison needs. -/
module

public import proofs.«01_k».proof.Proof.Spec
public import Idealize.ShloMosaic.Lib.IdealHost

@[expose] public section

noncomputable section

namespace Cert.Sym

open Idealize.ShloMosaic

/-- A finite extended real. -/
def IsR (x : EReal) : Prop := ∃ r : ℝ, x = (r : EReal)

namespace IsR
theorem coe (r : ℝ) : IsR (r : EReal) := ⟨r, rfl⟩
theorem zero : IsR 0 := ⟨0, rfl⟩
theorem one : IsR 1 := ⟨1, rfl⟩
theorem add {x y : EReal} (hx : IsR x) (hy : IsR y) : IsR (x + y) := by
  obtain ⟨a, rfl⟩ := hx; obtain ⟨b, rfl⟩ := hy; exact ⟨a + b, (EReal.coe_add a b).symm⟩
theorem neg {x : EReal} (hx : IsR x) : IsR (-x) := by obtain ⟨a, rfl⟩ := hx; exact ⟨-a, (EReal.coe_neg a).symm⟩
theorem sub {x y : EReal} (hx : IsR x) (hy : IsR y) : IsR (x - y) := by rw [sub_eq_add_neg]; exact hx.add hy.neg
theorem mul {x y : EReal} (hx : IsR x) (hy : IsR y) : IsR (x * y) := by
  obtain ⟨a, rfl⟩ := hx; obtain ⟨b, rfl⟩ := hy; exact ⟨a * b, (EReal.coe_mul a b).symm⟩
theorem max {x y : EReal} (hx : IsR x) (hy : IsR y) : IsR (max x y) := by
  rcases max_choice x y with h | h <;> rw [h] <;> assumption
theorem sum {ι : Type} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))
theorem sup {ι : Type} (s : Finset ι) (hs : s.Nonempty) (f : ι → EReal) (h : ∀ i ∈ s, IsR (f i)) : IsR (s.sup f) := by
  obtain ⟨i, hi, e⟩ := Finset.exists_mem_eq_sup s hs f
  rw [e]; exact h i hi
theorem exp {x : EReal} (hx : IsR x) : IsR (Ideal.exp x) := by obtain ⟨a, rfl⟩ := hx; exact ⟨Real.exp a, rfl⟩
theorem exp_pos {x : EReal} (hx : IsR x) : 0 < Ideal.exp x := by
  obtain ⟨a, rfl⟩ := hx; rw [Ideal.exp_coe]; exact_mod_cast Real.exp_pos a
theorem log1p_exp {x : EReal} (hx : IsR x) : IsR (Ideal.log1p (Ideal.exp x)) := by
  obtain ⟨a, rfl⟩ := hx
  have h : (1 : EReal) + Ideal.exp (a : EReal) = ((1 + Real.exp a : ℝ) : EReal) := by rw [Ideal.exp_coe, EReal.coe_add]; rfl
  rw [Ideal.log1p, h]
  have h0 : ¬ (1 + Real.exp a ≤ 0) := by have := Real.exp_pos a; linarith
  exact ⟨Real.log (1 + Real.exp a), by show (if 1 + Real.exp a ≤ 0 then (⊥ : EReal) else _) = _; rw [if_neg h0]⟩
theorem div {x y : EReal} (hx : IsR x) (hy : IsR y) (h : 0 < y) : IsR (Ideal.div x y) := by
  obtain ⟨b, rfl⟩ := hy
  have hb : b ≠ 0 := by rintro rfl; exact lt_irrefl _ h
  rw [Ideal.div_coe hb]; exact hx.mul (coe _)
theorem rsqrt {x : EReal} (hx : IsR x) (h : 0 < x) : IsR (Ideal.rsqrt x) := by
  obtain ⟨a, rfl⟩ := hx
  have ha : 0 < a := by exact_mod_cast h
  exact ⟨(Real.sqrt a)⁻¹, by rw [Ideal.rsqrt_coe, if_neg (not_lt.2 ha.le), if_neg ha.ne']⟩
end IsR

theorem wd_zero : wd 0x00000000#32 = 0 := Ideal.ofBits_zero_f32
theorem wd_one : wd 0x3F800000#32 = 1 := Ideal.ofBits_one_f32
theorem oneh_one : oneh = 1 := Ideal.ofBits_one_bf16
theorem wd_bot : wd 0xFF800000#32 = ⊥ := by
  show Ideal.ofBits .f32 0xFF800000#32 = ⊥
  simp [Ideal.ofBits, Ideal.ieee]
theorem wd_128 : wd 0x43000000#32 = ((128 : ℝ) : EReal) := by
  show Ideal.ofBits .f32 0x43000000#32 = _
  simp [Ideal.ofBits, Ideal.ieee, -EReal.coe_mul]; norm_num
theorem wd_inv128 : wd 0x3C000000#32 = ((1 / 128 : ℝ) : EReal) := by
  show Ideal.ofBits .f32 0x3C000000#32 = _
  simp [Ideal.ofBits, Ideal.ieee, -EReal.coe_mul]; norm_num
theorem wd_1024 : wd 0x44800000#32 = ((1024 : ℝ) : EReal) := by
  show Ideal.ofBits .f32 0x44800000#32 = _
  simp [Ideal.ofBits, Ideal.ieee, -EReal.coe_mul]; norm_num
theorem wd_eps : ∃ e : ℝ, 0 < e ∧ wd 0x358637BD#32 = (e : EReal) := by
  refine ⟨_, ?_, show Ideal.ofBits .f32 0x358637BD#32 = _ by simp [Ideal.ofBits, Ideal.ieee, -EReal.coe_mul]; rfl⟩
  positivity
theorem wd_scale : IsR (wd 0x3DB504F3#32) := by
  refine ⟨_, show Ideal.ofBits .f32 0x3DB504F3#32 = _ by simp [Ideal.ofBits, Ideal.ieee, -EReal.coe_mul]; rfl⟩

theorem sub_self_of {x : EReal} (hx : IsR x) : x - x = 0 := by
  obtain ⟨a, rfl⟩ := hx; rw [← EReal.coe_sub, sub_self]; rfl

/-- Adding a number commutes with a maximum over a finite set. -/
theorem add_sup {ι : Type} (s : Finset ι) (a : EReal) (f : ι → EReal) : a + s.sup f = s.sup fun i => a + f i := by
  classical
  induction s using Finset.induction_on with
  | empty => simp
  | insert i s _ ih =>
    rw [Finset.sup_insert, Finset.sup_insert, ← ih]
    exact Monotone.map_max (f := fun x => a + x) (fun x y h => add_le_add le_rfl h)

/-- The maximum over the 128 rows of a chunk up to row `t`. -/
theorem sup_le_eq (t : ℕ) (ht : t < 128) (f : ℕ → EReal) :
    (Finset.univ.sup fun s : Fin 128 => if (s : ℕ) ≤ t then f s else ⊥) = (Finset.Icc 0 t).sup f := by
  apply le_antisymm
  · refine Finset.sup_le fun s _ => ?_
    split_ifs with h
    · exact Finset.le_sup (f := f) (Finset.mem_Icc.2 ⟨Nat.zero_le _, h⟩)
    · exact bot_le
  · refine Finset.sup_le fun i hi => ?_
    have h := (Finset.mem_Icc.1 hi).2
    have h2 := Finset.le_sup (f := fun s : Fin 128 => if (s : ℕ) ≤ t then f s else ⊥) (Finset.mem_univ (⟨i, by omega⟩ : Fin 128))
    simpa [h] using h2

end Cert.Sym
end
-- ==== Proof.Gates.lean ====
/- The gate part of the mixer kernel's body at one grid step, equal to the formulas: gates, decays, running maxima and stabilisers of the four chunks of the step. -/
module

public import proofs.«01_k».proof.Proof.Reals

@[expose] public section

noncomputable section

namespace Cert.Sym

open Idealize.ShloMosaic

/-- The rows of a function of two numbers from row `n` on. -/
def blk (n : ℕ) (X : Fn2) : Fn2 := fun i k => X (n + i) k

theorem sh00 (f : Fn2) : sh2 0 0 f = f := by funext i j; simp [sh2]

/-- The tables are what they are for, and the numbers entering the gates and the convolution are finite. -/
structure Fine (P : Par) (X : Fn2) : Prop where
  x : ∀ r k, IsR (X r k)
  g : ∀ k, IsR (P.gains 2 k)
  wa : ∀ k l, l < 1536 → IsR (P.wa k l)
  wg : ∀ k l, l < 8 → IsR (P.wg k l)
  cw : ∀ i k, IsR (P.cw i k)
  cb : ∀ k, IsR (P.cb 0 k)
  bias : ∀ q, IsR (P.bias q 0)
  biasl : ∀ q l, P.bias q l = P.bias q 0
  ut : ∀ k l, P.ut k l = if k ≤ l then 1 else 0
  sel : ∀ hd q l, P.sel hd q l = if l < 128 then (if q = hd ∨ q = 8 + hd ∨ q = 16 + hd then 1 else 0)
    else if l < 256 then (if q = 24 + hd ∨ q = 32 + hd then 1 else 0) else (if q = 40 + hd ∨ q = 48 + hd then 1 else 0)
  ones : ∀ k l, P.ones k l = 1

variable {P : Par} {X : Fn2}

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sumsq (K : ℕ) (f : ℕ → EReal) (h : ∀ k, IsR (f k)) : ∃ s : ℝ, 0 ≤ s ∧ (∑ k : Fin K, f k * f k) = (s : EReal) := by
  choose x hx using h
  refine ⟨∑ k : Fin K, x k * x k, Finset.sum_nonneg fun k _ => mul_self_nonneg _, ?_⟩
  rw [coe_sum]
  exact Finset.sum_congr rfl fun k _ => by rw [hx, ← EReal.coe_mul]

theorem fin_A (h : Fine P X) (r k : ℕ) : IsR (kA P X r k) := by
  show IsR ((X r k * Ideal.rsqrt (Ideal.div (∑ k : Fin 1024, X r k * X r k) (wd 0x44800000#32) + wd 0x358637BD#32)) * P.gains (2 + 0) (0 + k))
  obtain ⟨s, hs, es⟩ := sumsq 1024 (fun k => X r k) (h.x r)
  obtain ⟨e, he, ee⟩ := wd_eps
  rw [show (∑ k : Fin 1024, X r k * X r k) = (s : EReal) from es, ee, wd_1024, Ideal.div_coe (by norm_num), ← EReal.coe_mul, ← EReal.coe_add]
  refine ((h.x r k).mul (IsR.rsqrt (IsR.coe _) ?_)).mul ?_
  · have : 0 < s * (1 / 1024) + e := by positivity
    exact_mod_cast this
  · rw [Nat.zero_add]; exact h.g k

theorem fin_W (h : Fine P X) (r k : ℕ) (hk : k < 1536) : IsR (kW P X r k) :=
  IsR.sum Finset.univ (fun i : Fin 1024 => kA P X r i * P.wa i k) fun _ _ => (fin_A h _ _).mul (h.wa _ _ hk)
theorem fin_G (h : Fine P X) (r q : ℕ) (hq : q < 8) : IsR (kG P X r q) :=
  IsR.sum Finset.univ (fun i : Fin 1024 => kA P X r i * P.wg i q) fun _ _ => (fin_A h _ _).mul (h.wg _ _ hq)
theorem fin_Gt (h : Fine P X) (r q : ℕ) (hq : q < 8) : IsR (sGt P X r q) := (fin_G h r q hq).add (h.bias q)
theorem fin_Ls {g : EReal} (h : IsR g) : IsR (sLs g) := ((h.neg.max IsR.zero).add (IsR.log1p_exp (h.neg.max h.neg.neg).neg)).neg
theorem fin_Li (h : Fine P X) (hd c t : ℕ) (hh : hd < 4) : IsR (sLi P X hd c t) := fin_Gt h _ _ (by omega)
theorem fin_Lf (h : Fine P X) (hd c t : ℕ) (hh : hd < 4) : IsR (sLf P X hd c t) := fin_Ls (fin_Gt h _ _ (by omega))
theorem fin_B (h : Fine P X) (hd c t : ℕ) (hh : hd < 4) : IsR (sB P X hd c t) :=
  IsR.sum _ _ fun k _ => by split_ifs; exacts [fin_Lf h _ _ _ hh, IsR.zero]
theorem fin_sA (h : Fine P X) (hd c : ℕ) (hh : hd < 4) : IsR (sA P X hd c) := fin_B h _ _ _ hh

theorem rowj (j c t : ℕ) : 512 * j + (128 * c + t) = 128 * (4 * j + c) + t := by omega

theorem cat4 (f : ℕ → Fn2) (c q r : ℕ) (hc : c < 4) (hq : q < 8) :
    cat0 8 (f 0) (cat0 8 (f 1) (cat0 8 (f 2) (f 3))) (8 * c + q) r = f c q r := by
  simp only [cat0]
  interval_cases c <;> split_ifs <;> first | (exfalso; omega) | exact congrArg (fun a => f _ a r) (by omega)

theorem gate_eq (h : Fine P X) (j c q r : ℕ) : kGate P (blk (512 * j) X) c q r = sGt P X (128 * (4 * j + c) + r) q := by
  show kG P X (512 * j + (128 * c + (0 + r))) (0 + (0 + q)) + P.bias (0 + q) (0 + r) = _
  simp only [Nat.zero_add, rowj, h.biasl]; rfl

theorem kI_eq (h : Fine P X) (j c q r : ℕ) (hc : c < 4) (hq : q < 8) : kI P (blk (512 * j) X) (8 * c + q) r = sGt P X (128 * (4 * j + c) + r) q :=
  (cat4 (kGate P (blk (512 * j) X)) c q r hc hq).trans (gate_eq h j c q r)

theorem lsig_eq (f : Fn2) (i j : ℕ) : lsig f i j = sLs (f i j) := by
  show wd 0 - (max (wd 0 - f i j) (wd 0) + Ideal.log1p (Ideal.exp (wd 0 - max (f i j) (-(f i j))))) = _
  rw [show wd 0 = 0 from wd_zero, zero_sub, zero_sub, zero_sub, sLs, neg_neg, max_comm (f i j)]

theorem kF_eq (h : Fine P X) (j c hd r : ℕ) (hc : c < 4) (hh : hd < 4) : kF P (blk (512 * j) X) (8 * c + hd) r = sLf P X hd (4 * j + c) r := by
  refine (cat4 (fun c => rot0 (lsig (kGate P (blk (512 * j) X) c))) c hd r hc (by omega)).trans ?_
  show lsig _ ((hd + 8 - 4) % 8) r = _
  rw [lsig_eq, gate_eq h, show (hd + 8 - 4) % 8 = 4 + hd by omega]; rfl

theorem s32_zero {f : Fn2} {i j : ℕ} (h : IsR (f i j)) : s32 f i j = 0 := sub_self_of h

theorem kR_eq (h : Fine P X) (j c hd l : ℕ) (hc : c < 4) (hh : hd < 4) : kR P (blk (512 * j) X) (8 * c + hd) l = sB P X hd (4 * j + c) l := by
  have hr : ∀ r, IsR (kF P (blk (512 * j) X) (8 * c + hd) r) := fun r => by rw [kF_eq h j c hd r hc hh]; exact fin_Lf h _ _ _ hh
  have z1 : ∀ r, s32 (kF P (blk (512 * j) X)) (8 * c + hd) r = 0 := fun r => s32_zero (hr r)
  have z2 : ∀ r, s32 (s32 (kF P (blk (512 * j) X))) (8 * c + hd) r = 0 := fun r => s32_zero (by rw [z1]; exact IsR.zero)
  have e0 : kD P (blk (512 * j) X) (8 * c + hd) l = sB P X hd (4 * j + c) l := by
    rw [kD, mm, sB]
    refine Finset.sum_congr rfl fun k _ => ?_
    simp only [cat0, sh2, Nat.zero_add, h.ut]
    rw [if_pos (by omega), kF_eq h j c hd _ hc hh]; split_ifs <;> simp
  have e1 : kD P (blk (512 * j) X) (32 + (8 * c + hd)) l = 0 := by
    rw [kD, mm]
    refine Finset.sum_eq_zero fun k _ => ?_
    simp only [cat0]
    rw [if_neg (by omega), if_pos (by omega), Nat.add_sub_cancel_left, z1, zero_mul]
  have e2 : kD P (blk (512 * j) X) (64 + (8 * c + hd)) l = 0 := by
    rw [kD, mm]
    refine Finset.sum_eq_zero fun k _ => ?_
    simp only [cat0]
    rw [if_neg (by omega), if_neg (by omega), show 64 + (8 * c + hd) - 32 - 32 = 8 * c + hd by omega, z2, zero_mul]
  show kD P _ (0 + (8 * c + hd)) (0 + l) + kD P _ (32 + (8 * c + hd)) (0 + l) + kD P _ (64 + (8 * c + hd)) (0 + l) = _
  rw [Nat.zero_add, Nat.zero_add, e0, e1, e2, add_zero, add_zero]

theorem sB_end (hd c l : ℕ) : sB P X hd c (128 + l) = sA P X hd c := by
  rw [sA, sB, sB]
  exact Finset.sum_congr rfl fun k _ => by rw [if_pos (by omega), if_pos (by omega)]

/-- The input gate less the decay, and its running maximum over the chunk. -/
def cbF (P : Par) (X : Fn2) (hd c s : ℕ) : EReal := sLi P X hd c s - sB P X hd c s
def cmx (P : Par) (X : Fn2) (hd c t : ℕ) : EReal := (Finset.Icc 0 t).sup (cbF P X hd c)

theorem fin_cb (h : Fine P X) (hd c s : ℕ) (hh : hd < 4) : IsR (cbF P X hd c s) := (fin_Li h _ _ _ hh).sub (fin_B h _ _ _ hh)
theorem fin_cmx (h : Fine P X) (hd c t : ℕ) (hh : hd < 4) : IsR (cmx P X hd c t) :=
  IsR.sup _ ⟨0, Finset.mem_Icc.2 ⟨le_rfl, Nat.zero_le _⟩⟩ _ fun _ _ => fin_cb h _ _ _ hh

theorem kCb_eq (h : Fine P X) (j c hd s : ℕ) (hc : c < 4) (hh : hd < 4) : kCb P (blk (512 * j) X) (8 * c + hd) s = cbF P X hd (4 * j + c) s := by
  show kI P _ (8 * c + hd) s - kR P _ (0 + (8 * c + hd)) (0 + s) = _
  rw [Nat.zero_add, Nat.zero_add, kI_eq h j c hd s hc (by omega), kR_eq h j c hd s hc hh]; rfl

theorem scan_step (n m : ℕ) (hn : 0 < n) (hm : m = n + n) (f : ℕ → EReal) (g : Fn2) (i : ℕ) (hg : ∀ l < 128, g i l = (Finset.Icc (l + 1 - n) l).sup f) :
    ∀ l < 128, scan1 n g i l = (Finset.Icc (l + 1 - m) l).sup f := by
  intro l hl
  show (if n ≤ l then max (g i l) (g i ((l + 128 - n) % 128)) else g i l) = _
  split_ifs with h
  · rw [show (l + 128 - n) % 128 = l - n by omega, hg l hl, hg (l - n) (by omega)]
    refine Finset.sup_union.symm.trans (congrArg (fun s => Finset.sup s f) ?_)
    ext a; simp only [Finset.mem_union, Finset.mem_Icc]; omega
  · rw [hg l hl, show l + 1 - n = l + 1 - m by omega]

theorem scan_sup (f : Fn2) (i l : ℕ) (hl : l < 128) :
    scan1 64 (scan1 32 (scan1 16 (scan1 8 (scan1 4 (scan1 2 (scan1 1 f)))))) i l = (Finset.Icc 0 l).sup (f i) := by
  have h := scan_step 64 128 (by norm_num) rfl (f i) _ i (scan_step 32 64 (by norm_num) rfl (f i) _ i (scan_step 16 32 (by norm_num) rfl (f i) _ i
    (scan_step 8 16 (by norm_num) rfl (f i) _ i (scan_step 4 8 (by norm_num) rfl (f i) _ i (scan_step 2 4 (by norm_num) rfl (f i) _ i
    (scan_step 1 2 (by norm_num) rfl (f i) f i fun l _ => by simp)))))) l hl
  rw [h, show l + 1 - 128 = 0 by omega]

theorem kCm_eq (h : Fine P X) (j c hd t : ℕ) (hc : c < 4) (hh : hd < 4) (ht : t < 128) : kCm P (blk (512 * j) X) (8 * c + hd) t = cmx P X hd (4 * j + c) t := by
  refine (scan_sup _ _ _ ht).trans (Finset.sup_congr rfl fun s _ => kCb_eq h j c hd s hc hh)
theorem kCl_eq (h : Fine P X) (j c hd l : ℕ) (hc : c < 4) (hh : hd < 4) : kCl P (blk (512 * j) X) (8 * c + hd) l = cmx P X hd (4 * j + c) 127 := by
  show kCm P _ (0 + (8 * c + hd)) (127 + 0) = _
  rw [Nat.zero_add]; exact kCm_eq h j c hd 127 hc hh (by norm_num)

theorem sL_eq (hd c s : ℕ) : sL P X hd c s = sA P X hd c + cbF P X hd c s := by
  rw [sL, cbF, sub_eq_add_neg, sub_eq_add_neg, add_assoc, add_comm (sLi P X hd c s)]
theorem sMl_eq (hd c : ℕ) : sMl P X hd c = sA P X hd c + cmx P X hd c 127 := by
  rw [cmx, ← sup_le_eq 127 (by norm_num), add_sup]
  exact Finset.sup_congr rfl fun s _ => by rw [if_pos (by omega), sL_eq]
theorem kMl_eq (h : Fine P X) (j c hd l : ℕ) (hc : c < 4) (hh : hd < 4) : kMl P (blk (512 * j) X) (8 * c + hd) l = sMl P X hd (4 * j + c) := by
  show kR P _ (0 + (8 * c + hd)) (128 + l) + _ = _
  rw [Nat.zero_add, kR_eq h j c hd _ hc hh, sB_end, kCl_eq h j c hd l hc hh, sMl_eq]
theorem fin_Ml (h : Fine P X) (hd c : ℕ) (hh : hd < 4) : IsR (sMl P X hd c) := by
  rw [sMl_eq]; exact (fin_sA h _ _ hh).add (fin_cmx h _ _ _ hh)

theorem sub_add_add {a b c : EReal} (ha : IsR a) (hb : IsR b) (hc : IsR c) : (a + b) - (a + c) = b - c := by
  obtain ⟨a, rfl⟩ := ha; obtain ⟨b, rfl⟩ := hb; obtain ⟨c, rfl⟩ := hc
  rw [← EReal.coe_add, ← EReal.coe_add, ← EReal.coe_sub, ← EReal.coe_sub]; congr 1; ring
theorem add_sub_swap {b m c : EReal} (hb : IsR b) (hm : IsR m) (hc : IsR c) : (b - m) + c = (b + c) - m := by
  obtain ⟨b, rfl⟩ := hb; obtain ⟨m, rfl⟩ := hm; obtain ⟨c, rfl⟩ := hc
  rw [← EReal.coe_add, ← EReal.coe_sub, ← EReal.coe_sub, ← EReal.coe_add]; congr 1; ring

theorem kE_eq (h : Fine P X) (j c hd s : ℕ) (hc : c < 4) (hh : hd < 4) : kE P (blk (512 * j) X) (8 * c + hd) s = sE P X hd (4 * j + c) s := by
  show Ideal.exp (kCb P _ (8 * c + hd) s - kCl P _ (8 * c + hd) s) = _
  rw [kCb_eq h j c hd s hc hh, kCl_eq h j c hd s hc hh, sE, sL_eq, sMl_eq, sub_add_add (fin_sA h _ _ hh) (fin_cb h _ _ _ hh) (fin_cmx h _ _ _ hh)]
theorem fin_E (h : Fine P X) (hd c s : ℕ) (hh : hd < 4) : IsR (sE P X hd c s) := by
  rw [sE, sL_eq]; exact (((fin_sA h _ _ hh).add (fin_cb h _ _ _ hh)).sub (fin_Ml h _ _ hh)).exp

theorem fin_M (h : Fine P X) (hd : ℕ) (hh : hd < 4) : ∀ c, IsR (sM P X hd c)
  | 0 => IsR.zero
  | c + 1 => ((fin_sA h _ _ hh).add (fin_M h hd hh c)).max (fin_Ml h _ _ hh)

variable {M : Fn2}

/-- The running maxima a step enters with. -/
def EntM (P : Par) (X : Fn2) (M : Fn2) (j : ℕ) : Prop := ∀ hd < 4, ∀ l < 128, M hd l = sM P X hd (4 * j)

theorem kM_eq (h : Fine P X) (j : ℕ) (hM : EntM P X M j) (hd l : ℕ) (hh : hd < 4) (hl : l < 128) :
    ∀ n ≤ 4, kM P (blk (512 * j) X) M n hd l = sM P X hd (4 * j + n)
  | 0, _ => hM hd hh l hl
  | n + 1, hn => by
    show max (kR P _ (8 * n + hd) (128 + l) + kM P _ M n hd l) (kMl P _ (8 * n + hd) (0 + l)) = _
    rw [kR_eq h j n hd _ (by omega) hh, sB_end, kM_eq h j hM hd l hh hl n (by omega), kMl_eq h j n hd _ (by omega) hh]; rfl

theorem kSp_eq (h : Fine P X) (j : ℕ) (hM : EntM P X M j) (n hd l : ℕ) (hn : n < 4) (hh : hd < 4) (hl : l < 128) :
    kSp P (blk (512 * j) X) M n hd l = sP P X hd (4 * j + n) := by
  show Ideal.exp ((kR P _ (8 * n + hd) (128 + l) + kM P _ M n hd l) - kM P _ M (n + 1) hd l) = _
  rw [kR_eq h j n hd _ hn hh, sB_end, kM_eq h j hM hd l hh hl n (by omega), kM_eq h j hM hd l hh hl (n + 1) (by omega)]; rfl
theorem kSl_eq (h : Fine P X) (j : ℕ) (hM : EntM P X M j) (n hd l : ℕ) (hn : n < 4) (hh : hd < 4) (hl : l < 128) :
    kSl P (blk (512 * j) X) M n hd l = sW P X hd (4 * j + n) := by
  show Ideal.exp (kMl P _ (8 * n + hd) (0 + l) - kM P _ M (n + 1) hd l) = _
  rw [kMl_eq h j n hd _ hn hh, kM_eq h j hM hd l hh hl (n + 1) (by omega)]; rfl

theorem kIn_eq (h : Fine P X) (j : ℕ) (hM : EntM P X M j) (c hd t : ℕ) (hc : c < 4) (hh : hd < 4) (ht : t < 128) :
    kIn P (blk (512 * j) X) M (8 * c + hd) t = sIn P X hd (4 * j + c) t := by
  show kR P _ (0 + (8 * c + hd)) (0 + t) + _ = _
  rw [Nat.zero_add, Nat.zero_add, kR_eq h j c hd _ hc hh]
  exact congrArg (sB P X hd (4 * j + c) t + ·) ((cat4 (kM P (blk (512 * j) X) M) c hd t hc (by omega)).trans (kM_eq h j hM hd t hh ht c (by omega)))

theorem sT_eq (hd c t s : ℕ) : sT P X hd c t s = if s ≤ t then sB P X hd c t + cbF P X hd c s else ⊥ := by
  rw [sT, cbF, sub_eq_add_neg, sub_eq_add_neg, add_assoc, add_comm (sLi P X hd c s)]
theorem sMt_eq (hd c t : ℕ) (ht : t < 128) : sMt P X hd c t = max (sIn P X hd c t) (sB P X hd c t + cmx P X hd c t) := by
  rw [sMt, cmx, add_sup, ← sup_le_eq t ht]
  exact congrArg _ (Finset.sup_congr rfl fun s _ => sT_eq hd c t s)
theorem fin_In (h : Fine P X) (hd c t : ℕ) (hh : hd < 4) : IsR (sIn P X hd c t) := (fin_B h _ _ _ hh).add (fin_M h _ hh _)
theorem fin_Mt (h : Fine P X) (hd c t : ℕ) (hh : hd < 4) (ht : t < 128) : IsR (sMt P X hd c t) := by
  rw [sMt_eq hd c t ht]; exact (fin_In h _ _ _ hh).max ((fin_B h _ _ _ hh).add (fin_cmx h _ _ _ hh))

theorem kMt_eq (h : Fine P X) (j : ℕ) (hM : EntM P X M j) (c hd t : ℕ) (hc : c < 4) (hh : hd < 4) (ht : t < 128) :
    kMt P (blk (512 * j) X) M (8 * c + hd) t = sMt P X hd (4 * j + c) t := by
  show max (kIn P _ M (8 * c + hd) t) (kR P _ (0 + (8 * c + hd)) (0 + t) + kCm P _ (8 * c + hd) t) = _
  rw [Nat.zero_add, Nat.zero_add, kIn_eq h j hM c hd t hc hh ht, kR_eq h j c hd _ hc hh, kCm_eq h j c hd t hc hh ht, sMt_eq hd _ t ht]
theorem kRt_eq (h : Fine P X) (j : ℕ) (hM : EntM P X M j) (c hd t : ℕ) (hc : c < 4) (hh : hd < 4) (ht : t < 128) :
    kRt P (blk (512 * j) X) M (8 * c + hd) t = sB P X hd (4 * j + c) t - sMt P X hd (4 * j + c) t := by
  show kR P _ (0 + (8 * c + hd)) (0 + t) - kMt P _ M (8 * c + hd) t = _
  rw [Nat.zero_add, Nat.zero_add, kMt_eq h j hM c hd t hc hh ht, kR_eq h j c hd _ hc hh]
theorem kEi_eq (h : Fine P X) (j : ℕ) (hM : EntM P X M j) (c hd t : ℕ) (hc : c < 4) (hh : hd < 4) (ht : t < 128) :
    kEi P (blk (512 * j) X) M (8 * c + hd) t = sEi P X hd (4 * j + c) t := by
  show Ideal.exp (kIn P _ M (8 * c + hd) t - kMt P _ M (8 * c + hd) t) = _
  rw [kIn_eq h j hM c hd t hc hh ht, kMt_eq h j hM c hd t hc hh ht]; rfl
theorem kEn_eq (h : Fine P X) (j : ℕ) (hM : EntM P X M j) (c hd t : ℕ) (hc : c < 4) (hh : hd < 4) (ht : t < 128) :
    kEn P (blk (512 * j) X) M (8 * c + hd) t = Ideal.exp (-(sMt P X hd (4 * j + c) t)) := by
  show Ideal.exp (wd 0x00000000#32 - kMt P _ M (8 * c + hd) t) = _
  rw [wd_zero, zero_sub, kMt_eq h j hM c hd t hc hh ht]
theorem fin_Ei (h : Fine P X) (hd c t : ℕ) (hh : hd < 4) (ht : t < 128) : IsR (sEi P X hd c t) := ((fin_In h _ _ _ hh).sub (fin_Mt h _ _ _ hh ht)).exp

theorem sum_one (f g : ℕ → EReal) (a : ℕ) (ha : a < 128) (h1 : g a = 1) (h0 : ∀ q < 128, q ≠ a → f q * g q = 0) : (∑ q : Fin 128, f q * g q) = f a := by
  refine (Finset.sum_eq_single (⟨a, ha⟩ : Fin 128) (fun q _ hq => h0 q q.isLt fun e => hq (Fin.ext e)) (fun e => absurd (Finset.mem_univ _) e)).trans ?_
  show f a * g a = f a
  rw [h1, mul_one]

/-- The seven groups of eight rows stacked for the broadcast product. -/
def kPg (P : Par) (X M : Fn2) : ℕ → Fn2
  | 0 => kRt P X M | 1 => s32 (kRt P X M) | 2 => s32 (s32 (kRt P X M)) | 3 => kEi P X M | 4 => s32 (kEi P X M) | 5 => kEn P X M | _ => s32 (kEn P X M)
theorem kP_eq (Y : Fn2) (c t b hd : ℕ) (hb : b < 7) (hh : hd < 4) : kP P Y M c t (8 * b + hd) = kPg P Y M b (8 * c + hd) t := by
  simp only [kP, tr, cat0, sh2]
  interval_cases b <;> simp only [kPg] <;> split_ifs <;> first | (exfalso; omega) | exact congr (congrArg _ (by omega)) (by omega)

theorem kBc0 (h : Fine P X) (j : ℕ) (hM : EntM P X M j) (c hd t l : ℕ) (hc : c < 4) (hh : hd < 4) (ht : t < 128) (hl : l < 128) :
    kBc P (blk (512 * j) X) M c hd t l = sB P X hd (4 * j + c) t - sMt P X hd (4 * j + c) t := by
  have e := kRt_eq h j hM c hd t hc hh ht
  have r : IsR (kRt P (blk (512 * j) X) M (8 * c + hd) t) := by rw [e]; exact (fin_B h _ _ _ hh).sub (fin_Mt h _ _ _ hh ht)
  refine (sum_one (fun q => kP P (blk (512 * j) X) M c t q) (fun q => P.sel hd q l) hd (by omega) (by simp [h.sel, hl]) fun q hq hne => ?_).trans ?_
  · simp only [h.sel, if_pos hl]
    split_ifs with hs
    · rcases hs with rfl | rfl | rfl
      · exact absurd rfl hne
      · rw [show 8 + hd = 8 * 1 + hd by omega, kP_eq _ c t 1 hd (by norm_num) hh]; show s32 _ _ _ * _ = _; rw [s32_zero r, zero_mul]
      · rw [show 16 + hd = 8 * 2 + hd by omega, kP_eq _ c t 2 hd (by norm_num) hh]; show s32 (s32 _) _ _ * _ = _
        rw [s32_zero (by rw [s32_zero r]; exact IsR.zero), zero_mul]
    · exact mul_zero _
  · refine Eq.trans ?_ ((kP_eq _ c t 0 hd (by norm_num) hh).trans e); exact congrArg _ (by omega)
theorem kBc1 (h : Fine P X) (j : ℕ) (hM : EntM P X M j) (c hd t l : ℕ) (hc : c < 4) (hh : hd < 4) (ht : t < 128) (hl : l < 128) :
    kBc P (blk (512 * j) X) M c hd t (128 + l) = sEi P X hd (4 * j + c) t := by
  have e := kEi_eq h j hM c hd t hc hh ht
  have r : IsR (kEi P (blk (512 * j) X) M (8 * c + hd) t) := by rw [e]; exact fin_Ei h _ _ _ hh ht
  refine (sum_one (fun q => kP P (blk (512 * j) X) M c t q) (fun q => P.sel hd q (128 + l)) (24 + hd) (by omega)
    (by simp only [h.sel]; rw [if_neg (by omega), if_pos (by omega)]; simp) fun q hq hne => ?_).trans ?_
  · simp only [h.sel]; rw [if_neg (by omega), if_pos (by omega)]
    split_ifs with hs
    · rcases hs with rfl | rfl
      · exact absurd rfl hne
      · rw [show 32 + hd = 8 * 4 + hd by omega, kP_eq _ c t 4 hd (by norm_num) hh]; show s32 _ _ _ * _ = _; rw [s32_zero r, zero_mul]
    · exact mul_zero _
  · refine Eq.trans ?_ ((kP_eq _ c t 3 hd (by norm_num) hh).trans e); exact congrArg _ (by omega)
theorem kBc2 (h : Fine P X) (j : ℕ) (hM : EntM P X M j) (c hd t l : ℕ) (hc : c < 4) (hh : hd < 4) (ht : t < 128) (hl : l < 128) :
    kBc P (blk (512 * j) X) M c hd t (256 + l) = Ideal.exp (-(sMt P X hd (4 * j + c) t)) := by
  have e := kEn_eq h j hM c hd t hc hh ht
  have r : IsR (kEn P (blk (512 * j) X) M (8 * c + hd) t) := by rw [e]; exact (fin_Mt h _ _ _ hh ht).neg.exp
  refine (sum_one (fun q => kP P (blk (512 * j) X) M c t q) (fun q => P.sel hd q (256 + l)) (40 + hd) (by omega)
    (by simp only [h.sel]; rw [if_neg (by omega), if_neg (by omega)]; simp) fun q hq hne => ?_).trans ?_
  · simp only [h.sel]; rw [if_neg (by omega), if_neg (by omega)]
    split_ifs with hs
    · rcases hs with rfl | rfl
      · exact absurd rfl hne
      · rw [show 48 + hd = 8 * 6 + hd by omega, kP_eq _ c t 6 hd (by norm_num) hh]; show s32 _ _ _ * _ = _; rw [s32_zero r, zero_mul]
    · exact mul_zero _
  · refine Eq.trans ?_ ((kP_eq _ c t 5 hd (by norm_num) hh).trans e); exact congrArg _ (by omega)

end Cert.Sym
end
-- ==== Proof.Blocks.lean ====
/- The rest of the mixer kernel's body at one grid step, equal to the formulas: convolution, scores, memory, read-out, gated MLP and output; and what the step hands on. -/
module

public import proofs.«01_k».proof.Proof.Gates

@[expose] public section

noncomputable section

namespace Cert.Sym

open Idealize.ShloMosaic

variable {P : Par} {X Q M : Fn2} {C : ℕ → Fn2}

/-- The rows of the first projection a step enters with. -/
def EntQ (P : Par) (X Q : Fn2) (j : ℕ) : Prop := ∀ i < 8, ∀ k, Q i k = if 512 * j + i < 8 then 0 else kW P X (512 * j + i - 8) k
/-- The memories and normalisers a step enters with. -/
def EntC (P : Par) (X : Fn2) (C : ℕ → Fn2) (j : ℕ) : Prop :=
  ∀ hd < 4, ∀ k, ∀ l < 128, C hd k l = sC P X hd k l (4 * j) ∧ C hd k (128 + l) = sN P X hd k (4 * j)

theorem lag_eq (j : ℕ) (hQ : EntQ P X Q j) (n i k : ℕ) (hn : n ≤ 3) : lag n Q (kW P (blk (512 * j) X)) i k = sLag P X n (512 * j + i) k := by
  show (if i < n then Q (8 - n + i) k else kW P X (512 * j + (i - n)) k) = _
  rw [sLag]
  by_cases h : i < n
  · rw [if_pos h, hQ _ (by omega)]
    by_cases h2 : 512 * j + i < n
    · rw [if_pos h2, if_pos (by omega)]
    · rw [if_neg h2, if_neg (by omega)]; exact congrArg (fun a => kW P X a k) (by omega)
  · rw [if_neg h, if_neg (by omega)]; exact congrArg (fun a => kW P X a k) (by omega)

theorem kConv_eq (j : ℕ) (hQ : EntQ P X Q j) (i k : ℕ) : kConv P (blk (512 * j) X) Q i k = sConv P X (512 * j + i) k := by
  show (((P.cb (0 + 0) (0 + k) + kW P X (512 * j + i) k * P.cw (3 + 0) (0 + k)) + lag 1 Q (kW P (blk (512 * j) X)) i k * P.cw (2 + 0) (0 + k))
    + lag 2 Q (kW P (blk (512 * j) X)) i k * P.cw (1 + 0) (0 + k)) + lag 3 Q (kW P (blk (512 * j) X)) i k * P.cw (0 + 0) (0 + k) = _
  rw [lag_eq j hQ 1 i k (by norm_num), lag_eq j hQ 2 i k (by norm_num), lag_eq j hQ 3 i k (by norm_num), sConv,
    show sLag P X 0 (512 * j + i) k = kW P X (512 * j + i) k by rw [sLag, if_neg (by omega)]; rfl]
  simp only [Nat.zero_add, Nat.add_zero, zero_add, mul_comm (P.cw _ _)]
  ac_rfl

theorem sig2_eq (f : Fn2) (i k : ℕ) : sig2 f i k = sSig (f i k) := by
  show Ideal.div (wd _) (wd _ + Ideal.exp (wd 0x00000000#32 - f i k)) = _
  rw [wd_zero, zero_sub]; rfl
theorem gelu2_eq (f : Fn2) (i k : ℕ) : gelu2 f i k = sGelu (f i k) := by
  show (wd 0x3F000000#32 * f i k) * (wd 0x3F800000#32 + Ideal.erf (f i k * wd 0x3F3504F3#32)) = _
  rw [sGelu, EReal.neg_mul, Ideal.erfc_neg, wd_one]

theorem kAct_eq (j : ℕ) (hQ : EntQ P X Q j) (i k : ℕ) : kAct P (blk (512 * j) X) Q i k = sAct P X (512 * j + i) k := by
  show kConv P _ Q i k * sig2 _ i k = _
  rw [sig2_eq, kConv_eq j hQ]; rfl
theorem kQ_eq (j : ℕ) (hQ : EntQ P X Q j) (c hd t k : ℕ) : sh2 (128 * c) (128 * hd) (kAct P (blk (512 * j) X) Q) t k = sQ P X hd (4 * j + c) t k := by
  show kAct P _ Q (128 * c + t) (128 * hd + k) = _
  rw [kAct_eq j hQ, rowj]; rfl
theorem kK_eq (j : ℕ) (hQ : EntQ P X Q j) (c hd t k : ℕ) : sh2 (128 * c) (128 * hd) (kK P (blk (512 * j) X) Q) t k = sK P X hd (4 * j + c) t k := by
  show kAct P _ Q (0 + (128 * c + t)) (512 + (128 * hd + k)) * wd _ = _
  rw [kAct_eq j hQ, Nat.zero_add, rowj]; rfl
theorem kVa0 (j c hd s l : ℕ) (hl : l < 128) : kVa P (blk (512 * j) X) c hd s l = sV P X hd (4 * j + c) s l := by
  show (if l < 128 then kW P X (512 * j + (128 * c + s)) (1024 + 128 * hd + l) else _) = _
  rw [if_pos hl, rowj, Nat.add_assoc 1024]; rfl
theorem kVa1 (Y : Fn2) (c hd s l : ℕ) : kVa P Y c hd s (128 + l) = 1 := by
  show (if 128 + l < 128 then _ else oneh) = _
  rw [if_neg (by omega), oneh_one]

theorem kS_eq (j : ℕ) (hQ : EntQ P X Q j) (c hd t s : ℕ) : kS P (blk (512 * j) X) Q c hd t s = sS P X hd (4 * j + c) t s := by
  rw [kS, mm, sS]
  exact Finset.sum_congr rfl fun k _ => congrArg₂ (· * ·) (kQ_eq j hQ c hd t k) (kK_eq j hQ c hd s k)

theorem kSE_eq (h : Fine P X) (j : ℕ) (hM : EntM P X M j) (hQ : EntQ P X Q j) (c hd t s : ℕ) (hc : c < 4) (hh : hd < 4) (ht : t < 128) (hs : s < 128) :
    kS P (blk (512 * j) X) Q c hd t s * Ideal.exp (caus (add2 (sh2 0 0 (kBc P (blk (512 * j) X) M c hd)) (rowb (sh2 (8 * c + hd) 0 (kCb P (blk (512 * j) X))))) (k2 (wd 0xFF800000#32)) t s)
      = sSE P X hd (4 * j + c) t s := by
  rw [sSE, kS_eq j hQ, sT_eq, sh00]
  congr 2
  show (if s ≤ t then kBc P _ M c hd t s + kCb P _ (8 * c + hd + 0) (0 + s) else wd _) = _
  by_cases hst : s ≤ t
  · rw [if_pos hst, if_pos hst, kBc0 h j hM c hd t s hc hh ht hs, Nat.add_zero, Nat.zero_add, kCb_eq h j c hd s hc hh]
    exact add_sub_swap (fin_B h _ _ _ hh) (fin_Mt h _ _ _ hh ht) (fin_cb h _ _ _ hh)
  · rw [if_neg hst, if_neg hst, wd_bot, sub_eq_add_neg, EReal.bot_add]

theorem kPv0 (h : Fine P X) (j : ℕ) (hM : EntM P X M j) (hQ : EntQ P X Q j) (c hd t l : ℕ) (hc : c < 4) (hh : hd < 4) (ht : t < 128) (hl : l < 128) :
    kPv P (blk (512 * j) X) Q M c hd t l = ∑ s : Fin 128, sSE P X hd (4 * j + c) t s * sV P X hd (4 * j + c) s l := by
  rw [kPv, mm]
  exact Finset.sum_congr rfl fun s _ => congrArg₂ (· * ·) (kSE_eq h j hM hQ c hd t s hc hh ht s.isLt) (kVa0 j c hd s l hl)
theorem kPv1 (h : Fine P X) (j : ℕ) (hM : EntM P X M j) (hQ : EntQ P X Q j) (c hd t l : ℕ) (hc : c < 4) (hh : hd < 4) (ht : t < 128) :
    kPv P (blk (512 * j) X) Q M c hd t (128 + l) = ∑ s : Fin 128, sSE P X hd (4 * j + c) t s := by
  rw [kPv, mm]
  refine Finset.sum_congr rfl fun s _ => (congrArg₂ (· * ·) (kSE_eq h j hM hQ c hd t s hc hh ht s.isLt) (kVa1 _ c hd s l)).trans (mul_one _)

theorem kKE_eq (h : Fine P X) (j : ℕ) (hQ : EntQ P X Q j) (c hd k s : ℕ) (hc : c < 4) (hh : hd < 4) :
    mul2 (tr (sh2 (128 * c) (128 * hd) (kK P (blk (512 * j) X) Q))) (rowb (sh2 (8 * c + hd) 0 (kE P (blk (512 * j) X)))) k s = sK P X hd (4 * j + c) s k * sE P X hd (4 * j + c) s := by
  refine congrArg₂ (· * ·) (kK_eq j hQ c hd s k) ?_
  show kE P _ (8 * c + hd + 0) (0 + s) = _
  rw [Nat.zero_add]; exact kE_eq h j c hd s hc hh
theorem kLoc0 (h : Fine P X) (j : ℕ) (hQ : EntQ P X Q j) (c hd k l : ℕ) (hc : c < 4) (hh : hd < 4) (hl : l < 128) :
    kLoc P (blk (512 * j) X) Q c hd k l = sCl P X hd (4 * j + c) k l := by
  rw [kLoc, mm, sCl]
  exact Finset.sum_congr rfl fun s _ => congrArg₂ (· * ·) (kKE_eq h j hQ c hd k s hc hh) (kVa0 j c hd s l hl)
theorem kLoc1 (h : Fine P X) (j : ℕ) (hQ : EntQ P X Q j) (c hd k l : ℕ) (hc : c < 4) (hh : hd < 4) :
    kLoc P (blk (512 * j) X) Q c hd k (128 + l) = sNl P X hd (4 * j + c) k := by
  rw [kLoc, mm, sNl]
  exact Finset.sum_congr rfl fun s _ => (congrArg₂ (· * ·) (kKE_eq h j hQ c hd k s hc hh) (kVa1 _ c hd s l)).trans (mul_one _)

theorem catlo (hd l : ℕ) (f : Fn2) (k : ℕ) (hl : l < 128) : rowb (cat1 128 (sh2 hd 0 f) (sh2 hd 0 f)) k l = f hd l := by
  show (if l < 128 then f (hd + 0) (0 + l) else _) = _
  rw [if_pos hl, Nat.zero_add, Nat.add_zero]
theorem cathi (hd l : ℕ) (f : Fn2) (k : ℕ) : rowb (cat1 128 (sh2 hd 0 f) (sh2 hd 0 f)) k (128 + l) = f hd l := by
  show (if 128 + l < 128 then _ else f (hd + 0) (0 + (128 + l - 128))) = _
  rw [if_neg (by omega), Nat.zero_add, Nat.add_zero, Nat.add_sub_cancel_left]

theorem kC_eq (h : Fine P X) (j : ℕ) (hM : EntM P X M j) (hQ : EntQ P X Q j) (hC : EntC P X C j) (hd k l : ℕ) (hh : hd < 4) (hl : l < 128) :
    ∀ n ≤ 4, kC P (blk (512 * j) X) Q M C hd n k l = sC P X hd k l (4 * j + n) ∧ kC P (blk (512 * j) X) Q M C hd n k (128 + l) = sN P X hd k (4 * j + n)
  | 0, _ => hC hd hh k l hl
  | n + 1, hn => by
    obtain ⟨e0, e1⟩ := kC_eq h j hM hQ hC hd k l hh hl n (by omega)
    constructor
    · show rowb _ k l * kC P _ Q M C hd n k l + rowb _ k l * kLoc P _ Q n hd k l = _
      rw [catlo hd l _ k hl, catlo hd l _ k hl, e0, kSp_eq h j hM n hd l (by omega) hh hl, kSl_eq h j hM n hd l (by omega) hh hl, kLoc0 h j hQ n hd k l (by omega) hh hl]; rfl
    · show rowb _ k (128 + l) * kC P _ Q M C hd n k (128 + l) + rowb _ k (128 + l) * kLoc P _ Q n hd k (128 + l) = _
      rw [cathi hd l _ k, cathi hd l _ k, e1, kSp_eq h j hM n hd l (by omega) hh hl, kSl_eq h j hM n hd l (by omega) hh hl, kLoc1 h j hQ n hd k l (by omega) hh]; rfl

theorem kQc0 (h : Fine P X) (j : ℕ) (hM : EntM P X M j) (hQ : EntQ P X Q j) (hC : EntC P X C j) (c hd t l : ℕ) (hc : c < 4) (hh : hd < 4) (hl : l < 128) :
    kQc P (blk (512 * j) X) Q M C c hd t l = ∑ k : Fin 128, sQ P X hd (4 * j + c) t k * sC P X hd k l (4 * j + c) := by
  rw [kQc, mm]
  exact Finset.sum_congr rfl fun k _ => congrArg₂ (· * ·) (kQ_eq j hQ c hd t k) (kC_eq h j hM hQ hC hd k l hh hl c (by omega)).1
theorem kQc1 (h : Fine P X) (j : ℕ) (hM : EntM P X M j) (hQ : EntQ P X Q j) (hC : EntC P X C j) (c hd t l : ℕ) (hc : c < 4) (hh : hd < 4) (hl : l < 128) :
    kQc P (blk (512 * j) X) Q M C c hd t (128 + l) = ∑ k : Fin 128, sQ P X hd (4 * j + c) t k * sN P X hd k (4 * j + c) := by
  rw [kQc, mm]
  exact Finset.sum_congr rfl fun k _ => congrArg₂ (· * ·) (kQ_eq j hQ c hd t k) (kC_eq h j hM hQ hC hd k l hh hl c (by omega)).2

theorem kHh_eq (h : Fine P X) (j : ℕ) (hM : EntM P X M j) (hQ : EntQ P X Q j) (hC : EntC P X C j) (c hd t l : ℕ) (hc : c < 4) (hh : hd < 4) (ht : t < 128) (hl : l < 128) :
    kHh P (blk (512 * j) X) Q M C c hd t l = sH P X hd (4 * j + c) t l := by
  rw [kHh]
  simp only [sh00, Nat.zero_add, div2, add2, mul2, max2, abs2, sh2]
  rw [kBc1 h j hM c hd t l hc hh ht hl, kBc2 h j hM c hd t l hc hh ht hl, kQc0 h j hM hQ hC c hd t l hc hh hl, kQc1 h j hM hQ hC c hd t l hc hh hl,
    kPv0 h j hM hQ c hd t l hc hh ht hl, kPv1 h j hM hQ c hd t l hc hh ht]
  rfl

theorem fin_W' (h : Fine P X) (r k : ℕ) (hk : k < 1536) (n : ℕ) : IsR (sLag P X n r k) := by
  rw [sLag]; split_ifs; exacts [IsR.zero, fin_W h _ _ hk]
theorem fin_Act (h : Fine P X) (r k : ℕ) (hk : k < 1536) : IsR (sAct P X r k) := by
  have e : IsR (sConv P X r k) := (((((IsR.zero.add ((h.cw _ _).mul (fin_W' h _ _ hk _))).add ((h.cw _ _).mul (fin_W' h _ _ hk _))).add ((h.cw _ _).mul (fin_W' h _ _ hk _))).add
    ((h.cw _ _).mul (fin_W' h _ _ hk _))).add (h.cb _))
  refine e.mul ?_
  rw [sSig, wd_one]
  refine IsR.one.div (IsR.one.add e.neg.exp) ?_
  exact (IsR.exp_pos e.neg).trans_le (le_add_of_nonneg_left zero_le_one)
theorem fin_Q (h : Fine P X) (hd c t k : ℕ) (hh : hd < 4) (hk : k < 128) : IsR (sQ P X hd c t k) := fin_Act h _ _ (by omega)
theorem fin_K (h : Fine P X) (hd c t k : ℕ) (hh : hd < 4) (hk : k < 128) : IsR (sK P X hd c t k) := (fin_Act h _ _ (by omega)).mul wd_scale
theorem fin_V (h : Fine P X) (hd c t k : ℕ) (hh : hd < 4) (hk : k < 128) : IsR (sV P X hd c t k) := fin_W h _ _ (by omega)
theorem fin_Cl (h : Fine P X) (hd c k l : ℕ) (hh : hd < 4) (hk : k < 128) (hl : l < 128) : IsR (sCl P X hd c k l) := by
  rw [sCl]; exact IsR.sum _ _ fun s _ => ((fin_K h _ _ _ _ hh hk).mul (fin_E h _ _ _ hh)).mul (fin_V h _ _ _ _ hh hl)
theorem fin_Nl (h : Fine P X) (hd c k : ℕ) (hh : hd < 4) (hk : k < 128) : IsR (sNl P X hd c k) := by
  rw [sNl]; exact IsR.sum _ _ fun s _ => (fin_K h _ _ _ _ hh hk).mul (fin_E h _ _ _ hh)
theorem fin_P (h : Fine P X) (hd c : ℕ) (hh : hd < 4) : IsR (sP P X hd c) := (((fin_sA h _ _ hh).add (fin_M h _ hh _)).sub (fin_M h _ hh _)).exp
theorem fin_Wt (h : Fine P X) (hd c : ℕ) (hh : hd < 4) : IsR (sW P X hd c) := ((fin_Ml h _ _ hh).sub (fin_M h _ hh _)).exp
theorem fin_C (h : Fine P X) (hd k l : ℕ) (hh : hd < 4) (hk : k < 128) (hl : l < 128) : ∀ c, IsR (sC P X hd k l c)
  | 0 => IsR.zero
  | c + 1 => ((fin_P h _ _ hh).mul (fin_C h hd k l hh hk hl c)).add ((fin_Wt h _ _ hh).mul (fin_Cl h _ _ _ _ hh hk hl))
theorem fin_N (h : Fine P X) (hd k : ℕ) (hh : hd < 4) (hk : k < 128) : ∀ c, IsR (sN P X hd k c)
  | 0 => IsR.zero
  | c + 1 => ((fin_P h _ _ hh).mul (fin_N h hd k hh hk c)).add ((fin_Wt h _ _ hh).mul (fin_Nl h _ _ _ hh hk))
theorem fin_SE (h : Fine P X) (hd c t s : ℕ) (hh : hd < 4) (ht : t < 128) : IsR (sSE P X hd c t s) := by
  rw [sSE, sS, sT_eq]
  refine (IsR.sum _ _ fun k _ => (fin_Q h _ _ _ _ hh k.isLt).mul (fin_K h _ _ _ _ hh k.isLt)).mul ?_
  split_ifs
  · exact (((fin_B h _ _ _ hh).add (fin_cb h _ _ _ hh)).sub (fin_Mt h _ _ _ hh ht)).exp
  · rw [sub_eq_add_neg, EReal.bot_add, Ideal.exp_bot]; exact IsR.zero
theorem fin_H (h : Fine P X) (hd c t l : ℕ) (hh : hd < 4) (ht : t < 128) (hl : l < 128) : IsR (sH P X hd c t l) := by
  have n : IsR (sNum P X hd c t l) := by
    rw [sNum]
    exact ((fin_Ei h _ _ _ hh ht).mul (IsR.sum _ _ fun k _ => (fin_Q h _ _ _ _ hh k.isLt).mul (fin_C h _ _ _ hh k.isLt hl _))).add
      (IsR.sum _ _ fun s _ => (fin_SE h _ _ _ _ hh ht).mul (fin_V h _ _ _ _ hh hl))
  have d : IsR (sDen P X hd c t) := by
    rw [sDen]
    exact ((fin_Ei h _ _ _ hh ht).mul (IsR.sum _ _ fun k _ => (fin_Q h _ _ _ _ hh k.isLt).mul (fin_N h _ _ hh k.isLt _))).add (IsR.sum _ _ fun s _ => fin_SE h _ _ _ _ hh ht)
  have e := (fin_Mt h hd c t hh ht).neg
  exact n.div ((d.max d.neg).max e.exp) ((IsR.exp_pos e).trans_le (le_max_right _ _))

theorem kSs_eq (h : Fine P X) (j : ℕ) (hM : EntM P X M j) (hQ : EntQ P X Q j) (hC : EntC P X C j) (c hd t l : ℕ) (hc : c < 4) (hh : hd < 4) (ht : t < 128) :
    kSs P (blk (512 * j) X) Q M C c hd t l = ∑ k : Fin 128, sH P X hd (4 * j + c) t k * sH P X hd (4 * j + c) t k := by
  rw [kSs, mm]
  refine (Fin.sum_univ_add fun k : Fin (128 + 128) => cat1 128 (mul2 (kHh P (blk (512 * j) X) Q M C c hd) (kHh P (blk (512 * j) X) Q M C c hd))
    (s32 (mul2 (kHh P (blk (512 * j) X) Q M C c hd) (kHh P (blk (512 * j) X) Q M C c hd))) t k * sh2 0 0 P.ones k l).trans ?_
  refine (congrArg₂ (· + ·) (Finset.sum_congr rfl fun k _ => ?_) (Finset.sum_eq_zero fun k _ => ?_)).trans (add_zero _)
  · show (if (k : ℕ) < 128 then kHh P _ Q M C c hd t k * kHh P _ Q M C c hd t k else _) * P.ones _ _ = _
    rw [if_pos k.isLt, h.ones, mul_one, kHh_eq h j hM hQ hC c hd t k hc hh ht k.isLt]
  · show (if 128 + (k : ℕ) < 128 then _ else s32 _ t (128 + (k : ℕ) - 128)) * _ = _
    rw [if_neg (by omega), Nat.add_sub_cancel_left, s32_zero, zero_mul]
    show IsR (kHh P _ Q M C c hd t k * kHh P _ Q M C c hd t k)
    rw [kHh_eq h j hM hQ hC c hd t k hc hh ht k.isLt]
    exact (fin_H h _ _ _ _ hh ht k.isLt).mul (fin_H h _ _ _ _ hh ht k.isLt)

theorem kHm_eq (h : Fine P X) (j : ℕ) (hM : EntM P X M j) (hQ : EntQ P X Q j) (hC : EntC P X C j) (c hd t l : ℕ) (hc : c < 4) (hh : hd < 4) (ht : t < 128) (hl : l < 128) :
    kHm P (blk (512 * j) X) Q M C c hd t l = sHm P X hd (4 * j + c) t l := by
  show ((kHh P _ Q M C c hd t l * Ideal.rsqrt (kSs P _ Q M C c hd t l * wd 0x3C000000#32 + wd 0x358637BD#32)) * P.mhg (0 + 0) (128 * hd + l)) * sig2 (kW P (blk (512 * j) X)) (128 * c + t) (1536 + 128 * hd + l) = _
  rw [kHh_eq h j hM hQ hC c hd t l hc hh ht hl, kSs_eq h j hM hQ hC c hd t l hc hh ht, sig2_eq, sHm, wd_128, wd_inv128, Ideal.div_coe (by norm_num), Nat.add_assoc 1536]
  show _ * sSig (kW P X (512 * j + (128 * c + t)) _) = _
  rw [rowj]

theorem kV_eq (j : ℕ) : kV P (blk (512 * j) X) = blk (512 * j) (sVg P X) := by
  funext i k
  show gelu2 (kU P (blk (512 * j) X)) (0 + i) (512 + k) = _
  rw [gelu2_eq, Nat.zero_add]; rfl
theorem kVN_eq (j i k : ℕ) : kVN P (blk (512 * j) X) i k = sVN P X (512 * j + i) k := by
  rw [kVN, kVar, kMu, kV_eq, sh00, sh00]; rfl
theorem kGm_eq (j c hd t l : ℕ) : kGm P (blk (512 * j) X) c hd t l = sGm P X hd (4 * j + c) t l := by
  show gelu2 (kU P (blk (512 * j) X)) (128 * c + t) (128 * hd + l) * ((∑ s : Fin 128, caus (sh2 0 0 (P.ws hd)) (k2 (wd 0x00000000#32)) t s * kVN P (blk (512 * j) X) (128 * c + s) (128 * hd + l)) + P.bs (0 + t) (hd + 0)) = _
  rw [gelu2_eq, sh00, wd_zero, Nat.zero_add, sGm]
  refine congrArg₂ (· * ·) (by rw [← rowj]; rfl) (congrArg₂ (· + ·) (Finset.sum_congr rfl fun s _ => ?_) rfl)
  rw [kVN_eq, rowj, mul_comm]; rfl

theorem kMix_eq (h : Fine P X) (j : ℕ) (hM : EntM P X M j) (hQ : EntQ P X Q j) (hC : EntC P X C j) (i k : ℕ) (hi : i < 512) :
    kMix P (blk (512 * j) X) Q M C i k = sMix P X (512 * j + i) k := by
  show (if k < 512 then _ else _) = _
  rw [sMix, show (512 * j + i) / 128 = 4 * j + i / 128 by omega, show (512 * j + i) % 128 = i % 128 by omega]
  split_ifs with hk
  · exact kHm_eq h j hM hQ hC _ _ _ _ (by omega) (by omega) (by omega) (by omega)
  · exact kGm_eq j _ _ _ _

/-- One step's output rows are the layer's. -/
theorem kOut_eq (h : Fine P X) (j : ℕ) (hM : EntM P X M j) (hQ : EntQ P X Q j) (hC : EntC P X C j) (i k : ℕ) (hi : i < 512) :
    kOut P (blk (512 * j) X) Q M C i k = sOut P X (512 * j + i) k := by
  have e : ∀ k, kY P (blk (512 * j) X) Q M C i k = mm 1024 (sMix P X) P.wo (512 * j + i) k := fun k => by
    rw [kY, mm, mm]; exact Finset.sum_congr rfl fun q _ => congrArg (· * _) (kMix_eq h j hM hQ hC i q hi)
  rw [kOut, sOut]
  simp only [add2, rms2, mul2, colb, rsqrt2, div2, c1, rsum, e]
  rfl

/-- What a step hands on. -/
theorem nextM (h : Fine P X) (j : ℕ) (hM : EntM P X M j) : EntM P X (kM P (blk (512 * j) X) M 4) (j + 1) :=
  fun hd hh l hl => kM_eq h j hM hd l hh hl 4 le_rfl
theorem nextC (h : Fine P X) (j : ℕ) (hM : EntM P X M j) (hQ : EntQ P X Q j) (hC : EntC P X C j) :
    EntC P X (fun hd => kC P (blk (512 * j) X) Q M C hd 4) (j + 1) :=
  fun hd hh k l hl => kC_eq h j hM hQ hC hd k l hh hl 4 le_rfl
theorem nextQ (j : ℕ) (W : Fn2) (hW : ∀ i < 8, ∀ k, W i k = kW P (blk (512 * j) X) (504 + i) k) : EntQ P X W (j + 1) := fun i hi k => by
  rw [hW i hi, if_neg (by omega)]
  exact congrArg (fun a => kW P X a k) (by omega)
theorem firstM : EntM P X (z3 0) 0 := fun _ _ _ _ => rfl
theorem firstC : EntC P X (fun _ => z4 0 0) 0 := fun _ _ _ _ _ => ⟨rfl, rfl⟩
theorem firstQ : EntQ P X (z3 0) 0 := fun i hi k => by rw [if_pos (by omega)]; rfl

end Cert.Sym
end
-- ==== Proof.Args.lean ====
/- The mixer's argument arrays as functions of numbers. -/
module

public import proofs.«01_k».proof.Proof.Blocks
public import Idealize.ShloMosaic.Lib.ValueIdx

@[expose] public section

noncomputable section

namespace Cert.Sym

open Idealize.ShloMosaic.ValueIdx Idealize.ShloMosaic

/-- An array read at numbers, zero outside its bounds. -/
def of1 {a : ℕ} (v : (⟨1, ![a]⟩ : Shape).Idx → EReal) : ℕ → EReal := fun i => if h : i < a then v (ix1 ⟨i, h⟩) else 0
def of2 {a b : ℕ} (v : (⟨2, ![a, b]⟩ : Shape).Idx → EReal) : Fn2 := fun i j => if h : i < a ∧ j < b then v (ix2 ⟨i, h.1⟩ ⟨j, h.2⟩) else 0
def arr3 {a b c : ℕ} (v : (⟨3, ![a, b, c]⟩ : Shape).Idx → EReal) : ℕ → Fn2 := fun i j k =>
  if h : i < a ∧ j < b ∧ k < c then v (ix3 ⟨i, h.1⟩ ⟨j, h.2.1⟩ ⟨k, h.2.2⟩) else 0

theorem of1_at {a : ℕ} (v : (⟨1, ![a]⟩ : Shape).Idx → EReal) (i : Fin a) : of1 v i = v (ix1 i) := dif_pos i.isLt
theorem of2_at {a b : ℕ} (v : (⟨2, ![a, b]⟩ : Shape).Idx → EReal) (i : Fin a) (j : Fin b) : of2 v i j = v (ix2 i j) := dif_pos ⟨i.isLt, j.isLt⟩
theorem arr3_at {a b c : ℕ} (v : (⟨3, ![a, b, c]⟩ : Shape).Idx → EReal) (i : Fin a) (j : Fin b) (k : Fin c) : arr3 v i j k = v (ix3 i j k) :=
  dif_pos ⟨i.isLt, j.isLt, k.isLt⟩

theorem fin_of1 {a : ℕ} (v : (⟨1, ![a]⟩ : Shape).Idx → EReal) (h : ∀ i, IsR (v i)) (i : ℕ) : IsR (of1 v i) := by
  unfold of1; split_ifs; exacts [h _, IsR.zero]
theorem fin_of2 {a b : ℕ} (v : (⟨2, ![a, b]⟩ : Shape).Idx → EReal) (h : ∀ i, IsR (v i)) (i j : ℕ) : IsR (of2 v i j) := by
  unfold of2; split_ifs; exacts [h _, IsR.zero]

theorem A2_of2 {a b : ℕ} (v : (⟨2, ![a, b]⟩ : Shape).Idx → EReal) : A2 ⟨2, ![a, b]⟩ (of2 v) = v := by
  funext i
  refine (of2_at v (i 0) (i 1)).trans (congrArg v ?_)
  exact (eq_ix2 i).symm
theorem A3_arr3 {a b c : ℕ} (v : (⟨3, ![a, b, c]⟩ : Shape).Idx → EReal) : A3 ⟨3, ![a, b, c]⟩ (arr3 v) = v := by
  funext i
  refine (arr3_at v (i 0) (i 1) (i 2)).trans (congrArg v ?_)
  exact (eq_ix3 i).symm

/-- Sequence `s` of the residual stream. -/
def seqs (h : (⟨2, ![16384, 1024]⟩ : Shape).Idx → EReal) (s : ℕ) : Fn2 := fun r k => of2 h (2048 * s + r) k

/-- The weights as the kernel reads them, with its constant tables: the triangle, the selection of the row groups, and the ones. -/
def parOf (g : (⟨2, ![8, 1024]⟩ : Shape).Idx → EReal) (wa : (⟨2, ![1024, 2048]⟩ : Shape).Idx → EReal) (wb : (⟨2, ![1024, 1024]⟩ : Shape).Idx → EReal)
    (wg : (⟨2, ![1024, 128]⟩ : Shape).Idx → EReal) (cw : (⟨2, ![4, 1024]⟩ : Shape).Idx → EReal) (cb : (⟨1, ![1024]⟩ : Shape).Idx → EReal)
    (b : (⟨1, ![8]⟩ : Shape).Idx → EReal) (mhg lng lnb : (⟨1, ![512]⟩ : Shape).Idx → EReal) (ws : (⟨3, ![4, 128, 128]⟩ : Shape).Idx → EReal)
    (bs : (⟨2, ![4, 128]⟩ : Shape).Idx → EReal) (wo : (⟨2, ![1024, 1024]⟩ : Shape).Idx → EReal) : Par where
  gains := of2 g
  wa := of2 wa
  wb := of2 wb
  wg := of2 wg
  bias := fun q _ => of1 b q
  cw := of2 cw
  cb := fun _ k => of1 cb k
  mhg := fun _ k => of1 mhg k
  lng := fun _ k => of1 lng k
  lnb := fun _ k => of1 lnb k
  bs := fun t hd => of2 bs hd t
  wo := of2 wo
  ut := fun k l => if k ≤ l then 1 else 0
  ones := fun _ _ => 1
  ws := arr3 ws
  sel := fun hd q l => if l < 128 then (if q = hd ∨ q = 8 + hd ∨ q = 16 + hd then 1 else 0)
    else if l < 256 then (if q = 24 + hd ∨ q = 32 + hd then 1 else 0) else (if q = 40 + hd ∨ q = 48 + hd then 1 else 0)

end Cert.Sym
end
-- ==== Proof.Finite.lean ====
/- The precondition read back: the arrays the gates and the memory are computed from hold real numbers. -/
module

public import proofs.«01_k».proof.Proof.Args
public import proofs.«01_k».proof.Proof.Gen.Pre_finite
public import Idealize.ShloMosaic.Lib.ReduceAll
public import Idealize.ShloMosaic.Lib.Pointwise

@[expose] public section

set_option maxRecDepth 16384

noncomputable section

namespace Cert.Sym

open Idealize.ShloMosaic Cert.Pre_finite Cert.Pre_finite.Gen

/-- A number whose absolute value is below the infinity word is real. -/
theorem isR_of_lt {x : EReal} (h : FloatOps.cmpf (F := Ideal) (φ := .f32) .olt (FloatOps.hostAbsf (F := Ideal) (φ := .f32) x) (FloatOps.ofBits (F := Ideal) .f32 0x7F800000#32) = 1#1) : IsR x := by
  have e : (FloatOps.ofBits (F := Ideal) .f32 0x7F800000#32 : EReal) = ⊤ := by
    show Ideal.ofBits .f32 0x7F800000#32 = ⊤
    simp [Ideal.ofBits, Ideal.ieee]
  rw [Ideal.cmpf_def, Ideal.cmp_olt, e] at h
  have h' : (FloatOps.hostAbsf (F := Ideal) (φ := .f32) x : EReal) < ⊤ := by
    by_contra hn
    rw [decide_eq_false hn] at h
    exact absurd h (by decide)
  induction x using EReal.rec with
  | bot => exact absurd h' (by show ¬ max (_ : EReal) (-_) < ⊤; simp)
  | top => exact absurd h' (by show ¬ max (_ : EReal) (-_) < ⊤; simp)
  | coe r => exact IsR.coe r

instance : Subsingleton S_.Idx := ⟨fun a b => funext fun k => k.elim0⟩

/-- Every element of an array whose finiteness test is one is real. -/
theorem all_fin {s : Shape} {axes : List (Fin s.rank)} (x : FVec Ideal s .f32) (hb : S_.BroadcastsInDim s (![] : Fin 0 → Fin s.rank)) (h : s.ReducesTo axes S_) (hu : 0 < S_.numel)
    (e : Host.reduce IntOp.andi (cmpf .olt (Host.absf x) (broadcastInDim s ![] hb (constant S_ .f32 0x7F800000#32))) (constantI S_ 1 1#1) h hu ValueIdx.ix0 = 1#1)
    (i : s.Idx) : IsR (x i) :=
  isR_of_lt (Host.reduce_andi_all _ _ h hu ValueIdx.ix0 e i)

variable (x0 : FVec Ideal S16384x1024 .f32) (x1 : FVec Ideal S8x1024 .f32) (x2 : FVec Ideal S1024x2048 .bf16) (x3 : FVec Ideal S1024x1024 .bf16)
  (x4 : FVec Ideal S1024x128 .bf16) (x5 : FVec Ideal S4x1024 .f32) (x6 : FVec Ideal S1024 .f32) (x7 : FVec Ideal S8 .f32) (x8 x9 x10 : FVec Ideal S512 .f32)
  (x11 : FVec Ideal S4x128x128 .f32) (x12 : FVec Ideal S4x128 .f32) (x13 : FVec Ideal S1024x1024 .f32)

/-- The precondition makes every sequence and the weights of the gates real. -/
theorem fine_of (h : Cert.Pre_finite.fn (F := Ideal) x0 x1 x2 x3 x4 x5 x6 x7 x8 x9 x10 x11 x12 x13 = fun _ => 1#1) (s : ℕ) :
    Fine (parOf x1 x2 x3 x4 x5 x6 x7 x8 x9 x10 x11 x12 x13) (seqs x0 s) := by
  have h := congrFun h ValueIdx.ix0
  simp only [Cert.Pre_finite.fn, fn_part1, fn_part2] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  have f0 := all_fin _ _ _ _ h0
  have f1 := all_fin _ _ _ _ h1
  have f2 := all_fin _ _ _ _ h2
  have f4 := all_fin _ _ _ _ h4
  have f5 := all_fin _ _ _ _ h5
  have f6 := all_fin _ _ _ _ h6
  have f7 := all_fin _ _ _ _ h7
  refine ⟨fun r k => fin_of2 x0 f0 _ _, fun k => ?_, fun k l hl => ?_, fun k l hl => ?_, fun i k => fin_of2 x5 f5 _ _, fun k => fin_of1 x6 f6 _,
    fun q => fin_of1 x7 f7 _, fun _ _ => rfl, fun _ _ => rfl, fun _ _ _ => rfl, fun _ _ => rfl⟩
  · show IsR (of2 x1 2 k)
    unfold of2
    split_ifs with hk
    · have h3 := f1 (ValueIdx.ix1 ⟨k, hk.2⟩)
      rw [shapeCast_apply _ _ _ (ValueIdx.ix2 (0 : Fin 1) (⟨k, hk.2⟩ : Fin 1024)) (by rw [Shape.rowMajor_val_one, Shape.rowMajor_val_two]; simp [ValueIdx.ix1, ValueIdx.ix2]),
        extractStridedSlice_apply _ _ _ _ (ValueIdx.ix2 (2 : Fin 8) (⟨k, hk.2⟩ : Fin 1024)) (fun d => match d with | ⟨0, _⟩ => rfl | ⟨1, _⟩ => (Nat.zero_add _).symm)] at h3
      exact h3
    · exact IsR.zero
  · show IsR (of2 x2 k l)
    unfold of2
    split_ifs with hk
    · have h3 := f2 (ValueIdx.ix2 ⟨k, hk.1⟩ ⟨l, hl⟩)
      rw [show ∀ (y : FVec Ideal S1024x1536 .bf16) (hw : FTy.bits .bf16 < FTy.bits .f32) j, (extf .f32 y hw) j = y j from fun _ _ _ => rfl,
        extractStridedSlice_apply _ _ _ _ (ValueIdx.ix2 (⟨k, hk.1⟩ : Fin 1024) (⟨l, hk.2⟩ : Fin 2048)) (fun d => match d with | ⟨0, _⟩ => (Nat.zero_add _).symm | ⟨1, _⟩ => (Nat.zero_add _).symm)] at h3
      exact h3
    · exact IsR.zero
  · show IsR (of2 x4 k l)
    unfold of2
    split_ifs with hk
    · have h3 := f4 (ValueIdx.ix2 ⟨k, hk.1⟩ ⟨l, hl⟩)
      rw [show ∀ (y : FVec Ideal S1024x8 .bf16) (hw : FTy.bits .bf16 < FTy.bits .f32) j, (extf .f32 y hw) j = y j from fun _ _ _ => rfl,
        extractStridedSlice_apply _ _ _ _ (ValueIdx.ix2 (⟨k, hk.1⟩ : Fin 1024) (⟨l, hk.2⟩ : Fin 128)) (fun d => match d with | ⟨0, _⟩ => (Nat.zero_add _).symm | ⟨1, _⟩ => (Nat.zero_add _).symm)] at h3
      exact h3
    · exact IsR.zero

end Cert.Sym
end
-- ==== Proof.HostRead.lean ====
/- The constant tables the host program builds for the mixer kernel, and its reshaped copies of the arguments, as the kernel finds them. -/
module

public import proofs.«01_k».proof.Proof.Args
public import proofs.«01_k».proof.Proof.Gen.MixerIdeal.Value
public import Idealize.ShloMosaic.Lib.Pointwise
public import Idealize.ShloMosaic.Lib.Pipeline.ValueKit
public import Idealize.ShloMosaic.Lib.Claim

@[expose] public section

set_option maxRecDepth 16384

noncomputable section

namespace Cert.MixerIdeal.Value

open Cert.MixerIdeal Cert.MixerIdeal.Gen Cert.Sym Idealize.ShloMosaic Idealize.ShloMosaic.TcCoe Idealize.SL.Sem

variable (m : (ℓ : Loc nD τ sig) → Buf (Elt Ideal) ℓ)

/-- The lanes from `lo` up to `hi`. -/
def rng (lo hi : BitVec 32) : IVec S4x128x384 1 :=
  andi (cmpi .sge (iotaInDim S4x128x384 32 2) (fun _ => lo)) (cmpi .slt (iotaInDim S4x128x384 32 2) (fun _ => hi))
/-- The rows that stand `d` under the head's number. -/
def dg (d : BitVec 32) : IVec S4x128x384 1 :=
  cmpi .eq (iotaInDim S4x128x384 32 1) (addi (fun _ => d) (iotaInDim S4x128x384 32 0))
/-- A table with ones where both hold, over another table. -/
def tab (lo hi d : BitVec 32) (x : S4x128x384.Idx → EReal) : S4x128x384.Idx → EReal :=
  select (andi (rng lo hi) (dg d)) (fun _ => wd 0x3F800000#32) x
/-- The table of zeros. -/
def tab0 : S4x128x384.Idx → EReal := fun _ => wd 0x00000000#32
/-- The triangle of ones of the running sums. -/
def tri : S128x256.Idx → EReal :=
  select (cmpi .sle (iotaInDim S128x256 32 0) (iotaInDim S128x256 32 1)) (fun _ => wd 0x3F800000#32) (fun _ => wd 0x00000000#32)

/-- The buffers after each stretch of the host program. -/
def st0 (c : Dev nD) : Valuation τ sig (Elt Ideal) := StableHlo.after hostOps0 (fun b => m (c, b))
def st1 (c : Dev nD) : Valuation τ sig (Elt Ideal) := StableHlo.after hostOps0_1 (st0 m c)
def st2 (c : Dev nD) : Valuation τ sig (Elt Ideal) := StableHlo.after hostOps0_2 (st1 m c)
def st3 (c : Dev nD) : Valuation τ sig (Elt Ideal) := StableHlo.after hostOps0_3 (st2 m c)
def st4 (c : Dev nD) : Valuation τ sig (Elt Ideal) := StableHlo.after hostOps0_4 (st3 m c)
def st5 (c : Dev nD) : Valuation τ sig (Elt Ideal) := StableHlo.after hostOps0_5 (st4 m c)
def st6 (c : Dev nD) : Valuation τ sig (Elt Ideal) := StableHlo.after hostOps0_6 (st5 m c)
def st7 (c : Dev nD) : Valuation τ sig (Elt Ideal) := StableHlo.after hostOps0_7 (st6 m c)
def st8 (c : Dev nD) : Valuation τ sig (Elt Ideal) := StableHlo.after hostOps0_8 (st7 m c)
def st9 (c : Dev nD) : Valuation τ sig (Elt Ideal) := StableHlo.after hostOps0_9 (st8 m c)
def st10 (c : Dev nD) : Valuation τ sig (Elt Ideal) := StableHlo.after hostOps0_10 (st9 m c)
def st11 (c : Dev nD) : Valuation τ sig (Elt Ideal) := StableHlo.after hostOps0_11 (st10 m c)
def st12 (c : Dev nD) : Valuation τ sig (Elt Ideal) := StableHlo.after hostOps0_12 (st11 m c)
def st13 (c : Dev nD) : Valuation τ sig (Elt Ideal) := StableHlo.after hostOps0_13 (st12 m c)
def st14 (c : Dev nD) : Valuation τ sig (Elt Ideal) := StableHlo.after hostOps0_14 (st13 m c)
def st15 (c : Dev nD) : Valuation τ sig (Elt Ideal) := StableHlo.after hostOps0_15 (st14 m c)
theorem h0_v1 (c : Dev nD) : st0 m c (Proc.devRef .tc main_v1) = broadcastInDim S8x128 ![0, 1] bcast_S8x1_S8x128_0_1 (shapeCast S8x1 (m ((c.tc : Thread nD τ).loc main_arg7)) shapeCasts_S8_S8x1) := by
  unfold st0; entry_read
  all_goals rfl
theorem h0_v4 (c : Dev nD) : st0 m c (Proc.devRef .tc main_v4) = cmpi .sle (iotaInDim S128x256 32 0) (iotaInDim S128x256 32 1) := by
  unfold st0; entry_read
  all_goals rfl
theorem h0_cst (c : Dev nD) : st0 m c (Proc.devRef .tc main_cst) = (fun _ => wd 0x3F800000#32 : S_.Idx → EReal) := by
  unfold st0; entry_read
  all_goals rfl
theorem h0_cst_0 (c : Dev nD) : st0 m c (Proc.devRef .tc main_cst_0) = (fun _ => wd 0x00000000#32 : S_.Idx → EReal) := by
  unfold st0; entry_read
  all_goals rfl
theorem h1_v1 (c : Dev nD) : st1 m c (Proc.devRef .tc main_v1) = broadcastInDim S8x128 ![0, 1] bcast_S8x1_S8x128_0_1 (shapeCast S8x1 (m ((c.tc : Thread nD τ).loc main_arg7)) shapeCasts_S8_S8x1) := by
  unfold st1; entry_read; exact h0_v1 m c
theorem h1_v5 (c : Dev nD) : st1 m c (Proc.devRef .tc main_v5) = tri := by
  unfold st1; entry_read; try simp only [h0_v1 m c, h0_v4 m c, h0_cst m c, h0_cst_0 m c]
  all_goals rfl
theorem h2_v1 (c : Dev nD) : st2 m c (Proc.devRef .tc main_v1) = broadcastInDim S8x128 ![0, 1] bcast_S8x1_S8x128_0_1 (shapeCast S8x1 (m ((c.tc : Thread nD τ).loc main_arg7)) shapeCasts_S8_S8x1) := by
  unfold st2; entry_read; exact h1_v1 m c
theorem h2_v5 (c : Dev nD) : st2 m c (Proc.devRef .tc main_v5) = tri := by
  unfold st2; entry_read; exact h1_v5 m c
theorem h2_v6 (c : Dev nD) : st2 m c (Proc.devRef .tc main_v6) = iotaInDim S4x128x384 32 0 := by
  unfold st2; entry_read; try simp only [h1_v1 m c, h1_v5 m c]
  all_goals rfl
theorem h2_v7 (c : Dev nD) : st2 m c (Proc.devRef .tc main_v7) = iotaInDim S4x128x384 32 1 := by
  unfold st2; entry_read; try simp only [h1_v1 m c, h1_v5 m c]
  all_goals rfl
theorem h2_v8 (c : Dev nD) : st2 m c (Proc.devRef .tc main_v8) = iotaInDim S4x128x384 32 2 := by
  unfold st2; entry_read; try simp only [h1_v1 m c, h1_v5 m c]
  all_goals rfl
theorem h2_v9 (c : Dev nD) : st2 m c (Proc.devRef .tc main_v9) = tab0 := by
  unfold st2; entry_read; try simp only [h1_v1 m c, h1_v5 m c]
  all_goals rfl
theorem h2_v14 (c : Dev nD) : st2 m c (Proc.devRef .tc main_v14) = rng 0#32 128#32 := by
  unfold st2; entry_read; try simp only [h1_v1 m c, h1_v5 m c]
  all_goals rfl
theorem h2_v18 (c : Dev nD) : st2 m c (Proc.devRef .tc main_v18) = andi (rng 0#32 128#32) (dg 0#32) := by
  unfold st2; entry_read; try simp only [h1_v1 m c, h1_v5 m c]
  all_goals rfl
theorem h2_cst_4 (c : Dev nD) : st2 m c (Proc.devRef .tc main_cst_4) = (fun _ => wd 0x3F800000#32 : S_.Idx → EReal) := by
  unfold st2; entry_read; try simp only [h1_v1 m c, h1_v5 m c]
  all_goals rfl
theorem h3_v1 (c : Dev nD) : st3 m c (Proc.devRef .tc main_v1) = broadcastInDim S8x128 ![0, 1] bcast_S8x1_S8x128_0_1 (shapeCast S8x1 (m ((c.tc : Thread nD τ).loc main_arg7)) shapeCasts_S8_S8x1) := by
  unfold st3; entry_read; exact h2_v1 m c
theorem h3_v5 (c : Dev nD) : st3 m c (Proc.devRef .tc main_v5) = tri := by
  unfold st3; entry_read; exact h2_v5 m c
theorem h3_v6 (c : Dev nD) : st3 m c (Proc.devRef .tc main_v6) = iotaInDim S4x128x384 32 0 := by
  unfold st3; entry_read; exact h2_v6 m c
theorem h3_v7 (c : Dev nD) : st3 m c (Proc.devRef .tc main_v7) = iotaInDim S4x128x384 32 1 := by
  unfold st3; entry_read; exact h2_v7 m c
theorem h3_v8 (c : Dev nD) : st3 m c (Proc.devRef .tc main_v8) = iotaInDim S4x128x384 32 2 := by
  unfold st3; entry_read; exact h2_v8 m c
theorem h3_v14 (c : Dev nD) : st3 m c (Proc.devRef .tc main_v14) = rng 0#32 128#32 := by
  unfold st3; entry_read; exact h2_v14 m c
theorem h3_v19 (c : Dev nD) : st3 m c (Proc.devRef .tc main_v19) = tab 0#32 128#32 0#32 (tab0) := by
  unfold st3; entry_read; try simp only [h2_v1 m c, h2_v5 m c, h2_v6 m c, h2_v7 m c, h2_v8 m c, h2_v9 m c, h2_v14 m c, h2_v18 m c, h2_cst_4 m c]
  all_goals rfl
theorem h4_v1 (c : Dev nD) : st4 m c (Proc.devRef .tc main_v1) = broadcastInDim S8x128 ![0, 1] bcast_S8x1_S8x128_0_1 (shapeCast S8x1 (m ((c.tc : Thread nD τ).loc main_arg7)) shapeCasts_S8_S8x1) := by
  unfold st4; entry_read; exact h3_v1 m c
theorem h4_v5 (c : Dev nD) : st4 m c (Proc.devRef .tc main_v5) = tri := by
  unfold st4; entry_read; exact h3_v5 m c
theorem h4_v6 (c : Dev nD) : st4 m c (Proc.devRef .tc main_v6) = iotaInDim S4x128x384 32 0 := by
  unfold st4; entry_read; exact h3_v6 m c
theorem h4_v7 (c : Dev nD) : st4 m c (Proc.devRef .tc main_v7) = iotaInDim S4x128x384 32 1 := by
  unfold st4; entry_read; exact h3_v7 m c
theorem h4_v8 (c : Dev nD) : st4 m c (Proc.devRef .tc main_v8) = iotaInDim S4x128x384 32 2 := by
  unfold st4; entry_read; exact h3_v8 m c
theorem h4_v14 (c : Dev nD) : st4 m c (Proc.devRef .tc main_v14) = rng 0#32 128#32 := by
  unfold st4; entry_read; exact h3_v14 m c
theorem h4_v19 (c : Dev nD) : st4 m c (Proc.devRef .tc main_v19) = tab 0#32 128#32 0#32 (tab0) := by
  unfold st4; entry_read; exact h3_v19 m c
theorem h4_v23 (c : Dev nD) : st4 m c (Proc.devRef .tc main_v23) = andi (rng 0#32 128#32) (dg 8#32) := by
  unfold st4; entry_read; try simp only [h3_v1 m c, h3_v5 m c, h3_v6 m c, h3_v7 m c, h3_v8 m c, h3_v14 m c, h3_v19 m c]
  all_goals rfl
theorem h4_cst_6 (c : Dev nD) : st4 m c (Proc.devRef .tc main_cst_6) = (fun _ => wd 0x3F800000#32 : S_.Idx → EReal) := by
  unfold st4; entry_read; try simp only [h3_v1 m c, h3_v5 m c, h3_v6 m c, h3_v7 m c, h3_v8 m c, h3_v14 m c, h3_v19 m c]
  all_goals rfl
theorem h5_v1 (c : Dev nD) : st5 m c (Proc.devRef .tc main_v1) = broadcastInDim S8x128 ![0, 1] bcast_S8x1_S8x128_0_1 (shapeCast S8x1 (m ((c.tc : Thread nD τ).loc main_arg7)) shapeCasts_S8_S8x1) := by
  unfold st5; entry_read; exact h4_v1 m c
theorem h5_v5 (c : Dev nD) : st5 m c (Proc.devRef .tc main_v5) = tri := by
  unfold st5; entry_read; exact h4_v5 m c
theorem h5_v6 (c : Dev nD) : st5 m c (Proc.devRef .tc main_v6) = iotaInDim S4x128x384 32 0 := by
  unfold st5; entry_read; exact h4_v6 m c
theorem h5_v7 (c : Dev nD) : st5 m c (Proc.devRef .tc main_v7) = iotaInDim S4x128x384 32 1 := by
  unfold st5; entry_read; exact h4_v7 m c
theorem h5_v8 (c : Dev nD) : st5 m c (Proc.devRef .tc main_v8) = iotaInDim S4x128x384 32 2 := by
  unfold st5; entry_read; exact h4_v8 m c
theorem h5_v14 (c : Dev nD) : st5 m c (Proc.devRef .tc main_v14) = rng 0#32 128#32 := by
  unfold st5; entry_read; exact h4_v14 m c
theorem h5_v24 (c : Dev nD) : st5 m c (Proc.devRef .tc main_v24) = tab 0#32 128#32 8#32 (tab 0#32 128#32 0#32 (tab0)) := by
  unfold st5; entry_read; try simp only [h4_v1 m c, h4_v5 m c, h4_v6 m c, h4_v7 m c, h4_v8 m c, h4_v14 m c, h4_v19 m c, h4_v23 m c, h4_cst_6 m c]
  all_goals rfl
theorem h6_v1 (c : Dev nD) : st6 m c (Proc.devRef .tc main_v1) = broadcastInDim S8x128 ![0, 1] bcast_S8x1_S8x128_0_1 (shapeCast S8x1 (m ((c.tc : Thread nD τ).loc main_arg7)) shapeCasts_S8_S8x1) := by
  unfold st6; entry_read; exact h5_v1 m c
theorem h6_v5 (c : Dev nD) : st6 m c (Proc.devRef .tc main_v5) = tri := by
  unfold st6; entry_read; exact h5_v5 m c
theorem h6_v6 (c : Dev nD) : st6 m c (Proc.devRef .tc main_v6) = iotaInDim S4x128x384 32 0 := by
  unfold st6; entry_read; exact h5_v6 m c
theorem h6_v7 (c : Dev nD) : st6 m c (Proc.devRef .tc main_v7) = iotaInDim S4x128x384 32 1 := by
  unfold st6; entry_read; exact h5_v7 m c
theorem h6_v8 (c : Dev nD) : st6 m c (Proc.devRef .tc main_v8) = iotaInDim S4x128x384 32 2 := by
  unfold st6; entry_read; exact h5_v8 m c
theorem h6_v14 (c : Dev nD) : st6 m c (Proc.devRef .tc main_v14) = rng 0#32 128#32 := by
  unfold st6; entry_read; exact h5_v14 m c
theorem h6_v24 (c : Dev nD) : st6 m c (Proc.devRef .tc main_v24) = tab 0#32 128#32 8#32 (tab 0#32 128#32 0#32 (tab0)) := by
  unfold st6; entry_read; exact h5_v24 m c
theorem h6_v28 (c : Dev nD) : st6 m c (Proc.devRef .tc main_v28) = andi (rng 0#32 128#32) (dg 16#32) := by
  unfold st6; entry_read; try simp only [h5_v1 m c, h5_v5 m c, h5_v6 m c, h5_v7 m c, h5_v8 m c, h5_v14 m c, h5_v24 m c]
  all_goals rfl
theorem h6_cst_8 (c : Dev nD) : st6 m c (Proc.devRef .tc main_cst_8) = (fun _ => wd 0x3F800000#32 : S_.Idx → EReal) := by
  unfold st6; entry_read; try simp only [h5_v1 m c, h5_v5 m c, h5_v6 m c, h5_v7 m c, h5_v8 m c, h5_v14 m c, h5_v24 m c]
  all_goals rfl
theorem h7_v1 (c : Dev nD) : st7 m c (Proc.devRef .tc main_v1) = broadcastInDim S8x128 ![0, 1] bcast_S8x1_S8x128_0_1 (shapeCast S8x1 (m ((c.tc : Thread nD τ).loc main_arg7)) shapeCasts_S8_S8x1) := by
  unfold st7; entry_read; exact h6_v1 m c
theorem h7_v5 (c : Dev nD) : st7 m c (Proc.devRef .tc main_v5) = tri := by
  unfold st7; entry_read; exact h6_v5 m c
theorem h7_v6 (c : Dev nD) : st7 m c (Proc.devRef .tc main_v6) = iotaInDim S4x128x384 32 0 := by
  unfold st7; entry_read; exact h6_v6 m c
theorem h7_v7 (c : Dev nD) : st7 m c (Proc.devRef .tc main_v7) = iotaInDim S4x128x384 32 1 := by
  unfold st7; entry_read; exact h6_v7 m c
theorem h7_v8 (c : Dev nD) : st7 m c (Proc.devRef .tc main_v8) = iotaInDim S4x128x384 32 2 := by
  unfold st7; entry_read; exact h6_v8 m c
theorem h7_v29 (c : Dev nD) : st7 m c (Proc.devRef .tc main_v29) = tab 0#32 128#32 16#32 (tab 0#32 128#32 8#32 (tab 0#32 128#32 0#32 (tab0))) := by
  unfold st7; entry_read; try simp only [h6_v1 m c, h6_v5 m c, h6_v6 m c, h6_v7 m c, h6_v8 m c, h6_v14 m c, h6_v24 m c, h6_v28 m c, h6_cst_8 m c]
  all_goals rfl
theorem h8_v1 (c : Dev nD) : st8 m c (Proc.devRef .tc main_v1) = broadcastInDim S8x128 ![0, 1] bcast_S8x1_S8x128_0_1 (shapeCast S8x1 (m ((c.tc : Thread nD τ).loc main_arg7)) shapeCasts_S8_S8x1) := by
  unfold st8; entry_read; exact h7_v1 m c
theorem h8_v5 (c : Dev nD) : st8 m c (Proc.devRef .tc main_v5) = tri := by
  unfold st8; entry_read; exact h7_v5 m c
theorem h8_v6 (c : Dev nD) : st8 m c (Proc.devRef .tc main_v6) = iotaInDim S4x128x384 32 0 := by
  unfold st8; entry_read; exact h7_v6 m c
theorem h8_v7 (c : Dev nD) : st8 m c (Proc.devRef .tc main_v7) = iotaInDim S4x128x384 32 1 := by
  unfold st8; entry_read; exact h7_v7 m c
theorem h8_v8 (c : Dev nD) : st8 m c (Proc.devRef .tc main_v8) = iotaInDim S4x128x384 32 2 := by
  unfold st8; entry_read; exact h7_v8 m c
theorem h8_v29 (c : Dev nD) : st8 m c (Proc.devRef .tc main_v29) = tab 0#32 128#32 16#32 (tab 0#32 128#32 8#32 (tab 0#32 128#32 0#32 (tab0))) := by
  unfold st8; entry_read; exact h7_v29 m c
theorem h8_v34 (c : Dev nD) : st8 m c (Proc.devRef .tc main_v34) = rng 128#32 256#32 := by
  unfold st8; entry_read; try simp only [h7_v1 m c, h7_v5 m c, h7_v6 m c, h7_v7 m c, h7_v8 m c, h7_v29 m c]
  all_goals rfl
theorem h8_v38 (c : Dev nD) : st8 m c (Proc.devRef .tc main_v38) = andi (rng 128#32 256#32) (dg 24#32) := by
  unfold st8; entry_read; try simp only [h7_v1 m c, h7_v5 m c, h7_v6 m c, h7_v7 m c, h7_v8 m c, h7_v29 m c]
  all_goals rfl
theorem h8_cst_12 (c : Dev nD) : st8 m c (Proc.devRef .tc main_cst_12) = (fun _ => wd 0x3F800000#32 : S_.Idx → EReal) := by
  unfold st8; entry_read; try simp only [h7_v1 m c, h7_v5 m c, h7_v6 m c, h7_v7 m c, h7_v8 m c, h7_v29 m c]
  all_goals rfl
theorem h9_v1 (c : Dev nD) : st9 m c (Proc.devRef .tc main_v1) = broadcastInDim S8x128 ![0, 1] bcast_S8x1_S8x128_0_1 (shapeCast S8x1 (m ((c.tc : Thread nD τ).loc main_arg7)) shapeCasts_S8_S8x1) := by
  unfold st9; entry_read; exact h8_v1 m c
theorem h9_v5 (c : Dev nD) : st9 m c (Proc.devRef .tc main_v5) = tri := by
  unfold st9; entry_read; exact h8_v5 m c
theorem h9_v6 (c : Dev nD) : st9 m c (Proc.devRef .tc main_v6) = iotaInDim S4x128x384 32 0 := by
  unfold st9; entry_read; exact h8_v6 m c
theorem h9_v7 (c : Dev nD) : st9 m c (Proc.devRef .tc main_v7) = iotaInDim S4x128x384 32 1 := by
  unfold st9; entry_read; exact h8_v7 m c
theorem h9_v8 (c : Dev nD) : st9 m c (Proc.devRef .tc main_v8) = iotaInDim S4x128x384 32 2 := by
  unfold st9; entry_read; exact h8_v8 m c
theorem h9_v34 (c : Dev nD) : st9 m c (Proc.devRef .tc main_v34) = rng 128#32 256#32 := by
  unfold st9; entry_read; exact h8_v34 m c
theorem h9_v39 (c : Dev nD) : st9 m c (Proc.devRef .tc main_v39) = tab 128#32 256#32 24#32 (tab 0#32 128#32 16#32 (tab 0#32 128#32 8#32 (tab 0#32 128#32 0#32 (tab0)))) := by
  unfold st9; entry_read; try simp only [h8_v1 m c, h8_v5 m c, h8_v6 m c, h8_v7 m c, h8_v8 m c, h8_v29 m c, h8_v34 m c, h8_v38 m c, h8_cst_12 m c]
  all_goals rfl
theorem h10_v1 (c : Dev nD) : st10 m c (Proc.devRef .tc main_v1) = broadcastInDim S8x128 ![0, 1] bcast_S8x1_S8x128_0_1 (shapeCast S8x1 (m ((c.tc : Thread nD τ).loc main_arg7)) shapeCasts_S8_S8x1) := by
  unfold st10; entry_read; exact h9_v1 m c
theorem h10_v5 (c : Dev nD) : st10 m c (Proc.devRef .tc main_v5) = tri := by
  unfold st10; entry_read; exact h9_v5 m c
theorem h10_v6 (c : Dev nD) : st10 m c (Proc.devRef .tc main_v6) = iotaInDim S4x128x384 32 0 := by
  unfold st10; entry_read; exact h9_v6 m c
theorem h10_v7 (c : Dev nD) : st10 m c (Proc.devRef .tc main_v7) = iotaInDim S4x128x384 32 1 := by
  unfold st10; entry_read; exact h9_v7 m c
theorem h10_v8 (c : Dev nD) : st10 m c (Proc.devRef .tc main_v8) = iotaInDim S4x128x384 32 2 := by
  unfold st10; entry_read; exact h9_v8 m c
theorem h10_v34 (c : Dev nD) : st10 m c (Proc.devRef .tc main_v34) = rng 128#32 256#32 := by
  unfold st10; entry_read; exact h9_v34 m c
theorem h10_v39 (c : Dev nD) : st10 m c (Proc.devRef .tc main_v39) = tab 128#32 256#32 24#32 (tab 0#32 128#32 16#32 (tab 0#32 128#32 8#32 (tab 0#32 128#32 0#32 (tab0)))) := by
  unfold st10; entry_read; exact h9_v39 m c
theorem h10_v43 (c : Dev nD) : st10 m c (Proc.devRef .tc main_v43) = andi (rng 128#32 256#32) (dg 32#32) := by
  unfold st10; entry_read; try simp only [h9_v1 m c, h9_v5 m c, h9_v6 m c, h9_v7 m c, h9_v8 m c, h9_v34 m c, h9_v39 m c]
  all_goals rfl
theorem h10_cst_14 (c : Dev nD) : st10 m c (Proc.devRef .tc main_cst_14) = (fun _ => wd 0x3F800000#32 : S_.Idx → EReal) := by
  unfold st10; entry_read; try simp only [h9_v1 m c, h9_v5 m c, h9_v6 m c, h9_v7 m c, h9_v8 m c, h9_v34 m c, h9_v39 m c]
  all_goals rfl
theorem h11_v1 (c : Dev nD) : st11 m c (Proc.devRef .tc main_v1) = broadcastInDim S8x128 ![0, 1] bcast_S8x1_S8x128_0_1 (shapeCast S8x1 (m ((c.tc : Thread nD τ).loc main_arg7)) shapeCasts_S8_S8x1) := by
  unfold st11; entry_read; exact h10_v1 m c
theorem h11_v5 (c : Dev nD) : st11 m c (Proc.devRef .tc main_v5) = tri := by
  unfold st11; entry_read; exact h10_v5 m c
theorem h11_v6 (c : Dev nD) : st11 m c (Proc.devRef .tc main_v6) = iotaInDim S4x128x384 32 0 := by
  unfold st11; entry_read; exact h10_v6 m c
theorem h11_v7 (c : Dev nD) : st11 m c (Proc.devRef .tc main_v7) = iotaInDim S4x128x384 32 1 := by
  unfold st11; entry_read; exact h10_v7 m c
theorem h11_v8 (c : Dev nD) : st11 m c (Proc.devRef .tc main_v8) = iotaInDim S4x128x384 32 2 := by
  unfold st11; entry_read; exact h10_v8 m c
theorem h11_v44 (c : Dev nD) : st11 m c (Proc.devRef .tc main_v44) = tab 128#32 256#32 32#32 (tab 128#32 256#32 24#32 (tab 0#32 128#32 16#32 (tab 0#32 128#32 8#32 (tab 0#32 128#32 0#32 (tab0))))) := by
  unfold st11; entry_read; try simp only [h10_v1 m c, h10_v5 m c, h10_v6 m c, h10_v7 m c, h10_v8 m c, h10_v34 m c, h10_v39 m c, h10_v43 m c, h10_cst_14 m c]
  all_goals rfl
theorem h12_v1 (c : Dev nD) : st12 m c (Proc.devRef .tc main_v1) = broadcastInDim S8x128 ![0, 1] bcast_S8x1_S8x128_0_1 (shapeCast S8x1 (m ((c.tc : Thread nD τ).loc main_arg7)) shapeCasts_S8_S8x1) := by
  unfold st12; entry_read; exact h11_v1 m c
theorem h12_v5 (c : Dev nD) : st12 m c (Proc.devRef .tc main_v5) = tri := by
  unfold st12; entry_read; exact h11_v5 m c
theorem h12_v6 (c : Dev nD) : st12 m c (Proc.devRef .tc main_v6) = iotaInDim S4x128x384 32 0 := by
  unfold st12; entry_read; exact h11_v6 m c
theorem h12_v7 (c : Dev nD) : st12 m c (Proc.devRef .tc main_v7) = iotaInDim S4x128x384 32 1 := by
  unfold st12; entry_read; exact h11_v7 m c
theorem h12_v8 (c : Dev nD) : st12 m c (Proc.devRef .tc main_v8) = iotaInDim S4x128x384 32 2 := by
  unfold st12; entry_read; exact h11_v8 m c
theorem h12_v44 (c : Dev nD) : st12 m c (Proc.devRef .tc main_v44) = tab 128#32 256#32 32#32 (tab 128#32 256#32 24#32 (tab 0#32 128#32 16#32 (tab 0#32 128#32 8#32 (tab 0#32 128#32 0#32 (tab0))))) := by
  unfold st12; entry_read; exact h11_v44 m c
theorem h12_v49 (c : Dev nD) : st12 m c (Proc.devRef .tc main_v49) = rng 256#32 384#32 := by
  unfold st12; entry_read; try simp only [h11_v1 m c, h11_v5 m c, h11_v6 m c, h11_v7 m c, h11_v8 m c, h11_v44 m c]
  all_goals rfl
theorem h12_v53 (c : Dev nD) : st12 m c (Proc.devRef .tc main_v53) = andi (rng 256#32 384#32) (dg 40#32) := by
  unfold st12; entry_read; try simp only [h11_v1 m c, h11_v5 m c, h11_v6 m c, h11_v7 m c, h11_v8 m c, h11_v44 m c]
  all_goals rfl
theorem h12_cst_18 (c : Dev nD) : st12 m c (Proc.devRef .tc main_cst_18) = (fun _ => wd 0x3F800000#32 : S_.Idx → EReal) := by
  unfold st12; entry_read; try simp only [h11_v1 m c, h11_v5 m c, h11_v6 m c, h11_v7 m c, h11_v8 m c, h11_v44 m c]
  all_goals rfl
theorem h13_v1 (c : Dev nD) : st13 m c (Proc.devRef .tc main_v1) = broadcastInDim S8x128 ![0, 1] bcast_S8x1_S8x128_0_1 (shapeCast S8x1 (m ((c.tc : Thread nD τ).loc main_arg7)) shapeCasts_S8_S8x1) := by
  unfold st13; entry_read; exact h12_v1 m c
theorem h13_v5 (c : Dev nD) : st13 m c (Proc.devRef .tc main_v5) = tri := by
  unfold st13; entry_read; exact h12_v5 m c
theorem h13_v6 (c : Dev nD) : st13 m c (Proc.devRef .tc main_v6) = iotaInDim S4x128x384 32 0 := by
  unfold st13; entry_read; exact h12_v6 m c
theorem h13_v7 (c : Dev nD) : st13 m c (Proc.devRef .tc main_v7) = iotaInDim S4x128x384 32 1 := by
  unfold st13; entry_read; exact h12_v7 m c
theorem h13_v8 (c : Dev nD) : st13 m c (Proc.devRef .tc main_v8) = iotaInDim S4x128x384 32 2 := by
  unfold st13; entry_read; exact h12_v8 m c
theorem h13_v49 (c : Dev nD) : st13 m c (Proc.devRef .tc main_v49) = rng 256#32 384#32 := by
  unfold st13; entry_read; exact h12_v49 m c
theorem h13_v54 (c : Dev nD) : st13 m c (Proc.devRef .tc main_v54) = tab 256#32 384#32 40#32 (tab 128#32 256#32 32#32 (tab 128#32 256#32 24#32 (tab 0#32 128#32 16#32 (tab 0#32 128#32 8#32 (tab 0#32 128#32 0#32 (tab0)))))) := by
  unfold st13; entry_read; try simp only [h12_v1 m c, h12_v5 m c, h12_v6 m c, h12_v7 m c, h12_v8 m c, h12_v44 m c, h12_v49 m c, h12_v53 m c, h12_cst_18 m c]
  all_goals rfl
theorem h14_v1 (c : Dev nD) : st14 m c (Proc.devRef .tc main_v1) = broadcastInDim S8x128 ![0, 1] bcast_S8x1_S8x128_0_1 (shapeCast S8x1 (m ((c.tc : Thread nD τ).loc main_arg7)) shapeCasts_S8_S8x1) := by
  unfold st14; entry_read; exact h13_v1 m c
theorem h14_v5 (c : Dev nD) : st14 m c (Proc.devRef .tc main_v5) = tri := by
  unfold st14; entry_read; exact h13_v5 m c
theorem h14_v6 (c : Dev nD) : st14 m c (Proc.devRef .tc main_v6) = iotaInDim S4x128x384 32 0 := by
  unfold st14; entry_read; exact h13_v6 m c
theorem h14_v7 (c : Dev nD) : st14 m c (Proc.devRef .tc main_v7) = iotaInDim S4x128x384 32 1 := by
  unfold st14; entry_read; exact h13_v7 m c
theorem h14_v8 (c : Dev nD) : st14 m c (Proc.devRef .tc main_v8) = iotaInDim S4x128x384 32 2 := by
  unfold st14; entry_read; exact h13_v8 m c
theorem h14_v49 (c : Dev nD) : st14 m c (Proc.devRef .tc main_v49) = rng 256#32 384#32 := by
  unfold st14; entry_read; exact h13_v49 m c
theorem h14_v54 (c : Dev nD) : st14 m c (Proc.devRef .tc main_v54) = tab 256#32 384#32 40#32 (tab 128#32 256#32 32#32 (tab 128#32 256#32 24#32 (tab 0#32 128#32 16#32 (tab 0#32 128#32 8#32 (tab 0#32 128#32 0#32 (tab0)))))) := by
  unfold st14; entry_read; exact h13_v54 m c
theorem h14_v58 (c : Dev nD) : st14 m c (Proc.devRef .tc main_v58) = andi (rng 256#32 384#32) (dg 48#32) := by
  unfold st14; entry_read; try simp only [h13_v1 m c, h13_v5 m c, h13_v6 m c, h13_v7 m c, h13_v8 m c, h13_v49 m c, h13_v54 m c]
  all_goals rfl
theorem h14_cst_20 (c : Dev nD) : st14 m c (Proc.devRef .tc main_cst_20) = (fun _ => wd 0x3F800000#32 : S_.Idx → EReal) := by
  unfold st14; entry_read; try simp only [h13_v1 m c, h13_v5 m c, h13_v6 m c, h13_v7 m c, h13_v8 m c, h13_v49 m c, h13_v54 m c]
  all_goals rfl
theorem h15_v1 (c : Dev nD) : st15 m c (Proc.devRef .tc main_v1) = broadcastInDim S8x128 ![0, 1] bcast_S8x1_S8x128_0_1 (shapeCast S8x1 (m ((c.tc : Thread nD τ).loc main_arg7)) shapeCasts_S8_S8x1) := by
  unfold st15; entry_read; exact h14_v1 m c
theorem h15_v5 (c : Dev nD) : st15 m c (Proc.devRef .tc main_v5) = tri := by
  unfold st15; entry_read; exact h14_v5 m c
theorem h15_v6 (c : Dev nD) : st15 m c (Proc.devRef .tc main_v6) = iotaInDim S4x128x384 32 0 := by
  unfold st15; entry_read; exact h14_v6 m c
theorem h15_v7 (c : Dev nD) : st15 m c (Proc.devRef .tc main_v7) = iotaInDim S4x128x384 32 1 := by
  unfold st15; entry_read; exact h14_v7 m c
theorem h15_v8 (c : Dev nD) : st15 m c (Proc.devRef .tc main_v8) = iotaInDim S4x128x384 32 2 := by
  unfold st15; entry_read; exact h14_v8 m c
theorem h15_v49 (c : Dev nD) : st15 m c (Proc.devRef .tc main_v49) = rng 256#32 384#32 := by
  unfold st15; entry_read; exact h14_v49 m c
theorem h15_v59 (c : Dev nD) : st15 m c (Proc.devRef .tc main_v59) = tab 256#32 384#32 48#32 (tab 256#32 384#32 40#32 (tab 128#32 256#32 32#32 (tab 128#32 256#32 24#32 (tab 0#32 128#32 16#32 (tab 0#32 128#32 8#32 (tab 0#32 128#32 0#32 (tab0))))))) := by
  unfold st15; entry_read; try simp only [h14_v1 m c, h14_v5 m c, h14_v6 m c, h14_v7 m c, h14_v8 m c, h14_v49 m c, h14_v54 m c, h14_v58 m c, h14_cst_20 m c]
  all_goals rfl
/-- What the kernel finds is what the last stretch leaves. -/
theorem V_eq (c : Dev nD) (b : Ref sig .tc) : V m c b = StableHlo.after (hostOps0_16 (F := Ideal)) (st15 m c) (Proc.devRef .tc b) := rfl

theorem k_arg0 (c : Dev nD) : st15 m c (Proc.devRef .tc main_arg0) = m ((c : Thread nD τ).loc main_arg0) := by
  refine Eq.trans ?_ (V_main_arg0 m c); rw [V_eq]; symm; entry_read; rfl
theorem k_arg6 (c : Dev nD) : st15 m c (Proc.devRef .tc main_arg6) = m ((c : Thread nD τ).loc main_arg6) := by
  refine Eq.trans ?_ (V_main_arg6 m c); rw [V_eq]; symm; entry_read; rfl
theorem k_arg8 (c : Dev nD) : st15 m c (Proc.devRef .tc main_arg8) = m ((c : Thread nD τ).loc main_arg8) := by
  refine Eq.trans ?_ (V_main_arg8 m c); rw [V_eq]; symm; entry_read; rfl
theorem k_arg9 (c : Dev nD) : st15 m c (Proc.devRef .tc main_arg9) = m ((c : Thread nD τ).loc main_arg9) := by
  refine Eq.trans ?_ (V_main_arg9 m c); rw [V_eq]; symm; entry_read; rfl
theorem k_arg10 (c : Dev nD) : st15 m c (Proc.devRef .tc main_arg10) = m ((c : Thread nD τ).loc main_arg10) := by
  refine Eq.trans ?_ (V_main_arg10 m c); rw [V_eq]; symm; entry_read; rfl
theorem k_arg12 (c : Dev nD) : st15 m c (Proc.devRef .tc main_arg12) = m ((c : Thread nD τ).loc main_arg12) := by
  refine Eq.trans ?_ (V_main_arg12 m c); rw [V_eq]; symm; entry_read; rfl
theorem V_v1 (c : Dev nD) : V m c main_v1 = broadcastInDim S8x128 ![0, 1] bcast_S8x1_S8x128_0_1 (shapeCast S8x1 (m ((c.tc : Thread nD τ).loc main_arg7)) shapeCasts_S8_S8x1) := by
  rw [V_eq]; entry_read; simp only [h15_v1 m c]
  all_goals rfl
theorem V_v61 (c : Dev nD) : V m c main_v61 = tri := by
  rw [V_eq]; entry_read; simp only [h15_v5 m c]
  all_goals rfl
theorem V_v62 (c : Dev nD) : V m c main_v62 = tab 256#32 384#32 48#32 (tab 256#32 384#32 40#32 (tab 128#32 256#32 32#32 (tab 128#32 256#32 24#32 (tab 0#32 128#32 16#32 (tab 0#32 128#32 8#32 (tab 0#32 128#32 0#32 (tab0))))))) := by
  rw [V_eq]; entry_read; simp only [h15_v59 m c]
  all_goals rfl
theorem V_v63 (c : Dev nD) : V m c main_v63 = (fun _ => wd 0x3F800000#32 : S256x128.Idx → EReal) := by
  rw [V_eq]; entry_read
  all_goals rfl
theorem V_v64 (c : Dev nD) : V m c main_v64 = shapeCast S4x2x2048x1024 (m ((c.tc : Thread nD τ).loc main_arg0)) shapeCasts_S16384x1024_S4x2x2048x1024 := by
  rw [V_eq]; entry_read; simp only [k_arg0 m c]
  all_goals rfl
theorem V_v65 (c : Dev nD) : V m c main_v65 = shapeCast S1x1024 (m ((c.tc : Thread nD τ).loc main_arg6)) shapeCasts_S1024_S1x1024 := by
  rw [V_eq]; entry_read; simp only [k_arg6 m c]
  all_goals rfl
theorem V_v66 (c : Dev nD) : V m c main_v66 = shapeCast S1x512 (m ((c.tc : Thread nD τ).loc main_arg8)) shapeCasts_S512_S1x512 := by
  rw [V_eq]; entry_read; simp only [k_arg8 m c]
  all_goals rfl
theorem V_v67 (c : Dev nD) : V m c main_v67 = shapeCast S1x512 (m ((c.tc : Thread nD τ).loc main_arg9)) shapeCasts_S512_S1x512 := by
  rw [V_eq]; entry_read; simp only [k_arg9 m c]
  all_goals rfl
theorem V_v68 (c : Dev nD) : V m c main_v68 = shapeCast S1x512 (m ((c.tc : Thread nD τ).loc main_arg10)) shapeCasts_S512_S1x512 := by
  rw [V_eq]; entry_read; simp only [k_arg10 m c]
  all_goals rfl
theorem V_v69 (c : Dev nD) : V m c main_v69 = transpose S128x4 [1, 0] (m ((c.tc : Thread nD τ).loc main_arg12)) transposes_S4x128_S128x4_1_0 := by
  rw [V_eq]; entry_read; simp only [k_arg12 m c]
  all_goals rfl

end Cert.MixerIdeal.Value
end
-- ==== Proof.Windows.lean ====
/- What each window of the mixer kernel holds at each grid point, as functions of numbers of the argument arrays. -/
module

public import proofs.«01_k».proof.Proof.HostRead
public import proofs.«01_k».proof.Proof.Gen.MixerIdeal.Value
public import Idealize.ShloMosaic.Lib.Pointwise
public import Idealize.ShloMosaic.Lib.Pipeline.ValueKit

@[expose] public section

set_option maxRecDepth 16384

noncomputable section

namespace Cert.MixerIdeal.Value

open Cert.MixerIdeal Cert.MixerIdeal.Gen Cert.Sym Idealize.ShloMosaic Idealize.ShloMosaic.TcCoe Idealize.SL.Sem
open Idealize.ShloMosaic.Pipeline (Dat)

variable (m : (ℓ : Loc nD τ sig) → Buf (Elt Ideal) ℓ)

/-- The numbers the kernel reads besides the residual stream. -/
def par (c : Dev nD) : Par :=
  parOf (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13))

/-- Sequence `s` of the residual stream. -/
def seq (c : Dev nD) (s : ℕ) : Fn2 := seqs (m ((c : Thread nD τ).loc main_arg0)) s

theorem idx0 : ∀ t : Fin cfg0.N, win0_0.index t = ![t.val / 4, 0, t.val % 4, 0] ∧ t.val < 16 := (by decide +kernel : ∀ t : Fin grid0.N, _)
theorem idxs : ∀ t : Fin cfg0.N, win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0, 0] ∧ win0_12.index t = ![0, 0] ∧ win0_13.index t = ![0, 0] ∧ win0_14.index t = ![0, 0] ∧ win0_15.index t = ![0, 0, 0] ∧ win0_16.index t = ![0, 0] :=
  (by decide +kernel : ∀ t : Fin grid0.N, _)

theorem w1 (c : Dev nD) (t : Fin cfg0.N) : iblk m c 1 t = A2 S8x1024 (par m c).gains := by
  refine Eq.trans ?_ (A2_of2 _).symm; funext j; blk_ext [iblk, V, idxs t]
theorem w2 (c : Dev nD) (t : Fin cfg0.N) : iblk m c 2 t = A2 S1024x2048 (par m c).wa := by
  refine Eq.trans ?_ (A2_of2 _).symm; funext j; blk_ext [iblk, V, idxs t]
theorem w3 (c : Dev nD) (t : Fin cfg0.N) : iblk m c 3 t = A2 S1024x1024 (par m c).wb := by
  refine Eq.trans ?_ (A2_of2 _).symm; funext j; blk_ext [iblk, V, idxs t]
theorem w4 (c : Dev nD) (t : Fin cfg0.N) : iblk m c 4 t = A2 S1024x128 (par m c).wg := by
  refine Eq.trans ?_ (A2_of2 _).symm; funext j; blk_ext [iblk, V, idxs t]
theorem w6 (c : Dev nD) (t : Fin cfg0.N) : iblk m c 6 t = A2 S4x1024 (par m c).cw := by
  refine Eq.trans ?_ (A2_of2 _).symm; funext j; blk_ext [iblk, V, idxs t]
theorem w13 (c : Dev nD) (t : Fin cfg0.N) : iblk m c 13 t = A2 S1024x1024 (par m c).wo := by
  refine Eq.trans ?_ (A2_of2 _).symm; funext j; blk_ext [iblk, V, idxs t]

/- The windows over arrays the host program made, as those arrays. -/
theorem wv5 (c : Dev nD) (t : Fin cfg0.N) : iblk m c 5 t = V m c main_v1 := by
  funext j; blk_ext [iblk, idxs t]
theorem wv7 (c : Dev nD) (t : Fin cfg0.N) : iblk m c 7 t = V m c main_v65 := by
  funext j; blk_ext [iblk, idxs t]
theorem wv8 (c : Dev nD) (t : Fin cfg0.N) : iblk m c 8 t = V m c main_v66 := by
  funext j; blk_ext [iblk, idxs t]
theorem wv9 (c : Dev nD) (t : Fin cfg0.N) : iblk m c 9 t = V m c main_v67 := by
  funext j; blk_ext [iblk, idxs t]
theorem wv10 (c : Dev nD) (t : Fin cfg0.N) : iblk m c 10 t = V m c main_v68 := by
  funext j; blk_ext [iblk, idxs t]
theorem wv12 (c : Dev nD) (t : Fin cfg0.N) : iblk m c 12 t = V m c main_v69 := by
  funext j; blk_ext [iblk, idxs t]
theorem wv14 (c : Dev nD) (t : Fin cfg0.N) : iblk m c 14 t = V m c main_v61 := by
  funext j; blk_ext [iblk, idxs t]
theorem wv16 (c : Dev nD) (t : Fin cfg0.N) : iblk m c 16 t = V m c main_v63 := by
  funext j; blk_ext [iblk, idxs t]
theorem wv15 (c : Dev nD) (t : Fin cfg0.N) : iblk m c 15 t = V m c main_v62 := by
  funext j; blk_simp [iblk, idxs t]
  refine congrArg _ (funext fun a => Fin.ext ?_)
  exact Pipeline.Window.rect_emb_val_of_index_zero win0_15 t a (by rw [(idxs t).2.2.2.2.2.2.2.2.2.2.2.2.2.2.1]; fin_cases a <;> rfl) j
theorem wv11 (c : Dev nD) (t : Fin cfg0.N) : iblk m c 11 t = V m c main_arg11 := by
  funext j; blk_simp [iblk, idxs t]
  refine congrArg _ (funext fun a => Fin.ext ?_)
  exact Pipeline.Window.rect_emb_val_of_index_zero win0_11 t a (by rw [(idxs t).2.2.2.2.2.2.2.2.2.2.1]; fin_cases a <;> rfl) j
theorem wv0 (c : Dev nD) (t : Fin cfg0.N) (j : S1x2x512x1024.Idx) :
    iblk m c 0 t j = V m c main_v64 (ValueIdx.ix4 (n0 := 4) (n1 := 2) (n2 := 2048) (n3 := 1024) ⟨t.val / 4, by have := (idx0 t).2; omega⟩ (j 1)
      ⟨512 * (t.val % 4) + (j 2).val, by have h : (j 2).val < 512 := (j 2).isLt; omega⟩ (j 3)) := by
  blk_simp [iblk, (idx0 t).1]
  refine congrArg _ (funext fun a => Fin.ext ?_)
  refine (Pipeline.Window.rect_emb_val win0_0 t j a rfl).trans ?_
  rw [(idx0 t).1]
  match a with
  | ⟨0, _⟩ => show t.val / 4 * 1 + (j 0).val = t.val / 4; have h : (j 0).val < 1 := (j 0).isLt; omega
  | ⟨1, _⟩ => show 0 * 2 + (j 1).val = (j 1).val; omega
  | ⟨2, _⟩ => show t.val % 4 * 512 + (j 2).val = 512 * (t.val % 4) + (j 2).val; omega
  | ⟨3, _⟩ => show 0 * 1024 + (j 3).val = (j 3).val; omega

theorem w11 (c : Dev nD) (t : Fin cfg0.N) : iblk m c 11 t = A3 S4x128x128 (par m c).ws := by
  rw [wv11, V_main_arg11]; exact (A3_arr3 _).symm
theorem w7 (c : Dev nD) (t : Fin cfg0.N) : iblk m c 7 t = A2 S1x1024 (par m c).cb := by
  rw [wv7, V_v65]; funext j; pointwise; exact (of1_at _ (j 1)).symm
theorem w8 (c : Dev nD) (t : Fin cfg0.N) : iblk m c 8 t = A2 S1x512 (par m c).mhg := by
  rw [wv8, V_v66]; funext j; pointwise; exact (of1_at _ (j 1)).symm
theorem w9 (c : Dev nD) (t : Fin cfg0.N) : iblk m c 9 t = A2 S1x512 (par m c).lng := by
  rw [wv9, V_v67]; funext j; pointwise; exact (of1_at _ (j 1)).symm
theorem w10 (c : Dev nD) (t : Fin cfg0.N) : iblk m c 10 t = A2 S1x512 (par m c).lnb := by
  rw [wv10, V_v68]; funext j; pointwise; exact (of1_at _ (j 1)).symm
theorem w5 (c : Dev nD) (t : Fin cfg0.N) : iblk m c 5 t = A2 S8x128 (par m c).bias := by
  rw [wv5, V_v1]; funext j; pointwise; exact (of1_at _ (j 0)).symm
theorem w12 (c : Dev nD) (t : Fin cfg0.N) : iblk m c 12 t = A2 S128x4 (par m c).bs := by
  rw [wv12, V_v69]; funext j; pointwise; exact (of2_at _ (j 1) (j 0)).symm
theorem w16 (c : Dev nD) (t : Fin cfg0.N) : iblk m c 16 t = A2 S256x128 (par m c).ones := by
  rw [wv16, V_v63]; funext j; exact wd_one

/-- Comparisons of lane and row numbers as words. -/
theorem sle_w : ∀ (a : Fin 128) (b : Fin 256), IntOp.cmpi .sle (BitVec.ofNat 32 a.val) (BitVec.ofNat 32 b.val) = if a.val ≤ b.val then 1#1 else 0#1 := by decide +kernel
theorem sge0 : ∀ b : Fin 384, IntOp.cmpi .sge (BitVec.ofNat 32 b.val) 0#32 = if 0 ≤ b.val then 1#1 else 0#1 := by decide +kernel
theorem sge1 : ∀ b : Fin 384, IntOp.cmpi .sge (BitVec.ofNat 32 b.val) 128#32 = if 128 ≤ b.val then 1#1 else 0#1 := by decide +kernel
theorem sge2 : ∀ b : Fin 384, IntOp.cmpi .sge (BitVec.ofNat 32 b.val) 256#32 = if 256 ≤ b.val then 1#1 else 0#1 := by decide +kernel
theorem slt1 : ∀ b : Fin 384, IntOp.cmpi .slt (BitVec.ofNat 32 b.val) 128#32 = if b.val < 128 then 1#1 else 0#1 := by decide +kernel
theorem slt2 : ∀ b : Fin 384, IntOp.cmpi .slt (BitVec.ofNat 32 b.val) 256#32 = if b.val < 256 then 1#1 else 0#1 := by decide +kernel
theorem slt3 : ∀ b : Fin 384, IntOp.cmpi .slt (BitVec.ofNat 32 b.val) 384#32 = if b.val < 384 then 1#1 else 0#1 := by decide +kernel
theorem eq_w (d : ℕ) (hd : d < 64) : ∀ (h : Fin 4) (q : Fin 128),
    IntOp.cmpi .eq (BitVec.ofNat 32 q.val) (IntOp.addi (BitVec.ofNat 32 d) (BitVec.ofNat 32 h.val)) = if q.val = d + h.val then 1#1 else 0#1 := by
  intro h q
  have hh := h.isLt
  have hq := q.isLt
  have e : IntOp.addi (BitVec.ofNat 32 d) (BitVec.ofNat 32 h.val) = BitVec.ofNat 32 (d + h.val) := (BitVec.ofNat_add _ _).symm
  rw [e]
  show BitVec.ofBool (BitVec.ofNat 32 q.val == BitVec.ofNat 32 (d + h.val)) = _
  split_ifs with c
  · rw [c, beq_self_eq_true]; rfl
  · have : BitVec.ofNat 32 q.val ≠ BitVec.ofNat 32 (d + h.val) := fun z => by
      have z' := congrArg BitVec.toNat z
      rw [BitVec.toNat_ofNat, BitVec.toNat_ofNat, Nat.mod_eq_of_lt (by omega), Nat.mod_eq_of_lt (by omega)] at z'
      exact c z'
    rw [beq_eq_false_iff_ne.mpr this]; rfl

theorem and_if (p q : Prop) [Decidable p] [Decidable q] : IntOp.andi (if p then 1#1 else 0#1) (if q then 1#1 else 0#1) = if p ∧ q then 1#1 else 0#1 := by
  by_cases hp : p <;> by_cases hq : q <;> simp [hp, hq, IntOp.andi]
theorem pick_if (p : Prop) [Decidable p] (x y : EReal) : (if (if p then 1#1 else 0#1) = 1#1 then x else y) = if p then x else y := by
  by_cases hp : p <;> simp [hp]

theorem w14 (c : Dev nD) (t : Fin cfg0.N) : iblk m c 14 t = A2 S128x256 (par m c).ut := by
  rw [wv14, V_v61]; funext j
  show (if IntOp.cmpi .sle (BitVec.ofNat 32 (j 0).val) (BitVec.ofNat 32 (j 1).val) = 1#1 then wd 0x3F800000#32 else wd 0x00000000#32) = if (j 0).val ≤ (j 1).val then 1 else 0
  rw [sle_w (j 0) (j 1), pick_if, wd_one, wd_zero]

theorem tab_at (lo hi d : BitVec 32) (x : S4x128x384.Idx → EReal) (j : S4x128x384.Idx) : tab lo hi d x j =
    if IntOp.andi (IntOp.andi (IntOp.cmpi .sge (BitVec.ofNat 32 (j 2).val) lo) (IntOp.cmpi .slt (BitVec.ofNat 32 (j 2).val) hi))
      (IntOp.cmpi .eq (BitVec.ofNat 32 (j 1).val) (IntOp.addi d (BitVec.ofNat 32 (j 0).val))) = 1#1 then wd 0x3F800000#32 else x j := rfl

theorem w15 (c : Dev nD) (t : Fin cfg0.N) : iblk m c 15 t = A3 S4x128x384 (par m c).sel := by
  rw [wv15, V_v62]; funext j
  have h2 : (j 2).val < 384 := (j 2).isLt
  simp only [tab_at, sge0 (j 2), sge1 (j 2), sge2 (j 2), slt1 (j 2), slt2 (j 2), slt3 (j 2), eq_w 0 (by omega) (j 0) (j 1), eq_w 8 (by omega) (j 0) (j 1),
    eq_w 16 (by omega) (j 0) (j 1), eq_w 24 (by omega) (j 0) (j 1), eq_w 32 (by omega) (j 0) (j 1), eq_w 40 (by omega) (j 0) (j 1), eq_w 48 (by omega) (j 0) (j 1),
    and_if, pick_if, wd_one]
  show _ = if (j 2).val < 128 then (if (j 1).val = (j 0).val ∨ (j 1).val = 8 + (j 0).val ∨ (j 1).val = 16 + (j 0).val then 1 else 0)
    else if (j 2).val < 256 then (if (j 1).val = 24 + (j 0).val ∨ (j 1).val = 32 + (j 0).val then 1 else 0) else (if (j 1).val = 40 + (j 0).val ∨ (j 1).val = 48 + (j 0).val then 1 else 0)
  have e0 : tab0 j = 0 := wd_zero
  rw [e0]
  split_ifs <;> first | rfl | (exfalso; omega)

theorem w0 (c : Dev nD) (t : Fin cfg0.N) : iblk m c 0 t = A4 S1x2x512x1024 (fun _ s => blk (512 * (t.val % 4)) (seq m c (2 * (t.val / 4) + s))) := by
  funext j
  have h1 : (j 1).val < 2 := (j 1).isLt
  have h2 : (j 2).val < 512 := (j 2).isLt
  have h3 : (j 3).val < 1024 := (j 3).isLt
  have ht := (idx0 t).2
  rw [wv0, V_v64]
  refine (shapeCast_apply _ _ _ (ValueIdx.ix2 (n0 := 16384) (n1 := 1024) ⟨2048 * (2 * (t.val / 4) + (j 1).val) + (512 * (t.val % 4) + (j 2).val), by omega⟩ ⟨(j 3).val, h3⟩) ?_).trans ?_
  · rw [Shape.rowMajor_val_two, Shape.rowMajor_val_four]
    show (2048 * (2 * (t.val / 4) + (j 1).val) + (512 * (t.val % 4) + (j 2).val)) * 1024 + (j 3).val
      = (((t.val / 4) * 2 + (j 1).val) * 2048 + (512 * (t.val % 4) + (j 2).val)) * 1024 + (j 3).val
    omega
  · exact (of2_at _ ⟨2048 * (2 * (t.val / 4) + (j 1).val) + (512 * (t.val % 4) + (j 2).val), by omega⟩ ⟨(j 3).val, h3⟩).symm

end Cert.MixerIdeal.Value
end
-- ==== Proof.SymOps.lean ====
/- Arrays read as functions of natural numbers: what each operation of the kernel body does to such an array. -/
module

public import proofs.«01_k».proof.Proof.SymCore
public import proofs.«01_k».proof.Proof.Gen.MixerIdeal.Skeleton
public import Idealize.ShloMosaic.Lib.Pipeline.ValueKit
public import Idealize.ShloMosaic.Lib.Pipeline.FrameBody
public import Idealize.ShloMosaic.Lib.Pipeline.ReadBack

@[expose] public section

set_option maxRecDepth 16384

noncomputable section

namespace Cert.Sym

open Idealize.ShloMosaic Idealize.SL.Sem

section generic
variable (s : Shape) {φ ψ : FTy}

theorem addf_A2 (f g : Fn2) : addf (F := Ideal) (φ := φ) (A2 s f) (A2 s g) = A2 s (add2 f g) := rfl
theorem subf_A2 (f g : Fn2) : subf (F := Ideal) (φ := φ) (A2 s f) (A2 s g) = A2 s (sub2 f g) := rfl
theorem mulf_A2 (f g : Fn2) : mulf (F := Ideal) (φ := φ) (A2 s f) (A2 s g) = A2 s (mul2 f g) := rfl
theorem divf_A2 (f g : Fn2) : divf (F := Ideal) (φ := φ) (A2 s f) (A2 s g) = A2 s (div2 f g) := rfl
theorem maximumf_A2 (f g : Fn2) : maximumf (F := Ideal) (φ := φ) (A2 s f) (A2 s g) = A2 s (max2 f g) := rfl
theorem absf_A2 (f : Fn2) : absf (F := Ideal) (φ := φ) (A2 s f) = A2 s (abs2 f) := rfl
theorem exp_A2 (f : Fn2) : exp (F := Ideal) (φ := φ) (A2 s f) = A2 s (exp2 f) := rfl
theorem log1p_A2 (f : Fn2) : log1p (F := Ideal) (φ := φ) (A2 s f) = A2 s (log1p2 f) := rfl
theorem rsqrt_A2 (f : Fn2) : rsqrt (F := Ideal) (φ := φ) (A2 s f) = A2 s (rsqrt2 f) := rfl
theorem erf_A2 (f : Fn2) : erf (F := Ideal) (φ := φ) (A2 s f) = A2 s (erf2 f) := rfl
theorem truncf_A2 (f : Fn2) (h) : truncf (F := Ideal) (φ := φ) ψ (A2 s f) h = A2 s f := rfl
theorem extf_A2 (f : Fn2) (h) : extf (F := Ideal) (φ := φ) ψ (A2 s f) h = A2 s f := rfl
theorem broadcast_A2 (z : Fin 2 → ℕ) (c : EReal) : broadcast ⟨2, z⟩ c = A2 ⟨2, z⟩ (k2 c) := rfl
theorem broadcast_A3 (z : Fin 3 → ℕ) : broadcast ⟨3, z⟩ (Scalar.ofBits (F := Ideal) .f32 0x00000000#32) = A3 ⟨3, z⟩ z3 := by
  funext i; exact Ideal.ofBits_zero_f32
theorem broadcast_A4 (z : Fin 4 → ℕ) : broadcast ⟨4, z⟩ (Scalar.ofBits (F := Ideal) .f32 0x00000000#32) = A4 ⟨4, z⟩ z4 := by
  funext i; exact Ideal.ofBits_zero_f32

end generic

theorem slice_A2 (z w : Fin 2 → ℕ) (a b : ℕ) (f : Fn2) (h) :
    extractStridedSlice (α := EReal) ⟨2, w⟩ ![a, b] (A2 ⟨2, z⟩ f) h = A2 ⟨2, w⟩ (sh2 a b f) := rfl

theorem A1_at (n : ℕ) (f : ℕ → EReal) (i : (⟨1, ![n]⟩ : Shape).Idx) : A1 ⟨1, ![n]⟩ f i = f (i 0) := rfl
theorem A2_at (n m : ℕ) (f : Fn2) (i : (⟨2, ![n, m]⟩ : Shape).Idx) : A2 ⟨2, ![n, m]⟩ f i = f (i 0) (i 1) := rfl
theorem A3_at (n m k : ℕ) (f : ℕ → Fn2) (i : (⟨3, ![n, m, k]⟩ : Shape).Idx) : A3 ⟨3, ![n, m, k]⟩ f i = f (i 0) (i 1) (i 2) := rfl
theorem A4_at (n m k l : ℕ) (f : ℕ → ℕ → Fn2) (i : (⟨4, ![n, m, k, l]⟩ : Shape).Idx) : A4 ⟨4, ![n, m, k, l]⟩ f i = f (i 0) (i 1) (i 2) (i 3) := rfl

theorem add_one_mul (a b : ℕ) : a + 1 * b = a + b := by omega

/-- Signed comparison of the words of two numbers below 128 is comparison of the numbers. -/
theorem sle_word : ∀ a b : Fin 128, (BitVec.ofNat 32 (a : ℕ)).sle (BitVec.ofNat 32 (b : ℕ)) = decide ((a : ℕ) ≤ b) := by decide +kernel

theorem sel_le (a b : ℕ) (ha : a < 128) (hb : b < 128) (x y : EReal) :
    Scalar.select (BitVec.ofBool ((BitVec.ofNat 32 a).sle (BitVec.ofNat 32 b))) x y = if a ≤ b then x else y := by
  rw [sle_word ⟨a, ha⟩ ⟨b, hb⟩]
  by_cases h : a ≤ b <;> simp [Scalar.select, h]

end Cert.Sym

namespace Cert.MixerIdeal.SymOps
open Cert.Sym Cert.MixerIdeal Cert.MixerIdeal.Gen Idealize.ShloMosaic Idealize.SL.Sem

theorem mm_512_1024_256 {φ₁ φ₂ : FTy} (f g : Fn2) :
    matmul (F := Ideal) (φ₁ := φ₁) (φ₂ := φ₂) dot_S512x1024_S1024x256_S512x256_1_0_0_1_n_n none (A2 S512x1024 f) (A2 S1024x256 g)
      (constant (F := Ideal) S512x256 .f32 0x00000000#32) = A2 S512x256 (mm 1024 f g) := by
  funext i; idx_vars i; pointwise [A2_at, mm]
theorem mm_512_1024_128 {φ₁ φ₂ : FTy} (f g : Fn2) :
    matmul (F := Ideal) (φ₁ := φ₁) (φ₂ := φ₂) dot_S512x1024_S1024x128_S512x128_1_0_0_1_n_n none (A2 S512x1024 f) (A2 S1024x128 g)
      (constant (F := Ideal) S512x128 .f32 0x00000000#32) = A2 S512x128 (mm 1024 f g) := by
  funext i; idx_vars i; pointwise [A2_at, mm]
theorem mm_96_128_256 {φ₁ φ₂ : FTy} (f g : Fn2) :
    matmul (F := Ideal) (φ₁ := φ₁) (φ₂ := φ₂) dot_S96x128_S128x256_S96x256_1_0_0_1_n_n none (A2 S96x128 f) (A2 S128x256 g)
      (constant (F := Ideal) S96x256 .f32 0x00000000#32) = A2 S96x256 (mm 128 f g) := by
  funext i; idx_vars i; pointwise [A2_at, mm]
theorem mm_128_128_384 {φ₁ φ₂ : FTy} (f g : Fn2) :
    matmul (F := Ideal) (φ₁ := φ₁) (φ₂ := φ₂) dot_S128x128_S128x384_S128x384_1_0_0_1_n_n none (A2 S128x128 f) (A2 S128x384 g)
      (constant (F := Ideal) S128x384 .f32 0x00000000#32) = A2 S128x384 (mm 128 f g) := by
  funext i; idx_vars i; pointwise [A2_at, mm]
theorem mm_128_128_128 {φ₁ φ₂ : FTy} (f g : Fn2) :
    matmul (F := Ideal) (φ₁ := φ₁) (φ₂ := φ₂) dot_S128x128_S128x128_S128x128_1_0_0_1_n_n none (A2 S128x128 f) (A2 S128x128 g)
      (constant (F := Ideal) S128x128 .f32 0x00000000#32) = A2 S128x128 (mm 128 f g) := by
  funext i; idx_vars i; pointwise [A2_at, mm]
theorem mm_128_128_256 {φ₁ φ₂ : FTy} (f g : Fn2) :
    matmul (F := Ideal) (φ₁ := φ₁) (φ₂ := φ₂) dot_S128x128_S128x256_S128x256_1_0_0_1_n_n none (A2 S128x128 f) (A2 S128x256 g)
      (constant (F := Ideal) S128x256 .f32 0x00000000#32) = A2 S128x256 (mm 128 f g) := by
  funext i; idx_vars i; pointwise [A2_at, mm]
theorem mm_128_256_128 {φ₁ φ₂ : FTy} (f g : Fn2) :
    matmul (F := Ideal) (φ₁ := φ₁) (φ₂ := φ₂) dot_S128x256_S256x128_S128x128_1_0_0_1_n_n none (A2 S128x256 f) (A2 S256x128 g)
      (constant (F := Ideal) S128x128 .f32 0x00000000#32) = A2 S128x128 (mm 256 f g) := by
  funext i; idx_vars i; pointwise [A2_at, mm]
theorem bc_128_1_128_128 (f : Fn2) (h) : broadcastTo (α := EReal) S128x128 (A2 S128x1 f) h = A2 S128x128 (colb f) := by
  funext i; rfl
theorem bc_1_128_128_128 (f : Fn2) (h) : broadcastTo (α := EReal) S128x128 (A2 S1x128 f) h = A2 S128x128 (rowb f) := by
  funext i; rfl
theorem bc_1_256_128_256 (f : Fn2) (h) : broadcastTo (α := EReal) S128x256 (A2 S1x256 f) h = A2 S128x256 (rowb f) := by
  funext i; rfl
theorem bc_32_1_32_128 (f : Fn2) (h) : broadcastTo (α := EReal) S32x128 (A2 S32x1 f) h = A2 S32x128 (colb f) := by
  funext i; rfl
theorem bc_1_1024_512_1024 (f : Fn2) (h) : broadcastTo (α := EReal) S512x1024 (A2 S1x1024 f) h = A2 S512x1024 (rowb f) := by
  funext i; rfl
theorem bc_512_1_512_1024 (f : Fn2) (h) : broadcastTo (α := EReal) S512x1024 (A2 S512x1 f) h = A2 S512x1024 (colb f) := by
  funext i; rfl
theorem bc_1_512_512_512 (f : Fn2) (h) : broadcastTo (α := EReal) S512x512 (A2 S1x512 f) h = A2 S512x512 (rowb f) := by
  funext i; rfl
theorem bc_512_1_512_512 (f : Fn2) (h) : broadcastTo (α := EReal) S512x512 (A2 S512x1 f) h = A2 S512x512 (colb f) := by
  funext i; rfl
theorem rsum_1024 (f : Fn2) (d : List (Fin S512x1024.rank)) (hd : d = [1]) (h h') (h'' : (0x00000000#32 : BitVec 32) = 0x00000000#32) :
    multiReduction (F := Ideal) (φ := .f32) .add d S512 (A2 S512x1024 f) 0x00000000#32 h h' h'' = A1 S512 (rsum 1024 f) := by
  subst hd
  funext i; idx_vars i; pointwise [A2_at, A1_at, rsum]
theorem rsum_512 (f : Fn2) (d : List (Fin S512x512.rank)) (hd : d = [1]) (h h') (h'' : (0x00000000#32 : BitVec 32) = 0x00000000#32) :
    multiReduction (F := Ideal) (φ := .f32) .add d S512 (A2 S512x512 f) 0x00000000#32 h h' h'' = A1 S512 (rsum 512 f) := by
  subst hd
  funext i; idx_vars i; pointwise [A2_at, A1_at, rsum]
theorem sc_512 (f : ℕ → EReal) (h) : shapeCast (α := EReal) S512x1 (A1 S512 f) h = A2 S512x1 (c1 f) := by
  funext i; idx_vars i; pointwise [A2_at, A1_at, c1]
theorem sc_same_128x1 (x : S128x1.Idx → EReal) (h) : shapeCast (α := EReal) S128x1 x h = x := by
  funext i; idx_vars i; pointwise
theorem sc_same_128x256 (x : S128x256.Idx → EReal) (h) : shapeCast (α := EReal) S128x256 x h = x := by
  funext i; idx_vars i; pointwise
theorem sc_same_1x1024 (x : S1x1024.Idx → EReal) (h) : shapeCast (α := EReal) S1x1024 x h = x := by
  funext i; idx_vars i; pointwise
theorem sc_same_1x128 (x : S1x128.Idx → EReal) (h) : shapeCast (α := EReal) S1x128 x h = x := by
  funext i; idx_vars i; pointwise
theorem sc_same_1x512 (x : S1x512.Idx → EReal) (h) : shapeCast (α := EReal) S1x512 x h = x := by
  funext i; idx_vars i; pointwise
theorem sc_same_256x128 (x : S256x128.Idx → EReal) (h) : shapeCast (α := EReal) S256x128 x h = x := by
  funext i; idx_vars i; pointwise
theorem sc_same_32x1 (x : S32x1.Idx → EReal) (h) : shapeCast (α := EReal) S32x1 x h = x := by
  funext i; idx_vars i; pointwise
theorem sc_same_8x128 (x : S8x128.Idx → EReal) (h) : shapeCast (α := EReal) S8x128 x h = x := by
  funext i; idx_vars i; pointwise
theorem sc_same_2x4x128x256 (x : S2x4x128x256.Idx → EReal) (h) : shapeCast (α := EReal) S2x4x128x256 x h = x := by
  funext i; idx_vars i; pointwise
theorem sc_same_2x8x1024 (x : S2x8x1024.Idx → EReal) (h) : shapeCast (α := EReal) S2x8x1024 x h = x := by
  funext i; idx_vars i; pointwise
theorem sc_same_2x8x128 (x : S2x8x128.Idx → EReal) (h) : shapeCast (α := EReal) S2x8x128 x h = x := by
  funext i; idx_vars i; pointwise
theorem sc_drop_128x128 (f : ℕ → Fn2) (h) : shapeCast (α := EReal) S128x128 (A3 S1x128x128 f) h = A2 S128x128 (f 0) := by
  funext i; idx_vars i; pointwise [A2_at, A3_at]
theorem sc_drop_128x384 (f : ℕ → Fn2) (h) : shapeCast (α := EReal) S128x384 (A3 S1x128x384 f) h = A2 S128x384 (f 0) := by
  funext i; idx_vars i; pointwise [A2_at, A3_at]
theorem sc_drop_512x1024 (f : ℕ → Fn2) (h) : shapeCast (α := EReal) S512x1024 (A3 S1x512x1024 f) h = A2 S512x1024 (f 0) := by
  funext i; idx_vars i; pointwise [A2_at, A3_at]
theorem sc_drop_8x1024 (f : ℕ → Fn2) (h) : shapeCast (α := EReal) S8x1024 (A3 S1x8x1024 f) h = A2 S8x1024 (f 0) := by
  funext i; idx_vars i; pointwise [A2_at, A3_at]
theorem sc_drop_8x128 (f : ℕ → Fn2) (h) : shapeCast (α := EReal) S8x128 (A3 S1x8x128 f) h = A2 S8x128 (f 0) := by
  funext i; idx_vars i; pointwise [A2_at, A3_at]
theorem sc_drop4_128x256 (f : ℕ → ℕ → Fn2) (h) : shapeCast (α := EReal) S128x256 (A4 S1x1x128x256 f) h = A2 S128x256 (f 0 0) := by
  funext i; idx_vars i; pointwise [A2_at, A4_at]
theorem sc_up4_128x256 (f : Fn2) (h) : shapeCast (α := EReal) S1x1x128x256 (A2 S128x256 f) h = A4 S1x1x128x256 (up4 f) := by
  funext i; idx_vars i; pointwise [A2_at, A4_at, up4]
theorem sc_drop4_512x1024 (f : ℕ → ℕ → Fn2) (h) : shapeCast (α := EReal) S512x1024 (A4 S1x1x512x1024 f) h = A2 S512x1024 (f 0 0) := by
  funext i; idx_vars i; pointwise [A2_at, A4_at]
theorem sc_up4_512x1024 (f : Fn2) (h) : shapeCast (α := EReal) S1x1x512x1024 (A2 S512x1024 f) h = A4 S1x1x512x1024 (up4 f) := by
  funext i; idx_vars i; pointwise [A2_at, A4_at, up4]
theorem sc_up_128x128 (f : Fn2) (h) : shapeCast (α := EReal) S1x128x128 (A2 S128x128 f) h = A3 S1x128x128 (up f) := by
  funext i; idx_vars i; pointwise [A2_at, A3_at, up]
theorem sc_up_512x256 (f : Fn2) (h) : shapeCast (α := EReal) S1x512x256 (A2 S512x256 f) h = A3 S1x512x256 (up f) := by
  funext i; idx_vars i; pointwise [A2_at, A3_at, up]
theorem sc_up_512x512 (f : Fn2) (h) : shapeCast (α := EReal) S1x512x512 (A2 S512x512 f) h = A3 S1x512x512 (up f) := by
  funext i; idx_vars i; pointwise [A2_at, A3_at, up]
theorem sc_up_8x1024 (f : Fn2) (h) : shapeCast (α := EReal) S1x8x1024 (A2 S8x1024 f) h = A3 S1x8x1024 (up f) := by
  funext i; idx_vars i; pointwise [A2_at, A3_at, up]
theorem sc_up_8x128 (f : Fn2) (h) : shapeCast (α := EReal) S1x8x128 (A2 S8x128 f) h = A3 S1x8x128 (up f) := by
  funext i; idx_vars i; pointwise [A2_at, A3_at, up]
/-! ### Operations whose side condition speaks of their operands: named first, then evaluated -/

abbrev V (s : Shape) := s.Idx → EReal
def trW (x : V S128x128) : V S128x128 := transpose (α := EReal) S128x128 [1, 0] x transposes_S128x128_p1_0_S128x128
theorem tr_pre (x : V S128x128) (h) : transpose (α := EReal) S128x128 [1, 0] x h = trW x := rfl
theorem tr_preE (x : V S128x128) (d) (h) (hd : d = [1, 0]) : transpose (α := EReal) S128x128 d x h = trW x := by subst hd; rfl
theorem tr_128 (f : Fn2) : trW (A2 S128x128 f) = A2 S128x128 (tr f) := by
  unfold trW; funext i; idx_vars i; pointwise [A2_at, tr]
def rot0W (x : V S8x128) : V S8x128 := dynamicRotate (α := EReal) 0 4#32 none x rotates_S8x128_d0
theorem rot0_pre (x : V S8x128) (h) : dynamicRotate (α := EReal) 0 4#32 none x h = rot0W x := rfl
theorem rot0_8 (f : Fn2) : rot0W (A2 S8x128 f) = A2 S8x128 (rot0 f) := by
  funext i; rfl
def rot1W (k : BitVec 32) (x : V S32x128) : V S32x128 := dynamicRotate (α := EReal) 1 k none x rotates_S32x128_d1
theorem rot1_pre (k : BitVec 32) (x : V S32x128) (h) : dynamicRotate (α := EReal) 1 k none x h = rot1W k x := rfl
def ioC : IVec S32x128 32 := iota .tc S32x128 32 [1] iota_S32x128_d1_w32
theorem io_pre (h) : iota .tc S32x128 32 [1] h = ioC := rfl
theorem io_post (d : List (Fin S32x128.rank)) (hd : d = [1]) (h) : iota .tc S32x128 32 d h = ioC := by subst hd; rfl
def geM (k : BitVec 32) : IVec S32x128 1 := cmpi .sge ioC (broadcast S32x128 k)
theorem ge_pre (k : BitVec 32) : cmpi .sge ioC (broadcast S32x128 k) = geM k := rfl
def ioR : IVec S128x128 32 := iota .tc S128x128 32 [0] iota_S128x128_d0_w32
def ioL : IVec S128x128 32 := iota .tc S128x128 32 [1] iota_S128x128_d1_w32
theorem ioR_pre (h) : iota .tc S128x128 32 [0] h = ioR := rfl
theorem ioL_pre (h) : iota .tc S128x128 32 [1] h = ioL := rfl
theorem ioR_post (d : List (Fin S128x128.rank)) (hd : d = [0]) (h) : iota .tc S128x128 32 d h = ioR := by subst hd; rfl
theorem ioL_post (d : List (Fin S128x128.rank)) (hd : d = [1]) (h) : iota .tc S128x128 32 d h = ioL := by subst hd; rfl
def causM : IVec S128x128 1 := cmpi .sle ioL ioR
theorem caus_pre : cmpi .sle ioL ioR = causM := rfl
theorem caus_sel (f g : Fn2) : select causM (A2 S128x128 f) (A2 S128x128 g) = A2 S128x128 (caus f g) := by
  unfold causM ioL ioR
  funext i; idx_vars i
  pointwise [A2_at, caus]
  exact sel_le i1 i0 i1.isLt i0.isLt _ _
theorem rot1_1 (f : Fn2) : rot1W 1#32 (A2 S32x128 f) = A2 S32x128 (rot1 1 f) := by
  funext i; rfl
theorem ge1_1 (f g : Fn2) : select (geM 1#32) (A2 S32x128 f) (A2 S32x128 g) = A2 S32x128 (ge1 1 f g) := by
  unfold geM ioC
  funext i; idx_vars i
  pointwise [A2_at, ge1]
  exact sel_le 1 i1 (by omega) i1.isLt _ _
theorem rot1_2 (f : Fn2) : rot1W 2#32 (A2 S32x128 f) = A2 S32x128 (rot1 2 f) := by
  funext i; rfl
theorem ge1_2 (f g : Fn2) : select (geM 2#32) (A2 S32x128 f) (A2 S32x128 g) = A2 S32x128 (ge1 2 f g) := by
  unfold geM ioC
  funext i; idx_vars i
  pointwise [A2_at, ge1]
  exact sel_le 2 i1 (by omega) i1.isLt _ _
theorem rot1_4 (f : Fn2) : rot1W 4#32 (A2 S32x128 f) = A2 S32x128 (rot1 4 f) := by
  funext i; rfl
theorem ge1_4 (f g : Fn2) : select (geM 4#32) (A2 S32x128 f) (A2 S32x128 g) = A2 S32x128 (ge1 4 f g) := by
  unfold geM ioC
  funext i; idx_vars i
  pointwise [A2_at, ge1]
  exact sel_le 4 i1 (by omega) i1.isLt _ _
theorem rot1_8 (f : Fn2) : rot1W 8#32 (A2 S32x128 f) = A2 S32x128 (rot1 8 f) := by
  funext i; rfl
theorem ge1_8 (f g : Fn2) : select (geM 8#32) (A2 S32x128 f) (A2 S32x128 g) = A2 S32x128 (ge1 8 f g) := by
  unfold geM ioC
  funext i; idx_vars i
  pointwise [A2_at, ge1]
  exact sel_le 8 i1 (by omega) i1.isLt _ _
theorem rot1_16 (f : Fn2) : rot1W 16#32 (A2 S32x128 f) = A2 S32x128 (rot1 16 f) := by
  funext i; rfl
theorem ge1_16 (f g : Fn2) : select (geM 16#32) (A2 S32x128 f) (A2 S32x128 g) = A2 S32x128 (ge1 16 f g) := by
  unfold geM ioC
  funext i; idx_vars i
  pointwise [A2_at, ge1]
  exact sel_le 16 i1 (by omega) i1.isLt _ _
theorem rot1_32 (f : Fn2) : rot1W 32#32 (A2 S32x128 f) = A2 S32x128 (rot1 32 f) := by
  funext i; rfl
theorem ge1_32 (f g : Fn2) : select (geM 32#32) (A2 S32x128 f) (A2 S32x128 g) = A2 S32x128 (ge1 32 f g) := by
  unfold geM ioC
  funext i; idx_vars i
  pointwise [A2_at, ge1]
  exact sel_le 32 i1 (by omega) i1.isLt _ _
theorem rot1_64 (f : Fn2) : rot1W 64#32 (A2 S32x128 f) = A2 S32x128 (rot1 64 f) := by
  funext i; rfl
theorem ge1_64 (f g : Fn2) : select (geM 64#32) (A2 S32x128 f) (A2 S32x128 g) = A2 S32x128 (ge1 64 f g) := by
  unfold geM ioC
  funext i; idx_vars i
  pointwise [A2_at, ge1]
  exact sel_le 64 i1 (by omega) i1.isLt _ _
def cat_1_256W (x0 : V S1x128) (x1 : V S1x128) : V S1x256 := concatenate (α := EReal) S1x256 1 [⟨S1x128, x0⟩, ⟨S1x128, x1⟩] concatenates_S1x128_S1x128_S1x256_d1
theorem cat_1_256_pre (x0 : V S1x128) (x1 : V S1x128) (h) : concatenate (α := EReal) S1x256 1 [⟨S1x128, x0⟩, ⟨S1x128, x1⟩] h = cat_1_256W x0 x1 := rfl
theorem cat_1_256 (f g : Fn2) : cat_1_256W (A2 S1x128 f) (A2 S1x128 g) = A2 S1x256 (cat1 128 f g) := by
  unfold cat_1_256W; funext i; idx_vars i; pointwise [A2_at, cat1]; split_ifs <;> rfl
def cat_128_256W (x0 : V S128x128) (x1 : V S128x128) : V S128x256 := concatenate (α := EReal) S128x256 1 [⟨S128x128, x0⟩, ⟨S128x128, x1⟩] concatenates_S128x128_S128x128_S128x256_d1
theorem cat_128_256_pre (x0 : V S128x128) (x1 : V S128x128) (h) : concatenate (α := EReal) S128x256 1 [⟨S128x128, x0⟩, ⟨S128x128, x1⟩] h = cat_128_256W x0 x1 := rfl
theorem cat_128_256 (f g : Fn2) : cat_128_256W (A2 S128x128 f) (A2 S128x128 g) = A2 S128x256 (cat1 128 f g) := by
  unfold cat_128_256W; funext i; idx_vars i; pointwise [A2_at, cat1]; split_ifs <;> rfl
def cat_32W (x0 : V S8x128) (x1 : V S8x128) (x2 : V S8x128) (x3 : V S8x128) : V S32x128 := concatenate (α := EReal) S32x128 0 [⟨S8x128, x0⟩, ⟨S8x128, x1⟩, ⟨S8x128, x2⟩, ⟨S8x128, x3⟩] concatenates_S8x128_S8x128_S8x128_S8x128_S32x128_d0
theorem cat_32_pre (x0 : V S8x128) (x1 : V S8x128) (x2 : V S8x128) (x3 : V S8x128) (h) : concatenate (α := EReal) S32x128 0 [⟨S8x128, x0⟩, ⟨S8x128, x1⟩, ⟨S8x128, x2⟩, ⟨S8x128, x3⟩] h = cat_32W x0 x1 x2 x3 := rfl
theorem cat_32 (f₀ f₁ f₂ f₃ : Fn2) : cat_32W (A2 S8x128 f₀) (A2 S8x128 f₁) (A2 S8x128 f₂) (A2 S8x128 f₃) = A2 S32x128 (cat0 8 f₀ (cat0 8 f₁ (cat0 8 f₂ f₃))) := by
  unfold cat_32W; funext i; idx_vars i; pointwise [A2_at, cat0]; split_ifs <;> rfl
def cat_96W (x0 : V S32x128) (x1 : V S32x128) (x2 : V S32x128) : V S96x128 := concatenate (α := EReal) S96x128 0 [⟨S32x128, x0⟩, ⟨S32x128, x1⟩, ⟨S32x128, x2⟩] concatenates_S32x128_S32x128_S32x128_S96x128_d0
theorem cat_96_pre (x0 : V S32x128) (x1 : V S32x128) (x2 : V S32x128) (h) : concatenate (α := EReal) S96x128 0 [⟨S32x128, x0⟩, ⟨S32x128, x1⟩, ⟨S32x128, x2⟩] h = cat_96W x0 x1 x2 := rfl
theorem cat_96 (f₀ f₁ f₂ : Fn2) : cat_96W (A2 S32x128 f₀) (A2 S32x128 f₁) (A2 S32x128 f₂) = A2 S96x128 (cat0 32 f₀ (cat0 32 f₁ f₂)) := by
  unfold cat_96W; funext i; idx_vars i; pointwise [A2_at, cat0]; split_ifs <;> rfl
def cat_128W (x0 : V S8x128) (x1 : V S8x128) (x2 : V S8x128) (x3 : V S8x128) (x4 : V S8x128) (x5 : V S8x128) (x6 : V S8x128) (x7 : V S72x128) : V S128x128 := concatenate (α := EReal) S128x128 0 [⟨S8x128, x0⟩, ⟨S8x128, x1⟩, ⟨S8x128, x2⟩, ⟨S8x128, x3⟩, ⟨S8x128, x4⟩, ⟨S8x128, x5⟩, ⟨S8x128, x6⟩, ⟨S72x128, x7⟩] concatenates_S8x128_S8x128_S8x128_S8x128_S8x128_S8x128_S8x128_S72x128_S128x128_d0
theorem cat_128_pre (x0 : V S8x128) (x1 : V S8x128) (x2 : V S8x128) (x3 : V S8x128) (x4 : V S8x128) (x5 : V S8x128) (x6 : V S8x128) (x7 : V S72x128) (h) : concatenate (α := EReal) S128x128 0 [⟨S8x128, x0⟩, ⟨S8x128, x1⟩, ⟨S8x128, x2⟩, ⟨S8x128, x3⟩, ⟨S8x128, x4⟩, ⟨S8x128, x5⟩, ⟨S8x128, x6⟩, ⟨S72x128, x7⟩] h = cat_128W x0 x1 x2 x3 x4 x5 x6 x7 := rfl
theorem cat_128 (f₀ f₁ f₂ f₃ f₄ f₅ f₆ f₇ : Fn2) : cat_128W (A2 S8x128 f₀) (A2 S8x128 f₁) (A2 S8x128 f₂) (A2 S8x128 f₃) (A2 S8x128 f₄) (A2 S8x128 f₅) (A2 S8x128 f₆) (A2 S72x128 f₇)
    = A2 S128x128 (cat0 8 f₀ (cat0 8 f₁ (cat0 8 f₂ (cat0 8 f₃ (cat0 8 f₄ (cat0 8 f₅ (cat0 8 f₆ f₇))))))) := by
  unfold cat_128W; funext i; idx_vars i; pointwise [A2_at, cat0]; split_ifs <;> rfl
def cat_512W (x0 : V S512x256) (x1 : V S512x256) : V S512x512 := concatenate (α := EReal) S512x512 1 [⟨S512x256, x0⟩, ⟨S512x256, x1⟩] concatenates_S512x256_S512x256_S512x512_d1
theorem cat_512_pre (x0 : V S512x256) (x1 : V S512x256) (h) : concatenate (α := EReal) S512x512 1 [⟨S512x256, x0⟩, ⟨S512x256, x1⟩] h = cat_512W x0 x1 := rfl
theorem cat_512 (a b b' : ℕ) (f : Fn2) (hb : b' = b + 256) : cat_512W (A2 S512x256 (sh2 a b f)) (A2 S512x256 (sh2 a b' f)) = A2 S512x512 (sh2 a b f) := by
  subst hb
  unfold cat_512W; funext i; idx_vars i; pointwise [A2_at, sh2]
  split_ifs with h
  · rfl
  · congr 1; omega
def cat_1024W (x0 : V S512x256) (x1 : V S512x256) (x2 : V S512x256) (x3 : V S512x256) : V S512x1024 := concatenate (α := EReal) S512x1024 1 [⟨S512x256, x0⟩, ⟨S512x256, x1⟩, ⟨S512x256, x2⟩, ⟨S512x256, x3⟩] concatenates_S512x256_S512x256_S512x256_S512x256_S512x1024_d1
theorem cat_1024_pre (x0 : V S512x256) (x1 : V S512x256) (x2 : V S512x256) (x3 : V S512x256) (h) : concatenate (α := EReal) S512x1024 1 [⟨S512x256, x0⟩, ⟨S512x256, x1⟩, ⟨S512x256, x2⟩, ⟨S512x256, x3⟩] h = cat_1024W x0 x1 x2 x3 := rfl
theorem cat_1024 (f : Fn2) : cat_1024W (A2 S512x256 (sh2 0 0 f)) (A2 S512x256 (sh2 0 256 f)) (A2 S512x256 (sh2 0 512 f)) (A2 S512x256 (sh2 0 768 f)) = A2 S512x1024 f := by
  unfold cat_1024W; funext i; idx_vars i; pointwise [A2_at, sh2]
  split_ifs with h
  all_goals (congr 1; try omega)

end Cert.MixerIdeal.SymOps
end
-- ==== Proof.SymLoads.lean ====
/- Loads from a buffer whose contents, or whose stored pieces, read functions of natural numbers. -/
module

public import proofs.«01_k».proof.Proof.SymOps

@[expose] public section

set_option maxRecDepth 16384

noncomputable section

namespace Cert.Sym

open Idealize.ShloMosaic Idealize.SL.Sem

variable {sg : RefSig} {κ : Kind} {sp : Space}

theorem sh3_up (a b c : ℕ) (f : Fn2) : sh3 a b c (up f) = up (sh2 b c f) := rfl
theorem sh3_at (a b c : ℕ) (f : ℕ → Fn2) : sh3 a b c f 0 = sh2 b c (f a) := rfl
theorem sh4_at (a b c d : ℕ) (f : ℕ → ℕ → Fn2) : sh4 a b c d f 0 0 = sh2 c d (f a b) := rfl
theorem up_at (f : Fn2) : up f 0 = f := rfl
theorem up4_at (f : Fn2) : up4 f 0 0 = f := rfl
theorem sh2_sh2 (a b c d : ℕ) (f : Fn2) : sh2 a b (sh2 c d f) = sh2 (a + c) (b + d) f := by
  funext i j; simp only [sh2]; congr 1 <;> omega

/-- Reading functions of numbers off an array of rank three or four. -/
def of3 {n m k : ℕ} (x : (⟨3, ![n, m, k]⟩ : Shape).Idx → EReal) : ℕ → Fn2 := fun i j l =>
  if h : i < n ∧ j < m ∧ l < k then x (ix3 ⟨i, h.1⟩ ⟨j, h.2.1⟩ ⟨l, h.2.2⟩) else 0

theorem rd2_f32 (n k a b : ℕ) (z : Fin 2 → ℕ) {m : Memref sg κ sp ⟨2, ![n, k]⟩ .f32} (hm : m.IsWhole) (f : Fn2) (h) :
    View.readAt (Elt Ideal) m.view (Rect.unit (s := ⟨2, ![n, k]⟩) ![a, b] z h).toLoadRect (hm.unread (Val := Elt Ideal) (A2 ⟨2, ![n, k]⟩ f))
      = A2 ⟨2, z⟩ (sh2 a b f) := by
  rw [View.readAt_eq_ld, hm.read_unread]; funext j
  show f (a + 1 * _) (b + 1 * _) = f (a + _) (b + _)
  rw [Nat.one_mul, Nat.one_mul]; rfl
theorem rd3_f32 (n k l a b c : ℕ) (z : Fin 3 → ℕ) {m : Memref sg κ sp ⟨3, ![n, k, l]⟩ .f32} (hm : m.IsWhole) (f : ℕ → Fn2) (h) :
    View.readAt (Elt Ideal) m.view (Rect.unit (s := ⟨3, ![n, k, l]⟩) ![a, b, c] z h).toLoadRect (hm.unread (Val := Elt Ideal) (A3 ⟨3, ![n, k, l]⟩ f))
      = A3 ⟨3, z⟩ (sh3 a b c f) := by
  rw [View.readAt_eq_ld, hm.read_unread]; funext j
  show f (a + 1 * _) (b + 1 * _) (c + 1 * _) = f (a + _) (b + _) (c + _)
  rw [Nat.one_mul, Nat.one_mul, Nat.one_mul]; rfl
theorem rd4_f32 (n k l o a b c d : ℕ) (z : Fin 4 → ℕ) {m : Memref sg κ sp ⟨4, ![n, k, l, o]⟩ .f32} (hm : m.IsWhole) (f : ℕ → ℕ → Fn2) (h) :
    View.readAt (Elt Ideal) m.view (Rect.unit (s := ⟨4, ![n, k, l, o]⟩) ![a, b, c, d] z h).toLoadRect (hm.unread (Val := Elt Ideal) (A4 ⟨4, ![n, k, l, o]⟩ f))
      = A4 ⟨4, z⟩ (sh4 a b c d f) := by
  rw [View.readAt_eq_ld, hm.read_unread]; funext j
  show f (a + 1 * _) (b + 1 * _) (c + 1 * _) (d + 1 * _) = f (a + _) (b + _) (c + _) (d + _)
  rw [Nat.one_mul, Nat.one_mul, Nat.one_mul, Nat.one_mul]; rfl

/-- A load inside the piece written last. -/
theorem in3_f32 (n k l a b c a' b' c' : ℕ) (z z' : Fin 3 → ℕ) (v : View sg κ sp ⟨3, ![n, k, l]⟩ .f32) (f : ℕ → Fn2) (L) (h h')
    (hc : ∀ x : Fin 3, (![a, b, c] : Fin 3 → ℕ) x ≤ (![a', b', c'] : Fin 3 → ℕ) x
      ∧ (![a', b', c'] : Fin 3 → ℕ) x + z' x ≤ (![a, b, c] : Fin 3 → ℕ) x + z x) :
    v.readCov (Val := Elt Ideal) (⟨Rect.unit (s := ⟨3, ![n, k, l]⟩) ![a, b, c] z h, A3 ⟨3, z⟩ f⟩ :: L)
      (Rect.unit (s := ⟨3, ![n, k, l]⟩) ![a', b', c'] z' h').toLoadRect = A3 ⟨3, z'⟩ (sh3 (a' - a) (b' - b) (c' - c) f) := by
  rw [View.readCov_eq_canon']; funext j
  have h0 := hc 0; have h1 := hc 1; have h2 := hc 2
  simp only [Matrix.cons_val_zero, Matrix.cons_val_one, Matrix.cons_val] at h0 h1 h2
  have l0 : (j 0 : ℕ) < z' 0 := (j 0).isLt
  have l1 : (j 1 : ℕ) < z' 1 := (j 1).isLt
  have l2 : (j 2 : ℕ) < z' 2 := (j 2).isLt
  let x : (Rect.unit (s := ⟨3, ![n, k, l]⟩) ![a, b, c] z h).shape.Idx := fun r => match r with
    | 0 => ⟨a' - a + (j 0 : ℕ), show _ < z 0 by omega⟩
    | 1 => ⟨b' - b + (j 1 : ℕ), show _ < z 1 by omega⟩
    | 2 => ⟨c' - c + (j 2 : ℕ), show _ < z 2 by omega⟩
  have hx : (Rect.unit (s := ⟨3, ![n, k, l]⟩) ![a', b', c'] z' h').toLoadRect.idx j
      = (Rect.unit (s := ⟨3, ![n, k, l]⟩) ![a, b, c] z h).emb x := by
    funext r; apply Fin.ext
    match r with
    | 0 => show a' + 1 * (j 0 : ℕ) = a + 1 * (a' - a + (j 0 : ℕ)); omega
    | 1 => show b' + 1 * (j 1 : ℕ) = b + 1 * (b' - b + (j 1 : ℕ)); omega
    | 2 => show c' + 1 * (j 2 : ℕ) = c + 1 * (c' - c + (j 2 : ℕ)); omega
  rw [hx]
  exact View.canon_cons_emb _ _ _ x

theorem rd2_bf16 (n k a b : ℕ) (z : Fin 2 → ℕ) {m : Memref sg κ sp ⟨2, ![n, k]⟩ .bf16} (hm : m.IsWhole) (f : Fn2) (h) :
    View.readAt (Elt Ideal) m.view (Rect.unit (s := ⟨2, ![n, k]⟩) ![a, b] z h).toLoadRect (hm.unread (Val := Elt Ideal) (A2 ⟨2, ![n, k]⟩ f))
      = A2 ⟨2, z⟩ (sh2 a b f) := by
  rw [View.readAt_eq_ld, hm.read_unread]; funext j
  show f (a + 1 * _) (b + 1 * _) = f (a + _) (b + _)
  rw [Nat.one_mul, Nat.one_mul]; rfl
theorem rd3_bf16 (n k l a b c : ℕ) (z : Fin 3 → ℕ) {m : Memref sg κ sp ⟨3, ![n, k, l]⟩ .bf16} (hm : m.IsWhole) (f : ℕ → Fn2) (h) :
    View.readAt (Elt Ideal) m.view (Rect.unit (s := ⟨3, ![n, k, l]⟩) ![a, b, c] z h).toLoadRect (hm.unread (Val := Elt Ideal) (A3 ⟨3, ![n, k, l]⟩ f))
      = A3 ⟨3, z⟩ (sh3 a b c f) := by
  rw [View.readAt_eq_ld, hm.read_unread]; funext j
  show f (a + 1 * _) (b + 1 * _) (c + 1 * _) = f (a + _) (b + _) (c + _)
  rw [Nat.one_mul, Nat.one_mul, Nat.one_mul]; rfl
theorem rd4_bf16 (n k l o a b c d : ℕ) (z : Fin 4 → ℕ) {m : Memref sg κ sp ⟨4, ![n, k, l, o]⟩ .bf16} (hm : m.IsWhole) (f : ℕ → ℕ → Fn2) (h) :
    View.readAt (Elt Ideal) m.view (Rect.unit (s := ⟨4, ![n, k, l, o]⟩) ![a, b, c, d] z h).toLoadRect (hm.unread (Val := Elt Ideal) (A4 ⟨4, ![n, k, l, o]⟩ f))
      = A4 ⟨4, z⟩ (sh4 a b c d f) := by
  rw [View.readAt_eq_ld, hm.read_unread]; funext j
  show f (a + 1 * _) (b + 1 * _) (c + 1 * _) (d + 1 * _) = f (a + _) (b + _) (c + _) (d + _)
  rw [Nat.one_mul, Nat.one_mul, Nat.one_mul, Nat.one_mul]; rfl

/-- A load inside the piece written last. -/
theorem in3_bf16 (n k l a b c a' b' c' : ℕ) (z z' : Fin 3 → ℕ) (v : View sg κ sp ⟨3, ![n, k, l]⟩ .bf16) (f : ℕ → Fn2) (L) (h h')
    (hc : ∀ x : Fin 3, (![a, b, c] : Fin 3 → ℕ) x ≤ (![a', b', c'] : Fin 3 → ℕ) x
      ∧ (![a', b', c'] : Fin 3 → ℕ) x + z' x ≤ (![a, b, c] : Fin 3 → ℕ) x + z x) :
    v.readCov (Val := Elt Ideal) (⟨Rect.unit (s := ⟨3, ![n, k, l]⟩) ![a, b, c] z h, A3 ⟨3, z⟩ f⟩ :: L)
      (Rect.unit (s := ⟨3, ![n, k, l]⟩) ![a', b', c'] z' h').toLoadRect = A3 ⟨3, z'⟩ (sh3 (a' - a) (b' - b) (c' - c) f) := by
  rw [View.readCov_eq_canon']; funext j
  have h0 := hc 0; have h1 := hc 1; have h2 := hc 2
  simp only [Matrix.cons_val_zero, Matrix.cons_val_one, Matrix.cons_val] at h0 h1 h2
  have l0 : (j 0 : ℕ) < z' 0 := (j 0).isLt
  have l1 : (j 1 : ℕ) < z' 1 := (j 1).isLt
  have l2 : (j 2 : ℕ) < z' 2 := (j 2).isLt
  let x : (Rect.unit (s := ⟨3, ![n, k, l]⟩) ![a, b, c] z h).shape.Idx := fun r => match r with
    | 0 => ⟨a' - a + (j 0 : ℕ), show _ < z 0 by omega⟩
    | 1 => ⟨b' - b + (j 1 : ℕ), show _ < z 1 by omega⟩
    | 2 => ⟨c' - c + (j 2 : ℕ), show _ < z 2 by omega⟩
  have hx : (Rect.unit (s := ⟨3, ![n, k, l]⟩) ![a', b', c'] z' h').toLoadRect.idx j
      = (Rect.unit (s := ⟨3, ![n, k, l]⟩) ![a, b, c] z h).emb x := by
    funext r; apply Fin.ext
    match r with
    | 0 => show a' + 1 * (j 0 : ℕ) = a + 1 * (a' - a + (j 0 : ℕ)); omega
    | 1 => show b' + 1 * (j 1 : ℕ) = b + 1 * (b' - b + (j 1 : ℕ)); omega
    | 2 => show c' + 1 * (j 2 : ℕ) = c + 1 * (c' - c + (j 2 : ℕ)); omega
  rw [hx]
  exact View.canon_cons_emb _ _ _ x

theorem in4_f32 (n k l o a b c d a' b' c' d' : ℕ) (z z' : Fin 4 → ℕ) (v : View sg κ sp ⟨4, ![n, k, l, o]⟩ .f32) (f : ℕ → ℕ → Fn2) (L) (h h')
    (hc : ∀ x : Fin 4, (![a, b, c, d] : Fin 4 → ℕ) x ≤ (![a', b', c', d'] : Fin 4 → ℕ) x
      ∧ (![a', b', c', d'] : Fin 4 → ℕ) x + z' x ≤ (![a, b, c, d] : Fin 4 → ℕ) x + z x) :
    v.readCov (Val := Elt Ideal) (⟨Rect.unit (s := ⟨4, ![n, k, l, o]⟩) ![a, b, c, d] z h, A4 ⟨4, z⟩ f⟩ :: L)
      (Rect.unit (s := ⟨4, ![n, k, l, o]⟩) ![a', b', c', d'] z' h').toLoadRect = A4 ⟨4, z'⟩ (sh4 (a' - a) (b' - b) (c' - c) (d' - d) f) := by
  rw [View.readCov_eq_canon']; funext j
  have h0 := hc 0; have h1 := hc 1; have h2 := hc 2; have h3 := hc 3
  simp only [Matrix.cons_val_zero, Matrix.cons_val_one, Matrix.cons_val] at h0 h1 h2 h3
  have l0 : (j 0 : ℕ) < z' 0 := (j 0).isLt
  have l1 : (j 1 : ℕ) < z' 1 := (j 1).isLt
  have l2 : (j 2 : ℕ) < z' 2 := (j 2).isLt
  have l3 : (j 3 : ℕ) < z' 3 := (j 3).isLt
  let x : (Rect.unit (s := ⟨4, ![n, k, l, o]⟩) ![a, b, c, d] z h).shape.Idx := fun r => match r with
    | 0 => ⟨a' - a + (j 0 : ℕ), show _ < z 0 by omega⟩
    | 1 => ⟨b' - b + (j 1 : ℕ), show _ < z 1 by omega⟩
    | 2 => ⟨c' - c + (j 2 : ℕ), show _ < z 2 by omega⟩
    | 3 => ⟨d' - d + (j 3 : ℕ), show _ < z 3 by omega⟩
  have hx : (Rect.unit (s := ⟨4, ![n, k, l, o]⟩) ![a', b', c', d'] z' h').toLoadRect.idx j
      = (Rect.unit (s := ⟨4, ![n, k, l, o]⟩) ![a, b, c, d] z h).emb x := by
    funext r; apply Fin.ext
    match r with
    | 0 => show a' + 1 * (j 0 : ℕ) = a + 1 * (a' - a + (j 0 : ℕ)); omega
    | 1 => show b' + 1 * (j 1 : ℕ) = b + 1 * (b' - b + (j 1 : ℕ)); omega
    | 2 => show c' + 1 * (j 2 : ℕ) = c + 1 * (c' - c + (j 2 : ℕ)); omega
    | 3 => show d' + 1 * (j 3 : ℕ) = d + 1 * (d' - d + (j 3 : ℕ)); omega
  rw [hx]
  exact View.canon_cons_emb _ _ _ x

end Cert.Sym
end
-- ==== Proof.SymKernel.lean ====
/- The kernel body of the mixer as a function of its blocks: the array each stage computes, read as a function of two numbers. -/
module

public import proofs.«01_k».proof.Proof.SymLoads

@[expose] public section

noncomputable section

namespace Cert.Sym

open Idealize.ShloMosaic Idealize.SL.Sem

section kernel
variable (P : Par) (X Q M : Fn2) (C : ℕ → Fn2) (D : ℕ → ℕ → Fn2) (t : ℕ)

/-! ### Each stage recognised from its operations -/

theorem f_sig (f : Fn2) : div2 (k2 (wd 0x3F800000#32)) (add2 (k2 (wd 0x3F800000#32)) (exp2 (sub2 (k2 (wd 0x00000000#32)) f))) = sig2 f := rfl
theorem f_gelu (f : Fn2) : mul2 (mul2 (k2 (wd 0x3F000000#32)) f) (add2 (k2 (wd 0x3F800000#32)) (erf2 (mul2 f (k2 (wd 0x3F3504F3#32))))) = gelu2 f := rfl
theorem f_lsig (f : Fn2) : sub2 (k2 (wd 0x00000000#32)) (add2 (max2 (sub2 (k2 (wd 0x00000000#32)) f) (k2 (wd 0x00000000#32)))
  (log1p2 (exp2 (sub2 (k2 (wd 0x00000000#32)) (abs2 f))))) = lsig f := rfl
theorem f_rms (X g : Fn2) : mul2 (mul2 X (colb (rsqrt2 (add2 (div2 (c1 (rsum 1024 (mul2 X X))) (k2 (wd 0x44800000#32))) (k2 (wd 0x358637BD#32)))))) (rowb g) = rms2 X g := rfl
theorem f_scan (n : ℕ) (f : Fn2) : ge1 n (max2 f (rot1 n f)) f = scan1 n f := rfl
theorem f_s32 (f : Fn2) : sub2 f f = s32 f := rfl
theorem sig_sh (a b : ℕ) (f : Fn2) : sig2 (sh2 a b f) = sh2 a b (sig2 f) := rfl
theorem gelu_sh (a b : ℕ) (f : Fn2) : gelu2 (sh2 a b f) = sh2 a b (gelu2 f) := rfl
theorem mm_sh (b : ℕ) (f g : Fn2) : mm 1024 f (sh2 0 b g) = sh2 0 b (mm 1024 f g) := by
  funext i j; simp only [mm, sh2, Nat.zero_add]
theorem mm_sel (hd : ℕ) (f : Fn2) : mm 128 f (sh2 0 0 (P.sel hd)) = sh2 0 0 (mm 128 f (P.sel hd)) := by
  funext i j; simp only [mm, sh2, Nat.zero_add]
theorem f_A : rms2 X (sh2 2 0 P.gains) = kA P X := rfl
theorem f_W : mm 1024 (kA P X) P.wa = kW P X := rfl
theorem f_U : mm 1024 (kA P X) P.wb = kU P X := rfl
theorem f_G : mm 1024 (kA P X) P.wg = kG P X := rfl
theorem f_gate0 : add2 (sh2 0 0 (tr (sh2 0 0 (kG P X)))) (sh2 0 0 P.bias) = kGate P X 0 := rfl
theorem f_gate1 : add2 (sh2 0 0 (tr (sh2 128 0 (kG P X)))) (sh2 0 0 P.bias) = kGate P X 1 := rfl
theorem f_gate2 : add2 (sh2 0 0 (tr (sh2 256 0 (kG P X)))) (sh2 0 0 P.bias) = kGate P X 2 := rfl
theorem f_gate3 : add2 (sh2 0 0 (tr (sh2 384 0 (kG P X)))) (sh2 0 0 P.bias) = kGate P X 3 := rfl
theorem f_I : cat0 8 (kGate P X 0) (cat0 8 (kGate P X 1) (cat0 8 (kGate P X 2) (kGate P X 3))) = kI P X := rfl
theorem f_F : cat0 8 (rot0 (lsig (kGate P X 0))) (cat0 8 (rot0 (lsig (kGate P X 1))) (cat0 8 (rot0 (lsig (kGate P X 2))) (rot0 (lsig (kGate P X 3))))) = kF P X := rfl
theorem f_D : mm 128 (cat0 32 (kF P X) (cat0 32 (s32 (kF P X)) (s32 (s32 (kF P X))))) (sh2 0 0 P.ut) = kD P X := rfl
theorem f_R : add2 (add2 (sh2 0 0 (kD P X)) (sh2 32 0 (kD P X))) (sh2 64 0 (kD P X)) = kR P X := rfl
theorem f_Cb : sub2 (kI P X) (sh2 0 0 (kR P X)) = kCb P X := rfl
theorem f_Cm : scan1 64 (scan1 32 (scan1 16 (scan1 8 (scan1 4 (scan1 2 (scan1 1 (kCb P X))))))) = kCm P X := rfl
theorem f_Cl : colb (sh2 0 127 (kCm P X)) = kCl P X := rfl
theorem f_Ml : add2 (sh2 0 128 (kR P X)) (kCl P X) = kMl P X := rfl
theorem f_E : exp2 (sub2 (kCb P X) (kCl P X)) = kE P X := rfl
theorem f_M1 : max2 (add2 (sh2 0 128 (kR P X)) M) (sh2 0 0 (kMl P X)) = kM P X M 1 := rfl
theorem f_Sp0 : exp2 (sub2 (add2 (sh2 0 128 (kR P X)) M) (kM P X M 1)) = kSp P X M 0 := rfl
theorem f_Sl0 : exp2 (sub2 (sh2 0 0 (kMl P X)) (kM P X M 1)) = kSl P X M 0 := rfl
theorem f_M2 : max2 (add2 (sh2 8 128 (kR P X)) (kM P X M 1)) (sh2 8 0 (kMl P X)) = kM P X M 2 := rfl
theorem f_Sp1 : exp2 (sub2 (add2 (sh2 8 128 (kR P X)) (kM P X M 1)) (kM P X M 2)) = kSp P X M 1 := rfl
theorem f_Sl1 : exp2 (sub2 (sh2 8 0 (kMl P X)) (kM P X M 2)) = kSl P X M 1 := rfl
theorem f_M3 : max2 (add2 (sh2 16 128 (kR P X)) (kM P X M 2)) (sh2 16 0 (kMl P X)) = kM P X M 3 := rfl
theorem f_Sp2 : exp2 (sub2 (add2 (sh2 16 128 (kR P X)) (kM P X M 2)) (kM P X M 3)) = kSp P X M 2 := rfl
theorem f_Sl2 : exp2 (sub2 (sh2 16 0 (kMl P X)) (kM P X M 3)) = kSl P X M 2 := rfl
theorem f_M4 : max2 (add2 (sh2 24 128 (kR P X)) (kM P X M 3)) (sh2 24 0 (kMl P X)) = kM P X M 4 := rfl
theorem f_Sp3 : exp2 (sub2 (add2 (sh2 24 128 (kR P X)) (kM P X M 3)) (kM P X M 4)) = kSp P X M 3 := rfl
theorem f_Sl3 : exp2 (sub2 (sh2 24 0 (kMl P X)) (kM P X M 4)) = kSl P X M 3 := rfl
theorem f_In : add2 (sh2 0 0 (kR P X)) (cat0 8 M (cat0 8 (kM P X M 1) (cat0 8 (kM P X M 2) (kM P X M 3)))) = kIn P X M := rfl
theorem f_Mt : max2 (kIn P X M) (add2 (sh2 0 0 (kR P X)) (kCm P X)) = kMt P X M := rfl
theorem f_Rt : sub2 (sh2 0 0 (kR P X)) (kMt P X M) = kRt P X M := rfl
theorem f_Ei : exp2 (sub2 (kIn P X M) (kMt P X M)) = kEi P X M := rfl
theorem f_En : exp2 (sub2 (k2 (wd 0x00000000#32)) (kMt P X M)) = kEn P X M := rfl
theorem f_P0 : tr (cat0 8 (sh2 0 0 (kRt P X M)) (cat0 8 (sh2 0 0 (s32 (kRt P X M))) (cat0 8 (sh2 0 0 (s32 (s32 (kRt P X M)))) (cat0 8 (sh2 0 0 (kEi P X M)) (cat0 8 (sh2 0 0 (s32 (kEi P X M))) (cat0 8 (sh2 0 0 (kEn P X M)) (cat0 8 (sh2 0 0 (s32 (kEn P X M))) (k2 (wd 0x00000000#32))))))))) = kP P X M 0 := rfl
theorem f_P1 : tr (cat0 8 (sh2 8 0 (kRt P X M)) (cat0 8 (sh2 8 0 (s32 (kRt P X M))) (cat0 8 (sh2 8 0 (s32 (s32 (kRt P X M)))) (cat0 8 (sh2 8 0 (kEi P X M)) (cat0 8 (sh2 8 0 (s32 (kEi P X M))) (cat0 8 (sh2 8 0 (kEn P X M)) (cat0 8 (sh2 8 0 (s32 (kEn P X M))) (k2 (wd 0x00000000#32))))))))) = kP P X M 1 := rfl
theorem f_P2 : tr (cat0 8 (sh2 16 0 (kRt P X M)) (cat0 8 (sh2 16 0 (s32 (kRt P X M))) (cat0 8 (sh2 16 0 (s32 (s32 (kRt P X M)))) (cat0 8 (sh2 16 0 (kEi P X M)) (cat0 8 (sh2 16 0 (s32 (kEi P X M))) (cat0 8 (sh2 16 0 (kEn P X M)) (cat0 8 (sh2 16 0 (s32 (kEn P X M))) (k2 (wd 0x00000000#32))))))))) = kP P X M 2 := rfl
theorem f_P3 : tr (cat0 8 (sh2 24 0 (kRt P X M)) (cat0 8 (sh2 24 0 (s32 (kRt P X M))) (cat0 8 (sh2 24 0 (s32 (s32 (kRt P X M)))) (cat0 8 (sh2 24 0 (kEi P X M)) (cat0 8 (sh2 24 0 (s32 (kEi P X M))) (cat0 8 (sh2 24 0 (kEn P X M)) (cat0 8 (sh2 24 0 (s32 (kEn P X M))) (k2 (wd 0x00000000#32))))))))) = kP P X M 3 := rfl
theorem f_Bc (c hd : ℕ) : mm 128 (kP P X M c) (P.sel hd) = kBc P X M c hd := rfl
theorem f_Conv : add2 (add2 (add2 (add2 (rowb (sh2 0 0 P.cb)) (mul2 (kW P X) (rowb (sh2 3 0 P.cw)))) (mul2 (lag 1 Q (kW P X)) (rowb (sh2 2 0 P.cw)))) (mul2 (lag 2 Q (kW P X)) (rowb (sh2 1 0 P.cw)))) (mul2 (lag 3 Q (kW P X)) (rowb (sh2 0 0 P.cw))) = kConv P X Q := rfl
theorem f_Act : mul2 (kConv P X Q) (sig2 (kConv P X Q)) = kAct P X Q := rfl
theorem f_K : mul2 (sh2 0 512 (kAct P X Q)) (k2 (wd 0x3DB504F3#32)) = kK P X Q := rfl
theorem f_V : A2 ⟨2, ![512, 512]⟩ (sh2 0 512 (gelu2 (kU P X))) = A2 ⟨2, ![512, 512]⟩ (kV P X) := rfl
theorem f_Mu : div2 (c1 (rsum 512 (kV P X))) (k2 (wd 0x44000000#32)) = kMu P X := rfl
theorem f_Var : div2 (c1 (rsum 512 (mul2 (sub2 (kV P X) (colb (kMu P X))) (sub2 (kV P X) (colb (kMu P X)))))) (k2 (wd 0x44000000#32)) = kVar P X := rfl
theorem f_VN : add2 (mul2 (mul2 (sub2 (kV P X) (colb (kMu P X))) (colb (rsqrt2 (add2 (kVar P X) (k2 (wd 0x358637BD#32)))))) (rowb (sh2 0 0 P.lng))) (rowb (sh2 0 0 P.lnb)) = kVN P X := rfl
theorem f_Gm0_0 : mul2 (sh2 0 0 (gelu2 (kU P X))) (add2 (mm 128 (caus (sh2 0 0 (P.ws 0)) (k2 (wd 0x00000000#32))) (sh2 0 0 (kVN P X))) (colb (sh2 0 0 P.bs))) = kGm P X 0 0 := rfl
theorem f_S0_0 : mm 128 (sh2 0 0 (kAct P X Q)) (tr (sh2 0 0 (kK P X Q))) = kS P X Q 0 0 := rfl
theorem f_Va0_0 : cat1 128 (sh2 0 1024 (kW P X)) (k2 oneh) = kVa P X 0 0 := rfl
theorem f_Pv0_0 : mm 128 (mul2 (kS P X Q 0 0) (exp2 (caus (add2 (sh2 0 0 (kBc P X M 0 0)) (rowb (sh2 0 0 (kCb P X)))) (k2 (wd 0xFF800000#32))))) (kVa P X 0 0) = kPv P X Q M 0 0 := rfl
theorem f_Loc0_0 : mm 128 (mul2 (tr (sh2 0 0 (kK P X Q))) (rowb (sh2 0 0 (kE P X)))) (kVa P X 0 0) = kLoc P X Q 0 0 := rfl
theorem f_C0_0 : add2 (mul2 (rowb (cat1 128 (sh2 0 0 (kSp P X M 0)) (sh2 0 0 (kSp P X M 0)))) (cEnt D t 0)) (mul2 (rowb (cat1 128 (sh2 0 0 (kSl P X M 0)) (sh2 0 0 (kSl P X M 0)))) (kLoc P X Q 0 0)) = kC P X Q M (cEnt D t) 0 1 := rfl
theorem f_Qc0_0 : mm 128 (sh2 0 0 (kAct P X Q)) (cEnt D t 0) = kQc P X Q M (cEnt D t) 0 0 := rfl
theorem f_Hm0_0 : mul2 (mul2 (mul2 (kHh P X Q M C 0 0) (rsqrt2 (add2 (mul2 (kSs P X Q M C 0 0) (k2 (wd 0x3C000000#32))) (k2 (wd 0x358637BD#32))))) (rowb (sh2 0 0 P.mhg))) (sh2 0 1536 (sig2 (kW P X))) = kHm P X Q M C 0 0 := rfl
theorem f_Gm0_1 : mul2 (sh2 0 128 (gelu2 (kU P X))) (add2 (mm 128 (caus (sh2 0 0 (P.ws 1)) (k2 (wd 0x00000000#32))) (sh2 0 128 (kVN P X))) (colb (sh2 0 1 P.bs))) = kGm P X 0 1 := rfl
theorem f_S0_1 : mm 128 (sh2 0 128 (kAct P X Q)) (tr (sh2 0 128 (kK P X Q))) = kS P X Q 0 1 := rfl
theorem f_Va0_1 : cat1 128 (sh2 0 1152 (kW P X)) (k2 oneh) = kVa P X 0 1 := rfl
theorem f_Pv0_1 : mm 128 (mul2 (kS P X Q 0 1) (exp2 (caus (add2 (sh2 0 0 (kBc P X M 0 1)) (rowb (sh2 1 0 (kCb P X)))) (k2 (wd 0xFF800000#32))))) (kVa P X 0 1) = kPv P X Q M 0 1 := rfl
theorem f_Loc0_1 : mm 128 (mul2 (tr (sh2 0 128 (kK P X Q))) (rowb (sh2 1 0 (kE P X)))) (kVa P X 0 1) = kLoc P X Q 0 1 := rfl
theorem f_C0_1 : add2 (mul2 (rowb (cat1 128 (sh2 1 0 (kSp P X M 0)) (sh2 1 0 (kSp P X M 0)))) (cEnt D t 1)) (mul2 (rowb (cat1 128 (sh2 1 0 (kSl P X M 0)) (sh2 1 0 (kSl P X M 0)))) (kLoc P X Q 0 1)) = kC P X Q M (cEnt D t) 1 1 := rfl
theorem f_Qc0_1 : mm 128 (sh2 0 128 (kAct P X Q)) (cEnt D t 1) = kQc P X Q M (cEnt D t) 0 1 := rfl
theorem f_Hm0_1 : mul2 (mul2 (mul2 (kHh P X Q M C 0 1) (rsqrt2 (add2 (mul2 (kSs P X Q M C 0 1) (k2 (wd 0x3C000000#32))) (k2 (wd 0x358637BD#32))))) (rowb (sh2 0 128 P.mhg))) (sh2 0 1664 (sig2 (kW P X))) = kHm P X Q M C 0 1 := rfl
theorem f_Gm0_2 : mul2 (sh2 0 256 (gelu2 (kU P X))) (add2 (mm 128 (caus (sh2 0 0 (P.ws 2)) (k2 (wd 0x00000000#32))) (sh2 0 256 (kVN P X))) (colb (sh2 0 2 P.bs))) = kGm P X 0 2 := rfl
theorem f_S0_2 : mm 128 (sh2 0 256 (kAct P X Q)) (tr (sh2 0 256 (kK P X Q))) = kS P X Q 0 2 := rfl
theorem f_Va0_2 : cat1 128 (sh2 0 1280 (kW P X)) (k2 oneh) = kVa P X 0 2 := rfl
theorem f_Pv0_2 : mm 128 (mul2 (kS P X Q 0 2) (exp2 (caus (add2 (sh2 0 0 (kBc P X M 0 2)) (rowb (sh2 2 0 (kCb P X)))) (k2 (wd 0xFF800000#32))))) (kVa P X 0 2) = kPv P X Q M 0 2 := rfl
theorem f_Loc0_2 : mm 128 (mul2 (tr (sh2 0 256 (kK P X Q))) (rowb (sh2 2 0 (kE P X)))) (kVa P X 0 2) = kLoc P X Q 0 2 := rfl
theorem f_C0_2 : add2 (mul2 (rowb (cat1 128 (sh2 2 0 (kSp P X M 0)) (sh2 2 0 (kSp P X M 0)))) (cEnt D t 2)) (mul2 (rowb (cat1 128 (sh2 2 0 (kSl P X M 0)) (sh2 2 0 (kSl P X M 0)))) (kLoc P X Q 0 2)) = kC P X Q M (cEnt D t) 2 1 := rfl
theorem f_Qc0_2 : mm 128 (sh2 0 256 (kAct P X Q)) (cEnt D t 2) = kQc P X Q M (cEnt D t) 0 2 := rfl
theorem f_Hm0_2 : mul2 (mul2 (mul2 (kHh P X Q M C 0 2) (rsqrt2 (add2 (mul2 (kSs P X Q M C 0 2) (k2 (wd 0x3C000000#32))) (k2 (wd 0x358637BD#32))))) (rowb (sh2 0 256 P.mhg))) (sh2 0 1792 (sig2 (kW P X))) = kHm P X Q M C 0 2 := rfl
theorem f_Gm0_3 : mul2 (sh2 0 384 (gelu2 (kU P X))) (add2 (mm 128 (caus (sh2 0 0 (P.ws 3)) (k2 (wd 0x00000000#32))) (sh2 0 384 (kVN P X))) (colb (sh2 0 3 P.bs))) = kGm P X 0 3 := rfl
theorem f_S0_3 : mm 128 (sh2 0 384 (kAct P X Q)) (tr (sh2 0 384 (kK P X Q))) = kS P X Q 0 3 := rfl
theorem f_Va0_3 : cat1 128 (sh2 0 1408 (kW P X)) (k2 oneh) = kVa P X 0 3 := rfl
theorem f_Pv0_3 : mm 128 (mul2 (kS P X Q 0 3) (exp2 (caus (add2 (sh2 0 0 (kBc P X M 0 3)) (rowb (sh2 3 0 (kCb P X)))) (k2 (wd 0xFF800000#32))))) (kVa P X 0 3) = kPv P X Q M 0 3 := rfl
theorem f_Loc0_3 : mm 128 (mul2 (tr (sh2 0 384 (kK P X Q))) (rowb (sh2 3 0 (kE P X)))) (kVa P X 0 3) = kLoc P X Q 0 3 := rfl
theorem f_C0_3 : add2 (mul2 (rowb (cat1 128 (sh2 3 0 (kSp P X M 0)) (sh2 3 0 (kSp P X M 0)))) (cEnt D t 3)) (mul2 (rowb (cat1 128 (sh2 3 0 (kSl P X M 0)) (sh2 3 0 (kSl P X M 0)))) (kLoc P X Q 0 3)) = kC P X Q M (cEnt D t) 3 1 := rfl
theorem f_Qc0_3 : mm 128 (sh2 0 384 (kAct P X Q)) (cEnt D t 3) = kQc P X Q M (cEnt D t) 0 3 := rfl
theorem f_QcN0_0 : mul2 (sh2 0 128 (kBc P X M 0 0)) (sh2 0 0 (mm 128 (sh2 0 0 (kAct P X Q)) (cEnt D t 0))) = mul2 (sh2 0 128 (kBc P X M 0 0)) (sh2 0 0 (kQc P X Q M (cEnt D t) 0 0)) := rfl
theorem f_QcD0_0 : mul2 (sh2 0 128 (kBc P X M 0 0)) (sh2 0 128 (mm 128 (sh2 0 0 (kAct P X Q)) (cEnt D t 0))) = mul2 (sh2 0 128 (kBc P X M 0 0)) (sh2 0 128 (kQc P X Q M (cEnt D t) 0 0)) := rfl
theorem f_QcN0_1 : mul2 (sh2 0 128 (kBc P X M 0 1)) (sh2 0 0 (mm 128 (sh2 0 128 (kAct P X Q)) (cEnt D t 1))) = mul2 (sh2 0 128 (kBc P X M 0 1)) (sh2 0 0 (kQc P X Q M (cEnt D t) 0 1)) := rfl
theorem f_QcD0_1 : mul2 (sh2 0 128 (kBc P X M 0 1)) (sh2 0 128 (mm 128 (sh2 0 128 (kAct P X Q)) (cEnt D t 1))) = mul2 (sh2 0 128 (kBc P X M 0 1)) (sh2 0 128 (kQc P X Q M (cEnt D t) 0 1)) := rfl
theorem f_QcN0_2 : mul2 (sh2 0 128 (kBc P X M 0 2)) (sh2 0 0 (mm 128 (sh2 0 256 (kAct P X Q)) (cEnt D t 2))) = mul2 (sh2 0 128 (kBc P X M 0 2)) (sh2 0 0 (kQc P X Q M (cEnt D t) 0 2)) := rfl
theorem f_QcD0_2 : mul2 (sh2 0 128 (kBc P X M 0 2)) (sh2 0 128 (mm 128 (sh2 0 256 (kAct P X Q)) (cEnt D t 2))) = mul2 (sh2 0 128 (kBc P X M 0 2)) (sh2 0 128 (kQc P X Q M (cEnt D t) 0 2)) := rfl
theorem f_QcN0_3 : mul2 (sh2 0 128 (kBc P X M 0 3)) (sh2 0 0 (mm 128 (sh2 0 384 (kAct P X Q)) (cEnt D t 3))) = mul2 (sh2 0 128 (kBc P X M 0 3)) (sh2 0 0 (kQc P X Q M (cEnt D t) 0 3)) := rfl
theorem f_QcD0_3 : mul2 (sh2 0 128 (kBc P X M 0 3)) (sh2 0 128 (mm 128 (sh2 0 384 (kAct P X Q)) (cEnt D t 3))) = mul2 (sh2 0 128 (kBc P X M 0 3)) (sh2 0 128 (kQc P X Q M (cEnt D t) 0 3)) := rfl
theorem f_Hm0_3 : mul2 (mul2 (mul2 (kHh P X Q M C 0 3) (rsqrt2 (add2 (mul2 (kSs P X Q M C 0 3) (k2 (wd 0x3C000000#32))) (k2 (wd 0x358637BD#32))))) (rowb (sh2 0 384 P.mhg))) (sh2 0 1920 (sig2 (kW P X))) = kHm P X Q M C 0 3 := rfl
theorem f_Gm1_0 : mul2 (sh2 128 0 (gelu2 (kU P X))) (add2 (mm 128 (caus (sh2 0 0 (P.ws 0)) (k2 (wd 0x00000000#32))) (sh2 128 0 (kVN P X))) (colb (sh2 0 0 P.bs))) = kGm P X 1 0 := rfl
theorem f_S1_0 : mm 128 (sh2 128 0 (kAct P X Q)) (tr (sh2 128 0 (kK P X Q))) = kS P X Q 1 0 := rfl
theorem f_Va1_0 : cat1 128 (sh2 128 1024 (kW P X)) (k2 oneh) = kVa P X 1 0 := rfl
theorem f_Pv1_0 : mm 128 (mul2 (kS P X Q 1 0) (exp2 (caus (add2 (sh2 0 0 (kBc P X M 1 0)) (rowb (sh2 8 0 (kCb P X)))) (k2 (wd 0xFF800000#32))))) (kVa P X 1 0) = kPv P X Q M 1 0 := rfl
theorem f_Loc1_0 : mm 128 (mul2 (tr (sh2 128 0 (kK P X Q))) (rowb (sh2 8 0 (kE P X)))) (kVa P X 1 0) = kLoc P X Q 1 0 := rfl
theorem f_C1_0 : add2 (mul2 (rowb (cat1 128 (sh2 0 0 (kSp P X M 1)) (sh2 0 0 (kSp P X M 1)))) (kC P X Q M C 0 1)) (mul2 (rowb (cat1 128 (sh2 0 0 (kSl P X M 1)) (sh2 0 0 (kSl P X M 1)))) (kLoc P X Q 1 0)) = kC P X Q M C 0 2 := rfl
theorem f_Qc1_0 : mm 128 (sh2 128 0 (kAct P X Q)) (kC P X Q M C 0 1) = kQc P X Q M C 1 0 := rfl
theorem f_Hm1_0 : mul2 (mul2 (mul2 (kHh P X Q M C 1 0) (rsqrt2 (add2 (mul2 (kSs P X Q M C 1 0) (k2 (wd 0x3C000000#32))) (k2 (wd 0x358637BD#32))))) (rowb (sh2 0 0 P.mhg))) (sh2 128 1536 (sig2 (kW P X))) = kHm P X Q M C 1 0 := rfl
theorem f_Gm1_1 : mul2 (sh2 128 128 (gelu2 (kU P X))) (add2 (mm 128 (caus (sh2 0 0 (P.ws 1)) (k2 (wd 0x00000000#32))) (sh2 128 128 (kVN P X))) (colb (sh2 0 1 P.bs))) = kGm P X 1 1 := rfl
theorem f_S1_1 : mm 128 (sh2 128 128 (kAct P X Q)) (tr (sh2 128 128 (kK P X Q))) = kS P X Q 1 1 := rfl
theorem f_Va1_1 : cat1 128 (sh2 128 1152 (kW P X)) (k2 oneh) = kVa P X 1 1 := rfl
theorem f_Pv1_1 : mm 128 (mul2 (kS P X Q 1 1) (exp2 (caus (add2 (sh2 0 0 (kBc P X M 1 1)) (rowb (sh2 9 0 (kCb P X)))) (k2 (wd 0xFF800000#32))))) (kVa P X 1 1) = kPv P X Q M 1 1 := rfl
theorem f_Loc1_1 : mm 128 (mul2 (tr (sh2 128 128 (kK P X Q))) (rowb (sh2 9 0 (kE P X)))) (kVa P X 1 1) = kLoc P X Q 1 1 := rfl
theorem f_C1_1 : add2 (mul2 (rowb (cat1 128 (sh2 1 0 (kSp P X M 1)) (sh2 1 0 (kSp P X M 1)))) (kC P X Q M C 1 1)) (mul2 (rowb (cat1 128 (sh2 1 0 (kSl P X M 1)) (sh2 1 0 (kSl P X M 1)))) (kLoc P X Q 1 1)) = kC P X Q M C 1 2 := rfl
theorem f_Qc1_1 : mm 128 (sh2 128 128 (kAct P X Q)) (kC P X Q M C 1 1) = kQc P X Q M C 1 1 := rfl
theorem f_Hm1_1 : mul2 (mul2 (mul2 (kHh P X Q M C 1 1) (rsqrt2 (add2 (mul2 (kSs P X Q M C 1 1) (k2 (wd 0x3C000000#32))) (k2 (wd 0x358637BD#32))))) (rowb (sh2 0 128 P.mhg))) (sh2 128 1664 (sig2 (kW P X))) = kHm P X Q M C 1 1 := rfl
theorem f_Gm1_2 : mul2 (sh2 128 256 (gelu2 (kU P X))) (add2 (mm 128 (caus (sh2 0 0 (P.ws 2)) (k2 (wd 0x00000000#32))) (sh2 128 256 (kVN P X))) (colb (sh2 0 2 P.bs))) = kGm P X 1 2 := rfl
theorem f_S1_2 : mm 128 (sh2 128 256 (kAct P X Q)) (tr (sh2 128 256 (kK P X Q))) = kS P X Q 1 2 := rfl
theorem f_Va1_2 : cat1 128 (sh2 128 1280 (kW P X)) (k2 oneh) = kVa P X 1 2 := rfl
theorem f_Pv1_2 : mm 128 (mul2 (kS P X Q 1 2) (exp2 (caus (add2 (sh2 0 0 (kBc P X M 1 2)) (rowb (sh2 10 0 (kCb P X)))) (k2 (wd 0xFF800000#32))))) (kVa P X 1 2) = kPv P X Q M 1 2 := rfl
theorem f_Loc1_2 : mm 128 (mul2 (tr (sh2 128 256 (kK P X Q))) (rowb (sh2 10 0 (kE P X)))) (kVa P X 1 2) = kLoc P X Q 1 2 := rfl
theorem f_C1_2 : add2 (mul2 (rowb (cat1 128 (sh2 2 0 (kSp P X M 1)) (sh2 2 0 (kSp P X M 1)))) (kC P X Q M C 2 1)) (mul2 (rowb (cat1 128 (sh2 2 0 (kSl P X M 1)) (sh2 2 0 (kSl P X M 1)))) (kLoc P X Q 1 2)) = kC P X Q M C 2 2 := rfl
theorem f_Qc1_2 : mm 128 (sh2 128 256 (kAct P X Q)) (kC P X Q M C 2 1) = kQc P X Q M C 1 2 := rfl
theorem f_Hm1_2 : mul2 (mul2 (mul2 (kHh P X Q M C 1 2) (rsqrt2 (add2 (mul2 (kSs P X Q M C 1 2) (k2 (wd 0x3C000000#32))) (k2 (wd 0x358637BD#32))))) (rowb (sh2 0 256 P.mhg))) (sh2 128 1792 (sig2 (kW P X))) = kHm P X Q M C 1 2 := rfl
theorem f_Gm1_3 : mul2 (sh2 128 384 (gelu2 (kU P X))) (add2 (mm 128 (caus (sh2 0 0 (P.ws 3)) (k2 (wd 0x00000000#32))) (sh2 128 384 (kVN P X))) (colb (sh2 0 3 P.bs))) = kGm P X 1 3 := rfl
theorem f_S1_3 : mm 128 (sh2 128 384 (kAct P X Q)) (tr (sh2 128 384 (kK P X Q))) = kS P X Q 1 3 := rfl
theorem f_Va1_3 : cat1 128 (sh2 128 1408 (kW P X)) (k2 oneh) = kVa P X 1 3 := rfl
theorem f_Pv1_3 : mm 128 (mul2 (kS P X Q 1 3) (exp2 (caus (add2 (sh2 0 0 (kBc P X M 1 3)) (rowb (sh2 11 0 (kCb P X)))) (k2 (wd 0xFF800000#32))))) (kVa P X 1 3) = kPv P X Q M 1 3 := rfl
theorem f_Loc1_3 : mm 128 (mul2 (tr (sh2 128 384 (kK P X Q))) (rowb (sh2 11 0 (kE P X)))) (kVa P X 1 3) = kLoc P X Q 1 3 := rfl
theorem f_C1_3 : add2 (mul2 (rowb (cat1 128 (sh2 3 0 (kSp P X M 1)) (sh2 3 0 (kSp P X M 1)))) (kC P X Q M C 3 1)) (mul2 (rowb (cat1 128 (sh2 3 0 (kSl P X M 1)) (sh2 3 0 (kSl P X M 1)))) (kLoc P X Q 1 3)) = kC P X Q M C 3 2 := rfl
theorem f_Qc1_3 : mm 128 (sh2 128 384 (kAct P X Q)) (kC P X Q M C 3 1) = kQc P X Q M C 1 3 := rfl
theorem f_Hm1_3 : mul2 (mul2 (mul2 (kHh P X Q M C 1 3) (rsqrt2 (add2 (mul2 (kSs P X Q M C 1 3) (k2 (wd 0x3C000000#32))) (k2 (wd 0x358637BD#32))))) (rowb (sh2 0 384 P.mhg))) (sh2 128 1920 (sig2 (kW P X))) = kHm P X Q M C 1 3 := rfl
theorem f_Gm2_0 : mul2 (sh2 256 0 (gelu2 (kU P X))) (add2 (mm 128 (caus (sh2 0 0 (P.ws 0)) (k2 (wd 0x00000000#32))) (sh2 256 0 (kVN P X))) (colb (sh2 0 0 P.bs))) = kGm P X 2 0 := rfl
theorem f_S2_0 : mm 128 (sh2 256 0 (kAct P X Q)) (tr (sh2 256 0 (kK P X Q))) = kS P X Q 2 0 := rfl
theorem f_Va2_0 : cat1 128 (sh2 256 1024 (kW P X)) (k2 oneh) = kVa P X 2 0 := rfl
theorem f_Pv2_0 : mm 128 (mul2 (kS P X Q 2 0) (exp2 (caus (add2 (sh2 0 0 (kBc P X M 2 0)) (rowb (sh2 16 0 (kCb P X)))) (k2 (wd 0xFF800000#32))))) (kVa P X 2 0) = kPv P X Q M 2 0 := rfl
theorem f_Loc2_0 : mm 128 (mul2 (tr (sh2 256 0 (kK P X Q))) (rowb (sh2 16 0 (kE P X)))) (kVa P X 2 0) = kLoc P X Q 2 0 := rfl
theorem f_C2_0 : add2 (mul2 (rowb (cat1 128 (sh2 0 0 (kSp P X M 2)) (sh2 0 0 (kSp P X M 2)))) (kC P X Q M C 0 2)) (mul2 (rowb (cat1 128 (sh2 0 0 (kSl P X M 2)) (sh2 0 0 (kSl P X M 2)))) (kLoc P X Q 2 0)) = kC P X Q M C 0 3 := rfl
theorem f_Qc2_0 : mm 128 (sh2 256 0 (kAct P X Q)) (kC P X Q M C 0 2) = kQc P X Q M C 2 0 := rfl
theorem f_Hm2_0 : mul2 (mul2 (mul2 (kHh P X Q M C 2 0) (rsqrt2 (add2 (mul2 (kSs P X Q M C 2 0) (k2 (wd 0x3C000000#32))) (k2 (wd 0x358637BD#32))))) (rowb (sh2 0 0 P.mhg))) (sh2 256 1536 (sig2 (kW P X))) = kHm P X Q M C 2 0 := rfl
theorem f_Gm2_1 : mul2 (sh2 256 128 (gelu2 (kU P X))) (add2 (mm 128 (caus (sh2 0 0 (P.ws 1)) (k2 (wd 0x00000000#32))) (sh2 256 128 (kVN P X))) (colb (sh2 0 1 P.bs))) = kGm P X 2 1 := rfl
theorem f_S2_1 : mm 128 (sh2 256 128 (kAct P X Q)) (tr (sh2 256 128 (kK P X Q))) = kS P X Q 2 1 := rfl
theorem f_Va2_1 : cat1 128 (sh2 256 1152 (kW P X)) (k2 oneh) = kVa P X 2 1 := rfl
theorem f_Pv2_1 : mm 128 (mul2 (kS P X Q 2 1) (exp2 (caus (add2 (sh2 0 0 (kBc P X M 2 1)) (rowb (sh2 17 0 (kCb P X)))) (k2 (wd 0xFF800000#32))))) (kVa P X 2 1) = kPv P X Q M 2 1 := rfl
theorem f_Loc2_1 : mm 128 (mul2 (tr (sh2 256 128 (kK P X Q))) (rowb (sh2 17 0 (kE P X)))) (kVa P X 2 1) = kLoc P X Q 2 1 := rfl
theorem f_C2_1 : add2 (mul2 (rowb (cat1 128 (sh2 1 0 (kSp P X M 2)) (sh2 1 0 (kSp P X M 2)))) (kC P X Q M C 1 2)) (mul2 (rowb (cat1 128 (sh2 1 0 (kSl P X M 2)) (sh2 1 0 (kSl P X M 2)))) (kLoc P X Q 2 1)) = kC P X Q M C 1 3 := rfl
theorem f_Qc2_1 : mm 128 (sh2 256 128 (kAct P X Q)) (kC P X Q M C 1 2) = kQc P X Q M C 2 1 := rfl
theorem f_Hm2_1 : mul2 (mul2 (mul2 (kHh P X Q M C 2 1) (rsqrt2 (add2 (mul2 (kSs P X Q M C 2 1) (k2 (wd 0x3C000000#32))) (k2 (wd 0x358637BD#32))))) (rowb (sh2 0 128 P.mhg))) (sh2 256 1664 (sig2 (kW P X))) = kHm P X Q M C 2 1 := rfl
theorem f_Gm2_2 : mul2 (sh2 256 256 (gelu2 (kU P X))) (add2 (mm 128 (caus (sh2 0 0 (P.ws 2)) (k2 (wd 0x00000000#32))) (sh2 256 256 (kVN P X))) (colb (sh2 0 2 P.bs))) = kGm P X 2 2 := rfl
theorem f_S2_2 : mm 128 (sh2 256 256 (kAct P X Q)) (tr (sh2 256 256 (kK P X Q))) = kS P X Q 2 2 := rfl
theorem f_Va2_2 : cat1 128 (sh2 256 1280 (kW P X)) (k2 oneh) = kVa P X 2 2 := rfl
theorem f_Pv2_2 : mm 128 (mul2 (kS P X Q 2 2) (exp2 (caus (add2 (sh2 0 0 (kBc P X M 2 2)) (rowb (sh2 18 0 (kCb P X)))) (k2 (wd 0xFF800000#32))))) (kVa P X 2 2) = kPv P X Q M 2 2 := rfl
theorem f_Loc2_2 : mm 128 (mul2 (tr (sh2 256 256 (kK P X Q))) (rowb (sh2 18 0 (kE P X)))) (kVa P X 2 2) = kLoc P X Q 2 2 := rfl
theorem f_C2_2 : add2 (mul2 (rowb (cat1 128 (sh2 2 0 (kSp P X M 2)) (sh2 2 0 (kSp P X M 2)))) (kC P X Q M C 2 2)) (mul2 (rowb (cat1 128 (sh2 2 0 (kSl P X M 2)) (sh2 2 0 (kSl P X M 2)))) (kLoc P X Q 2 2)) = kC P X Q M C 2 3 := rfl
theorem f_Qc2_2 : mm 128 (sh2 256 256 (kAct P X Q)) (kC P X Q M C 2 2) = kQc P X Q M C 2 2 := rfl
theorem f_Hm2_2 : mul2 (mul2 (mul2 (kHh P X Q M C 2 2) (rsqrt2 (add2 (mul2 (kSs P X Q M C 2 2) (k2 (wd 0x3C000000#32))) (k2 (wd 0x358637BD#32))))) (rowb (sh2 0 256 P.mhg))) (sh2 256 1792 (sig2 (kW P X))) = kHm P X Q M C 2 2 := rfl
theorem f_Gm2_3 : mul2 (sh2 256 384 (gelu2 (kU P X))) (add2 (mm 128 (caus (sh2 0 0 (P.ws 3)) (k2 (wd 0x00000000#32))) (sh2 256 384 (kVN P X))) (colb (sh2 0 3 P.bs))) = kGm P X 2 3 := rfl
theorem f_S2_3 : mm 128 (sh2 256 384 (kAct P X Q)) (tr (sh2 256 384 (kK P X Q))) = kS P X Q 2 3 := rfl
theorem f_Va2_3 : cat1 128 (sh2 256 1408 (kW P X)) (k2 oneh) = kVa P X 2 3 := rfl
theorem f_Pv2_3 : mm 128 (mul2 (kS P X Q 2 3) (exp2 (caus (add2 (sh2 0 0 (kBc P X M 2 3)) (rowb (sh2 19 0 (kCb P X)))) (k2 (wd 0xFF800000#32))))) (kVa P X 2 3) = kPv P X Q M 2 3 := rfl
theorem f_Loc2_3 : mm 128 (mul2 (tr (sh2 256 384 (kK P X Q))) (rowb (sh2 19 0 (kE P X)))) (kVa P X 2 3) = kLoc P X Q 2 3 := rfl
theorem f_C2_3 : add2 (mul2 (rowb (cat1 128 (sh2 3 0 (kSp P X M 2)) (sh2 3 0 (kSp P X M 2)))) (kC P X Q M C 3 2)) (mul2 (rowb (cat1 128 (sh2 3 0 (kSl P X M 2)) (sh2 3 0 (kSl P X M 2)))) (kLoc P X Q 2 3)) = kC P X Q M C 3 3 := rfl
theorem f_Qc2_3 : mm 128 (sh2 256 384 (kAct P X Q)) (kC P X Q M C 3 2) = kQc P X Q M C 2 3 := rfl
theorem f_Hm2_3 : mul2 (mul2 (mul2 (kHh P X Q M C 2 3) (rsqrt2 (add2 (mul2 (kSs P X Q M C 2 3) (k2 (wd 0x3C000000#32))) (k2 (wd 0x358637BD#32))))) (rowb (sh2 0 384 P.mhg))) (sh2 256 1920 (sig2 (kW P X))) = kHm P X Q M C 2 3 := rfl
theorem f_Gm3_0 : mul2 (sh2 384 0 (gelu2 (kU P X))) (add2 (mm 128 (caus (sh2 0 0 (P.ws 0)) (k2 (wd 0x00000000#32))) (sh2 384 0 (kVN P X))) (colb (sh2 0 0 P.bs))) = kGm P X 3 0 := rfl
theorem f_S3_0 : mm 128 (sh2 384 0 (kAct P X Q)) (tr (sh2 384 0 (kK P X Q))) = kS P X Q 3 0 := rfl
theorem f_Va3_0 : cat1 128 (sh2 384 1024 (kW P X)) (k2 oneh) = kVa P X 3 0 := rfl
theorem f_Pv3_0 : mm 128 (mul2 (kS P X Q 3 0) (exp2 (caus (add2 (sh2 0 0 (kBc P X M 3 0)) (rowb (sh2 24 0 (kCb P X)))) (k2 (wd 0xFF800000#32))))) (kVa P X 3 0) = kPv P X Q M 3 0 := rfl
theorem f_Loc3_0 : mm 128 (mul2 (tr (sh2 384 0 (kK P X Q))) (rowb (sh2 24 0 (kE P X)))) (kVa P X 3 0) = kLoc P X Q 3 0 := rfl
theorem f_C3_0 : add2 (mul2 (rowb (cat1 128 (sh2 0 0 (kSp P X M 3)) (sh2 0 0 (kSp P X M 3)))) (kC P X Q M C 0 3)) (mul2 (rowb (cat1 128 (sh2 0 0 (kSl P X M 3)) (sh2 0 0 (kSl P X M 3)))) (kLoc P X Q 3 0)) = kC P X Q M C 0 4 := rfl
theorem f_Qc3_0 : mm 128 (sh2 384 0 (kAct P X Q)) (kC P X Q M C 0 3) = kQc P X Q M C 3 0 := rfl
theorem f_Hm3_0 : mul2 (mul2 (mul2 (kHh P X Q M C 3 0) (rsqrt2 (add2 (mul2 (kSs P X Q M C 3 0) (k2 (wd 0x3C000000#32))) (k2 (wd 0x358637BD#32))))) (rowb (sh2 0 0 P.mhg))) (sh2 384 1536 (sig2 (kW P X))) = kHm P X Q M C 3 0 := rfl
theorem f_Gm3_1 : mul2 (sh2 384 128 (gelu2 (kU P X))) (add2 (mm 128 (caus (sh2 0 0 (P.ws 1)) (k2 (wd 0x00000000#32))) (sh2 384 128 (kVN P X))) (colb (sh2 0 1 P.bs))) = kGm P X 3 1 := rfl
theorem f_S3_1 : mm 128 (sh2 384 128 (kAct P X Q)) (tr (sh2 384 128 (kK P X Q))) = kS P X Q 3 1 := rfl
theorem f_Va3_1 : cat1 128 (sh2 384 1152 (kW P X)) (k2 oneh) = kVa P X 3 1 := rfl
theorem f_Pv3_1 : mm 128 (mul2 (kS P X Q 3 1) (exp2 (caus (add2 (sh2 0 0 (kBc P X M 3 1)) (rowb (sh2 25 0 (kCb P X)))) (k2 (wd 0xFF800000#32))))) (kVa P X 3 1) = kPv P X Q M 3 1 := rfl
theorem f_Loc3_1 : mm 128 (mul2 (tr (sh2 384 128 (kK P X Q))) (rowb (sh2 25 0 (kE P X)))) (kVa P X 3 1) = kLoc P X Q 3 1 := rfl
theorem f_C3_1 : add2 (mul2 (rowb (cat1 128 (sh2 1 0 (kSp P X M 3)) (sh2 1 0 (kSp P X M 3)))) (kC P X Q M C 1 3)) (mul2 (rowb (cat1 128 (sh2 1 0 (kSl P X M 3)) (sh2 1 0 (kSl P X M 3)))) (kLoc P X Q 3 1)) = kC P X Q M C 1 4 := rfl
theorem f_Qc3_1 : mm 128 (sh2 384 128 (kAct P X Q)) (kC P X Q M C 1 3) = kQc P X Q M C 3 1 := rfl
theorem f_Hm3_1 : mul2 (mul2 (mul2 (kHh P X Q M C 3 1) (rsqrt2 (add2 (mul2 (kSs P X Q M C 3 1) (k2 (wd 0x3C000000#32))) (k2 (wd 0x358637BD#32))))) (rowb (sh2 0 128 P.mhg))) (sh2 384 1664 (sig2 (kW P X))) = kHm P X Q M C 3 1 := rfl
theorem f_Gm3_2 : mul2 (sh2 384 256 (gelu2 (kU P X))) (add2 (mm 128 (caus (sh2 0 0 (P.ws 2)) (k2 (wd 0x00000000#32))) (sh2 384 256 (kVN P X))) (colb (sh2 0 2 P.bs))) = kGm P X 3 2 := rfl
theorem f_S3_2 : mm 128 (sh2 384 256 (kAct P X Q)) (tr (sh2 384 256 (kK P X Q))) = kS P X Q 3 2 := rfl
theorem f_Va3_2 : cat1 128 (sh2 384 1280 (kW P X)) (k2 oneh) = kVa P X 3 2 := rfl
theorem f_Pv3_2 : mm 128 (mul2 (kS P X Q 3 2) (exp2 (caus (add2 (sh2 0 0 (kBc P X M 3 2)) (rowb (sh2 26 0 (kCb P X)))) (k2 (wd 0xFF800000#32))))) (kVa P X 3 2) = kPv P X Q M 3 2 := rfl
theorem f_Loc3_2 : mm 128 (mul2 (tr (sh2 384 256 (kK P X Q))) (rowb (sh2 26 0 (kE P X)))) (kVa P X 3 2) = kLoc P X Q 3 2 := rfl
theorem f_C3_2 : add2 (mul2 (rowb (cat1 128 (sh2 2 0 (kSp P X M 3)) (sh2 2 0 (kSp P X M 3)))) (kC P X Q M C 2 3)) (mul2 (rowb (cat1 128 (sh2 2 0 (kSl P X M 3)) (sh2 2 0 (kSl P X M 3)))) (kLoc P X Q 3 2)) = kC P X Q M C 2 4 := rfl
theorem f_Qc3_2 : mm 128 (sh2 384 256 (kAct P X Q)) (kC P X Q M C 2 3) = kQc P X Q M C 3 2 := rfl
theorem f_Hm3_2 : mul2 (mul2 (mul2 (kHh P X Q M C 3 2) (rsqrt2 (add2 (mul2 (kSs P X Q M C 3 2) (k2 (wd 0x3C000000#32))) (k2 (wd 0x358637BD#32))))) (rowb (sh2 0 256 P.mhg))) (sh2 384 1792 (sig2 (kW P X))) = kHm P X Q M C 3 2 := rfl
theorem f_Gm3_3 : mul2 (sh2 384 384 (gelu2 (kU P X))) (add2 (mm 128 (caus (sh2 0 0 (P.ws 3)) (k2 (wd 0x00000000#32))) (sh2 384 384 (kVN P X))) (colb (sh2 0 3 P.bs))) = kGm P X 3 3 := rfl
theorem f_S3_3 : mm 128 (sh2 384 384 (kAct P X Q)) (tr (sh2 384 384 (kK P X Q))) = kS P X Q 3 3 := rfl
theorem f_Va3_3 : cat1 128 (sh2 384 1408 (kW P X)) (k2 oneh) = kVa P X 3 3 := rfl
theorem f_Pv3_3 : mm 128 (mul2 (kS P X Q 3 3) (exp2 (caus (add2 (sh2 0 0 (kBc P X M 3 3)) (rowb (sh2 27 0 (kCb P X)))) (k2 (wd 0xFF800000#32))))) (kVa P X 3 3) = kPv P X Q M 3 3 := rfl
theorem f_Loc3_3 : mm 128 (mul2 (tr (sh2 384 384 (kK P X Q))) (rowb (sh2 27 0 (kE P X)))) (kVa P X 3 3) = kLoc P X Q 3 3 := rfl
theorem f_C3_3 : add2 (mul2 (rowb (cat1 128 (sh2 3 0 (kSp P X M 3)) (sh2 3 0 (kSp P X M 3)))) (kC P X Q M C 3 3)) (mul2 (rowb (cat1 128 (sh2 3 0 (kSl P X M 3)) (sh2 3 0 (kSl P X M 3)))) (kLoc P X Q 3 3)) = kC P X Q M C 3 4 := rfl
theorem f_Qc3_3 : mm 128 (sh2 384 384 (kAct P X Q)) (kC P X Q M C 3 3) = kQc P X Q M C 3 3 := rfl
theorem f_Hm3_3 : mul2 (mul2 (mul2 (kHh P X Q M C 3 3) (rsqrt2 (add2 (mul2 (kSs P X Q M C 3 3) (k2 (wd 0x3C000000#32))) (k2 (wd 0x358637BD#32))))) (rowb (sh2 0 384 P.mhg))) (sh2 384 1920 (sig2 (kW P X))) = kHm P X Q M C 3 3 := rfl
theorem f_Hh (c hd : ℕ) : div2 (add2 (mul2 (sh2 0 128 (kBc P X M c hd)) (sh2 0 0 (kQc P X Q M C c hd))) (sh2 0 0 (kPv P X Q M c hd)))
  (max2 (abs2 (add2 (mul2 (sh2 0 128 (kBc P X M c hd)) (sh2 0 128 (kQc P X Q M C c hd))) (sh2 0 128 (kPv P X Q M c hd)))) (sh2 0 256 (kBc P X M c hd))) = kHh P X Q M C c hd := rfl
theorem f_Ss (c hd : ℕ) : mm 256 (cat1 128 (mul2 (kHh P X Q M C c hd) (kHh P X Q M C c hd)) (s32 (mul2 (kHh P X Q M C c hd) (kHh P X Q M C c hd)))) (sh2 0 0 P.ones) = kSs P X Q M C c hd := rfl
theorem f_Y : mm 1024 (kMix P X Q M C) P.wo = kY P X Q M C := rfl
theorem f_Out : add2 X (rms2 (kY P X Q M C) (sh2 3 0 P.gains)) = kOut P X Q M C := rfl

end kernel

end Cert.Sym
end
-- ==== Proof.SymScratch.lean ====
/- Loads from the scratch buffers that several stores filled: the lagged rows under the convolution, and the mixed row block. -/
module

public import proofs.«01_k».proof.Proof.SymKernel

@[expose] public section

set_option maxRecDepth 16384

noncomputable section

namespace Cert.Sym

open Idealize.ShloMosaic Idealize.SL.Sem

variable {sg : RefSig} {κ : Kind} {sp : Space}

/-- The buffer of eight carried rows and 512 new ones, by sequence. -/
abbrev Sqk : Shape := ⟨3, ![2, 520, 1024]⟩
/-- The four column pieces of the new rows of sequence `t`, the last stored first. -/
abbrev qkR (t b : ℕ) (h : ∀ a, (![t, 8, b] : Fin 3 → ℕ) a + (![1, 512, 256] : Fin 3 → ℕ) a ≤ Sqk.size a) : Rect Sqk := Rect.unit ![t, 8, b] ![1, 512, 256] h

/-- The new rows from `8 - k` on: the first `k` from the carried rows. -/
def lagA (k : ℕ) (W : Fn2) (x : (⟨3, ![1, 8, 1024]⟩ : Shape).Idx → EReal) : (⟨3, ![1, 512, 1024]⟩ : Shape).Idx → EReal :=
  fun j => if (j 1 : ℕ) < k then of3 x 0 (8 - k + (j 1 : ℕ)) (j 2) else W ((j 1 : ℕ) - k) (j 2)

theorem lagA_A3 (k : ℕ) (W : Fn2) (g : ℕ → Fn2) (hk : k ≤ 8) : lagA k W (A3 ⟨3, ![1, 8, 1024]⟩ g) = A3 ⟨3, ![1, 512, 1024]⟩ (up (lag k (g 0) W)) := by
  funext j
  have h2 : (j 2 : ℕ) < 1024 := (j 2).isLt
  show lagA k W _ j = lag k (g 0) W (j 1) (j 2)
  simp only [lagA, lag]
  split
  · rename_i h
    rw [of3, dif_pos ⟨Nat.one_pos, by omega, h2⟩]; rfl
  · rfl

theorem qk_read (v : View sg κ sp Sqk .f32) (f : v.ty.Contents (Elt Ideal)) (t : ℕ) (W : Fn2) (L : List (View.Piece (Elt Ideal) Sqk .f32)) (h0 h1 h2 h3) (y : Sqk.Idx)
    (ht : (y 0 : ℕ) = t) :
    v.read (Elt Ideal) (v.writes (Elt Ideal) f (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)) y
      = if 8 ≤ (y 1 : ℕ) then W ((y 1 : ℕ) - 8) (y 2) else v.read (Elt Ideal) (v.writes (Elt Ideal) f L) y := by
  have y1 : (y 1 : ℕ) < 520 := (y 1).isLt
  have y2 : (y 2 : ℕ) < 1024 := (y 2).isLt
  have miss : ∀ (b : ℕ) (h) (w) (L' : List (View.Piece (Elt Ideal) Sqk .f32)), ((y 1 : ℕ) < 8 ∨ (y 2 : ℕ) < b ∨ b + 256 ≤ (y 2 : ℕ)) →
      v.read (Elt Ideal) (v.writes (Elt Ideal) f (⟨qkR t b h, w⟩ :: L')) y = v.read (Elt Ideal) (v.writes (Elt Ideal) f L') y := by
    intro b h w L' hb
    rcases hb with hb | hb
    · exact View.read_writes_cons_miss_of_axis v f _ L' y 1 8 512 rfl rfl rfl (Or.inl hb)
    · exact View.read_writes_cons_miss_of_axis v f _ L' y 2 b 256 rfl rfl rfl hb
  have hit : ∀ (b : ℕ) (h) (L' : List (View.Piece (Elt Ideal) Sqk .f32)), 8 ≤ (y 1 : ℕ) → b ≤ (y 2 : ℕ) → (y 2 : ℕ) < b + 256 →
      v.read (Elt Ideal) (v.writes (Elt Ideal) f (⟨qkR t b h, A3 ⟨3, ![1, 512, 256]⟩ (up (sh2 0 b W))⟩ :: L')) y = W ((y 1 : ℕ) - 8) (y 2) := by
    intro b h L' a1 a2 a3
    let x : (qkR t b h).shape.Idx := fun a => match a with
      | 0 => ⟨0, Nat.one_pos⟩
      | 1 => ⟨(y 1 : ℕ) - 8, show _ < 512 by omega⟩
      | 2 => ⟨(y 2 : ℕ) - b, show _ < 256 by omega⟩
    rw [View.read_writes_cons_hit_of_coords v f (qkR t b h) _ L' x y]
    · show W (0 + ((y 1 : ℕ) - 8)) (b + ((y 2 : ℕ) - b)) = _
      rw [Nat.zero_add, Nat.add_sub_cancel' a2]
    · intro a
      match a with
      | 0 => show (y 0 : ℕ) = t + 1 * 0; omega
      | 1 => show (y 1 : ℕ) = 8 + 1 * ((y 1 : ℕ) - 8); omega
      | 2 => show (y 2 : ℕ) = b + 1 * ((y 2 : ℕ) - b); omega
  by_cases h8 : 8 ≤ (y 1 : ℕ)
  · rw [if_pos h8]
    by_cases c3 : 768 ≤ (y 2 : ℕ)
    · exact hit 768 h3 _ h8 c3 (by omega)
    rw [miss 768 h3 _ _ (by omega)]
    by_cases c2 : 512 ≤ (y 2 : ℕ)
    · exact hit 512 h2 _ h8 c2 (by omega)
    rw [miss 512 h2 _ _ (by omega)]
    by_cases c1 : 256 ≤ (y 2 : ℕ)
    · exact hit 256 h1 _ h8 c1 (by omega)
    rw [miss 256 h1 _ _ (by omega)]
    exact hit 0 h0 _ h8 (by omega) (by omega)
  · rw [if_neg h8, miss 768 h3 _ _ (by omega), miss 512 h2 _ _ (by omega), miss 256 h1 _ _ (by omega), miss 0 h0 _ _ (by omega)]

/-- Where a store of all the carried rows is asked for the first `k` of them. -/
theorem qk_lag (v : View sg κ sp Sqk .f32) (f : v.ty.Contents (Elt Ideal)) (t k a : ℕ) (W : Fn2) (L : List (View.Piece (Elt Ideal) Sqk .f32)) (h0 h1 h2 h3 h h')
    (ha : a + k = 8) :
    v.readAt (Elt Ideal) (Rect.unit (s := Sqk) ![t, a, 0] ![1, 512, 1024] h).toLoadRect (v.writes (Elt Ideal) f (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L))
      = lagA k W (v.readAt (Elt Ideal) (Rect.unit (s := Sqk) ![t, 0, 0] ![1, 8, 1024] h').toLoadRect (v.writes (Elt Ideal) f L)) := by
  funext j
  have j0 : (j 0 : ℕ) < 1 := (j 0).isLt
  have j1 : (j 1 : ℕ) < 512 := (j 1).isLt
  have j2 : (j 2 : ℕ) < 1024 := (j 2).isLt
  rw [View.readAt_apply, qk_read v f t W L h0 h1 h2 h3 _ (show t + 1 * (j 0 : ℕ) = t by omega)]
  show (if 8 ≤ a + 1 * (j 1 : ℕ) then W (a + 1 * (j 1 : ℕ) - 8) (0 + 1 * (j 2 : ℕ)) else _) = lagA k W _ j
  unfold lagA
  by_cases hk : (j 1 : ℕ) < k
  · rw [if_neg (by omega), if_pos hk, of3, dif_pos ⟨Nat.one_pos, by omega, j2⟩, View.readAt_apply]
    congr 1
    funext r; apply Fin.ext
    match r with
    | 0 => show t + 1 * (j 0 : ℕ) = t + 1 * 0; omega
    | 1 => show a + 1 * (j 1 : ℕ) = 0 + 1 * (8 - k + (j 1 : ℕ)); omega
    | 2 => show 0 + 1 * (j 2 : ℕ) = 0 + 1 * (j 2 : ℕ); omega
  · rw [if_pos (by omega), if_neg hk]
    congr 1 <;> omega

theorem h8 (t : ℕ) (ht : t < 2) : ∀ x, (![t, 0, 0] : Fin 3 → ℕ) x + ![1, 8, 1024] x ≤ Sqk.size x := fun x => match x with
  | 0 => show t + 1 ≤ 2 by omega
  | 1 => show 0 + 8 ≤ 520 by omega
  | 2 => show 0 + 1024 ≤ 1024 by omega

/-- The same of a load that its stores cover. -/
theorem qk_lagCov (v : View sg κ sp Sqk .f32) (t k a : ℕ) (W : Fn2) (L : List (View.Piece (Elt Ideal) Sqk .f32)) (h0 h1 h2 h3 h)
    (ha : a + k = 8) (ht : t < 2) :
    v.readCov (Val := Elt Ideal) (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)
      (Rect.unit (s := Sqk) ![t, a, 0] ![1, 512, 1024] h).toLoadRect
      = lagA k W (v.readCov (Val := Elt Ideal) L (Rect.unit (s := Sqk) ![t, 0, 0] ![1, 8, 1024] (h8 t ht)).toLoadRect) :=
  qk_lag v v.junk t k a W L h0 h1 h2 h3 h (h8 t ht) ha

theorem qk_lag1 (v : View sg κ sp Sqk .f32) (f : v.ty.Contents (Elt Ideal)) (t : ℕ) (W : Fn2) (L : List (View.Piece (Elt Ideal) Sqk .f32)) (h0 h1 h2 h3 h) (ht : t < 2) :
    v.readAt (Elt Ideal) (Rect.unit (s := Sqk) ![t, 7, 0] ![1, 512, 1024] h).toLoadRect (v.writes (Elt Ideal) f (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L))
      = lagA 1 W (v.readAt (Elt Ideal) (Rect.unit (s := Sqk) ![t, 0, 0] ![1, 8, 1024] (h8 t ht)).toLoadRect (v.writes (Elt Ideal) f L)) :=
  qk_lag v f t 1 7 W L h0 h1 h2 h3 h (h8 t ht) rfl

theorem qk_lagCov1 (v : View sg κ sp Sqk .f32) (t : ℕ) (W : Fn2) (L : List (View.Piece (Elt Ideal) Sqk .f32)) (h0 h1 h2 h3 h) (ht : t < 2) :
    v.readCov (Val := Elt Ideal) (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)
      (Rect.unit (s := Sqk) ![t, 7, 0] ![1, 512, 1024] h).toLoadRect
      = lagA 1 W (v.readCov (Val := Elt Ideal) L (Rect.unit (s := Sqk) ![t, 0, 0] ![1, 8, 1024] (h8 t ht)).toLoadRect) :=
  qk_lag v v.junk t 1 7 W L h0 h1 h2 h3 h (h8 t ht) rfl

theorem qk_lag2 (v : View sg κ sp Sqk .f32) (f : v.ty.Contents (Elt Ideal)) (t : ℕ) (W : Fn2) (L : List (View.Piece (Elt Ideal) Sqk .f32)) (h0 h1 h2 h3 h) (ht : t < 2) :
    v.readAt (Elt Ideal) (Rect.unit (s := Sqk) ![t, 6, 0] ![1, 512, 1024] h).toLoadRect (v.writes (Elt Ideal) f (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L))
      = lagA 2 W (v.readAt (Elt Ideal) (Rect.unit (s := Sqk) ![t, 0, 0] ![1, 8, 1024] (h8 t ht)).toLoadRect (v.writes (Elt Ideal) f L)) :=
  qk_lag v f t 2 6 W L h0 h1 h2 h3 h (h8 t ht) rfl

theorem qk_lagCov2 (v : View sg κ sp Sqk .f32) (t : ℕ) (W : Fn2) (L : List (View.Piece (Elt Ideal) Sqk .f32)) (h0 h1 h2 h3 h) (ht : t < 2) :
    v.readCov (Val := Elt Ideal) (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)
      (Rect.unit (s := Sqk) ![t, 6, 0] ![1, 512, 1024] h).toLoadRect
      = lagA 2 W (v.readCov (Val := Elt Ideal) L (Rect.unit (s := Sqk) ![t, 0, 0] ![1, 8, 1024] (h8 t ht)).toLoadRect) :=
  qk_lag v v.junk t 2 6 W L h0 h1 h2 h3 h (h8 t ht) rfl

theorem qk_lag3 (v : View sg κ sp Sqk .f32) (f : v.ty.Contents (Elt Ideal)) (t : ℕ) (W : Fn2) (L : List (View.Piece (Elt Ideal) Sqk .f32)) (h0 h1 h2 h3 h) (ht : t < 2) :
    v.readAt (Elt Ideal) (Rect.unit (s := Sqk) ![t, 5, 0] ![1, 512, 1024] h).toLoadRect (v.writes (Elt Ideal) f (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L))
      = lagA 3 W (v.readAt (Elt Ideal) (Rect.unit (s := Sqk) ![t, 0, 0] ![1, 8, 1024] (h8 t ht)).toLoadRect (v.writes (Elt Ideal) f L)) :=
  qk_lag v f t 3 5 W L h0 h1 h2 h3 h (h8 t ht) rfl

theorem qk_lagCov3 (v : View sg κ sp Sqk .f32) (t : ℕ) (W : Fn2) (L : List (View.Piece (Elt Ideal) Sqk .f32)) (h0 h1 h2 h3 h) (ht : t < 2) :
    v.readCov (Val := Elt Ideal) (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)
      (Rect.unit (s := Sqk) ![t, 5, 0] ![1, 512, 1024] h).toLoadRect
      = lagA 3 W (v.readCov (Val := Elt Ideal) L (Rect.unit (s := Sqk) ![t, 0, 0] ![1, 8, 1024] (h8 t ht)).toLoadRect) :=
  qk_lag v v.junk t 3 5 W L h0 h1 h2 h3 h (h8 t ht) rfl

/-- The new rows alone. -/
theorem qk_new (v : View sg κ sp Sqk .f32) (t : ℕ) (W : Fn2) (L : List (View.Piece (Elt Ideal) Sqk .f32)) (h0 h1 h2 h3 h) :
    v.readCov (Val := Elt Ideal) (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)
      (Rect.unit (s := Sqk) ![t, 8, 0] ![1, 512, 1024] h).toLoadRect = A3 ⟨3, ![1, 512, 1024]⟩ (up W) := by
  funext j
  have j0 : (j 0 : ℕ) < 1 := (j 0).isLt
  rw [View.readCov, View.readAt_apply, qk_read v _ t W L h0 h1 h2 h3 _ (show t + 1 * (j 0 : ℕ) = t by omega)]
  refine (if_pos (show 8 ≤ 8 + 1 * (j 1 : ℕ) by omega)).trans ?_
  show W (8 + 1 * (j 1 : ℕ) - 8) (0 + 1 * (j 2 : ℕ)) = W (j 1) (j 2)
  congr 1 <;> omega

/-- The last eight of the new rows. -/
theorem qk_last (v : View sg κ sp Sqk .f32) (t : ℕ) (W : Fn2) (L : List (View.Piece (Elt Ideal) Sqk .f32)) (h0 h1 h2 h3 h) :
    v.readCov (Val := Elt Ideal) (⟨qkR t 768 h3, A3 ⟨3, ![1, 512, 256]⟩ (up (sh2 0 768 W))⟩ :: ⟨qkR t 512 h2, A3 ⟨3, ![1, 512, 256]⟩ (up (sh2 0 512 W))⟩
      :: ⟨qkR t 256 h1, A3 ⟨3, ![1, 512, 256]⟩ (up (sh2 0 256 W))⟩ :: ⟨qkR t 0 h0, A3 ⟨3, ![1, 512, 256]⟩ (up (sh2 0 0 W))⟩ :: L)
      (Rect.unit (s := Sqk) ![t, 512, 0] ![1, 8, 1024] h).toLoadRect = A3 ⟨3, ![1, 8, 1024]⟩ (up (sh2 504 0 W)) := by
  funext j
  have j0 : (j 0 : ℕ) < 1 := (j 0).isLt
  rw [View.readCov, View.readAt_apply, qk_read v _ t W L h0 h1 h2 h3 _ (show t + 1 * (j 0 : ℕ) = t by omega)]
  refine (if_pos (show 8 ≤ 512 + 1 * (j 1 : ℕ) by omega)).trans ?_
  show W (512 + 1 * (j 1 : ℕ) - 8) (0 + 1 * (j 2 : ℕ)) = W (504 + (j 1 : ℕ)) (0 + (j 2 : ℕ))
  congr 1 <;> omega

/-- A store apart from a load, over a buffer known before it. -/
theorem readAt_skip {s : Shape} (v : View sg κ sp s .f32) (f : v.ty.Contents (Elt Ideal)) (r : Rect s) (w : r.shape.Idx → Elt Ideal .f32) (L : List (View.Piece (Elt Ideal) s .f32)) (B : LoadRect s)
    (h : LoadRect.disj r B = true) : v.readAt (Elt Ideal) B (v.writes (Elt Ideal) f (⟨r, w⟩ :: L)) = v.readAt (Elt Ideal) B (v.writes (Elt Ideal) f L) := by
  funext j
  rw [View.readAt_apply, View.readAt_apply]
  exact View.read_writes_cons_miss v f ⟨r, w⟩ L _ (LoadRect.idx_not_mem_of_disj h j)

/-- The mixed row block by sequence. -/
abbrev Smix : Shape := ⟨3, ![2, 512, 1024]⟩
abbrev mixR (t a b : ℕ) (h : ∀ x, (![t, a, b] : Fin 3 → ℕ) x + (![1, 128, 128] : Fin 3 → ℕ) x ≤ Smix.size x) : Rect Smix := Rect.unit ![t, a, b] ![1, 128, 128] h

theorem mixOf_H (H G : ℕ → ℕ → Fn2) (c h i j : ℕ) (hh : h < 4) (hi : i < 128) (hj : j < 128) : mixOf H G (128 * c + i) (128 * h + j) = H c h i j := by
  unfold mixOf
  rw [if_pos (by omega)]
  congr 1 <;> omega
theorem mixOf_G (H G : ℕ → ℕ → Fn2) (c h i j : ℕ) (hi : i < 128) (hj : j < 128) : mixOf H G (128 * c + i) (512 + 128 * h + j) = G c h i j := by
  unfold mixOf
  rw [if_neg (by omega)]
  congr 1 <;> omega

theorem mixR_mem (t a b : ℕ) (h) (y : Smix.Idx) (h0 : (y 0 : ℕ) = t) (h1 : (y 1 : ℕ) / 128 = a / 128) (h2 : (y 2 : ℕ) / 128 = b / 128) (ha : a % 128 = 0) (hb : b % 128 = 0) :
    y ∈ (mixR t a b h).set := by
  refine (LoadRect.mem_set _).2 fun x => ?_
  match x with
  | 0 => exact ⟨0, Nat.one_pos, show (y 0 : ℕ) = t + 1 * 0 by omega⟩
  | 1 => exact ⟨(y 1 : ℕ) - a, show _ < 128 by omega, show (y 1 : ℕ) = a + 1 * ((y 1 : ℕ) - a) by omega⟩
  | 2 => exact ⟨(y 2 : ℕ) - b, show _ < 128 by omega, show (y 2 : ℕ) = b + 1 * ((y 2 : ℕ) - b) by omega⟩

section mix
variable (P : Par) (X Q M : Fn2) (C : ℕ → Fn2)

theorem mix_H (t c hd a b : ℕ) (h) (ha : a = 128 * c) (hb : b = 128 * hd) (hd4 : hd < 4) (x : (mixR t a b h).shape.Idx) :
    A3 ⟨3, ![1, 128, 128]⟩ (up (kHm P X Q M C c hd)) x = (fun y : Smix.Idx => kMix P X Q M C (y 1) (y 2)) ((mixR t a b h).emb x) := by
  subst ha hb
  have x1 : (x 1 : ℕ) < 128 := (x 1).isLt
  have x2 : (x 2 : ℕ) < 128 := (x 2).isLt
  show kHm P X Q M C c hd (x 1) (x 2) = mixOf _ _ (128 * c + 1 * (x 1 : ℕ)) (128 * hd + 1 * (x 2 : ℕ))
  rw [Nat.one_mul, Nat.one_mul, mixOf_H _ _ _ _ _ _ hd4 x1 x2]
theorem mix_G (t c hd a b : ℕ) (h) (ha : a = 128 * c) (hb : b = 512 + 128 * hd) (x : (mixR t a b h).shape.Idx) :
    A3 ⟨3, ![1, 128, 128]⟩ (up (kGm P X c hd)) x = (fun y : Smix.Idx => kMix P X Q M C (y 1) (y 2)) ((mixR t a b h).emb x) := by
  subst ha hb
  have x1 : (x 1 : ℕ) < 128 := (x 1).isLt
  have x2 : (x 2 : ℕ) < 128 := (x 2).isLt
  show kGm P X c hd (x 1) (x 2) = mixOf _ _ (128 * c + 1 * (x 1 : ℕ)) (512 + 128 * hd + 1 * (x 2 : ℕ))
  rw [Nat.one_mul, Nat.one_mul, mixOf_G _ _ _ _ _ _ x1 x2]

/-- The thirty-two tiles of sequence `t`, stored in any buffer, load as the mixed row block. -/
theorem mix_load (v : View sg κ sp Smix .bf16) (t : ℕ) (L : List (View.Piece (Elt Ideal) Smix .bf16)) (h0 h1 h2 h3 h4 h5 h6 h7 h8 h9 h10 h11 h12 h13 h14 h15 h16 h17 h18 h19 h20 h21 h22 h23 h24 h25 h26 h27 h28 h29 h30 h31 h) :
    v.readCov (Val := Elt Ideal) (⟨mixR t 384 384 h0, A3 ⟨3, ![1, 128, 128]⟩ (up (kHm P X Q M C 3 3))⟩
    :: ⟨mixR t 384 256 h1, A3 ⟨3, ![1, 128, 128]⟩ (up (kHm P X Q M C 3 2))⟩
    :: ⟨mixR t 384 128 h2, A3 ⟨3, ![1, 128, 128]⟩ (up (kHm P X Q M C 3 1))⟩
    :: ⟨mixR t 384 0 h3, A3 ⟨3, ![1, 128, 128]⟩ (up (kHm P X Q M C 3 0))⟩
    :: ⟨mixR t 256 384 h4, A3 ⟨3, ![1, 128, 128]⟩ (up (kHm P X Q M C 2 3))⟩
    :: ⟨mixR t 256 256 h5, A3 ⟨3, ![1, 128, 128]⟩ (up (kHm P X Q M C 2 2))⟩
    :: ⟨mixR t 256 128 h6, A3 ⟨3, ![1, 128, 128]⟩ (up (kHm P X Q M C 2 1))⟩
    :: ⟨mixR t 256 0 h7, A3 ⟨3, ![1, 128, 128]⟩ (up (kHm P X Q M C 2 0))⟩
    :: ⟨mixR t 128 384 h8, A3 ⟨3, ![1, 128, 128]⟩ (up (kHm P X Q M C 1 3))⟩
    :: ⟨mixR t 128 256 h9, A3 ⟨3, ![1, 128, 128]⟩ (up (kHm P X Q M C 1 2))⟩
    :: ⟨mixR t 128 128 h10, A3 ⟨3, ![1, 128, 128]⟩ (up (kHm P X Q M C 1 1))⟩
    :: ⟨mixR t 128 0 h11, A3 ⟨3, ![1, 128, 128]⟩ (up (kHm P X Q M C 1 0))⟩
    :: ⟨mixR t 0 384 h12, A3 ⟨3, ![1, 128, 128]⟩ (up (kHm P X Q M C 0 3))⟩
    :: ⟨mixR t 0 256 h13, A3 ⟨3, ![1, 128, 128]⟩ (up (kHm P X Q M C 0 2))⟩
    :: ⟨mixR t 0 128 h14, A3 ⟨3, ![1, 128, 128]⟩ (up (kHm P X Q M C 0 1))⟩
    :: ⟨mixR t 0 0 h15, A3 ⟨3, ![1, 128, 128]⟩ (up (kHm P X Q M C 0 0))⟩
    :: ⟨mixR t 384 896 h16, A3 ⟨3, ![1, 128, 128]⟩ (up (kGm P X 3 3))⟩
    :: ⟨mixR t 384 768 h17, A3 ⟨3, ![1, 128, 128]⟩ (up (kGm P X 3 2))⟩
    :: ⟨mixR t 384 640 h18, A3 ⟨3, ![1, 128, 128]⟩ (up (kGm P X 3 1))⟩
    :: ⟨mixR t 384 512 h19, A3 ⟨3, ![1, 128, 128]⟩ (up (kGm P X 3 0))⟩
    :: ⟨mixR t 256 896 h20, A3 ⟨3, ![1, 128, 128]⟩ (up (kGm P X 2 3))⟩
    :: ⟨mixR t 256 768 h21, A3 ⟨3, ![1, 128, 128]⟩ (up (kGm P X 2 2))⟩
    :: ⟨mixR t 256 640 h22, A3 ⟨3, ![1, 128, 128]⟩ (up (kGm P X 2 1))⟩
    :: ⟨mixR t 256 512 h23, A3 ⟨3, ![1, 128, 128]⟩ (up (kGm P X 2 0))⟩
    :: ⟨mixR t 128 896 h24, A3 ⟨3, ![1, 128, 128]⟩ (up (kGm P X 1 3))⟩
    :: ⟨mixR t 128 768 h25, A3 ⟨3, ![1, 128, 128]⟩ (up (kGm P X 1 2))⟩
    :: ⟨mixR t 128 640 h26, A3 ⟨3, ![1, 128, 128]⟩ (up (kGm P X 1 1))⟩
    :: ⟨mixR t 128 512 h27, A3 ⟨3, ![1, 128, 128]⟩ (up (kGm P X 1 0))⟩
    :: ⟨mixR t 0 896 h28, A3 ⟨3, ![1, 128, 128]⟩ (up (kGm P X 0 3))⟩
    :: ⟨mixR t 0 768 h29, A3 ⟨3, ![1, 128, 128]⟩ (up (kGm P X 0 2))⟩
    :: ⟨mixR t 0 640 h30, A3 ⟨3, ![1, 128, 128]⟩ (up (kGm P X 0 1))⟩
    :: ⟨mixR t 0 512 h31, A3 ⟨3, ![1, 128, 128]⟩ (up (kGm P X 0 0))⟩ :: L)
      (Rect.unit (s := Smix) ![t, 0, 0] ![1, 512, 1024] h).toLoadRect = A3 ⟨3, ![1, 512, 1024]⟩ (up (kMix P X Q M C)) := by
  rw [View.readCov_eq_canon']
  funext j
  have j0 : (j 0 : ℕ) < 1 := (j 0).isLt
  have j1 : (j 1 : ℕ) < 512 := (j 1).isLt
  have j2 : (j 2 : ℕ) < 1024 := (j 2).isLt
  refine (View.canon_append_of_piecesOf (fun y : Smix.Idx => kMix P X Q M C (y 1) (y 2)) L [⟨mixR t 384 384 h0, A3 ⟨3, ![1, 128, 128]⟩ (up (kHm P X Q M C 3 3))⟩, ⟨mixR t 384 256 h1, A3 ⟨3, ![1, 128, 128]⟩ (up (kHm P X Q M C 3 2))⟩, ⟨mixR t 384 128 h2, A3 ⟨3, ![1, 128, 128]⟩ (up (kHm P X Q M C 3 1))⟩, ⟨mixR t 384 0 h3, A3 ⟨3, ![1, 128, 128]⟩ (up (kHm P X Q M C 3 0))⟩, ⟨mixR t 256 384 h4, A3 ⟨3, ![1, 128, 128]⟩ (up (kHm P X Q M C 2 3))⟩, ⟨mixR t 256 256 h5, A3 ⟨3, ![1, 128, 128]⟩ (up (kHm P X Q M C 2 2))⟩, ⟨mixR t 256 128 h6, A3 ⟨3, ![1, 128, 128]⟩ (up (kHm P X Q M C 2 1))⟩, ⟨mixR t 256 0 h7, A3 ⟨3, ![1, 128, 128]⟩ (up (kHm P X Q M C 2 0))⟩, ⟨mixR t 128 384 h8, A3 ⟨3, ![1, 128, 128]⟩ (up (kHm P X Q M C 1 3))⟩, ⟨mixR t 128 256 h9, A3 ⟨3, ![1, 128, 128]⟩ (up (kHm P X Q M C 1 2))⟩, ⟨mixR t 128 128 h10, A3 ⟨3, ![1, 128, 128]⟩ (up (kHm P X Q M C 1 1))⟩, ⟨mixR t 128 0 h11, A3 ⟨3, ![1, 128, 128]⟩ (up (kHm P X Q M C 1 0))⟩, ⟨mixR t 0 384 h12, A3 ⟨3, ![1, 128, 128]⟩ (up (kHm P X Q M C 0 3))⟩, ⟨mixR t 0 256 h13, A3 ⟨3, ![1, 128, 128]⟩ (up (kHm P X Q M C 0 2))⟩, ⟨mixR t 0 128 h14, A3 ⟨3, ![1, 128, 128]⟩ (up (kHm P X Q M C 0 1))⟩, ⟨mixR t 0 0 h15, A3 ⟨3, ![1, 128, 128]⟩ (up (kHm P X Q M C 0 0))⟩, ⟨mixR t 384 896 h16, A3 ⟨3, ![1, 128, 128]⟩ (up (kGm P X 3 3))⟩, ⟨mixR t 384 768 h17, A3 ⟨3, ![1, 128, 128]⟩ (up (kGm P X 3 2))⟩, ⟨mixR t 384 640 h18, A3 ⟨3, ![1, 128, 128]⟩ (up (kGm P X 3 1))⟩, ⟨mixR t 384 512 h19, A3 ⟨3, ![1, 128, 128]⟩ (up (kGm P X 3 0))⟩, ⟨mixR t 256 896 h20, A3 ⟨3, ![1, 128, 128]⟩ (up (kGm P X 2 3))⟩, ⟨mixR t 256 768 h21, A3 ⟨3, ![1, 128, 128]⟩ (up (kGm P X 2 2))⟩, ⟨mixR t 256 640 h22, A3 ⟨3, ![1, 128, 128]⟩ (up (kGm P X 2 1))⟩, ⟨mixR t 256 512 h23, A3 ⟨3, ![1, 128, 128]⟩ (up (kGm P X 2 0))⟩, ⟨mixR t 128 896 h24, A3 ⟨3, ![1, 128, 128]⟩ (up (kGm P X 1 3))⟩, ⟨mixR t 128 768 h25, A3 ⟨3, ![1, 128, 128]⟩ (up (kGm P X 1 2))⟩, ⟨mixR t 128 640 h26, A3 ⟨3, ![1, 128, 128]⟩ (up (kGm P X 1 1))⟩, ⟨mixR t 128 512 h27, A3 ⟨3, ![1, 128, 128]⟩ (up (kGm P X 1 0))⟩, ⟨mixR t 0 896 h28, A3 ⟨3, ![1, 128, 128]⟩ (up (kGm P X 0 3))⟩, ⟨mixR t 0 768 h29, A3 ⟨3, ![1, 128, 128]⟩ (up (kGm P X 0 2))⟩, ⟨mixR t 0 640 h30, A3 ⟨3, ![1, 128, 128]⟩ (up (kGm P X 0 1))⟩, ⟨mixR t 0 512 h31, A3 ⟨3, ![1, 128, 128]⟩ (up (kGm P X 0 0))⟩]
    ⟨mix_H P X Q M C t 3 3 384 384 h0 rfl rfl (by decide), mix_H P X Q M C t 3 2 384 256 h1 rfl rfl (by decide), mix_H P X Q M C t 3 1 384 128 h2 rfl rfl (by decide), mix_H P X Q M C t 3 0 384 0 h3 rfl rfl (by decide), mix_H P X Q M C t 2 3 256 384 h4 rfl rfl (by decide), mix_H P X Q M C t 2 2 256 256 h5 rfl rfl (by decide), mix_H P X Q M C t 2 1 256 128 h6 rfl rfl (by decide), mix_H P X Q M C t 2 0 256 0 h7 rfl rfl (by decide), mix_H P X Q M C t 1 3 128 384 h8 rfl rfl (by decide), mix_H P X Q M C t 1 2 128 256 h9 rfl rfl (by decide), mix_H P X Q M C t 1 1 128 128 h10 rfl rfl (by decide), mix_H P X Q M C t 1 0 128 0 h11 rfl rfl (by decide), mix_H P X Q M C t 0 3 0 384 h12 rfl rfl (by decide), mix_H P X Q M C t 0 2 0 256 h13 rfl rfl (by decide), mix_H P X Q M C t 0 1 0 128 h14 rfl rfl (by decide), mix_H P X Q M C t 0 0 0 0 h15 rfl rfl (by decide), mix_G P X Q M C t 3 3 384 896 h16 rfl rfl, mix_G P X Q M C t 3 2 384 768 h17 rfl rfl, mix_G P X Q M C t 3 1 384 640 h18 rfl rfl, mix_G P X Q M C t 3 0 384 512 h19 rfl rfl, mix_G P X Q M C t 2 3 256 896 h20 rfl rfl, mix_G P X Q M C t 2 2 256 768 h21 rfl rfl, mix_G P X Q M C t 2 1 256 640 h22 rfl rfl, mix_G P X Q M C t 2 0 256 512 h23 rfl rfl, mix_G P X Q M C t 1 3 128 896 h24 rfl rfl, mix_G P X Q M C t 1 2 128 768 h25 rfl rfl, mix_G P X Q M C t 1 1 128 640 h26 rfl rfl, mix_G P X Q M C t 1 0 128 512 h27 rfl rfl, mix_G P X Q M C t 0 3 0 896 h28 rfl rfl, mix_G P X Q M C t 0 2 0 768 h29 rfl rfl, mix_G P X Q M C t 0 1 0 640 h30 rfl rfl, mix_G P X Q M C t 0 0 0 512 h31 rfl rfl, trivial⟩ _ ?_).trans ?_
  · have y0 : (((Rect.unit (s := Smix) ![t, 0, 0] ![1, 512, 1024] h).toLoadRect.idx j) 0 : ℕ) = t := show t + 1 * (j 0 : ℕ) = t by omega
    have y1 : (((Rect.unit (s := Smix) ![t, 0, 0] ![1, 512, 1024] h).toLoadRect.idx j) 1 : ℕ) = (j 1 : ℕ) := show 0 + 1 * (j 1 : ℕ) = _ by omega
    have y2 : (((Rect.unit (s := Smix) ![t, 0, 0] ![1, 512, 1024] h).toLoadRect.idx j) 2 : ℕ) = (j 2 : ℕ) := show 0 + 1 * (j 2 : ℕ) = _ by omega
    generalize ((Rect.unit (s := Smix) ![t, 0, 0] ![1, 512, 1024] h).toLoadRect.idx j) = y at y0 y1 y2 ⊢
    have e1 : (y 1 : ℕ) / 128 < 4 := by omega
    have e2 : (y 2 : ℕ) / 128 < 8 := by omega
    generalize hc : (y 1 : ℕ) / 128 = c at e1
    generalize hd : (y 2 : ℕ) / 128 = d at e2
    match c, d, e1, e2 with
    | 3, 3, _, _ => exact ⟨⟨mixR t 384 384 h0, _⟩, List.mem_of_getElem? (i := 0) rfl, mixR_mem t 384 384 h0 y y0 hc hd rfl rfl⟩
    | 3, 2, _, _ => exact ⟨⟨mixR t 384 256 h1, _⟩, List.mem_of_getElem? (i := 1) rfl, mixR_mem t 384 256 h1 y y0 hc hd rfl rfl⟩
    | 3, 1, _, _ => exact ⟨⟨mixR t 384 128 h2, _⟩, List.mem_of_getElem? (i := 2) rfl, mixR_mem t 384 128 h2 y y0 hc hd rfl rfl⟩
    | 3, 0, _, _ => exact ⟨⟨mixR t 384 0 h3, _⟩, List.mem_of_getElem? (i := 3) rfl, mixR_mem t 384 0 h3 y y0 hc hd rfl rfl⟩
    | 2, 3, _, _ => exact ⟨⟨mixR t 256 384 h4, _⟩, List.mem_of_getElem? (i := 4) rfl, mixR_mem t 256 384 h4 y y0 hc hd rfl rfl⟩
    | 2, 2, _, _ => exact ⟨⟨mixR t 256 256 h5, _⟩, List.mem_of_getElem? (i := 5) rfl, mixR_mem t 256 256 h5 y y0 hc hd rfl rfl⟩
    | 2, 1, _, _ => exact ⟨⟨mixR t 256 128 h6, _⟩, List.mem_of_getElem? (i := 6) rfl, mixR_mem t 256 128 h6 y y0 hc hd rfl rfl⟩
    | 2, 0, _, _ => exact ⟨⟨mixR t 256 0 h7, _⟩, List.mem_of_getElem? (i := 7) rfl, mixR_mem t 256 0 h7 y y0 hc hd rfl rfl⟩
    | 1, 3, _, _ => exact ⟨⟨mixR t 128 384 h8, _⟩, List.mem_of_getElem? (i := 8) rfl, mixR_mem t 128 384 h8 y y0 hc hd rfl rfl⟩
    | 1, 2, _, _ => exact ⟨⟨mixR t 128 256 h9, _⟩, List.mem_of_getElem? (i := 9) rfl, mixR_mem t 128 256 h9 y y0 hc hd rfl rfl⟩
    | 1, 1, _, _ => exact ⟨⟨mixR t 128 128 h10, _⟩, List.mem_of_getElem? (i := 10) rfl, mixR_mem t 128 128 h10 y y0 hc hd rfl rfl⟩
    | 1, 0, _, _ => exact ⟨⟨mixR t 128 0 h11, _⟩, List.mem_of_getElem? (i := 11) rfl, mixR_mem t 128 0 h11 y y0 hc hd rfl rfl⟩
    | 0, 3, _, _ => exact ⟨⟨mixR t 0 384 h12, _⟩, List.mem_of_getElem? (i := 12) rfl, mixR_mem t 0 384 h12 y y0 hc hd rfl rfl⟩
    | 0, 2, _, _ => exact ⟨⟨mixR t 0 256 h13, _⟩, List.mem_of_getElem? (i := 13) rfl, mixR_mem t 0 256 h13 y y0 hc hd rfl rfl⟩
    | 0, 1, _, _ => exact ⟨⟨mixR t 0 128 h14, _⟩, List.mem_of_getElem? (i := 14) rfl, mixR_mem t 0 128 h14 y y0 hc hd rfl rfl⟩
    | 0, 0, _, _ => exact ⟨⟨mixR t 0 0 h15, _⟩, List.mem_of_getElem? (i := 15) rfl, mixR_mem t 0 0 h15 y y0 hc hd rfl rfl⟩
    | 3, 7, _, _ => exact ⟨⟨mixR t 384 896 h16, _⟩, List.mem_of_getElem? (i := 16) rfl, mixR_mem t 384 896 h16 y y0 hc hd rfl rfl⟩
    | 3, 6, _, _ => exact ⟨⟨mixR t 384 768 h17, _⟩, List.mem_of_getElem? (i := 17) rfl, mixR_mem t 384 768 h17 y y0 hc hd rfl rfl⟩
    | 3, 5, _, _ => exact ⟨⟨mixR t 384 640 h18, _⟩, List.mem_of_getElem? (i := 18) rfl, mixR_mem t 384 640 h18 y y0 hc hd rfl rfl⟩
    | 3, 4, _, _ => exact ⟨⟨mixR t 384 512 h19, _⟩, List.mem_of_getElem? (i := 19) rfl, mixR_mem t 384 512 h19 y y0 hc hd rfl rfl⟩
    | 2, 7, _, _ => exact ⟨⟨mixR t 256 896 h20, _⟩, List.mem_of_getElem? (i := 20) rfl, mixR_mem t 256 896 h20 y y0 hc hd rfl rfl⟩
    | 2, 6, _, _ => exact ⟨⟨mixR t 256 768 h21, _⟩, List.mem_of_getElem? (i := 21) rfl, mixR_mem t 256 768 h21 y y0 hc hd rfl rfl⟩
    | 2, 5, _, _ => exact ⟨⟨mixR t 256 640 h22, _⟩, List.mem_of_getElem? (i := 22) rfl, mixR_mem t 256 640 h22 y y0 hc hd rfl rfl⟩
    | 2, 4, _, _ => exact ⟨⟨mixR t 256 512 h23, _⟩, List.mem_of_getElem? (i := 23) rfl, mixR_mem t 256 512 h23 y y0 hc hd rfl rfl⟩
    | 1, 7, _, _ => exact ⟨⟨mixR t 128 896 h24, _⟩, List.mem_of_getElem? (i := 24) rfl, mixR_mem t 128 896 h24 y y0 hc hd rfl rfl⟩
    | 1, 6, _, _ => exact ⟨⟨mixR t 128 768 h25, _⟩, List.mem_of_getElem? (i := 25) rfl, mixR_mem t 128 768 h25 y y0 hc hd rfl rfl⟩
    | 1, 5, _, _ => exact ⟨⟨mixR t 128 640 h26, _⟩, List.mem_of_getElem? (i := 26) rfl, mixR_mem t 128 640 h26 y y0 hc hd rfl rfl⟩
    | 1, 4, _, _ => exact ⟨⟨mixR t 128 512 h27, _⟩, List.mem_of_getElem? (i := 27) rfl, mixR_mem t 128 512 h27 y y0 hc hd rfl rfl⟩
    | 0, 7, _, _ => exact ⟨⟨mixR t 0 896 h28, _⟩, List.mem_of_getElem? (i := 28) rfl, mixR_mem t 0 896 h28 y y0 hc hd rfl rfl⟩
    | 0, 6, _, _ => exact ⟨⟨mixR t 0 768 h29, _⟩, List.mem_of_getElem? (i := 29) rfl, mixR_mem t 0 768 h29 y y0 hc hd rfl rfl⟩
    | 0, 5, _, _ => exact ⟨⟨mixR t 0 640 h30, _⟩, List.mem_of_getElem? (i := 30) rfl, mixR_mem t 0 640 h30 y y0 hc hd rfl rfl⟩
    | 0, 4, _, _ => exact ⟨⟨mixR t 0 512 h31, _⟩, List.mem_of_getElem? (i := 31) rfl, mixR_mem t 0 512 h31 y y0 hc hd rfl rfl⟩
  · show kMix P X Q M C (0 + 1 * (j 1 : ℕ)) (0 + 1 * (j 2 : ℕ)) = kMix P X Q M C (j 1) (j 2)
    congr 1 <;> omega

end mix

section stack
/-- Two stores, one for each sequence, of the whole output block. -/
theorem out_two (f0 f1 : Fn2) (K : ℕ → Fn2) (h h') (e0 : f0 = K 0) (e1 : f1 = K 1) :
    View.canon (Val := Elt Ideal) (e := .f32) [⟨Rect.unit (s := ⟨4, ![1, 2, 512, 1024]⟩) ![0, 1, 0, 0] ![1, 1, 512, 1024] h, A4 ⟨4, ![1, 1, 512, 1024]⟩ (up4 f1)⟩,
      ⟨Rect.unit (s := ⟨4, ![1, 2, 512, 1024]⟩) ![0, 0, 0, 0] ![1, 1, 512, 1024] h', A4 ⟨4, ![1, 1, 512, 1024]⟩ (up4 f0)⟩]
      = A4 ⟨4, ![1, 2, 512, 1024]⟩ (fun _ t => K t) := by
  subst e0 e1
  funext y
  have y0 : (y 0 : ℕ) < 1 := (y 0).isLt
  have y1 : (y 1 : ℕ) < 2 := (y 1).isLt
  refine View.canon_apply_of_pieces (Val := Elt Ideal) (e := .f32) (fun y : (⟨4, ![1, 2, 512, 1024]⟩ : Shape).Idx => K (y 1) (y 2) (y 3)) _ ?_ y ?_
  · intro p hp
    rcases List.mem_cons.1 hp with rfl | hp
    · intro x
      have x1 : (x 1 : ℕ) < 1 := (x 1).isLt
      show K 1 (x 2) (x 3) = K (1 + 1 * (x 1 : ℕ)) (0 + 1 * (x 2 : ℕ)) (0 + 1 * (x 3 : ℕ))
      rw [show 1 + 1 * (x 1 : ℕ) = 1 by omega]; simp only [Nat.zero_add, Nat.one_mul]
    · obtain rfl := List.mem_singleton.1 hp
      intro x
      have x1 : (x 1 : ℕ) < 1 := (x 1).isLt
      show K 0 (x 2) (x 3) = K (0 + 1 * (x 1 : ℕ)) (0 + 1 * (x 2 : ℕ)) (0 + 1 * (x 3 : ℕ))
      rw [show 0 + 1 * (x 1 : ℕ) = 0 by omega]; simp only [Nat.zero_add, Nat.one_mul]
  · by_cases h1 : (y 1 : ℕ) = 1
    · refine ⟨_, List.mem_cons_self, (LoadRect.mem_set _).2 fun x => ?_⟩
      match x with
      | 0 => exact ⟨0, Nat.one_pos, show (y 0 : ℕ) = 0 + 1 * 0 by omega⟩
      | 1 => exact ⟨0, Nat.one_pos, show (y 1 : ℕ) = 1 + 1 * 0 by omega⟩
      | 2 => exact ⟨y 2, (y 2).isLt, show (y 2 : ℕ) = 0 + 1 * (y 2 : ℕ) by omega⟩
      | 3 => exact ⟨y 3, (y 3).isLt, show (y 3 : ℕ) = 0 + 1 * (y 3 : ℕ) by omega⟩
    · refine ⟨_, List.mem_cons_of_mem _ List.mem_cons_self, (LoadRect.mem_set _).2 fun x => ?_⟩
      match x with
      | 0 => exact ⟨0, Nat.one_pos, show (y 0 : ℕ) = 0 + 1 * 0 by omega⟩
      | 1 => exact ⟨0, Nat.one_pos, show (y 1 : ℕ) = 0 + 1 * 0 by omega⟩
      | 2 => exact ⟨y 2, (y 2).isLt, show (y 2 : ℕ) = 0 + 1 * (y 2 : ℕ) by omega⟩
      | 3 => exact ⟨y 3, (y 3).isLt, show (y 3 : ℕ) = 0 + 1 * (y 3 : ℕ) by omega⟩
end stack

end Cert.Sym
end
-- ==== Proof.SymCarry.lean ====
/- The carried scratch buffers after a body, from the stores it made to them. -/
module

public import proofs.«01_k».proof.Proof.SymScratch

@[expose] public section

set_option maxRecDepth 16384

noncomputable section

namespace Cert.Sym

open Idealize.ShloMosaic Idealize.SL.Sem

/-- The buffer of carried maxima, by sequence. -/
abbrev Smx : Shape := ⟨3, ![2, 8, 128]⟩
abbrev mxR (t : ℕ) (h : ∀ x, (![t, 0, 0] : Fin 3 → ℕ) x + (![1, 8, 128] : Fin 3 → ℕ) x ≤ Smx.size x) : Rect Smx := Rect.unit ![t, 0, 0] ![1, 8, 128] h

theorem mx_piece (K : ℕ → Fn2) (t : ℕ) (h) (f : Fn2) (e : f = K t) (x : (mxR t h).shape.Idx) :
    A3 ⟨3, ![1, 8, 128]⟩ (up f) x = (fun y : Smx.Idx => K (y 0) (y 1) (y 2)) ((mxR t h).emb x) := by
  subst e
  have x0 : (x 0 : ℕ) < 1 := (x 0).isLt
  show K t (x 1) (x 2) = K (t + 1 * (x 0 : ℕ)) (0 + 1 * (x 1 : ℕ)) (0 + 1 * (x 2 : ℕ))
  rw [show t + 1 * (x 0 : ℕ) = t by omega]; simp only [Nat.zero_add, Nat.one_mul]

theorem mx_mem (t : ℕ) (h) (y : Smx.Idx) (e : (y 0 : ℕ) = t) : y ∈ (mxR t h).set := by
  refine (LoadRect.mem_set _).2 fun x => ?_
  match x with
  | 0 => exact ⟨0, Nat.one_pos, show (y 0 : ℕ) = t + 1 * 0 by omega⟩
  | 1 => exact ⟨y 1, (y 1).isLt, show (y 1 : ℕ) = 0 + 1 * (y 1 : ℕ) by omega⟩
  | 2 => exact ⟨y 2, (y 2).isLt, show (y 2 : ℕ) = 0 + 1 * (y 2 : ℕ) by omega⟩

/-- The two stores of the carried maxima. -/
theorem mx_canon (K : ℕ → Fn2) (f0 f1 : Fn2) (L : List (View.Piece (Elt Ideal) Smx .f32)) (h h') (e0 : f0 = K 0) (e1 : f1 = K 1) :
    View.canon (Val := Elt Ideal) (e := .f32) (⟨mxR 1 h, A3 ⟨3, ![1, 8, 128]⟩ (up f1)⟩ :: ⟨mxR 0 h', A3 ⟨3, ![1, 8, 128]⟩ (up f0)⟩ :: L) = A3 Smx K := by
  funext y
  have y0 : (y 0 : ℕ) < 2 := (y 0).isLt
  refine (View.canon_append_of_piecesOf (Val := Elt Ideal) (e := .f32) (fun y : Smx.Idx => K (y 0) (y 1) (y 2)) L [⟨mxR 1 h, A3 ⟨3, ![1, 8, 128]⟩ (up f1)⟩, ⟨mxR 0 h', A3 ⟨3, ![1, 8, 128]⟩ (up f0)⟩]
    ⟨mx_piece K 1 h f1 e1, mx_piece K 0 h' f0 e0, trivial⟩ y ?_).trans rfl
  by_cases a : (y 0 : ℕ) = 1
  · exact ⟨_, List.mem_of_getElem? (i := 0) rfl, mx_mem 1 h y a⟩
  · exact ⟨_, List.mem_of_getElem? (i := 1) rfl, mx_mem 0 h' y (by omega)⟩

/-- The buffer of carried memories, by sequence and head. -/
abbrev Sme : Shape := ⟨4, ![2, 4, 128, 256]⟩
abbrev meR (t a : ℕ) (h : ∀ x, (![t, a, 0, 0] : Fin 4 → ℕ) x + (![1, 1, 128, 256] : Fin 4 → ℕ) x ≤ Sme.size x) : Rect Sme := Rect.unit ![t, a, 0, 0] ![1, 1, 128, 256] h

theorem me_piece (K : ℕ → ℕ → Fn2) (t a : ℕ) (h) (f : Fn2) (e : f = K t a) (x : (meR t a h).shape.Idx) :
    A4 ⟨4, ![1, 1, 128, 256]⟩ (up4 f) x = (fun y : Sme.Idx => K (y 0) (y 1) (y 2) (y 3)) ((meR t a h).emb x) := by
  subst e
  have x0 : (x 0 : ℕ) < 1 := (x 0).isLt
  have x1 : (x 1 : ℕ) < 1 := (x 1).isLt
  show K t a (x 2) (x 3) = K (t + 1 * (x 0 : ℕ)) (a + 1 * (x 1 : ℕ)) (0 + 1 * (x 2 : ℕ)) (0 + 1 * (x 3 : ℕ))
  rw [show t + 1 * (x 0 : ℕ) = t by omega, show a + 1 * (x 1 : ℕ) = a by omega]; simp only [Nat.zero_add, Nat.one_mul]

theorem me_mem (t a : ℕ) (h) (y : Sme.Idx) (e : (y 0 : ℕ) = t) (e' : (y 1 : ℕ) = a) : y ∈ (meR t a h).set := by
  refine (LoadRect.mem_set _).2 fun x => ?_
  match x with
  | 0 => exact ⟨0, Nat.one_pos, show (y 0 : ℕ) = t + 1 * 0 by omega⟩
  | 1 => exact ⟨0, Nat.one_pos, show (y 1 : ℕ) = a + 1 * 0 by omega⟩
  | 2 => exact ⟨y 2, (y 2).isLt, show (y 2 : ℕ) = 0 + 1 * (y 2 : ℕ) by omega⟩
  | 3 => exact ⟨y 3, (y 3).isLt, show (y 3 : ℕ) = 0 + 1 * (y 3 : ℕ) by omega⟩

/-- The eight stores of the carried memories. -/
theorem me_canon (K : ℕ → ℕ → Fn2) (f0 f1 f2 f3 f4 f5 f6 f7 : Fn2) (L : List (View.Piece (Elt Ideal) Sme .f32)) (h0 h1 h2 h3 h4 h5 h6 h7)
    (e0 : f0 = K 1 3) (e1 : f1 = K 1 2) (e2 : f2 = K 1 1) (e3 : f3 = K 1 0) (e4 : f4 = K 0 3) (e5 : f5 = K 0 2) (e6 : f6 = K 0 1) (e7 : f7 = K 0 0) :
    View.canon (Val := Elt Ideal) (e := .f32) (⟨meR 1 3 h0, A4 ⟨4, ![1, 1, 128, 256]⟩ (up4 f0)⟩ :: ⟨meR 1 2 h1, A4 ⟨4, ![1, 1, 128, 256]⟩ (up4 f1)⟩ :: ⟨meR 1 1 h2, A4 ⟨4, ![1, 1, 128, 256]⟩ (up4 f2)⟩ :: ⟨meR 1 0 h3, A4 ⟨4, ![1, 1, 128, 256]⟩ (up4 f3)⟩ :: ⟨meR 0 3 h4, A4 ⟨4, ![1, 1, 128, 256]⟩ (up4 f4)⟩ :: ⟨meR 0 2 h5, A4 ⟨4, ![1, 1, 128, 256]⟩ (up4 f5)⟩ :: ⟨meR 0 1 h6, A4 ⟨4, ![1, 1, 128, 256]⟩ (up4 f6)⟩ :: ⟨meR 0 0 h7, A4 ⟨4, ![1, 1, 128, 256]⟩ (up4 f7)⟩ :: L) = A4 Sme K := by
  funext y
  have y0 : (y 0 : ℕ) < 2 := (y 0).isLt
  have y1 : (y 1 : ℕ) < 4 := (y 1).isLt
  refine (View.canon_append_of_piecesOf (Val := Elt Ideal) (e := .f32) (fun y : Sme.Idx => K (y 0) (y 1) (y 2) (y 3)) L [⟨meR 1 3 h0, A4 ⟨4, ![1, 1, 128, 256]⟩ (up4 f0)⟩, ⟨meR 1 2 h1, A4 ⟨4, ![1, 1, 128, 256]⟩ (up4 f1)⟩, ⟨meR 1 1 h2, A4 ⟨4, ![1, 1, 128, 256]⟩ (up4 f2)⟩, ⟨meR 1 0 h3, A4 ⟨4, ![1, 1, 128, 256]⟩ (up4 f3)⟩, ⟨meR 0 3 h4, A4 ⟨4, ![1, 1, 128, 256]⟩ (up4 f4)⟩, ⟨meR 0 2 h5, A4 ⟨4, ![1, 1, 128, 256]⟩ (up4 f5)⟩, ⟨meR 0 1 h6, A4 ⟨4, ![1, 1, 128, 256]⟩ (up4 f6)⟩, ⟨meR 0 0 h7, A4 ⟨4, ![1, 1, 128, 256]⟩ (up4 f7)⟩]
    ⟨me_piece K 1 3 h0 f0 e0, me_piece K 1 2 h1 f1 e1, me_piece K 1 1 h2 f2 e2, me_piece K 1 0 h3 f3 e3, me_piece K 0 3 h4 f4 e4, me_piece K 0 2 h5 f5 e5, me_piece K 0 1 h6 f6 e6, me_piece K 0 0 h7 f7 e7, trivial⟩ y ?_).trans rfl
  generalize g0 : (y 0 : ℕ) = t at y0
  generalize g1 : (y 1 : ℕ) = a at y1
  match t, a, y0, y1 with
  | 1, 3, _, _ => exact ⟨_, List.mem_of_getElem? (i := 0) rfl, me_mem 1 3 h0 y g0 g1⟩
  | 1, 2, _, _ => exact ⟨_, List.mem_of_getElem? (i := 1) rfl, me_mem 1 2 h1 y g0 g1⟩
  | 1, 1, _, _ => exact ⟨_, List.mem_of_getElem? (i := 2) rfl, me_mem 1 1 h2 y g0 g1⟩
  | 1, 0, _, _ => exact ⟨_, List.mem_of_getElem? (i := 3) rfl, me_mem 1 0 h3 y g0 g1⟩
  | 0, 3, _, _ => exact ⟨_, List.mem_of_getElem? (i := 4) rfl, me_mem 0 3 h4 y g0 g1⟩
  | 0, 2, _, _ => exact ⟨_, List.mem_of_getElem? (i := 5) rfl, me_mem 0 2 h5 y g0 g1⟩
  | 0, 1, _, _ => exact ⟨_, List.mem_of_getElem? (i := 6) rfl, me_mem 0 1 h6 y g0 g1⟩
  | 0, 0, _, _ => exact ⟨_, List.mem_of_getElem? (i := 7) rfl, me_mem 0 0 h7 y g0 g1⟩

/-- The rows carried for the next grid step and the new rows of one sequence. -/
def hist (W : Fn2) : Fn2 := fun i j => if 8 ≤ i then W (i - 8) j else W (504 + i) j

abbrev qcR (t : ℕ) (h : ∀ x, (![t, 0, 0] : Fin 3 → ℕ) x + (![1, 8, 1024] : Fin 3 → ℕ) x ≤ Sqk.size x) : Rect Sqk := Rect.unit ![t, 0, 0] ![1, 8, 1024] h

theorem qn_piece (K : ℕ → Fn2) (t b : ℕ) (h) (f : Fn2) (e : f = K t) (x : (qkR t b h).shape.Idx) :
    A3 ⟨3, ![1, 512, 256]⟩ (up (sh2 0 b f)) x = (fun y : Sqk.Idx => hist (K (y 0)) (y 1) (y 2)) ((qkR t b h).emb x) := by
  subst e
  have x0 : (x 0 : ℕ) < 1 := (x 0).isLt
  show K t (0 + (x 1 : ℕ)) (b + (x 2 : ℕ)) = hist (K (t + 1 * (x 0 : ℕ))) (8 + 1 * (x 1 : ℕ)) (b + 1 * (x 2 : ℕ))
  rw [show t + 1 * (x 0 : ℕ) = t by omega, hist, if_pos (by omega)]
  congr 1 <;> omega

theorem qc_piece (K : ℕ → Fn2) (t : ℕ) (h) (f : Fn2) (e : f = K t) (x : (qcR t h).shape.Idx) :
    A3 ⟨3, ![1, 8, 1024]⟩ (up (sh2 504 0 f)) x = (fun y : Sqk.Idx => hist (K (y 0)) (y 1) (y 2)) ((qcR t h).emb x) := by
  subst e
  have x0 : (x 0 : ℕ) < 1 := (x 0).isLt
  have x1 : (x 1 : ℕ) < 8 := (x 1).isLt
  show K t (504 + (x 1 : ℕ)) (0 + (x 2 : ℕ)) = hist (K (t + 1 * (x 0 : ℕ))) (0 + 1 * (x 1 : ℕ)) (0 + 1 * (x 2 : ℕ))
  rw [show t + 1 * (x 0 : ℕ) = t by omega, hist, if_neg (by omega)]
  congr 1 <;> omega

theorem qn_mem (t b : ℕ) (h) (y : Sqk.Idx) (e : (y 0 : ℕ) = t) (e1 : 8 ≤ (y 1 : ℕ)) (e2 : b ≤ (y 2 : ℕ)) (e3 : (y 2 : ℕ) < b + 256) : y ∈ (qkR t b h).set := by
  have y1 : (y 1 : ℕ) < 520 := (y 1).isLt
  refine (LoadRect.mem_set _).2 fun x => ?_
  match x with
  | 0 => exact ⟨0, Nat.one_pos, show (y 0 : ℕ) = t + 1 * 0 by omega⟩
  | 1 => exact ⟨(y 1 : ℕ) - 8, show (y 1 : ℕ) - 8 < 512 by omega, show (y 1 : ℕ) = 8 + 1 * ((y 1 : ℕ) - 8) by omega⟩
  | 2 => exact ⟨(y 2 : ℕ) - b, show (y 2 : ℕ) - b < 256 by omega, show (y 2 : ℕ) = b + 1 * ((y 2 : ℕ) - b) by omega⟩

theorem qc_mem (t : ℕ) (h) (y : Sqk.Idx) (e : (y 0 : ℕ) = t) (e1 : (y 1 : ℕ) < 8) : y ∈ (qcR t h).set := by
  refine (LoadRect.mem_set _).2 fun x => ?_
  match x with
  | 0 => exact ⟨0, Nat.one_pos, show (y 0 : ℕ) = t + 1 * 0 by omega⟩
  | 1 => exact ⟨y 1, e1, show (y 1 : ℕ) = 0 + 1 * (y 1 : ℕ) by omega⟩
  | 2 => exact ⟨y 2, (y 2).isLt, show (y 2 : ℕ) = 0 + 1 * (y 2 : ℕ) by omega⟩

/-- The ten stores of the lagged rows. -/
theorem qk_canon (K : ℕ → Fn2) (f0 f1 : Fn2) (L : List (View.Piece (Elt Ideal) Sqk .f32)) (h0 h1 h2 h3 h4 h5 h6 h7 h8 h9) (e0 : f0 = K 0) (e1 : f1 = K 1) :
    View.canon (Val := Elt Ideal) (e := .f32) (⟨qcR 1 h0, A3 ⟨3, ![1, 8, 1024]⟩ (up (sh2 504 0 f1))⟩ :: ⟨qkR 1 768 h1, A3 ⟨3, ![1, 512, 256]⟩ (up (sh2 0 768 f1))⟩ :: ⟨qkR 1 512 h2, A3 ⟨3, ![1, 512, 256]⟩ (up (sh2 0 512 f1))⟩ :: ⟨qkR 1 256 h3, A3 ⟨3, ![1, 512, 256]⟩ (up (sh2 0 256 f1))⟩ :: ⟨qkR 1 0 h4, A3 ⟨3, ![1, 512, 256]⟩ (up (sh2 0 0 f1))⟩ :: ⟨qcR 0 h5, A3 ⟨3, ![1, 8, 1024]⟩ (up (sh2 504 0 f0))⟩ :: ⟨qkR 0 768 h6, A3 ⟨3, ![1, 512, 256]⟩ (up (sh2 0 768 f0))⟩ :: ⟨qkR 0 512 h7, A3 ⟨3, ![1, 512, 256]⟩ (up (sh2 0 512 f0))⟩ :: ⟨qkR 0 256 h8, A3 ⟨3, ![1, 512, 256]⟩ (up (sh2 0 256 f0))⟩ :: ⟨qkR 0 0 h9, A3 ⟨3, ![1, 512, 256]⟩ (up (sh2 0 0 f0))⟩ :: L) = A3 Sqk (fun t => hist (K t)) := by
  funext y
  have y0 : (y 0 : ℕ) < 2 := (y 0).isLt
  have y2 : (y 2 : ℕ) < 1024 := (y 2).isLt
  refine (View.canon_append_of_piecesOf (Val := Elt Ideal) (e := .f32) (fun y : Sqk.Idx => hist (K (y 0)) (y 1) (y 2)) L [⟨qcR 1 h0, A3 ⟨3, ![1, 8, 1024]⟩ (up (sh2 504 0 f1))⟩, ⟨qkR 1 768 h1, A3 ⟨3, ![1, 512, 256]⟩ (up (sh2 0 768 f1))⟩, ⟨qkR 1 512 h2, A3 ⟨3, ![1, 512, 256]⟩ (up (sh2 0 512 f1))⟩, ⟨qkR 1 256 h3, A3 ⟨3, ![1, 512, 256]⟩ (up (sh2 0 256 f1))⟩, ⟨qkR 1 0 h4, A3 ⟨3, ![1, 512, 256]⟩ (up (sh2 0 0 f1))⟩, ⟨qcR 0 h5, A3 ⟨3, ![1, 8, 1024]⟩ (up (sh2 504 0 f0))⟩, ⟨qkR 0 768 h6, A3 ⟨3, ![1, 512, 256]⟩ (up (sh2 0 768 f0))⟩, ⟨qkR 0 512 h7, A3 ⟨3, ![1, 512, 256]⟩ (up (sh2 0 512 f0))⟩, ⟨qkR 0 256 h8, A3 ⟨3, ![1, 512, 256]⟩ (up (sh2 0 256 f0))⟩, ⟨qkR 0 0 h9, A3 ⟨3, ![1, 512, 256]⟩ (up (sh2 0 0 f0))⟩]
    ⟨qc_piece K 1 h0 f1 e1, qn_piece K 1 768 h1 f1 e1, qn_piece K 1 512 h2 f1 e1, qn_piece K 1 256 h3 f1 e1, qn_piece K 1 0 h4 f1 e1, qc_piece K 0 h5 f0 e0, qn_piece K 0 768 h6 f0 e0, qn_piece K 0 512 h7 f0 e0, qn_piece K 0 256 h8 f0 e0, qn_piece K 0 0 h9 f0 e0, trivial⟩ y ?_).trans rfl
  by_cases a : (y 0 : ℕ) = 1
  · by_cases b : (y 1 : ℕ) < 8
    · exact ⟨_, List.mem_of_getElem? (i := 0) rfl, qc_mem 1 h0 y a b⟩
    by_cases c3 : 768 ≤ (y 2 : ℕ)
    · exact ⟨_, List.mem_of_getElem? (i := 1) rfl, qn_mem 1 768 h1 y a (by omega) c3 (by omega)⟩
    by_cases c2 : 512 ≤ (y 2 : ℕ)
    · exact ⟨_, List.mem_of_getElem? (i := 2) rfl, qn_mem 1 512 h2 y a (by omega) c2 (by omega)⟩
    by_cases c1 : 256 ≤ (y 2 : ℕ)
    · exact ⟨_, List.mem_of_getElem? (i := 3) rfl, qn_mem 1 256 h3 y a (by omega) c1 (by omega)⟩
    exact ⟨_, List.mem_of_getElem? (i := 4) rfl, qn_mem 1 0 h4 y a (by omega) (by omega) (by omega)⟩
  · replace a : (y 0 : ℕ) = 0 := by omega
    by_cases b : (y 1 : ℕ) < 8
    · exact ⟨_, List.mem_of_getElem? (i := 5) rfl, qc_mem 0 h5 y a b⟩
    by_cases c3 : 768 ≤ (y 2 : ℕ)
    · exact ⟨_, List.mem_of_getElem? (i := 6) rfl, qn_mem 0 768 h6 y a (by omega) c3 (by omega)⟩
    by_cases c2 : 512 ≤ (y 2 : ℕ)
    · exact ⟨_, List.mem_of_getElem? (i := 7) rfl, qn_mem 0 512 h7 y a (by omega) c2 (by omega)⟩
    by_cases c1 : 256 ≤ (y 2 : ℕ)
    · exact ⟨_, List.mem_of_getElem? (i := 8) rfl, qn_mem 0 256 h8 y a (by omega) c1 (by omega)⟩
    exact ⟨_, List.mem_of_getElem? (i := 9) rfl, qn_mem 0 0 h9 y a (by omega) (by omega) (by omega)⟩

end Cert.Sym
end
-- ==== Proof.EvalA.lean ====
/- The body of the mixer kernel at the first grid step of a pair of sequences: what it stores, as the functions of numbers named in the symbolic kernel. -/
module

public import proofs.«01_k».proof.Proof.SymCarry
public import proofs.«01_k».proof.Proof.Gen.MixerIdeal.Frame

@[expose] public section

set_option maxRecDepth 16384
set_option maxHeartbeats 4000000

noncomputable section

namespace Cert.MixerIdeal.Eval

open Cert.MixerIdeal Cert.MixerIdeal.Gen Cert.MixerIdeal.SymOps Cert.Sym
open Idealize.ShloMosaic Idealize.ShloMosaic.TcCoe Idealize.SL.Sem

variable (c : Dev nD) (i : grid0.Coords) (arg2 : Memref sig .tc .vmem S1x2x512x1024 .f32) (harg2 : arg2.IsWhole) (arg3 : Memref sig .tc .vmem S8x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S8x128 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S4x128x128 .f32) (harg13 : arg13.IsWhole) (arg14 : Memref sig .tc .vmem S128x4 .f32) (harg14 : arg14.IsWhole) (arg15 : Memref sig .tc .vmem S1024x1024 .f32) (harg15 : arg15.IsWhole) (arg16 : Memref sig .tc .vmem S128x256 .bf16) (harg16 : arg16.IsWhole) (arg17 : Memref sig .tc .vmem S4x128x384 .bf16) (harg17 : arg17.IsWhole) (arg18 : Memref sig .tc .vmem S256x128 .bf16) (harg18 : arg18.IsWhole) (arg19 : Memref sig .tc .vmem S1x2x512x1024 .f32) (harg19 : arg19.IsWhole) (arg20 : Memref sig .tc .vmem S2x520x1024 .f32) (harg20 : arg20.IsWhole) (arg21 : Memref sig .tc .vmem S2x4x128x256 .f32) (harg21 : arg21.IsWhole) (arg22 : Memref sig .tc .vmem S2x8x128 .f32) (harg22 : arg22.IsWhole) (arg23 : Memref sig .tc .vmem S2x512x512 .bf16) (harg23 : arg23.IsWhole) (arg24 : Memref sig .tc .vmem S2x512x512 .f32) (harg24 : arg24.IsWhole) (arg25 : Memref sig .tc .vmem S2x512x512 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S2x512x512 .f32) (harg28 : arg28.IsWhole) (arg29 : Memref sig .tc .vmem S2x512x1024 .bf16) (harg29 : arg29.IsWhole)
  (P : Par) (X : ℕ → Fn2)

/-- The output block: for each of its two sequences the residual stream plus the normalised mixed rows. -/
theorem out_A (hc0 : cond0_0 i) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones)
    = A4 S1x2x512x1024 (fun _ t => kOut P (sh2 0 0 (X t)) (sh2 0 0 (z3 t)) (sh2 0 0 (z3 t)) (cEnt z4 t)) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  simp (disch := decide) only [mix_load]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact out_two _ _ (fun t => kOut P (sh2 0 0 (X t)) (sh2 0 0 (z3 t)) (sh2 0 0 (z3 t)) (cEnt z4 t)) _ _ rfl rfl

/-- The carried rows of the first projection: the last eight of this step, in front of the new ones. -/
theorem carry0_A (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones)
    = A3 S2x520x1024 (fun t => hist (kW P (sh2 0 0 (X t)))) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact qk_canon (fun t => kW P (sh2 0 0 (X t))) _ _ _ _ _ _ _ _ _ _ _ _ _ rfl rfl

/-- The carried memory after the four chunks of the step. -/
theorem carry1_A (hc0 : cond0_0 i) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones)
    = A4 S2x4x128x256 (fun t hd => kC P (sh2 0 0 (X t)) (sh2 0 0 (z3 t)) (sh2 0 0 (z3 t)) (cEnt z4 t) hd 4) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact me_canon (fun t hd => kC P (sh2 0 0 (X t)) (sh2 0 0 (z3 t)) (sh2 0 0 (z3 t)) (cEnt z4 t) hd 4) _ _ _ _ _ _ _ _ _ _ _ _ _ _ _ _ _ rfl rfl rfl rfl rfl rfl rfl rfl

/-- The carried maximum after the four chunks of the step. -/
theorem carry2_A (hc0 : cond0_0 i) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones)
    = A3 S2x8x128 (fun t => kM P (sh2 0 0 (X t)) (sh2 0 0 (z3 t)) 4) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact mx_canon (fun t => kM P (sh2 0 0 (X t)) (sh2 0 0 (z3 t)) 4) _ _ _ _ _ rfl rfl

end Cert.MixerIdeal.Eval
end
-- ==== Proof.EvalB.lean ====
/- The body of the mixer kernel at a later grid step of a pair of sequences: what it stores, as the functions of numbers named in the symbolic kernel. -/
module

public import proofs.«01_k».proof.Proof.SymCarry
public import proofs.«01_k».proof.Proof.Gen.MixerIdeal.Frame

@[expose] public section

set_option maxRecDepth 16384
set_option maxHeartbeats 4000000

noncomputable section

namespace Cert.MixerIdeal.Eval

open Cert.MixerIdeal Cert.MixerIdeal.Gen Cert.MixerIdeal.SymOps Cert.Sym
open Idealize.ShloMosaic Idealize.ShloMosaic.TcCoe Idealize.SL.Sem

variable (c : Dev nD) (i : grid0.Coords) (arg2 : Memref sig .tc .vmem S1x2x512x1024 .f32) (harg2 : arg2.IsWhole) (arg3 : Memref sig .tc .vmem S8x1024 .f32) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x128 .bf16) (harg6 : arg6.IsWhole) (arg7 : Memref sig .tc .vmem S8x128 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S4x128x128 .f32) (harg13 : arg13.IsWhole) (arg14 : Memref sig .tc .vmem S128x4 .f32) (harg14 : arg14.IsWhole) (arg15 : Memref sig .tc .vmem S1024x1024 .f32) (harg15 : arg15.IsWhole) (arg16 : Memref sig .tc .vmem S128x256 .bf16) (harg16 : arg16.IsWhole) (arg17 : Memref sig .tc .vmem S4x128x384 .bf16) (harg17 : arg17.IsWhole) (arg18 : Memref sig .tc .vmem S256x128 .bf16) (harg18 : arg18.IsWhole) (arg19 : Memref sig .tc .vmem S1x2x512x1024 .f32) (harg19 : arg19.IsWhole) (arg20 : Memref sig .tc .vmem S2x520x1024 .f32) (harg20 : arg20.IsWhole) (arg21 : Memref sig .tc .vmem S2x4x128x256 .f32) (harg21 : arg21.IsWhole) (arg22 : Memref sig .tc .vmem S2x8x128 .f32) (harg22 : arg22.IsWhole) (arg23 : Memref sig .tc .vmem S2x512x512 .bf16) (harg23 : arg23.IsWhole) (arg24 : Memref sig .tc .vmem S2x512x512 .f32) (harg24 : arg24.IsWhole) (arg25 : Memref sig .tc .vmem S2x512x512 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S2x512x512 .f32) (harg28 : arg28.IsWhole) (arg29 : Memref sig .tc .vmem S2x512x1024 .bf16) (harg29 : arg29.IsWhole)
  (P : Par) (X : ℕ → Fn2) (Q M : ℕ → Fn2) (C : ℕ → ℕ → Fn2)

/-- The output block: for each of its two sequences the residual stream plus the normalised mixed rows. -/
theorem out_B (hc0 : ¬cond0_0 i) : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones) (A3 S2x520x1024 Q) (A4 S2x4x128x256 (cu C)) (A3 S2x8x128 M)
    = A4 S1x2x512x1024 (fun _ t => kOut P (sh2 0 0 (X t)) (sh2 0 0 (Q t)) (sh2 0 0 (M t)) (cEnt C t)) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  simp (disch := decide) only [mix_load]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact out_two _ _ (fun t => kOut P (sh2 0 0 (X t)) (sh2 0 0 (Q t)) (sh2 0 0 (M t)) (cEnt C t)) _ _ rfl rfl

/-- The carried rows of the first projection: the last eight of this step, in front of the new ones. -/
theorem carry0_B (hc0 : ¬cond0_0 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones) (A3 S2x520x1024 Q) (A4 S2x4x128x256 (cu C)) (A3 S2x8x128 M)
    = A3 S2x520x1024 (fun t => hist (kW P (sh2 0 0 (X t)))) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact qk_canon (fun t => kW P (sh2 0 0 (X t))) _ _ _ _ _ _ _ _ _ _ _ _ _ rfl rfl

/-- The carried memory after the four chunks of the step. -/
theorem carry1_B (hc0 : ¬cond0_0 i) : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones) (A3 S2x520x1024 Q) (A4 S2x4x128x256 (cu C)) (A3 S2x8x128 M)
    = A4 S2x4x128x256 (fun t hd => kC P (sh2 0 0 (X t)) (sh2 0 0 (Q t)) (sh2 0 0 (M t)) (cEnt C t) hd 4) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact me_canon (fun t hd => kC P (sh2 0 0 (X t)) (sh2 0 0 (Q t)) (sh2 0 0 (M t)) (cEnt C t) hd 4) _ _ _ _ _ _ _ _ _ _ _ _ _ _ _ _ _ rfl rfl rfl rfl rfl rfl rfl rfl

/-- The carried maximum after the four chunks of the step. -/
theorem carry2_B (hc0 : ¬cond0_0 i) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (A4 S1x2x512x1024 fun _ => X) (A2 S8x1024 P.gains) (A2 S1024x2048 P.wa) (A2 S1024x1024 P.wb) (A2 S1024x128 P.wg) (A2 S8x128 P.bias) (A2 S4x1024 P.cw) (A2 S1x1024 P.cb) (A2 S1x512 P.mhg) (A2 S1x512 P.lng) (A2 S1x512 P.lnb) (A3 S4x128x128 P.ws) (A2 S128x4 P.bs) (A2 S1024x1024 P.wo) (A2 S128x256 P.ut) (A3 S4x128x384 P.sel) (A2 S256x128 P.ones) (A3 S2x520x1024 Q) (A4 S2x4x128x256 (cu C)) (A3 S2x8x128 M)
    = A3 S2x8x128 (fun t => kM P (sh2 0 0 (X t)) (sh2 0 0 (M t)) 4) := by
  frame_open
  dsimp only [Proc.kind]
  simp only [View.read_writes_junk_eq_canon]
  simp (disch := decide) only [Proc.kind, Nat.reduceAdd, Nat.reduceSub, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189, k0_pay190, k0_pay191, k0_pay192, k0_pay193, k0_pay194, k0_pay195,
    k0_pay196, k0_pay197, k0_pay198, k0_pay199, k0_pay200, k0_pay201, k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237, k0_pay238, k0_pay239, k0_pay240, k0_pay241, k0_pay242, k0_pay243,
    k0_pay244, k0_pay245, k0_pay246, k0_pay247, k0_pay248, k0_pay249, k0_pay250, k0_pay251, k0_pay252, k0_pay253, k0_pay254, k0_pay255, k0_pay256, k0_pay257, k0_pay258, k0_pay259,
    k0_pay260, k0_pay261, k0_pay262, k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322, k0_pay323,
    k0_pay324, k0_pay325, k0_pay326, k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352, k0_pay353, k0_pay354, k0_pay355,
    k0_pay356, k0_pay357, k0_pay358, k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397, k0_pay398, k0_pay399, k0_pay400, k0_pay401, k0_pay402, k0_pay403,
    k0_pay404, k0_pay405, k0_pay406, k0_pay407, k0_pay408, k0_pay409, k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447, k0_pay448, k0_pay449, k0_pay450, k0_pay451,
    k0_pay452, k0_pay453, k0_pay454, k0_pay455, k0_pay456, k0_pay457, k0_pay458, k0_pay459, k0_pay460, k0_pay461, k0_pay462, k0_pay463, k0_pay464, k0_pay465, k0_pay466, k0_pay467,
    k0_pay468, k0_pay469, k0_pay470, k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496, k0_pay497, k0_pay498, k0_pay499,
    k0_pay500, k0_pay501, k0_pay502, k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528, k0_pay529, k0_pay530, k0_pay531,
    k0_pay532, k0_pay533, k0_pay534, k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592, k0_pay593, k0_pay594, k0_pay595,
    k0_pay596, k0_pay597, k0_pay598, k0_pay599, k0_pay600, k0_pay601, k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621, k0_pay622, k0_pay623, k0_pay624, k0_pay625, k0_pay626, k0_pay627,
    k0_pay628, k0_pay629, k0_pay630, k0_pay631, k0_pay632, k0_pay633, k0_pay634, k0_pay635, k0_pay636, k0_pay637, k0_pay638, k0_pay639, k0_pay640, k0_pay641, k0_pay642, k0_pay643,
    k0_pay644, k0_pay645, k0_pay646, k0_pay647, k0_pay648, k0_pay649, k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669, k0_pay670, k0_pay671, k0_pay672, k0_pay673, k0_pay674, k0_pay675,
    k0_pay676, k0_pay677, k0_pay678, k0_pay679, k0_pay680, k0_pay681, k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701, k0_pay702, k0_pay703, k0_pay704, k0_pay705, k0_pay706, k0_pay707,
    addf_A2, subf_A2, mulf_A2, divf_A2, maximumf_A2, absf_A2, exp_A2, log1p_A2, rsqrt_A2, erf_A2, truncf_A2, extf_A2, broadcast_A2, broadcast_A3, broadcast_A4, slice_A2,
    mm_512_1024_256, mm_512_1024_128, mm_96_128_256, mm_128_128_384, mm_128_128_128, mm_128_128_256, mm_128_256_128, bc_128_1_128_128, bc_1_128_128_128, bc_1_256_128_256,
    bc_32_1_32_128, bc_1_1024_512_1024, bc_512_1_512_1024, bc_1_512_512_512, bc_512_1_512_512, rsum_1024, rsum_512, sc_512, sc_same_128x1, sc_same_128x256, sc_same_1x1024,
    sc_same_1x128, sc_same_1x512, sc_same_256x128, sc_same_32x1, sc_same_8x128, sc_same_2x4x128x256, sc_same_2x8x1024, sc_same_2x8x128, sc_drop_128x128, sc_drop_128x384,
    sc_drop_512x1024, sc_drop_8x1024, sc_drop_8x128, sc_drop4_128x256, sc_up4_128x256, sc_drop4_512x1024, sc_up4_512x1024, sc_up_128x128, sc_up_512x256, sc_up_512x512,
    sc_up_8x1024, sc_up_8x128, ↓tr_pre, ↓tr_preE, tr_128, ↓rot0_pre, rot0_8, ↓rot1_pre, ↓io_pre, io_post, ge_pre, ↓ioR_pre, ↓ioL_pre, ioR_post, ioL_post, caus_pre, caus_sel,
    rot1_1, ge1_1, rot1_2, ge1_2, rot1_4, ge1_4, rot1_8, ge1_8, rot1_16, ge1_16, rot1_32, ge1_32, rot1_64, ge1_64, ↓cat_1_256_pre, cat_1_256, ↓cat_128_256_pre, cat_128_256,
    ↓cat_32_pre, cat_32, ↓cat_96_pre, cat_96, ↓cat_128_pre, cat_128, ↓cat_512_pre, cat_512, ↓cat_1024_pre, cat_1024, sh3_up, sh3_at, sh4_at, up_at, up4_at, sh2_sh2, rd2_f32,
    rd3_f32, rd4_f32, rd2_bf16, rd3_bf16, rd4_bf16, in3_f32, in3_bf16, in4_f32, f_A, f_W, f_U, f_G, f_gate0, f_gate1, f_gate2, f_gate3, f_I, f_F, f_D, f_R, f_Cb, f_Cm, f_Cl, f_Ml,
    f_E, f_M1, f_Sp0, f_Sl0, f_M2, f_Sp1, f_Sl1, f_M3, f_Sp2, f_Sl2, f_M4, f_Sp3, f_Sl3, f_In, f_Mt, f_Rt, f_Ei, f_En, f_P0, f_P1, f_P2, f_P3, f_Bc, f_Conv, f_Act, f_K, f_V, f_Mu,
    f_Var, f_VN, f_Gm0_0, f_S0_0, f_Va0_0, f_Pv0_0, f_Loc0_0, f_C0_0, f_Hm0_0, f_Gm0_1, f_S0_1, f_Va0_1, f_Pv0_1, f_Loc0_1, f_C0_1, f_Hm0_1, f_Gm0_2, f_S0_2, f_Va0_2, f_Pv0_2,
    f_Loc0_2, f_C0_2, f_Hm0_2, f_Gm0_3, f_S0_3, f_Va0_3, f_Pv0_3, f_Loc0_3, f_C0_3, f_Hm0_3, f_Gm1_0, f_S1_0, f_Va1_0, f_Pv1_0, f_Loc1_0, f_C1_0, f_Qc1_0, f_Hm1_0, f_Gm1_1,
    f_S1_1, f_Va1_1, f_Pv1_1, f_Loc1_1, f_C1_1, f_Qc1_1, f_Hm1_1, f_Gm1_2, f_S1_2, f_Va1_2, f_Pv1_2, f_Loc1_2, f_C1_2, f_Qc1_2, f_Hm1_2, f_Gm1_3, f_S1_3, f_Va1_3, f_Pv1_3,
    f_Loc1_3, f_C1_3, f_Qc1_3, f_Hm1_3, f_Gm2_0, f_S2_0, f_Va2_0, f_Pv2_0, f_Loc2_0, f_C2_0, f_Qc2_0, f_Hm2_0, f_Gm2_1, f_S2_1, f_Va2_1, f_Pv2_1, f_Loc2_1, f_C2_1, f_Qc2_1,
    f_Hm2_1, f_Gm2_2, f_S2_2, f_Va2_2, f_Pv2_2, f_Loc2_2, f_C2_2, f_Qc2_2, f_Hm2_2, f_Gm2_3, f_S2_3, f_Va2_3, f_Pv2_3, f_Loc2_3, f_C2_3, f_Qc2_3, f_Hm2_3, f_Gm3_0, f_S3_0,
    f_Va3_0, f_Pv3_0, f_Loc3_0, f_C3_0, f_Qc3_0, f_Hm3_0, f_Gm3_1, f_S3_1, f_Va3_1, f_Pv3_1, f_Loc3_1, f_C3_1, f_Qc3_1, f_Hm3_1, f_Gm3_2, f_S3_2, f_Va3_2, f_Pv3_2, f_Loc3_2,
    f_C3_2, f_Qc3_2, f_Hm3_2, f_Gm3_3, f_S3_3, f_Va3_3, f_Pv3_3, f_Loc3_3, f_C3_3, f_Qc3_3, f_Hm3_3, f_Hh, f_Y, f_Out, f_QcN0_0, f_QcD0_0, f_QcN0_1, f_QcD0_1, f_QcN0_2, f_QcD0_2,
    f_QcN0_3, f_QcD0_3, f_cu, f_cz, f_sig, f_gelu, f_lsig, f_rms, f_scan, f_s32, sig_sh, gelu_sh, mm_sh, mm_sel, f_Ss, ↓View.readCov_skip, readAt_skip, qk_lag1, qk_lag2, qk_lag3,
    qk_lagCov1, qk_lagCov2, qk_lagCov3, qk_new, qk_last, lagA_A3, View.writes_nil]
  exact mx_canon (fun t => kM P (sh2 0 0 (X t)) (sh2 0 0 (M t)) 4) _ _ _ _ _ rfl rfl

end Cert.MixerIdeal.Eval
end
-- ==== Proof.MixerRun.lean ====
/- What the mixer kernel leaves in its result, on arguments of real numbers: the layer's formula, sequence by sequence. -/
module

public import proofs.«01_k».proof.Proof.Windows
public import proofs.«01_k».proof.Proof.EvalA
public import proofs.«01_k».proof.Proof.EvalB

@[expose] public section

set_option maxRecDepth 16384
set_option maxHeartbeats 4000000

noncomputable section

namespace Cert.MixerIdeal.Value

open Cert.MixerIdeal Cert.MixerIdeal.Gen Cert.Sym Idealize.ShloMosaic Idealize.ShloMosaic.TcCoe Idealize.SL.Sem
open Idealize.ShloMosaic.Pipeline (Dat)

variable (m : (ℓ : Loc nD τ sig) → Buf (Elt Ideal) ℓ)

/-- The four arrays a grid point leaves: the output block, the rows kept for the convolution, the memories, the running maxima. -/
abbrev Four : Type := Vec Ideal S1x2x512x1024 .f32 × Vec Ideal S2x520x1024 .f32 × Vec Ideal S2x4x128x256 .f32 × Vec Ideal S2x8x128 .f32

/-- The sequence a grid point's `s`-th block belongs to. -/
def sq (c : Dev nD) (n s : ℕ) : Fn2 := seq m c (2 * (n / 4) + s)

/-- What a grid point leaves: the rows of the layer's result, and memories, running maxima and row histories fit for the next rows. -/
structure Left (c : Dev nD) (n : ℕ) (r : Four) (Q M : ℕ → Fn2) (C : ℕ → ℕ → Fn2) : Prop where
  qa : r.2.1 = A3 S2x520x1024 Q
  ca : r.2.2.1 = A4 S2x4x128x256 (cu C)
  ma : r.2.2.2 = A3 S2x8x128 M
  eq : ∀ t < 2, EntQ (par m c) (sq m c n t) (Q t) (n % 4 + 1)
  em : ∀ t < 2, EntM (par m c) (sq m c n t) (M t) (n % 4 + 1)
  ec : ∀ t < 2, EntC (par m c) (sq m c n t) (cEnt C t) (n % 4 + 1)
  out : ∀ y : S1x2x512x1024.Idx, r.1 y = sOut (par m c) (sq m c n (y 1).val) (512 * (n % 4) + (y 2).val) (y 3).val

theorem cEnt_eq (C : ℕ → ℕ → Fn2) (t : ℕ) : cEnt C t = fun hd => C t hd := by
  funext hd; exact sh00 _

/-- The parts of a step's four arrays. -/
theorem part0 {r : Four} {a b c d} (h : r = (a, b, c, d)) : r.1 = a := by rw [h]
theorem part1 {r : Four} {a b c d} (h : r = (a, b, c, d)) : r.2.1 = b := by rw [h]
theorem part2 {r : Four} {a b c d} (h : r = (a, b, c, d)) : r.2.2.1 = c := by rw [h]
theorem part3 {r : Four} {a b c d} (h : r = (a, b, c, d)) : r.2.2.2 = d := by rw [h]

/-- One grid step from fit memories. -/
theorem left_of (c : Dev nD) (hF : ∀ s, Fine (par m c) (seq m c s)) (t : Fin cfg0.N) (r : Four) (Q M : ℕ → Fn2) (C : ℕ → ℕ → Fn2)
    (hq : ∀ s < 2, EntQ (par m c) (sq m c t.val s) (sh2 0 0 (Q s)) (t.val % 4)) (hm : ∀ s < 2, EntM (par m c) (sq m c t.val s) (sh2 0 0 (M s)) (t.val % 4))
    (hc : ∀ s < 2, EntC (par m c) (sq m c t.val s) (cEnt C s) (t.val % 4))
    (r0 : r.1 = A4 S1x2x512x1024 (fun _ s => kOut (par m c) (sh2 0 0 (blk (512 * (t.val % 4)) (sq m c t.val s))) (sh2 0 0 (Q s)) (sh2 0 0 (M s)) (cEnt C s)))
    (r1 : r.2.1 = A3 S2x520x1024 (fun s => hist (kW (par m c) (sh2 0 0 (blk (512 * (t.val % 4)) (sq m c t.val s))))))
    (r2 : r.2.2.1 = A4 S2x4x128x256 (fun s hd => kC (par m c) (sh2 0 0 (blk (512 * (t.val % 4)) (sq m c t.val s))) (sh2 0 0 (Q s)) (sh2 0 0 (M s)) (cEnt C s) hd 4))
    (r3 : r.2.2.2 = A3 S2x8x128 (fun s => kM (par m c) (sh2 0 0 (blk (512 * (t.val % 4)) (sq m c t.val s))) (sh2 0 0 (M s)) 4)) :
    ∃ Q M C, Left m c t.val r Q M C := by
  refine ⟨_, _, _, ⟨r1, r2, r3, fun s hs => ?_, fun s hs => ?_, fun s hs => ?_, fun y => ?_⟩⟩
  · rw [sh00 (f := blk (512 * (t.val % 4)) (sq m c t.val s))]
    exact nextQ _ _ fun i hi k => if_neg (by omega)
  · rw [sh00 (f := blk (512 * (t.val % 4)) (sq m c t.val s))]
    exact nextM (hF _) _ (hm s hs)
  · rw [cEnt_eq, sh00 (f := blk (512 * (t.val % 4)) (sq m c t.val s))]
    exact nextC (hF _) _ (hm s hs) (hq s hs) (hc s hs)
  · rw [r0]
    have h1 : (y 1).val < 2 := (y 1).isLt
    have h2 : (y 2).val < 512 := (y 2).isLt
    show kOut (par m c) (sh2 0 0 (blk (512 * (t.val % 4)) (sq m c t.val (y 1).val))) (sh2 0 0 (Q (y 1).val)) (sh2 0 0 (M (y 1).val)) (cEnt C (y 1).val) (y 2).val (y 3).val = _
    rw [sh00 (f := blk (512 * (t.val % 4)) (sq m c t.val (y 1).val))]
    exact kOut_eq (hF _) _ (hm _ h1) (hq _ h1) (hc _ h1) _ _ h2

/-- The first step of a pair of sequences. -/
theorem left_A (c : Dev nD) (hF : ∀ s, Fine (par m c) (seq m c s)) (t : Fin cfg0.N) (acc : Four) (h0 : t.val % 4 = 0) :
    ∃ Q M C, Left m c t.val (stAt0 m c t.val t.isLt acc) Q M C := by
  refine left_of m c hF t _ z3 z3 z4 (fun s _ => ?_) (fun s _ => ?_) (fun s _ => ?_) ?_ ?_ ?_ ?_
  · rw [sh00, h0]; exact firstQ
  · rw [sh00, h0]; exact firstM
  · rw [cEnt_eq, h0]; exact firstC
  · refine (part0 (stAt0_A m c t acc h0)).trans ?_
    rw [w0, w1, w2, w3, w4, w5, w6, w7, w8, w9, w10, w11, w12, w13, w14, w15, w16]
    exact Eval.out_A (P := par m c) (X := fun s => blk (512 * (t.val % 4)) (sq m c t.val s)) (hc0 := (hcond0_0 t).mpr h0) ..
  · refine (part1 (stAt0_A m c t acc h0)).trans ?_
    rw [w0, w1, w2, w3, w4, w5, w6, w7, w8, w9, w10, w11, w12, w13, w14, w15, w16]
    exact Eval.carry0_A (P := par m c) (X := fun s => blk (512 * (t.val % 4)) (sq m c t.val s)) (hc0 := (hcond0_0 t).mpr h0) ..
  · refine (part2 (stAt0_A m c t acc h0)).trans ?_
    rw [w0, w1, w2, w3, w4, w5, w6, w7, w8, w9, w10, w11, w12, w13, w14, w15, w16]
    exact Eval.carry1_A (P := par m c) (X := fun s => blk (512 * (t.val % 4)) (sq m c t.val s)) (hc0 := (hcond0_0 t).mpr h0) ..
  · refine (part3 (stAt0_A m c t acc h0)).trans ?_
    rw [w0, w1, w2, w3, w4, w5, w6, w7, w8, w9, w10, w11, w12, w13, w14, w15, w16]
    exact Eval.carry2_A (P := par m c) (X := fun s => blk (512 * (t.val % 4)) (sq m c t.val s)) (hc0 := (hcond0_0 t).mpr h0) ..

/-- A later step. -/
theorem left_B (c : Dev nD) (hF : ∀ s, Fine (par m c) (seq m c s)) (t : Fin cfg0.N) (acc : Four) (h0 : ¬t.val % 4 = 0)
    (Q M : ℕ → Fn2) (C : ℕ → ℕ → Fn2) (L : Left m c (t.val - 1) acc Q M C) :
    ∃ Q M C, Left m c t.val (stAt0 m c t.val t.isLt acc) Q M C := by
  have e1 : (t.val - 1) % 4 + 1 = t.val % 4 := by omega
  have e2 : ∀ s, sq m c (t.val - 1) s = sq m c t.val s := fun s => by unfold sq; rw [show (t.val - 1) / 4 = t.val / 4 by omega]
  refine left_of m c hF t _ Q M C (fun s hs => ?_) (fun s hs => ?_) (fun s hs => ?_) ?_ ?_ ?_ ?_
  · have := L.eq s hs; rw [e1, e2] at this; rw [sh00]; exact this
  · have := L.em s hs; rw [e1, e2] at this; rw [sh00]; exact this
  · have := L.ec s hs; rw [e1, e2] at this; exact this
  · refine (part0 (stAt0_B m c t acc h0)).trans ?_
    rw [w0, w1, w2, w3, w4, w5, w6, w7, w8, w9, w10, w11, w12, w13, w14, w15, w16, L.qa, L.ca, L.ma]
    exact Eval.out_B (P := par m c) (X := fun s => blk (512 * (t.val % 4)) (sq m c t.val s)) (Q := Q) (M := M) (C := C) (hc0 := fun h => h0 ((hcond0_0 t).mp h)) ..
  · refine (part1 (stAt0_B m c t acc h0)).trans ?_
    rw [w0, w1, w2, w3, w4, w5, w6, w7, w8, w9, w10, w11, w12, w13, w14, w15, w16, L.qa, L.ca, L.ma]
    exact Eval.carry0_B (P := par m c) (X := fun s => blk (512 * (t.val % 4)) (sq m c t.val s)) (Q := Q) (M := M) (C := C) (hc0 := fun h => h0 ((hcond0_0 t).mp h)) ..
  · refine (part2 (stAt0_B m c t acc h0)).trans ?_
    rw [w0, w1, w2, w3, w4, w5, w6, w7, w8, w9, w10, w11, w12, w13, w14, w15, w16, L.qa, L.ca, L.ma]
    exact Eval.carry1_B (P := par m c) (X := fun s => blk (512 * (t.val % 4)) (sq m c t.val s)) (Q := Q) (M := M) (C := C) (hc0 := fun h => h0 ((hcond0_0 t).mp h)) ..
  · refine (part3 (stAt0_B m c t acc h0)).trans ?_
    rw [w0, w1, w2, w3, w4, w5, w6, w7, w8, w9, w10, w11, w12, w13, w14, w15, w16, L.qa, L.ca, L.ma]
    exact Eval.carry2_B (P := par m c) (X := fun s => blk (512 * (t.val % 4)) (sq m c t.val s)) (Q := Q) (M := M) (C := C) (hc0 := fun h => h0 ((hcond0_0 t).mp h)) ..

/-- Every grid point leaves fit memories and the layer's rows. -/
theorem left_all (c : Dev nD) (hF : ∀ s, Fine (par m c) (seq m c s)) : ∀ (n : ℕ) (hn : n < cfg0.N), ∃ Q M C, Left m c n (outsAt0 m c n hn) Q M C
  | 0, hn => by rw [outsAt0_zero m c hn]; exact left_A m c hF ⟨0, hn⟩ _ rfl
  | n + 1, hn => by
      obtain ⟨Q, M, C, L⟩ := left_all c hF n (Nat.lt_of_succ_lt hn)
      rw [outsAt0_succ m c n hn]
      by_cases h0 : (n + 1) % 4 = 0
      · exact left_A m c hF ⟨n + 1, hn⟩ _ h0
      · exact left_B m c hF ⟨n + 1, hn⟩ _ h0 Q M C L

/-- The result array: row `r` of sequence `2b + t` is the layer's. -/
theorem result (c : Dev nD) (hF : ∀ s, Fine (par m c) (seq m c s)) (i : S4x2x2048x1024.Idx) :
    G17 m c i = sOut (par m c) (seq m c (2 * (i 0).val + (i 1).val)) (i 2).val (i 3).val := by
  have h0 : (i 0).val < 4 := (i 0).isLt
  have h1 : (i 1).val < 2 := (i 1).isLt
  have h2 : (i 2).val < 2048 := (i 2).isLt
  have h3 : (i 3).val < 1024 := (i 3).isLt
  have hp : pt17Of i = 4 * (i 0).val + (i 2).val / 512 := by
    show 4 * ((i 0).val / 1 - 0) + 4 * ((i 1).val / 2 - 0) + 1 * ((i 2).val / 512 - 0) + 1 * ((i 3).val / 1024 - 0) = _
    omega
  have hN : pt17Of i < cfg0.N := by rw [hp]; exact lt_of_lt_of_eq (by omega) (show cfg0.N = 16 from N_0).symm
  obtain ⟨Q, M, C, L⟩ := left_all m c hF (pt17Of i) hN
  unfold G17
  rw [dif_pos hN, ← outsAt0_sweep m c (pt17Of i) hN, L.out]
  have e1 : (loc17Of i 1).val = (i 1).val % 2 := rfl
  have e2 : (loc17Of i 2).val = (i 2).val % 512 := rfl
  have e3 : (loc17Of i 3).val = (i 3).val % 1024 := rfl
  rw [e1, e2, e3, hp]
  unfold sq
  rw [show 2 * ((4 * (i 0).val + (i 2).val / 512) / 4) + (i 1).val % 2 = 2 * (i 0).val + (i 1).val by omega,
    show 512 * ((4 * (i 0).val + (i 2).val / 512) % 4) + (i 2).val % 512 = (i 2).val by omega, show (i 3).val % 1024 = (i 3).val by omega]

end Cert.MixerIdeal.Value
end
-- ==== Proof.RefArgs.lean ====
/- The reference's arguments, named as the layer's weights and sequences, and small lemmas for reading the program. -/
module

public import proofs.«01_k».proof.Proof.Args
public import proofs.«01_k».proof.Proof.Gen.MixerRefIdeal.Read

@[expose] public section

noncomputable section

namespace Cert.MixerRefIdeal.Spec

open Cert.Sym Cert.MixerRefIdeal Idealize.ShloMosaic Idealize.ShloMosaic.ValueIdx

/-- The arguments of the reference, in order. -/
structure Args where
  x0 : (⟨S16384x1024, .f32⟩ : BufTy).Contents (Elt Ideal)
  x1 : (⟨S8x1024, .f32⟩ : BufTy).Contents (Elt Ideal)
  x2 : (⟨S1024x2048, .bf16⟩ : BufTy).Contents (Elt Ideal)
  x3 : (⟨S1024x1024, .bf16⟩ : BufTy).Contents (Elt Ideal)
  x4 : (⟨S1024x128, .bf16⟩ : BufTy).Contents (Elt Ideal)
  x5 : (⟨S4x1024, .f32⟩ : BufTy).Contents (Elt Ideal)
  x6 : (⟨S1024, .f32⟩ : BufTy).Contents (Elt Ideal)
  x7 : (⟨S8, .f32⟩ : BufTy).Contents (Elt Ideal)
  x8 : (⟨S512, .f32⟩ : BufTy).Contents (Elt Ideal)
  x9 : (⟨S512, .f32⟩ : BufTy).Contents (Elt Ideal)
  x10 : (⟨S512, .f32⟩ : BufTy).Contents (Elt Ideal)
  x11 : (⟨S4x128x128, .f32⟩ : BufTy).Contents (Elt Ideal)
  x12 : (⟨S4x128, .f32⟩ : BufTy).Contents (Elt Ideal)
  x13 : (⟨S1024x1024, .f32⟩ : BufTy).Contents (Elt Ideal)

namespace Args
variable (a : Args)

/-- The weights, read at numbers. -/
def P : Par := parOf a.x1 a.x2 a.x3 a.x4 a.x5 a.x6 a.x7 a.x8 a.x9 a.x10 a.x11 a.x12 a.x13
/-- Sequence `s`. -/
def X (s : ℕ) : Fn2 := seqs a.x0 s

theorem l0 (j : S16384x1024.Idx) : a.x0 j = of2 a.x0 (j 0).val (j 1).val := (congrArg _ (eq_ix2 j)).trans (of2_at _ _ _).symm
theorem l1 (j : S8x1024.Idx) : a.x1 j = a.P.gains (j 0).val (j 1).val := (congrArg _ (eq_ix2 j)).trans (of2_at _ _ _).symm
theorem l2 (j : S1024x2048.Idx) : a.x2 j = a.P.wa (j 0).val (j 1).val := (congrArg _ (eq_ix2 j)).trans (of2_at _ _ _).symm
theorem l3 (j : S1024x1024.Idx) : a.x3 j = a.P.wb (j 0).val (j 1).val := (congrArg _ (eq_ix2 j)).trans (of2_at _ _ _).symm
theorem l4 (j : S1024x128.Idx) : a.x4 j = a.P.wg (j 0).val (j 1).val := (congrArg _ (eq_ix2 j)).trans (of2_at _ _ _).symm
theorem l5 (j : S4x1024.Idx) : a.x5 j = a.P.cw (j 0).val (j 1).val := (congrArg _ (eq_ix2 j)).trans (of2_at _ _ _).symm
theorem l6 (j : S1024.Idx) : a.x6 j = a.P.cb 0 (j 0).val := (congrArg _ (eq_ix1 j)).trans (of1_at _ _).symm
theorem l7 (j : S8.Idx) : a.x7 j = a.P.bias (j 0).val 0 := (congrArg _ (eq_ix1 j)).trans (of1_at _ _).symm
theorem l8 (j : S512.Idx) : a.x8 j = a.P.mhg 0 (j 0).val := (congrArg _ (eq_ix1 j)).trans (of1_at _ _).symm
theorem l9 (j : S512.Idx) : a.x9 j = a.P.lng 0 (j 0).val := (congrArg _ (eq_ix1 j)).trans (of1_at _ _).symm
theorem l10 (j : S512.Idx) : a.x10 j = a.P.lnb 0 (j 0).val := (congrArg _ (eq_ix1 j)).trans (of1_at _ _).symm
theorem l11 (j : S4x128x128.Idx) : a.x11 j = a.P.ws (j 0).val (j 1).val (j 2).val := (congrArg _ (eq_ix3 j)).trans (arr3_at _ _ _ _).symm
theorem l12 (j : S4x128.Idx) : a.x12 j = a.P.bs (j 1).val (j 0).val := (congrArg _ (eq_ix2 j)).trans (of2_at _ _ _).symm
theorem l13 (j : S1024x1024.Idx) : a.x13 j = a.P.wo (j 0).val (j 1).val := (congrArg _ (eq_ix2 j)).trans (of2_at _ _ _).symm

end Args

section cg
variable {α : Type}
theorem cg1 (f : ℕ → α) {a a' : ℕ} (h : a = a') : f a = f a' := by rw [h]
theorem cg2 (f : ℕ → ℕ → α) {a a' b b' : ℕ} (h : a = a') (k : b = b') : f a b = f a' b' := by rw [h, k]
theorem cg3 (f : ℕ → ℕ → ℕ → α) {a a' b b' c c' : ℕ} (h : a = a') (k : b = b') (l : c = c') : f a b c = f a' b' c' := by rw [h, k, l]
theorem cg4 (f : ℕ → ℕ → ℕ → ℕ → α) {a a' b b' c c' d d' : ℕ} (h : a = a') (k : b = b') (l : c = c') (m : d = d') :
    f a b c d = f a' b' c' d' := by rw [h, k, l, m]
theorem cg5 (f : ℕ → ℕ → ℕ → ℕ → ℕ → α) {a a' b b' c c' d d' e e' : ℕ} (h : a = a') (k : b = b') (l : c = c') (m : d = d') (n : e = e') :
    f a b c d e = f a' b' c' d' e' := by rw [h, k, l, m, n]
end cg

end Cert.MixerRefIdeal.Spec
end
-- ==== Proof.RefA.lean ====
/- The projections, the convolution and the gates of the reference, as the layer's formulas. -/
module

public import proofs.«01_k».proof.Proof.RefArgs

@[expose] public section

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv0 (i : S8x2048x1024.Idx) : val_main_v0 (F := Ideal) a.x0 i =
    a.X (i 0).val (i 1).val (i 2).val := by
  have h0 : (i 0).val < 8 := (i 0).isLt
  have h1 : (i 1).val < 2048 := (i 1).isLt
  have h2 : (i 2).val < 1024 := (i 2).isLt
  simp only [val_main_v0_apply, a.l0, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun r k => of2 a.x0 r k) ?_ ?_ <;> (try dsimp only [idx_main_v0]) <;> omega

theorem rv2 (i : S1024.Idx) : val_main_v2 (F := Ideal) a.x1 i =
    a.P.gains 2 (i 0).val := by
  have h0 : (i 0).val < 1024 := (i 0).isLt
  simp only [val_main_v2_apply, val_main_v1_apply, a.l1, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun q k => a.P.gains q k) ?_ ?_ <;> (try dsimp only [idx_main_v2, idx_main_v1]) <;> omega

theorem rv15 (i : S8x2048x1024.Idx) : val_main_v15 (F := Ideal) a.x0 a.x1 i =
    kA a.P (a.X (i 0).val) (i 1).val (i 2).val := by
  simp only [val_main_v15_apply, val_main_v12_apply, val_main_v11_apply, val_main_v10_apply, val_main_v9_apply, val_main_v7_apply, val_main_v5_apply, val_main_v4_apply, val_main_cst_apply, val_main_v3_apply, val_main_v6_apply, val_main_cst_0_apply, val_main_v8_apply, val_main_cst_1_apply, val_main_v14_apply, val_main_v13_apply, rv0, rv2, a.l0, a.l1, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, zero_add]
  simp only [kA, rms2, mul2, colb, rowb, rsqrt2, add2, div2, c1, rsum, sh2, k2, Nat.zero_add, Nat.add_zero]

theorem rv17 (i : S8x2048x2048.Idx) : val_main_v17 (F := Ideal) a.x0 a.x1 a.x2 i =
    kW a.P (a.X (i 0).val) (i 1).val (i 2).val := by
  simp only [val_main_v17_apply, val_main_v16_apply, rv15, a.l0, a.l1, a.l2, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv22 (i : S8x2048x128.Idx) : val_main_v22 (F := Ideal) a.x0 a.x1 a.x4 i =
    kG a.P (a.X (i 0).val) (i 1).val (i 2).val := by
  simp only [val_main_v22_apply, val_main_v21_apply, rv15, a.l0, a.l1, a.l4, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv25 (i : S8x2048x1024.Idx) : val_main_v25 (F := Ideal) a.x0 a.x1 a.x3 i =
    kU a.P (a.X (i 0).val) (i 1).val (i 2).val := by
  simp only [val_main_v25_apply, val_main_v24_apply, rv15, a.l0, a.l1, a.l3, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv30 (i : S8x2051x1024.Idx) : val_main_v30 (F := Ideal) a.x0 a.x1 a.x2 i =
    if (i 1).val < 3 then 0 else kW a.P (a.X (i 0).val) ((i 1).val - 3) (i 2).val := by
  have h0 : (i 0).val < 8 := (i 0).isLt
  have h1 : (i 1).val < 2051 := (i 1).isLt
  have h2 : (i 2).val < 1024 := (i 2).isLt
  unfold val_main_v30
  split_ifs with h
  · rw [concatenate_pair_apply_left (s₁ := S8x3x1024) (s₂ := S8x2048x1024) 1 _ _ _ i rfl (ix3 ⟨(i 0).val, h0⟩ ⟨(i 1).val, h⟩ ⟨(i 2).val, h2⟩ : S8x3x1024.Idx)
      (fun b => by fin_cases b <;> rfl)]
    simp only [val_main_v29_apply, val_main_cst_2_apply]
    exact wd_zero
  · rw [concatenate_pair_apply_right (s₁ := S8x3x1024) (s₂ := S8x2048x1024) 1 _ _ _ i rfl rfl (ix3 ⟨(i 0).val, h0⟩ ⟨(i 1).val - 3, by omega⟩ ⟨(i 2).val, h2⟩ : S8x2048x1024.Idx)
      (fun b hb => by fin_cases b <;> first | rfl | exact absurd rfl hb) (by show (i 1).val - 3 + 3 = (i 1).val; omega)]
    simp only [val_main_v18_apply, rv17]
    all_goals rfl

theorem rv32 (i : S1024.Idx) : val_main_v32 (F := Ideal) a.x5 i =
    a.P.cw 0 (i 0).val := by
  have h0 : (i 0).val < 1024 := (i 0).isLt
  simp only [val_main_v32_apply, val_main_v31_apply, a.l5, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun q k => a.P.cw q k) ?_ ?_ <;> (try dsimp only [idx_main_v32, idx_main_v31]) <;> omega

theorem rv40 (i : S1024.Idx) : val_main_v40 (F := Ideal) a.x5 i =
    a.P.cw 1 (i 0).val := by
  have h0 : (i 0).val < 1024 := (i 0).isLt
  simp only [val_main_v40_apply, val_main_v39_apply, a.l5, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun q k => a.P.cw q k) ?_ ?_ <;> (try dsimp only [idx_main_v40, idx_main_v39]) <;> omega

theorem rv47 (i : S1024.Idx) : val_main_v47 (F := Ideal) a.x5 i =
    a.P.cw 2 (i 0).val := by
  have h0 : (i 0).val < 1024 := (i 0).isLt
  simp only [val_main_v47_apply, val_main_v46_apply, a.l5, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun q k => a.P.cw q k) ?_ ?_ <;> (try dsimp only [idx_main_v47, idx_main_v46]) <;> omega

theorem rv54 (i : S1024.Idx) : val_main_v54 (F := Ideal) a.x5 i =
    a.P.cw 3 (i 0).val := by
  have h0 : (i 0).val < 1024 := (i 0).isLt
  simp only [val_main_v54_apply, val_main_v53_apply, a.l5, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun q k => a.P.cw q k) ?_ ?_ <;> (try dsimp only [idx_main_v54, idx_main_v53]) <;> omega

theorem rv33 (i : S8x2048x1024.Idx) : val_main_v33 (F := Ideal) a.x0 a.x1 a.x2 i =
    sLag a.P (a.X (i 0).val) 3 (i 1).val (i 2).val := by
  simp only [val_main_v33_apply, rv30, a.l0, a.l1, a.l2, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv41 (i : S8x2048x1024.Idx) : val_main_v41 (F := Ideal) a.x0 a.x1 a.x2 i =
    sLag a.P (a.X (i 0).val) 2 (i 1).val (i 2).val := by
  have h0 : (i 0).val < 8 := (i 0).isLt
  have h1 : (i 1).val < 2048 := (i 1).isLt
  have h2 : (i 2).val < 1024 := (i 2).isLt
  simp only [val_main_v41_apply, rv30, idx_main_v41, sLag]
  by_cases h : (i 1).val < 2
  · rw [if_pos h]; exact if_pos (by first | omega | (dsimp only; omega))
  · rw [if_neg h]; refine (if_neg (by first | omega | (dsimp only; omega))).trans ?_
    refine cg1 (fun r => kW a.P (a.X (i 0).val) r (i 2).val) ?_
    all_goals first | omega | (dsimp only; omega)

theorem rv48 (i : S8x2048x1024.Idx) : val_main_v48 (F := Ideal) a.x0 a.x1 a.x2 i =
    sLag a.P (a.X (i 0).val) 1 (i 1).val (i 2).val := by
  have h0 : (i 0).val < 8 := (i 0).isLt
  have h1 : (i 1).val < 2048 := (i 1).isLt
  have h2 : (i 2).val < 1024 := (i 2).isLt
  simp only [val_main_v48_apply, rv30, idx_main_v48, sLag]
  by_cases h : (i 1).val < 1
  · rw [if_pos h]; exact if_pos (by first | omega | (dsimp only; omega))
  · rw [if_neg h]; refine (if_neg (by first | omega | (dsimp only; omega))).trans ?_
    refine cg1 (fun r => kW a.P (a.X (i 0).val) r (i 2).val) ?_
    all_goals first | omega | (dsimp only; omega)

theorem rv55 (i : S8x2048x1024.Idx) : val_main_v55 (F := Ideal) a.x0 a.x1 a.x2 i =
    sLag a.P (a.X (i 0).val) 0 (i 1).val (i 2).val := by
  have h0 : (i 0).val < 8 := (i 0).isLt
  have h1 : (i 1).val < 2048 := (i 1).isLt
  have h2 : (i 2).val < 1024 := (i 2).isLt
  simp only [val_main_v55_apply, rv30, idx_main_v55, sLag]
  by_cases h : (i 1).val < 0
  · rw [if_pos h]; exact if_pos (by first | omega | (dsimp only; omega))
  · rw [if_neg h]; refine (if_neg (by first | omega | (dsimp only; omega))).trans ?_
    refine cg1 (fun r => kW a.P (a.X (i 0).val) r (i 2).val) ?_
    all_goals first | omega | (dsimp only; omega)

theorem rv62 (i : S8x2048x1024.Idx) : val_main_v62 (F := Ideal) a.x0 a.x1 a.x2 a.x5 a.x6 i =
    sConv a.P (a.X (i 0).val) (i 1).val (i 2).val := by
  simp only [val_main_v62_apply, val_main_v59_apply, val_main_v52_apply, val_main_v45_apply, val_main_v38_apply, val_main_v37_apply, val_main_cst_3_apply, val_main_v36_apply, val_main_v35_apply, val_main_v34_apply, val_main_v44_apply, val_main_v43_apply, val_main_v42_apply, val_main_v51_apply, val_main_v50_apply, val_main_v49_apply, val_main_v58_apply, val_main_v57_apply, val_main_v56_apply, val_main_v61_apply, val_main_v60_apply, rv33, rv32, rv41, rv40, rv48, rv47, rv55, rv54, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero]
  all_goals rfl

theorem rv63 (i : S8x2048x1024.Idx) : val_main_v63 (F := Ideal) a.x0 a.x1 a.x2 a.x5 a.x6 i =
    sAct a.P (a.X (i 0).val) (i 1).val (i 2).val := by
  simp only [val_main_v63_apply, val_main_call0_v5_apply, val_main_call0_v4_apply, val_main_call0_cst_0_apply, val_main_call0_v3_apply, val_main_call0_v2_apply, val_main_call0_cst_apply, val_main_call0_v1_apply, val_main_call0_v0_apply, rv62, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv68 (i : S8x2048x8.Idx) : val_main_v68 (F := Ideal) a.x0 a.x1 a.x4 a.x7 i =
    sGt a.P (a.X (i 0).val) (i 1).val (i 2).val := by
  simp only [val_main_v68_apply, val_main_v23_apply, val_main_v67_apply, val_main_v66_apply, rv22, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv70 (i : S8x4x2048.Idx) : val_main_v70 (F := Ideal) a.x0 a.x1 a.x4 a.x7 i =
    sGt a.P (a.X (i 0).val) (i 2).val (i 1).val := by
  simp only [val_main_v70_apply, val_main_v69_apply, rv68, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv71 (i : S8x2048x4.Idx) : val_main_v71 (F := Ideal) a.x0 a.x1 a.x4 a.x7 i =
    sGt a.P (a.X (i 0).val) (i 1).val (4 + (i 2).val) := by
  simp only [val_main_v71_apply, rv68, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv72 (i : S8x2048x4.Idx) : val_main_v72 (F := Ideal) a.x0 a.x1 a.x4 a.x7 i =
    sLs (sGt a.P (a.X (i 0).val) (i 1).val (4 + (i 2).val)) := by
  simp only [val_main_v72_apply, val_main_call1_v1_apply, val_main_call1_call0_v4_apply, val_main_call1_call0_v3_apply, val_main_call1_v0_apply, val_main_call1_call0_v2_apply, val_main_call1_call0_cst_apply, val_main_call1_call0_v6_apply, val_main_call1_call0_v5_apply, val_main_call1_call0_v11_apply, val_main_call1_call0_v1_apply, val_main_call1_call0_v0_apply, val_main_call1_call0_v10_apply, val_main_call1_call0_v9_apply, val_main_call1_call0_v8_apply, val_main_call1_call0_v7_apply, rv71, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, sub_zero, Ideal.absf_def]
  have e (y : EReal) : FloatOps.cmpf (F := Ideal) (φ := .f32) .une y y = 0#1 := by
    show BitVec.ofBool (decide (y ≠ y)) = 0#1
    simp
  simp only [e]
  rfl

theorem rv73 (i : S8x4x2048.Idx) : val_main_v73 (F := Ideal) a.x0 a.x1 a.x4 a.x7 i =
    sLs (sGt a.P (a.X (i 0).val) (i 2).val (4 + (i 1).val)) := by
  simp only [val_main_v73_apply, rv72, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv75 (i : S8x4x2048x128.Idx) : val_main_v75 (F := Ideal) a.x0 a.x1 a.x2 a.x5 a.x6 i =
    sAct a.P (a.X (i 0).val) (i 2).val (128 * (i 1).val + (i 3).val) := by
  have h0 : (i 0).val < 8 := (i 0).isLt
  have h1 : (i 1).val < 4 := (i 1).isLt
  have h2 : (i 2).val < 2048 := (i 2).isLt
  have h3 : (i 3).val < 128 := (i 3).isLt
  simp only [val_main_v75_apply, val_main_v74_apply, val_main_v64_apply, rv63, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sAct a.P (a.X s) r k) ?_ ?_ ?_ <;> (try dsimp only [idx_main_v75, idx_main_v74, idx_main_v64]) <;> omega

theorem rv77 (i : S8x4x2048x128.Idx) : val_main_v77 (F := Ideal) a.x0 a.x1 a.x2 a.x5 a.x6 i =
    sAct a.P (a.X (i 0).val) (i 2).val (512 + (128 * (i 1).val + (i 3).val)) := by
  have h0 : (i 0).val < 8 := (i 0).isLt
  have h1 : (i 1).val < 4 := (i 1).isLt
  have h2 : (i 2).val < 2048 := (i 2).isLt
  have h3 : (i 3).val < 128 := (i 3).isLt
  simp only [val_main_v77_apply, val_main_v76_apply, val_main_v65_apply, rv63, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sAct a.P (a.X s) r k) ?_ ?_ ?_ <;> (try dsimp only [idx_main_v77, idx_main_v76, idx_main_v65]) <;> omega

theorem rv81 (i : S8x4x2048x128.Idx) : val_main_v81 (F := Ideal) a.x0 a.x1 a.x2 i =
    kW a.P (a.X (i 0).val) (i 2).val (1024 + (128 * (i 1).val + (i 3).val)) := by
  have h0 : (i 0).val < 8 := (i 0).isLt
  have h1 : (i 1).val < 4 := (i 1).isLt
  have h2 : (i 2).val < 2048 := (i 2).isLt
  have h3 : (i 3).val < 128 := (i 3).isLt
  simp only [val_main_v81_apply, val_main_v80_apply, val_main_v19_apply, rv17, a.l0, a.l1, a.l2, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => kW a.P (a.X s) r k) ?_ ?_ ?_ <;> (try dsimp only [idx_main_v81, idx_main_v80, idx_main_v19]) <;> omega

theorem rv82 (i : S8x4x16x128x128.Idx) : val_main_v82 (F := Ideal) a.x0 a.x1 a.x2 a.x5 a.x6 i =
    sQ a.P (a.X (i 0).val) (i 1).val (i 2).val (i 3).val (i 4).val := by
  have h0 : (i 0).val < 8 := (i 0).isLt
  have h1 : (i 1).val < 4 := (i 1).isLt
  have h2 : (i 2).val < 16 := (i 2).isLt
  have h3 : (i 3).val < 128 := (i 3).isLt
  have h4 : (i 4).val < 128 := (i 4).isLt
  simp only [val_main_v82_apply, rv75, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sAct a.P (a.X s) r k) ?_ ?_ ?_ <;> (try dsimp only [idx_main_v82]) <;> omega

theorem rv83 (i : S8x4x16x128x128.Idx) : val_main_v83 (F := Ideal) a.x0 a.x1 a.x2 a.x5 a.x6 i =
    sK a.P (a.X (i 0).val) (i 1).val (i 2).val (i 3).val (i 4).val := by
  have h0 : (i 0).val < 8 := (i 0).isLt
  have h1 : (i 1).val < 4 := (i 1).isLt
  have h2 : (i 2).val < 16 := (i 2).isLt
  have h3 : (i 3).val < 128 := (i 3).isLt
  have h4 : (i 4).val < 128 := (i 4).isLt
  simp only [val_main_v83_apply, val_main_v79_apply, val_main_v78_apply, val_main_cst_4_apply, rv77, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sAct a.P (a.X s) r k * wd 0x3DB504F3#32) ?_ ?_ ?_ <;> (try dsimp only [idx_main_v83, idx_main_v78]) <;> omega

theorem rv84 (i : S8x4x16x128x128.Idx) : val_main_v84 (F := Ideal) a.x0 a.x1 a.x2 i =
    sV a.P (a.X (i 0).val) (i 1).val (i 2).val (i 3).val (i 4).val := by
  have h0 : (i 0).val < 8 := (i 0).isLt
  have h1 : (i 1).val < 4 := (i 1).isLt
  have h2 : (i 2).val < 16 := (i 2).isLt
  have h3 : (i 3).val < 128 := (i 3).isLt
  have h4 : (i 4).val < 128 := (i 4).isLt
  simp only [val_main_v84_apply, rv81, a.l0, a.l1, a.l2, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => kW a.P (a.X s) r k) ?_ ?_ ?_ <;> (try dsimp only [idx_main_v84]) <;> omega

theorem rv85 (i : S8x4x16x128.Idx) : val_main_v85 (F := Ideal) a.x0 a.x1 a.x4 a.x7 i =
    sLi a.P (a.X (i 0).val) (i 1).val (i 2).val (i 3).val := by
  have h0 : (i 0).val < 8 := (i 0).isLt
  have h1 : (i 1).val < 4 := (i 1).isLt
  have h2 : (i 2).val < 16 := (i 2).isLt
  have h3 : (i 3).val < 128 := (i 3).isLt
  simp only [val_main_v85_apply, rv70, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sGt a.P (a.X s) r k) ?_ ?_ ?_ <;> (try dsimp only [idx_main_v85]) <;> omega

theorem rv86 (i : S8x4x16x128.Idx) : val_main_v86 (F := Ideal) a.x0 a.x1 a.x4 a.x7 i =
    sLf a.P (a.X (i 0).val) (i 1).val (i 2).val (i 3).val := by
  have h0 : (i 0).val < 8 := (i 0).isLt
  have h1 : (i 1).val < 4 := (i 1).isLt
  have h2 : (i 2).val < 16 := (i 2).isLt
  have h3 : (i 3).val < 128 := (i 3).isLt
  simp only [val_main_v86_apply, rv73, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sLs (sGt a.P (a.X s) r (4 + k))) ?_ ?_ ?_ <;> (try dsimp only [idx_main_v86]) <;> omega

end Cert.MixerRefIdeal.Spec
end
-- ==== Proof.RefLib.lean ====
/- Readings of the reference's running sum, maxima, masks and joins at an index. -/
module

public import proofs.«01_k».proof.Proof.RefArgs
public import Idealize.ShloMosaic.Lib.Pointwise

@[expose] public section

noncomputable section

namespace Cert.MixerRefIdeal.Spec

open Cert.Sym Cert.MixerRefIdeal Idealize.ShloMosaic Idealize.ShloMosaic.ValueIdx

/-- A window of the whole width ending at each place sums what lies up to that place. -/
theorem sum_shift (f : ℕ → EReal) (j : ℕ) (hj : j < 128) :
    ∑ k : Fin 128, (if 127 ≤ j + (k : ℕ) then f (j + k - 127) else 0) = ∑ k : Fin 128, if (k : ℕ) ≤ j then f k else 0 := by
  rw [Fin.sum_univ_eq_sum_range (fun k => if 127 ≤ j + k then f (j + k - 127) else 0) 128,
    Fin.sum_univ_eq_sum_range (fun k => if k ≤ j then f k else 0) 128, ← Finset.sum_filter, ← Finset.sum_filter]
  refine Finset.sum_nbij' (fun k => j + k - 127) (fun k => k + 127 - j) ?_ ?_ ?_ ?_ ?_
  all_goals
    intro k hk
    simp only [Finset.mem_filter, Finset.mem_range] at hk ⊢
  all_goals first | omega | rfl

theorem foldl_sum_aux {N : ℕ} (g : Fin N → EReal) (l : List (Fin N)) (z : EReal) : l.foldl (fun r n => r + g n) z = z + (l.map g).sum := by
  induction l generalizing z with
  | nil => simp
  | cons n l ih => rw [List.foldl_cons, ih, List.map_cons, List.sum_cons, add_assoc]

theorem foldl_sum {N : ℕ} (g : Fin N → EReal) : (List.finRange N).foldl (fun r n => r + g n) 0 = ∑ n, g n := by
  rw [foldl_sum_aux, zero_add, ← List.ofFn_eq_map, List.sum_ofFn]

/-- The positions of the running sum's window. -/
def lastEquiv : (⟨4, ![1, 1, 1, 128]⟩ : Shape).Idx ≃ Fin 128 where
  toFun p := p 3
  invFun k   := ValueIdx.ix4 (0 : Fin 1) (0 : Fin 1) (0 : Fin 1) k
  left_inv p := by
    funext b
    match b with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- The running sum along the last axis. -/
theorem cumsum_last (x : S8x4x16x128.Idx → EReal)
    (h : S8x4x16x128.ReduceWindows ![1, 1, 1, 128] ![1, 1, 1, 1] ![0, 0, 0, 127] ![0, 0, 0, 0] S8x4x16x128) (hu : 0 < S_.numel) (i : S8x4x16x128.Idx) :
    Host.reduceWindowAdd (F := Ideal) (φ := .f32) ![1, 1, 1, 128] ![1, 1, 1, 1] ![0, 0, 0, 127] ![0, 0, 0, 0] x (fun _ => (0 : EReal)) h hu i
      = ∑ k : Fin 128, if (k : ℕ) ≤ (i 3).val then x (ValueIdx.ix4 (n0 := 8) (n1 := 4) (n2 := 16) (n3 := 128) (i 0) (i 1) (i 2) k) else 0 := by
  have h0 : (i 0).val < 8 := (i 0).isLt
  have h1 : (i 1).val < 4 := (i 1).isLt
  have h2 : (i 2).val < 16 := (i 2).isLt
  have h3 : (i 3).val < 128 := (i 3).isLt
  let f : ℕ → EReal := fun n => if hn : n < 128 then x (ValueIdx.ix4 (n0 := 8) (n1 := 4) (n2 := 16) (n3 := 128) (i 0) (i 1) (i 2) ⟨n, hn⟩) else 0
  show Host.reduceWindow (· + ·) ![1, 1, 1, 128] ![1, 1, 1, 1] ![0, 0, 0, 127] ![0, 0, 0, 0] x (fun _ : S_.Idx => (0 : EReal)) h hu i = _
  unfold Host.reduceWindow
  dsimp only
  refine (foldl_sum _).trans ?_
  refine (Equiv.sum_comp (lastEquiv.symm.trans (⟨4, ![1, 1, 1, 128]⟩ : Shape).rowMajor) _).symm.trans ?_
  simp only [Equiv.trans_apply, Equiv.symm_apply_apply]
  refine Eq.trans (Finset.sum_congr rfl fun k _ => ?_) ((sum_shift f _ h3).trans (Finset.sum_congr rfl fun k _ => ?_))
  · have hk := k.isLt
    by_cases hc : 127 ≤ (i 3).val + k.val
    · rw [if_pos hc]
      show _ = dite _ _ _
      rw [dif_pos (show (i 3).val + k.val - 127 < 128 by omega), dif_pos]
      · refine congrArg x (funext fun b => Fin.ext ?_)
        match b with
        | ⟨0, _⟩ => show (i 0).val * 1 + 0 - 0 = (i 0).val; omega
        | ⟨1, _⟩ => show (i 1).val * 1 + 0 - 0 = (i 1).val; omega
        | ⟨2, _⟩ => show (i 2).val * 1 + 0 - 0 = (i 2).val; omega
        | ⟨3, _⟩ => show (i 3).val * 1 + k.val - 127 = (i 3).val + k.val - 127; omega
      · intro b
        match b with
        | ⟨0, _⟩ => show 0 ≤ (i 0).val * 1 + 0 ∧ (i 0).val * 1 + 0 - 0 < 8; omega
        | ⟨1, _⟩ => show 0 ≤ (i 1).val * 1 + 0 ∧ (i 1).val * 1 + 0 - 0 < 4; omega
        | ⟨2, _⟩ => show 0 ≤ (i 2).val * 1 + 0 ∧ (i 2).val * 1 + 0 - 0 < 16; omega
        | ⟨3, _⟩ => show 127 ≤ (i 3).val * 1 + k.val ∧ (i 3).val * 1 + k.val - 127 < 128; omega
    · rw [if_neg hc, dif_neg]
      intro hb
      have h3' : 127 ≤ (i 3).val * 1 + k.val := (hb 3).1
      omega
  · have e : f k.val = x (ValueIdx.ix4 (n0 := 8) (n1 := 4) (n2 := 16) (n3 := 128) (i 0) (i 1) (i 2) k) := dif_pos k.isLt
    rw [e]

/-- The maximum along the last of four axes. -/
theorem max_last4 (v : S8x4x16x128.Idx → EReal) (init : S_.Idx → EReal) (h : S8x4x16x128.ReducesTo [3] S8x4x16) (hu : 0 < S_.numel)
    (hi : init (Shape.Idx.first hu) = ⊥) (i : S8x4x16.Idx) :
    Host.reduce (FloatOps.maximumf (F := Ideal) (φ := .f32)) v init h hu i
      = Finset.univ.sup fun k : Fin 128 => v (ValueIdx.ix4 (n0 := 8) (n1 := 4) (n2 := 16) (n3 := 128) (i 0) (i 1) (i 2) k) := by
  show Host.reduce (max : EReal → EReal → EReal) v init h hu i = _
  rw [Host.reduce_eq_fold, hi]
  exact Shape.ReducesTo.fold_fiber_r4_a3 h i max ⊥ v

theorem max_last5 (v : S8x4x16x128x128.Idx → EReal) (init : S_.Idx → EReal) (h : S8x4x16x128x128.ReducesTo [4] S8x4x16x128) (hu : 0 < S_.numel)
    (hi : init (Shape.Idx.first hu) = ⊥) (i : S8x4x16x128.Idx) :
    Host.reduce (FloatOps.maximumf (F := Ideal) (φ := .f32)) v init h hu i
      = Finset.univ.sup fun k : Fin 128 => v (ValueIdx.ix5 (n0 := 8) (n1 := 4) (n2 := 16) (n3 := 128) (n4 := 128) (i 0) (i 1) (i 2) (i 3) k) := by
  show Host.reduce (max : EReal → EReal → EReal) v init h hu i = _
  rw [Host.reduce_eq_fold, hi]
  exact Shape.ReducesTo.fold_fiber_r5_a4 h i max ⊥ v

/-- The lower triangle, as the program compares row and column numbers. -/
theorem causal : ∀ p q : Fin 128, Scalar.select (IntOp.cmpi .sge (IntOp.addi (BitVec.ofNat 32 p.val) 0#32) (BitVec.ofNat 32 q.val)) (1#1) (0#1)
    = if q.val ≤ p.val then 1#1 else 0#1 := by decide +kernel

theorem sel_le (s t : ℕ) (x y : EReal) : Scalar.select (if s ≤ t then 1#1 else 0#1) x y = if s ≤ t then x else y := by
  split_ifs <;> rfl

end Cert.MixerRefIdeal.Spec
end
-- ==== Proof.RefB.lean ====
/- The decays of the reference and what each chunk adds to the memory, as the layer's formulas. -/
module

public import proofs.«01_k».proof.Proof.RefA
public import proofs.«01_k».proof.Proof.RefLib

@[expose] public section

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv87 (i : S8x4x16x128.Idx) : val_main_v87 (F := Ideal) a.x0 a.x1 a.x4 a.x7 i =
    sB a.P (a.X (i 0).val) (i 1).val (i 2).val (i 3).val := by
  have h0 : (i 0).val < 8 := (i 0).isLt
  have h1 : (i 1).val < 4 := (i 1).isLt
  have h2 : (i 2).val < 16 := (i 2).isLt
  have h3 : (i 3).val < 128 := (i 3).isLt
  have e : val_main_call2_call0_v0 (F := Ideal) = fun _ => (0 : EReal) := by
    funext j; simp only [val_main_call2_call0_v0_apply, val_main_call2_call0_cst_apply]; exact wd_zero
  unfold val_main_v87
  rw [e]
  refine (cumsum_last (val_main_v86 (F := Ideal) a.x0 a.x1 a.x4 a.x7) _ _ i).trans ?_
  unfold sB
  refine Finset.sum_congr rfl fun k _ => ?_
  rw [rv86]
  all_goals rfl

theorem rv89 (i : S8x4x16.Idx) : val_main_v89 (F := Ideal) a.x0 a.x1 a.x4 a.x7 i =
    sA a.P (a.X (i 0).val) (i 1).val (i 2).val := by
  have h0 : (i 0).val < 8 := (i 0).isLt
  have h1 : (i 1).val < 4 := (i 1).isLt
  have h2 : (i 2).val < 16 := (i 2).isLt
  simp only [val_main_v89_apply, val_main_v88_apply, rv87, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c t => sB a.P (a.X s) h c t) ?_ ?_ ?_ ?_ <;> (try dsimp only [idx_main_v89, idx_main_v88]) <;> omega

theorem rv91 (i : S128x128.Idx) : val_main_v91 (F := Ideal) i =
    if (i 1).val ≤ (i 0).val then 1#1 else 0#1 := by
  simp only [val_main_v91_apply, val_main_call3_v4_apply, val_main_call3_v2_apply, val_main_call3_v0_apply, val_main_call3_v1_apply, val_main_call3_c_apply, val_main_call3_v3_apply, val_main_v90_apply, val_main_c_apply, val_main_call3_v5_apply, val_main_call3_c_0_apply, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  exact causal (i 0) (i 1)

theorem rv100 (i : S8x4x16x128x128.Idx) : val_main_v100 (F := Ideal) a.x0 a.x1 a.x4 a.x7 i =
    sT a.P (a.X (i 0).val) (i 1).val (i 2).val (i 3).val (i 4).val := by
  simp only [val_main_v100_apply, val_main_call4_v1_apply, val_main_v99_apply, val_main_v96_apply, val_main_v94_apply, val_main_v92_apply, val_main_v95_apply, val_main_v93_apply, val_main_v98_apply, val_main_v97_apply, val_main_call4_v2_apply, val_main_call4_v0_apply, val_main_cst_5_apply, rv91, rv87, rv85, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  unfold sT
  refine (sel_le _ _ _ _).trans ?_
  refine Eq.trans ?_ (if_congr Iff.rfl rfl wd_bot)
  all_goals rfl

theorem rv104 (i : S8x4x16x128.Idx) : val_main_v104 (F := Ideal) a.x0 a.x1 a.x4 a.x7 i =
    sL a.P (a.X (i 0).val) (i 1).val (i 2).val (i 3).val := by
  simp only [val_main_v104_apply, val_main_v103_apply, val_main_v102_apply, val_main_v101_apply, rv85, rv87, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv105 (i : S8x4x16.Idx) : val_main_v105 (F := Ideal) a.x0 a.x1 a.x4 a.x7 i =
    sMl a.P (a.X (i 0).val) (i 1).val (i 2).val := by
  unfold val_main_v105
  refine (max_last4 (val_main_v104 (F := Ideal) a.x0 a.x1 a.x4 a.x7) _ _ _ ?_ i).trans ?_
  · simp only [val_main_cst_6_apply]; exact wd_bot
  · unfold sMl
    refine Finset.sup_congr rfl fun k _ => ?_
    rw [rv104]
    all_goals rfl

theorem rv109 (i : S8x4x16x128.Idx) : val_main_v109 (F := Ideal) a.x0 a.x1 a.x4 a.x7 i =
    sE a.P (a.X (i 0).val) (i 1).val (i 2).val (i 3).val := by
  simp only [val_main_v109_apply, val_main_v108_apply, val_main_v107_apply, val_main_v106_apply, rv104, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv112 (i : S8x4x16x128x128.Idx) : val_main_v112 (F := Ideal) a.x0 a.x1 a.x2 a.x4 a.x5 a.x6 a.x7 i =
    sK a.P (a.X (i 0).val) (i 1).val (i 2).val (i 3).val (i 4).val * sE a.P (a.X (i 0).val) (i 1).val (i 2).val (i 3).val := by
  simp only [val_main_v112_apply, val_main_v111_apply, val_main_v110_apply, rv83, rv109, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv113 (i : S8x4x16x128x128.Idx) : val_main_v113 (F := Ideal) a.x0 a.x1 a.x2 a.x4 a.x5 a.x6 a.x7 i =
    sCl a.P (a.X (i 0).val) (i 1).val (i 2).val (i 3).val (i 4).val := by
  simp only [val_main_v113_apply, rv112, rv84, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv114 (i : S8x4x16x128.Idx) : val_main_v114 (F := Ideal) a.x0 a.x1 a.x2 a.x4 a.x5 a.x6 a.x7 i =
    sNl a.P (a.X (i 0).val) (i 1).val (i 2).val (i 3).val := by
  simp only [val_main_v114_apply, val_main_cst_7_apply, rv112, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, zero_add]
  all_goals rfl

end Cert.MixerRefIdeal.Spec
end
-- ==== Proof.RefC.lean ====
/- The memory of the reference, chunk after chunk, as the layer's formulas. -/
module

public import proofs.«01_k».proof.Proof.RefB

@[expose] public section

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv115 (i : S8x4x128x128.Idx) : val_main_v115 (F := Ideal) i =
    0 := by
  simp only [val_main_v115_apply, val_main_cst_8_apply, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  exact wd_zero

theorem rv116 (i : S8x4x128.Idx) : val_main_v116 (F := Ideal) i =
    0 := by
  simp only [val_main_v116_apply, val_main_cst_9_apply, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  exact wd_zero

theorem rv117 (i : S8x4.Idx) : val_main_v117 (F := Ideal) i =
    0 := by
  simp only [val_main_v117_apply, val_main_cst_10_apply, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  exact wd_zero

theorem rv119 (i : S8x4.Idx) : val_main_v119 (F := Ideal) a.x0 a.x1 a.x4 a.x7 i =
    sA a.P (a.X (i 0).val) (i 1).val 0 := by
  have h0 : (i 0).val < 8 := (i 0).isLt
  have h1 : (i 1).val < 4 := (i 1).isLt
  simp only [val_main_v119_apply, val_main_v118_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v119, idx_main_v118]) <;> omega

theorem rv121 (i : S8x4.Idx) : val_main_v121 (F := Ideal) a.x0 a.x1 a.x4 a.x7 i =
    sMl a.P (a.X (i 0).val) (i 1).val 0 := by
  have h0 : (i 0).val < 8 := (i 0).isLt
  have h1 : (i 1).val < 4 := (i 1).isLt
  simp only [val_main_v121_apply, val_main_v120_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v121, idx_main_v120]) <;> omega

theorem rv123 (i : S8x4x128x128.Idx) : val_main_v123 (F := Ideal) a.x0 a.x1 a.x2 a.x4 a.x5 a.x6 a.x7 i =
    sCl a.P (a.X (i 0).val) (i 1).val 0 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v123_apply, val_main_v122_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v123, idx_main_v122]) <;> omega

theorem rv125 (i : S8x4x128.Idx) : val_main_v125 (F := Ideal) a.x0 a.x1 a.x2 a.x4 a.x5 a.x6 a.x7 i =
    sNl a.P (a.X (i 0).val) (i 1).val 0 (i 2).val := by
  have h0 : (i 0).val < 8 := (i 0).isLt
  have h1 : (i 1).val < 4 := (i 1).isLt
  have h2 : (i 2).val < 128 := (i 2).isLt
  simp only [val_main_v125_apply, val_main_v124_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v125, idx_main_v124]) <;> omega

theorem rv127 (i : S8x4.Idx) : val_main_v127 (F := Ideal) a.x0 a.x1 a.x4 a.x7 i =
    sM a.P (a.X (i 0).val) (i 1).val 1 := by
  simp only [val_main_v127_apply, val_main_v126_apply, rv121, rv119, rv117, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv130 (i : S8x4.Idx) : val_main_v130 (F := Ideal) a.x0 a.x1 a.x4 a.x7 i =
    sP a.P (a.X (i 0).val) (i 1).val 0 := by
  simp only [val_main_v130_apply, val_main_v129_apply, val_main_v128_apply, rv127, rv119, rv117, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv132 (i : S8x4.Idx) : val_main_v132 (F := Ideal) a.x0 a.x1 a.x4 a.x7 i =
    sW a.P (a.X (i 0).val) (i 1).val 0 := by
  simp only [val_main_v132_apply, val_main_v131_apply, rv121, rv127, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv139 (i : S8x4x128x128.Idx) : val_main_v139 (F := Ideal) a.x0 a.x1 a.x2 a.x4 a.x5 a.x6 a.x7 i =
    sC a.P (a.X (i 0).val) (i 1).val (i 2).val (i 3).val 1 := by
  simp only [val_main_v139_apply, val_main_v135_apply, val_main_v134_apply, val_main_v133_apply, val_main_v138_apply, val_main_v137_apply, val_main_v136_apply, rv115, rv130, rv123, rv132, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv146 (i : S8x4x128.Idx) : val_main_v146 (F := Ideal) a.x0 a.x1 a.x2 a.x4 a.x5 a.x6 a.x7 i =
    sN a.P (a.X (i 0).val) (i 1).val (i 2).val 1 := by
  simp only [val_main_v146_apply, val_main_v142_apply, val_main_v141_apply, val_main_v140_apply, val_main_v145_apply, val_main_v144_apply, val_main_v143_apply, rv116, rv130, rv125, rv132, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv148 (i : S8x4.Idx) : val_main_v148 (F := Ideal) a.x0 a.x1 a.x4 a.x7 i =
    sA a.P (a.X (i 0).val) (i 1).val 1 := by
  have h0 : (i 0).val < 8 := (i 0).isLt
  have h1 : (i 1).val < 4 := (i 1).isLt
  simp only [val_main_v148_apply, val_main_v147_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v148, idx_main_v147]) <;> omega

theorem rv150 (i : S8x4.Idx) : val_main_v150 (F := Ideal) a.x0 a.x1 a.x4 a.x7 i =
    sMl a.P (a.X (i 0).val) (i 1).val 1 := by
  have h0 : (i 0).val < 8 := (i 0).isLt
  have h1 : (i 1).val < 4 := (i 1).isLt
  simp only [val_main_v150_apply, val_main_v149_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v150, idx_main_v149]) <;> omega

theorem rv152 (i : S8x4x128x128.Idx) : val_main_v152 (F := Ideal) a.x0 a.x1 a.x2 a.x4 a.x5 a.x6 a.x7 i =
    sCl a.P (a.X (i 0).val) (i 1).val 1 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v152_apply, val_main_v151_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v152, idx_main_v151]) <;> omega

theorem rv154 (i : S8x4x128.Idx) : val_main_v154 (F := Ideal) a.x0 a.x1 a.x2 a.x4 a.x5 a.x6 a.x7 i =
    sNl a.P (a.X (i 0).val) (i 1).val 1 (i 2).val := by
  have h0 : (i 0).val < 8 := (i 0).isLt
  have h1 : (i 1).val < 4 := (i 1).isLt
  have h2 : (i 2).val < 128 := (i 2).isLt
  simp only [val_main_v154_apply, val_main_v153_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v154, idx_main_v153]) <;> omega

theorem rv156 (i : S8x4.Idx) : val_main_v156 (F := Ideal) a.x0 a.x1 a.x4 a.x7 i =
    sM a.P (a.X (i 0).val) (i 1).val 2 := by
  simp only [val_main_v156_apply, val_main_v155_apply, rv150, rv148, rv127, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv159 (i : S8x4.Idx) : val_main_v159 (F := Ideal) a.x0 a.x1 a.x4 a.x7 i =
    sP a.P (a.X (i 0).val) (i 1).val 1 := by
  simp only [val_main_v159_apply, val_main_v158_apply, val_main_v157_apply, rv156, rv148, rv127, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv161 (i : S8x4.Idx) : val_main_v161 (F := Ideal) a.x0 a.x1 a.x4 a.x7 i =
    sW a.P (a.X (i 0).val) (i 1).val 1 := by
  simp only [val_main_v161_apply, val_main_v160_apply, rv150, rv156, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv168 (i : S8x4x128x128.Idx) : val_main_v168 (F := Ideal) a.x0 a.x1 a.x2 a.x4 a.x5 a.x6 a.x7 i =
    sC a.P (a.X (i 0).val) (i 1).val (i 2).val (i 3).val 2 := by
  simp only [val_main_v168_apply, val_main_v164_apply, val_main_v163_apply, val_main_v162_apply, val_main_v167_apply, val_main_v166_apply, val_main_v165_apply, rv139, rv159, rv152, rv161, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv175 (i : S8x4x128.Idx) : val_main_v175 (F := Ideal) a.x0 a.x1 a.x2 a.x4 a.x5 a.x6 a.x7 i =
    sN a.P (a.X (i 0).val) (i 1).val (i 2).val 2 := by
  simp only [val_main_v175_apply, val_main_v171_apply, val_main_v170_apply, val_main_v169_apply, val_main_v174_apply, val_main_v173_apply, val_main_v172_apply, rv146, rv159, rv154, rv161, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv177 (i : S8x4.Idx) : val_main_v177 (F := Ideal) a.x0 a.x1 a.x4 a.x7 i =
    sA a.P (a.X (i 0).val) (i 1).val 2 := by
  have h0 : (i 0).val < 8 := (i 0).isLt
  have h1 : (i 1).val < 4 := (i 1).isLt
  simp only [val_main_v177_apply, val_main_v176_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v177, idx_main_v176]) <;> omega

theorem rv179 (i : S8x4.Idx) : val_main_v179 (F := Ideal) a.x0 a.x1 a.x4 a.x7 i =
    sMl a.P (a.X (i 0).val) (i 1).val 2 := by
  have h0 : (i 0).val < 8 := (i 0).isLt
  have h1 : (i 1).val < 4 := (i 1).isLt
  simp only [val_main_v179_apply, val_main_v178_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v179, idx_main_v178]) <;> omega

theorem rv181 (i : S8x4x128x128.Idx) : val_main_v181 (F := Ideal) a.x0 a.x1 a.x2 a.x4 a.x5 a.x6 a.x7 i =
    sCl a.P (a.X (i 0).val) (i 1).val 2 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v181_apply, val_main_v180_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v181, idx_main_v180]) <;> omega

theorem rv183 (i : S8x4x128.Idx) : val_main_v183 (F := Ideal) a.x0 a.x1 a.x2 a.x4 a.x5 a.x6 a.x7 i =
    sNl a.P (a.X (i 0).val) (i 1).val 2 (i 2).val := by
  have h0 : (i 0).val < 8 := (i 0).isLt
  have h1 : (i 1).val < 4 := (i 1).isLt
  have h2 : (i 2).val < 128 := (i 2).isLt
  simp only [val_main_v183_apply, val_main_v182_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v183, idx_main_v182]) <;> omega

theorem rv185 (i : S8x4.Idx) : val_main_v185 (F := Ideal) a.x0 a.x1 a.x4 a.x7 i =
    sM a.P (a.X (i 0).val) (i 1).val 3 := by
  simp only [val_main_v185_apply, val_main_v184_apply, rv179, rv177, rv156, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv188 (i : S8x4.Idx) : val_main_v188 (F := Ideal) a.x0 a.x1 a.x4 a.x7 i =
    sP a.P (a.X (i 0).val) (i 1).val 2 := by
  simp only [val_main_v188_apply, val_main_v187_apply, val_main_v186_apply, rv185, rv177, rv156, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv190 (i : S8x4.Idx) : val_main_v190 (F := Ideal) a.x0 a.x1 a.x4 a.x7 i =
    sW a.P (a.X (i 0).val) (i 1).val 2 := by
  simp only [val_main_v190_apply, val_main_v189_apply, rv179, rv185, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv197 (i : S8x4x128x128.Idx) : val_main_v197 (F := Ideal) a.x0 a.x1 a.x2 a.x4 a.x5 a.x6 a.x7 i =
    sC a.P (a.X (i 0).val) (i 1).val (i 2).val (i 3).val 3 := by
  simp only [val_main_v197_apply, val_main_v193_apply, val_main_v192_apply, val_main_v191_apply, val_main_v196_apply, val_main_v195_apply, val_main_v194_apply, rv168, rv188, rv181, rv190, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv204 (i : S8x4x128.Idx) : val_main_v204 (F := Ideal) a.x0 a.x1 a.x2 a.x4 a.x5 a.x6 a.x7 i =
    sN a.P (a.X (i 0).val) (i 1).val (i 2).val 3 := by
  simp only [val_main_v204_apply, val_main_v200_apply, val_main_v199_apply, val_main_v198_apply, val_main_v203_apply, val_main_v202_apply, val_main_v201_apply, rv175, rv188, rv183, rv190, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv206 (i : S8x4.Idx) : val_main_v206 (F := Ideal) a.x0 a.x1 a.x4 a.x7 i =
    sA a.P (a.X (i 0).val) (i 1).val 3 := by
  have h0 : (i 0).val < 8 := (i 0).isLt
  have h1 : (i 1).val < 4 := (i 1).isLt
  simp only [val_main_v206_apply, val_main_v205_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v206, idx_main_v205]) <;> omega

theorem rv208 (i : S8x4.Idx) : val_main_v208 (F := Ideal) a.x0 a.x1 a.x4 a.x7 i =
    sMl a.P (a.X (i 0).val) (i 1).val 3 := by
  have h0 : (i 0).val < 8 := (i 0).isLt
  have h1 : (i 1).val < 4 := (i 1).isLt
  simp only [val_main_v208_apply, val_main_v207_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v208, idx_main_v207]) <;> omega

theorem rv210 (i : S8x4x128x128.Idx) : val_main_v210 (F := Ideal) a.x0 a.x1 a.x2 a.x4 a.x5 a.x6 a.x7 i =
    sCl a.P (a.X (i 0).val) (i 1).val 3 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v210_apply, val_main_v209_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v210, idx_main_v209]) <;> omega

theorem rv212 (i : S8x4x128.Idx) : val_main_v212 (F := Ideal) a.x0 a.x1 a.x2 a.x4 a.x5 a.x6 a.x7 i =
    sNl a.P (a.X (i 0).val) (i 1).val 3 (i 2).val := by
  have h0 : (i 0).val < 8 := (i 0).isLt
  have h1 : (i 1).val < 4 := (i 1).isLt
  have h2 : (i 2).val < 128 := (i 2).isLt
  simp only [val_main_v212_apply, val_main_v211_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v212, idx_main_v211]) <;> omega

theorem rv214 (i : S8x4.Idx) : val_main_v214 (F := Ideal) a.x0 a.x1 a.x4 a.x7 i =
    sM a.P (a.X (i 0).val) (i 1).val 4 := by
  simp only [val_main_v214_apply, val_main_v213_apply, rv208, rv206, rv185, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv217 (i : S8x4.Idx) : val_main_v217 (F := Ideal) a.x0 a.x1 a.x4 a.x7 i =
    sP a.P (a.X (i 0).val) (i 1).val 3 := by
  simp only [val_main_v217_apply, val_main_v216_apply, val_main_v215_apply, rv214, rv206, rv185, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv219 (i : S8x4.Idx) : val_main_v219 (F := Ideal) a.x0 a.x1 a.x4 a.x7 i =
    sW a.P (a.X (i 0).val) (i 1).val 3 := by
  simp only [val_main_v219_apply, val_main_v218_apply, rv208, rv214, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv226 (i : S8x4x128x128.Idx) : val_main_v226 (F := Ideal) a.x0 a.x1 a.x2 a.x4 a.x5 a.x6 a.x7 i =
    sC a.P (a.X (i 0).val) (i 1).val (i 2).val (i 3).val 4 := by
  simp only [val_main_v226_apply, val_main_v222_apply, val_main_v221_apply, val_main_v220_apply, val_main_v225_apply, val_main_v224_apply, val_main_v223_apply, rv197, rv217, rv210, rv219, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv233 (i : S8x4x128.Idx) : val_main_v233 (F := Ideal) a.x0 a.x1 a.x2 a.x4 a.x5 a.x6 a.x7 i =
    sN a.P (a.X (i 0).val) (i 1).val (i 2).val 4 := by
  simp only [val_main_v233_apply, val_main_v229_apply, val_main_v228_apply, val_main_v227_apply, val_main_v232_apply, val_main_v231_apply, val_main_v230_apply, rv204, rv217, rv212, rv219, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv235 (i : S8x4.Idx) : val_main_v235 (F := Ideal) a.x0 a.x1 a.x4 a.x7 i =
    sA a.P (a.X (i 0).val) (i 1).val 4 := by
  have h0 : (i 0).val < 8 := (i 0).isLt
  have h1 : (i 1).val < 4 := (i 1).isLt
  simp only [val_main_v235_apply, val_main_v234_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v235, idx_main_v234]) <;> omega

theorem rv237 (i : S8x4.Idx) : val_main_v237 (F := Ideal) a.x0 a.x1 a.x4 a.x7 i =
    sMl a.P (a.X (i 0).val) (i 1).val 4 := by
  have h0 : (i 0).val < 8 := (i 0).isLt
  have h1 : (i 1).val < 4 := (i 1).isLt
  simp only [val_main_v237_apply, val_main_v236_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v237, idx_main_v236]) <;> omega

theorem rv239 (i : S8x4x128x128.Idx) : val_main_v239 (F := Ideal) a.x0 a.x1 a.x2 a.x4 a.x5 a.x6 a.x7 i =
    sCl a.P (a.X (i 0).val) (i 1).val 4 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v239_apply, val_main_v238_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v239, idx_main_v238]) <;> omega

theorem rv241 (i : S8x4x128.Idx) : val_main_v241 (F := Ideal) a.x0 a.x1 a.x2 a.x4 a.x5 a.x6 a.x7 i =
    sNl a.P (a.X (i 0).val) (i 1).val 4 (i 2).val := by
  have h0 : (i 0).val < 8 := (i 0).isLt
  have h1 : (i 1).val < 4 := (i 1).isLt
  have h2 : (i 2).val < 128 := (i 2).isLt
  simp only [val_main_v241_apply, val_main_v240_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v241, idx_main_v240]) <;> omega

theorem rv243 (i : S8x4.Idx) : val_main_v243 (F := Ideal) a.x0 a.x1 a.x4 a.x7 i =
    sM a.P (a.X (i 0).val) (i 1).val 5 := by
  simp only [val_main_v243_apply, val_main_v242_apply, rv237, rv235, rv214, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv246 (i : S8x4.Idx) : val_main_v246 (F := Ideal) a.x0 a.x1 a.x4 a.x7 i =
    sP a.P (a.X (i 0).val) (i 1).val 4 := by
  simp only [val_main_v246_apply, val_main_v245_apply, val_main_v244_apply, rv243, rv235, rv214, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv248 (i : S8x4.Idx) : val_main_v248 (F := Ideal) a.x0 a.x1 a.x4 a.x7 i =
    sW a.P (a.X (i 0).val) (i 1).val 4 := by
  simp only [val_main_v248_apply, val_main_v247_apply, rv237, rv243, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv255 (i : S8x4x128x128.Idx) : val_main_v255 (F := Ideal) a.x0 a.x1 a.x2 a.x4 a.x5 a.x6 a.x7 i =
    sC a.P (a.X (i 0).val) (i 1).val (i 2).val (i 3).val 5 := by
  simp only [val_main_v255_apply, val_main_v251_apply, val_main_v250_apply, val_main_v249_apply, val_main_v254_apply, val_main_v253_apply, val_main_v252_apply, rv226, rv246, rv239, rv248, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv262 (i : S8x4x128.Idx) : val_main_v262 (F := Ideal) a.x0 a.x1 a.x2 a.x4 a.x5 a.x6 a.x7 i =
    sN a.P (a.X (i 0).val) (i 1).val (i 2).val 5 := by
  simp only [val_main_v262_apply, val_main_v258_apply, val_main_v257_apply, val_main_v256_apply, val_main_v261_apply, val_main_v260_apply, val_main_v259_apply, rv233, rv246, rv241, rv248, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv264 (i : S8x4.Idx) : val_main_v264 (F := Ideal) a.x0 a.x1 a.x4 a.x7 i =
    sA a.P (a.X (i 0).val) (i 1).val 5 := by
  have h0 : (i 0).val < 8 := (i 0).isLt
  have h1 : (i 1).val < 4 := (i 1).isLt
  simp only [val_main_v264_apply, val_main_v263_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v264, idx_main_v263]) <;> omega

theorem rv266 (i : S8x4.Idx) : val_main_v266 (F := Ideal) a.x0 a.x1 a.x4 a.x7 i =
    sMl a.P (a.X (i 0).val) (i 1).val 5 := by
  have h0 : (i 0).val < 8 := (i 0).isLt
  have h1 : (i 1).val < 4 := (i 1).isLt
  simp only [val_main_v266_apply, val_main_v265_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v266, idx_main_v265]) <;> omega

theorem rv268 (i : S8x4x128x128.Idx) : val_main_v268 (F := Ideal) a.x0 a.x1 a.x2 a.x4 a.x5 a.x6 a.x7 i =
    sCl a.P (a.X (i 0).val) (i 1).val 5 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v268_apply, val_main_v267_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v268, idx_main_v267]) <;> omega

theorem rv270 (i : S8x4x128.Idx) : val_main_v270 (F := Ideal) a.x0 a.x1 a.x2 a.x4 a.x5 a.x6 a.x7 i =
    sNl a.P (a.X (i 0).val) (i 1).val 5 (i 2).val := by
  have h0 : (i 0).val < 8 := (i 0).isLt
  have h1 : (i 1).val < 4 := (i 1).isLt
  have h2 : (i 2).val < 128 := (i 2).isLt
  simp only [val_main_v270_apply, val_main_v269_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v270, idx_main_v269]) <;> omega

theorem rv272 (i : S8x4.Idx) : val_main_v272 (F := Ideal) a.x0 a.x1 a.x4 a.x7 i =
    sM a.P (a.X (i 0).val) (i 1).val 6 := by
  simp only [val_main_v272_apply, val_main_v271_apply, rv266, rv264, rv243, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv275 (i : S8x4.Idx) : val_main_v275 (F := Ideal) a.x0 a.x1 a.x4 a.x7 i =
    sP a.P (a.X (i 0).val) (i 1).val 5 := by
  simp only [val_main_v275_apply, val_main_v274_apply, val_main_v273_apply, rv272, rv264, rv243, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv277 (i : S8x4.Idx) : val_main_v277 (F := Ideal) a.x0 a.x1 a.x4 a.x7 i =
    sW a.P (a.X (i 0).val) (i 1).val 5 := by
  simp only [val_main_v277_apply, val_main_v276_apply, rv266, rv272, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv284 (i : S8x4x128x128.Idx) : val_main_v284 (F := Ideal) a.x0 a.x1 a.x2 a.x4 a.x5 a.x6 a.x7 i =
    sC a.P (a.X (i 0).val) (i 1).val (i 2).val (i 3).val 6 := by
  simp only [val_main_v284_apply, val_main_v280_apply, val_main_v279_apply, val_main_v278_apply, val_main_v283_apply, val_main_v282_apply, val_main_v281_apply, rv255, rv275, rv268, rv277, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv291 (i : S8x4x128.Idx) : val_main_v291 (F := Ideal) a.x0 a.x1 a.x2 a.x4 a.x5 a.x6 a.x7 i =
    sN a.P (a.X (i 0).val) (i 1).val (i 2).val 6 := by
  simp only [val_main_v291_apply, val_main_v287_apply, val_main_v286_apply, val_main_v285_apply, val_main_v290_apply, val_main_v289_apply, val_main_v288_apply, rv262, rv275, rv270, rv277, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv293 (i : S8x4.Idx) : val_main_v293 (F := Ideal) a.x0 a.x1 a.x4 a.x7 i =
    sA a.P (a.X (i 0).val) (i 1).val 6 := by
  have h0 : (i 0).val < 8 := (i 0).isLt
  have h1 : (i 1).val < 4 := (i 1).isLt
  simp only [val_main_v293_apply, val_main_v292_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v293, idx_main_v292]) <;> omega

theorem rv295 (i : S8x4.Idx) : val_main_v295 (F := Ideal) a.x0 a.x1 a.x4 a.x7 i =
    sMl a.P (a.X (i 0).val) (i 1).val 6 := by
  have h0 : (i 0).val < 8 := (i 0).isLt
  have h1 : (i 1).val < 4 := (i 1).isLt
  simp only [val_main_v295_apply, val_main_v294_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v295, idx_main_v294]) <;> omega

theorem rv297 (i : S8x4x128x128.Idx) : val_main_v297 (F := Ideal) a.x0 a.x1 a.x2 a.x4 a.x5 a.x6 a.x7 i =
    sCl a.P (a.X (i 0).val) (i 1).val 6 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v297_apply, val_main_v296_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v297, idx_main_v296]) <;> omega

theorem rv299 (i : S8x4x128.Idx) : val_main_v299 (F := Ideal) a.x0 a.x1 a.x2 a.x4 a.x5 a.x6 a.x7 i =
    sNl a.P (a.X (i 0).val) (i 1).val 6 (i 2).val := by
  have h0 : (i 0).val < 8 := (i 0).isLt
  have h1 : (i 1).val < 4 := (i 1).isLt
  have h2 : (i 2).val < 128 := (i 2).isLt
  simp only [val_main_v299_apply, val_main_v298_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v299, idx_main_v298]) <;> omega

theorem rv301 (i : S8x4.Idx) : val_main_v301 (F := Ideal) a.x0 a.x1 a.x4 a.x7 i =
    sM a.P (a.X (i 0).val) (i 1).val 7 := by
  simp only [val_main_v301_apply, val_main_v300_apply, rv295, rv293, rv272, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv304 (i : S8x4.Idx) : val_main_v304 (F := Ideal) a.x0 a.x1 a.x4 a.x7 i =
    sP a.P (a.X (i 0).val) (i 1).val 6 := by
  simp only [val_main_v304_apply, val_main_v303_apply, val_main_v302_apply, rv301, rv293, rv272, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv306 (i : S8x4.Idx) : val_main_v306 (F := Ideal) a.x0 a.x1 a.x4 a.x7 i =
    sW a.P (a.X (i 0).val) (i 1).val 6 := by
  simp only [val_main_v306_apply, val_main_v305_apply, rv295, rv301, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv313 (i : S8x4x128x128.Idx) : val_main_v313 (F := Ideal) a.x0 a.x1 a.x2 a.x4 a.x5 a.x6 a.x7 i =
    sC a.P (a.X (i 0).val) (i 1).val (i 2).val (i 3).val 7 := by
  simp only [val_main_v313_apply, val_main_v309_apply, val_main_v308_apply, val_main_v307_apply, val_main_v312_apply, val_main_v311_apply, val_main_v310_apply, rv284, rv304, rv297, rv306, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv320 (i : S8x4x128.Idx) : val_main_v320 (F := Ideal) a.x0 a.x1 a.x2 a.x4 a.x5 a.x6 a.x7 i =
    sN a.P (a.X (i 0).val) (i 1).val (i 2).val 7 := by
  simp only [val_main_v320_apply, val_main_v316_apply, val_main_v315_apply, val_main_v314_apply, val_main_v319_apply, val_main_v318_apply, val_main_v317_apply, rv291, rv304, rv299, rv306, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv322 (i : S8x4.Idx) : val_main_v322 (F := Ideal) a.x0 a.x1 a.x4 a.x7 i =
    sA a.P (a.X (i 0).val) (i 1).val 7 := by
  have h0 : (i 0).val < 8 := (i 0).isLt
  have h1 : (i 1).val < 4 := (i 1).isLt
  simp only [val_main_v322_apply, val_main_v321_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v322, idx_main_v321]) <;> omega

theorem rv324 (i : S8x4.Idx) : val_main_v324 (F := Ideal) a.x0 a.x1 a.x4 a.x7 i =
    sMl a.P (a.X (i 0).val) (i 1).val 7 := by
  have h0 : (i 0).val < 8 := (i 0).isLt
  have h1 : (i 1).val < 4 := (i 1).isLt
  simp only [val_main_v324_apply, val_main_v323_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v324, idx_main_v323]) <;> omega

theorem rv326 (i : S8x4x128x128.Idx) : val_main_v326 (F := Ideal) a.x0 a.x1 a.x2 a.x4 a.x5 a.x6 a.x7 i =
    sCl a.P (a.X (i 0).val) (i 1).val 7 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v326_apply, val_main_v325_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v326, idx_main_v325]) <;> omega

theorem rv328 (i : S8x4x128.Idx) : val_main_v328 (F := Ideal) a.x0 a.x1 a.x2 a.x4 a.x5 a.x6 a.x7 i =
    sNl a.P (a.X (i 0).val) (i 1).val 7 (i 2).val := by
  have h0 : (i 0).val < 8 := (i 0).isLt
  have h1 : (i 1).val < 4 := (i 1).isLt
  have h2 : (i 2).val < 128 := (i 2).isLt
  simp only [val_main_v328_apply, val_main_v327_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v328, idx_main_v327]) <;> omega

theorem rv330 (i : S8x4.Idx) : val_main_v330 (F := Ideal) a.x0 a.x1 a.x4 a.x7 i =
    sM a.P (a.X (i 0).val) (i 1).val 8 := by
  simp only [val_main_v330_apply, val_main_v329_apply, rv324, rv322, rv301, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv333 (i : S8x4.Idx) : val_main_v333 (F := Ideal) a.x0 a.x1 a.x4 a.x7 i =
    sP a.P (a.X (i 0).val) (i 1).val 7 := by
  simp only [val_main_v333_apply, val_main_v332_apply, val_main_v331_apply, rv330, rv322, rv301, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv335 (i : S8x4.Idx) : val_main_v335 (F := Ideal) a.x0 a.x1 a.x4 a.x7 i =
    sW a.P (a.X (i 0).val) (i 1).val 7 := by
  simp only [val_main_v335_apply, val_main_v334_apply, rv324, rv330, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv342 (i : S8x4x128x128.Idx) : val_main_v342 (F := Ideal) a.x0 a.x1 a.x2 a.x4 a.x5 a.x6 a.x7 i =
    sC a.P (a.X (i 0).val) (i 1).val (i 2).val (i 3).val 8 := by
  simp only [val_main_v342_apply, val_main_v338_apply, val_main_v337_apply, val_main_v336_apply, val_main_v341_apply, val_main_v340_apply, val_main_v339_apply, rv313, rv333, rv326, rv335, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv349 (i : S8x4x128.Idx) : val_main_v349 (F := Ideal) a.x0 a.x1 a.x2 a.x4 a.x5 a.x6 a.x7 i =
    sN a.P (a.X (i 0).val) (i 1).val (i 2).val 8 := by
  simp only [val_main_v349_apply, val_main_v345_apply, val_main_v344_apply, val_main_v343_apply, val_main_v348_apply, val_main_v347_apply, val_main_v346_apply, rv320, rv333, rv328, rv335, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv351 (i : S8x4.Idx) : val_main_v351 (F := Ideal) a.x0 a.x1 a.x4 a.x7 i =
    sA a.P (a.X (i 0).val) (i 1).val 8 := by
  have h0 : (i 0).val < 8 := (i 0).isLt
  have h1 : (i 1).val < 4 := (i 1).isLt
  simp only [val_main_v351_apply, val_main_v350_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v351, idx_main_v350]) <;> omega

theorem rv353 (i : S8x4.Idx) : val_main_v353 (F := Ideal) a.x0 a.x1 a.x4 a.x7 i =
    sMl a.P (a.X (i 0).val) (i 1).val 8 := by
  have h0 : (i 0).val < 8 := (i 0).isLt
  have h1 : (i 1).val < 4 := (i 1).isLt
  simp only [val_main_v353_apply, val_main_v352_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v353, idx_main_v352]) <;> omega

theorem rv355 (i : S8x4x128x128.Idx) : val_main_v355 (F := Ideal) a.x0 a.x1 a.x2 a.x4 a.x5 a.x6 a.x7 i =
    sCl a.P (a.X (i 0).val) (i 1).val 8 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v355_apply, val_main_v354_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v355, idx_main_v354]) <;> omega

theorem rv357 (i : S8x4x128.Idx) : val_main_v357 (F := Ideal) a.x0 a.x1 a.x2 a.x4 a.x5 a.x6 a.x7 i =
    sNl a.P (a.X (i 0).val) (i 1).val 8 (i 2).val := by
  have h0 : (i 0).val < 8 := (i 0).isLt
  have h1 : (i 1).val < 4 := (i 1).isLt
  have h2 : (i 2).val < 128 := (i 2).isLt
  simp only [val_main_v357_apply, val_main_v356_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v357, idx_main_v356]) <;> omega

theorem rv359 (i : S8x4.Idx) : val_main_v359 (F := Ideal) a.x0 a.x1 a.x4 a.x7 i =
    sM a.P (a.X (i 0).val) (i 1).val 9 := by
  simp only [val_main_v359_apply, val_main_v358_apply, rv353, rv351, rv330, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv362 (i : S8x4.Idx) : val_main_v362 (F := Ideal) a.x0 a.x1 a.x4 a.x7 i =
    sP a.P (a.X (i 0).val) (i 1).val 8 := by
  simp only [val_main_v362_apply, val_main_v361_apply, val_main_v360_apply, rv359, rv351, rv330, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv364 (i : S8x4.Idx) : val_main_v364 (F := Ideal) a.x0 a.x1 a.x4 a.x7 i =
    sW a.P (a.X (i 0).val) (i 1).val 8 := by
  simp only [val_main_v364_apply, val_main_v363_apply, rv353, rv359, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv371 (i : S8x4x128x128.Idx) : val_main_v371 (F := Ideal) a.x0 a.x1 a.x2 a.x4 a.x5 a.x6 a.x7 i =
    sC a.P (a.X (i 0).val) (i 1).val (i 2).val (i 3).val 9 := by
  simp only [val_main_v371_apply, val_main_v367_apply, val_main_v366_apply, val_main_v365_apply, val_main_v370_apply, val_main_v369_apply, val_main_v368_apply, rv342, rv362, rv355, rv364, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv378 (i : S8x4x128.Idx) : val_main_v378 (F := Ideal) a.x0 a.x1 a.x2 a.x4 a.x5 a.x6 a.x7 i =
    sN a.P (a.X (i 0).val) (i 1).val (i 2).val 9 := by
  simp only [val_main_v378_apply, val_main_v374_apply, val_main_v373_apply, val_main_v372_apply, val_main_v377_apply, val_main_v376_apply, val_main_v375_apply, rv349, rv362, rv357, rv364, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv380 (i : S8x4.Idx) : val_main_v380 (F := Ideal) a.x0 a.x1 a.x4 a.x7 i =
    sA a.P (a.X (i 0).val) (i 1).val 9 := by
  have h0 : (i 0).val < 8 := (i 0).isLt
  have h1 : (i 1).val < 4 := (i 1).isLt
  simp only [val_main_v380_apply, val_main_v379_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v380, idx_main_v379]) <;> omega

theorem rv382 (i : S8x4.Idx) : val_main_v382 (F := Ideal) a.x0 a.x1 a.x4 a.x7 i =
    sMl a.P (a.X (i 0).val) (i 1).val 9 := by
  have h0 : (i 0).val < 8 := (i 0).isLt
  have h1 : (i 1).val < 4 := (i 1).isLt
  simp only [val_main_v382_apply, val_main_v381_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v382, idx_main_v381]) <;> omega

theorem rv384 (i : S8x4x128x128.Idx) : val_main_v384 (F := Ideal) a.x0 a.x1 a.x2 a.x4 a.x5 a.x6 a.x7 i =
    sCl a.P (a.X (i 0).val) (i 1).val 9 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v384_apply, val_main_v383_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v384, idx_main_v383]) <;> omega

theorem rv386 (i : S8x4x128.Idx) : val_main_v386 (F := Ideal) a.x0 a.x1 a.x2 a.x4 a.x5 a.x6 a.x7 i =
    sNl a.P (a.X (i 0).val) (i 1).val 9 (i 2).val := by
  have h0 : (i 0).val < 8 := (i 0).isLt
  have h1 : (i 1).val < 4 := (i 1).isLt
  have h2 : (i 2).val < 128 := (i 2).isLt
  simp only [val_main_v386_apply, val_main_v385_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v386, idx_main_v385]) <;> omega

theorem rv388 (i : S8x4.Idx) : val_main_v388 (F := Ideal) a.x0 a.x1 a.x4 a.x7 i =
    sM a.P (a.X (i 0).val) (i 1).val 10 := by
  simp only [val_main_v388_apply, val_main_v387_apply, rv382, rv380, rv359, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv391 (i : S8x4.Idx) : val_main_v391 (F := Ideal) a.x0 a.x1 a.x4 a.x7 i =
    sP a.P (a.X (i 0).val) (i 1).val 9 := by
  simp only [val_main_v391_apply, val_main_v390_apply, val_main_v389_apply, rv388, rv380, rv359, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv393 (i : S8x4.Idx) : val_main_v393 (F := Ideal) a.x0 a.x1 a.x4 a.x7 i =
    sW a.P (a.X (i 0).val) (i 1).val 9 := by
  simp only [val_main_v393_apply, val_main_v392_apply, rv382, rv388, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv400 (i : S8x4x128x128.Idx) : val_main_v400 (F := Ideal) a.x0 a.x1 a.x2 a.x4 a.x5 a.x6 a.x7 i =
    sC a.P (a.X (i 0).val) (i 1).val (i 2).val (i 3).val 10 := by
  simp only [val_main_v400_apply, val_main_v396_apply, val_main_v395_apply, val_main_v394_apply, val_main_v399_apply, val_main_v398_apply, val_main_v397_apply, rv371, rv391, rv384, rv393, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv407 (i : S8x4x128.Idx) : val_main_v407 (F := Ideal) a.x0 a.x1 a.x2 a.x4 a.x5 a.x6 a.x7 i =
    sN a.P (a.X (i 0).val) (i 1).val (i 2).val 10 := by
  simp only [val_main_v407_apply, val_main_v403_apply, val_main_v402_apply, val_main_v401_apply, val_main_v406_apply, val_main_v405_apply, val_main_v404_apply, rv378, rv391, rv386, rv393, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv409 (i : S8x4.Idx) : val_main_v409 (F := Ideal) a.x0 a.x1 a.x4 a.x7 i =
    sA a.P (a.X (i 0).val) (i 1).val 10 := by
  have h0 : (i 0).val < 8 := (i 0).isLt
  have h1 : (i 1).val < 4 := (i 1).isLt
  simp only [val_main_v409_apply, val_main_v408_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v409, idx_main_v408]) <;> omega

theorem rv411 (i : S8x4.Idx) : val_main_v411 (F := Ideal) a.x0 a.x1 a.x4 a.x7 i =
    sMl a.P (a.X (i 0).val) (i 1).val 10 := by
  have h0 : (i 0).val < 8 := (i 0).isLt
  have h1 : (i 1).val < 4 := (i 1).isLt
  simp only [val_main_v411_apply, val_main_v410_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v411, idx_main_v410]) <;> omega

theorem rv413 (i : S8x4x128x128.Idx) : val_main_v413 (F := Ideal) a.x0 a.x1 a.x2 a.x4 a.x5 a.x6 a.x7 i =
    sCl a.P (a.X (i 0).val) (i 1).val 10 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v413_apply, val_main_v412_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v413, idx_main_v412]) <;> omega

theorem rv415 (i : S8x4x128.Idx) : val_main_v415 (F := Ideal) a.x0 a.x1 a.x2 a.x4 a.x5 a.x6 a.x7 i =
    sNl a.P (a.X (i 0).val) (i 1).val 10 (i 2).val := by
  have h0 : (i 0).val < 8 := (i 0).isLt
  have h1 : (i 1).val < 4 := (i 1).isLt
  have h2 : (i 2).val < 128 := (i 2).isLt
  simp only [val_main_v415_apply, val_main_v414_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v415, idx_main_v414]) <;> omega

theorem rv417 (i : S8x4.Idx) : val_main_v417 (F := Ideal) a.x0 a.x1 a.x4 a.x7 i =
    sM a.P (a.X (i 0).val) (i 1).val 11 := by
  simp only [val_main_v417_apply, val_main_v416_apply, rv411, rv409, rv388, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv420 (i : S8x4.Idx) : val_main_v420 (F := Ideal) a.x0 a.x1 a.x4 a.x7 i =
    sP a.P (a.X (i 0).val) (i 1).val 10 := by
  simp only [val_main_v420_apply, val_main_v419_apply, val_main_v418_apply, rv417, rv409, rv388, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv422 (i : S8x4.Idx) : val_main_v422 (F := Ideal) a.x0 a.x1 a.x4 a.x7 i =
    sW a.P (a.X (i 0).val) (i 1).val 10 := by
  simp only [val_main_v422_apply, val_main_v421_apply, rv411, rv417, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv429 (i : S8x4x128x128.Idx) : val_main_v429 (F := Ideal) a.x0 a.x1 a.x2 a.x4 a.x5 a.x6 a.x7 i =
    sC a.P (a.X (i 0).val) (i 1).val (i 2).val (i 3).val 11 := by
  simp only [val_main_v429_apply, val_main_v425_apply, val_main_v424_apply, val_main_v423_apply, val_main_v428_apply, val_main_v427_apply, val_main_v426_apply, rv400, rv420, rv413, rv422, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv436 (i : S8x4x128.Idx) : val_main_v436 (F := Ideal) a.x0 a.x1 a.x2 a.x4 a.x5 a.x6 a.x7 i =
    sN a.P (a.X (i 0).val) (i 1).val (i 2).val 11 := by
  simp only [val_main_v436_apply, val_main_v432_apply, val_main_v431_apply, val_main_v430_apply, val_main_v435_apply, val_main_v434_apply, val_main_v433_apply, rv407, rv420, rv415, rv422, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv438 (i : S8x4.Idx) : val_main_v438 (F := Ideal) a.x0 a.x1 a.x4 a.x7 i =
    sA a.P (a.X (i 0).val) (i 1).val 11 := by
  have h0 : (i 0).val < 8 := (i 0).isLt
  have h1 : (i 1).val < 4 := (i 1).isLt
  simp only [val_main_v438_apply, val_main_v437_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v438, idx_main_v437]) <;> omega

theorem rv440 (i : S8x4.Idx) : val_main_v440 (F := Ideal) a.x0 a.x1 a.x4 a.x7 i =
    sMl a.P (a.X (i 0).val) (i 1).val 11 := by
  have h0 : (i 0).val < 8 := (i 0).isLt
  have h1 : (i 1).val < 4 := (i 1).isLt
  simp only [val_main_v440_apply, val_main_v439_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v440, idx_main_v439]) <;> omega

theorem rv442 (i : S8x4x128x128.Idx) : val_main_v442 (F := Ideal) a.x0 a.x1 a.x2 a.x4 a.x5 a.x6 a.x7 i =
    sCl a.P (a.X (i 0).val) (i 1).val 11 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v442_apply, val_main_v441_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v442, idx_main_v441]) <;> omega

theorem rv444 (i : S8x4x128.Idx) : val_main_v444 (F := Ideal) a.x0 a.x1 a.x2 a.x4 a.x5 a.x6 a.x7 i =
    sNl a.P (a.X (i 0).val) (i 1).val 11 (i 2).val := by
  have h0 : (i 0).val < 8 := (i 0).isLt
  have h1 : (i 1).val < 4 := (i 1).isLt
  have h2 : (i 2).val < 128 := (i 2).isLt
  simp only [val_main_v444_apply, val_main_v443_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v444, idx_main_v443]) <;> omega

theorem rv446 (i : S8x4.Idx) : val_main_v446 (F := Ideal) a.x0 a.x1 a.x4 a.x7 i =
    sM a.P (a.X (i 0).val) (i 1).val 12 := by
  simp only [val_main_v446_apply, val_main_v445_apply, rv440, rv438, rv417, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv449 (i : S8x4.Idx) : val_main_v449 (F := Ideal) a.x0 a.x1 a.x4 a.x7 i =
    sP a.P (a.X (i 0).val) (i 1).val 11 := by
  simp only [val_main_v449_apply, val_main_v448_apply, val_main_v447_apply, rv446, rv438, rv417, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv451 (i : S8x4.Idx) : val_main_v451 (F := Ideal) a.x0 a.x1 a.x4 a.x7 i =
    sW a.P (a.X (i 0).val) (i 1).val 11 := by
  simp only [val_main_v451_apply, val_main_v450_apply, rv440, rv446, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv458 (i : S8x4x128x128.Idx) : val_main_v458 (F := Ideal) a.x0 a.x1 a.x2 a.x4 a.x5 a.x6 a.x7 i =
    sC a.P (a.X (i 0).val) (i 1).val (i 2).val (i 3).val 12 := by
  simp only [val_main_v458_apply, val_main_v454_apply, val_main_v453_apply, val_main_v452_apply, val_main_v457_apply, val_main_v456_apply, val_main_v455_apply, rv429, rv449, rv442, rv451, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv465 (i : S8x4x128.Idx) : val_main_v465 (F := Ideal) a.x0 a.x1 a.x2 a.x4 a.x5 a.x6 a.x7 i =
    sN a.P (a.X (i 0).val) (i 1).val (i 2).val 12 := by
  simp only [val_main_v465_apply, val_main_v461_apply, val_main_v460_apply, val_main_v459_apply, val_main_v464_apply, val_main_v463_apply, val_main_v462_apply, rv436, rv449, rv444, rv451, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv467 (i : S8x4.Idx) : val_main_v467 (F := Ideal) a.x0 a.x1 a.x4 a.x7 i =
    sA a.P (a.X (i 0).val) (i 1).val 12 := by
  have h0 : (i 0).val < 8 := (i 0).isLt
  have h1 : (i 1).val < 4 := (i 1).isLt
  simp only [val_main_v467_apply, val_main_v466_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v467, idx_main_v466]) <;> omega

theorem rv469 (i : S8x4.Idx) : val_main_v469 (F := Ideal) a.x0 a.x1 a.x4 a.x7 i =
    sMl a.P (a.X (i 0).val) (i 1).val 12 := by
  have h0 : (i 0).val < 8 := (i 0).isLt
  have h1 : (i 1).val < 4 := (i 1).isLt
  simp only [val_main_v469_apply, val_main_v468_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v469, idx_main_v468]) <;> omega

theorem rv471 (i : S8x4x128x128.Idx) : val_main_v471 (F := Ideal) a.x0 a.x1 a.x2 a.x4 a.x5 a.x6 a.x7 i =
    sCl a.P (a.X (i 0).val) (i 1).val 12 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v471_apply, val_main_v470_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v471, idx_main_v470]) <;> omega

theorem rv473 (i : S8x4x128.Idx) : val_main_v473 (F := Ideal) a.x0 a.x1 a.x2 a.x4 a.x5 a.x6 a.x7 i =
    sNl a.P (a.X (i 0).val) (i 1).val 12 (i 2).val := by
  have h0 : (i 0).val < 8 := (i 0).isLt
  have h1 : (i 1).val < 4 := (i 1).isLt
  have h2 : (i 2).val < 128 := (i 2).isLt
  simp only [val_main_v473_apply, val_main_v472_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v473, idx_main_v472]) <;> omega

theorem rv475 (i : S8x4.Idx) : val_main_v475 (F := Ideal) a.x0 a.x1 a.x4 a.x7 i =
    sM a.P (a.X (i 0).val) (i 1).val 13 := by
  simp only [val_main_v475_apply, val_main_v474_apply, rv469, rv467, rv446, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv478 (i : S8x4.Idx) : val_main_v478 (F := Ideal) a.x0 a.x1 a.x4 a.x7 i =
    sP a.P (a.X (i 0).val) (i 1).val 12 := by
  simp only [val_main_v478_apply, val_main_v477_apply, val_main_v476_apply, rv475, rv467, rv446, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv480 (i : S8x4.Idx) : val_main_v480 (F := Ideal) a.x0 a.x1 a.x4 a.x7 i =
    sW a.P (a.X (i 0).val) (i 1).val 12 := by
  simp only [val_main_v480_apply, val_main_v479_apply, rv469, rv475, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv487 (i : S8x4x128x128.Idx) : val_main_v487 (F := Ideal) a.x0 a.x1 a.x2 a.x4 a.x5 a.x6 a.x7 i =
    sC a.P (a.X (i 0).val) (i 1).val (i 2).val (i 3).val 13 := by
  simp only [val_main_v487_apply, val_main_v483_apply, val_main_v482_apply, val_main_v481_apply, val_main_v486_apply, val_main_v485_apply, val_main_v484_apply, rv458, rv478, rv471, rv480, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv494 (i : S8x4x128.Idx) : val_main_v494 (F := Ideal) a.x0 a.x1 a.x2 a.x4 a.x5 a.x6 a.x7 i =
    sN a.P (a.X (i 0).val) (i 1).val (i 2).val 13 := by
  simp only [val_main_v494_apply, val_main_v490_apply, val_main_v489_apply, val_main_v488_apply, val_main_v493_apply, val_main_v492_apply, val_main_v491_apply, rv465, rv478, rv473, rv480, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv496 (i : S8x4.Idx) : val_main_v496 (F := Ideal) a.x0 a.x1 a.x4 a.x7 i =
    sA a.P (a.X (i 0).val) (i 1).val 13 := by
  have h0 : (i 0).val < 8 := (i 0).isLt
  have h1 : (i 1).val < 4 := (i 1).isLt
  simp only [val_main_v496_apply, val_main_v495_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v496, idx_main_v495]) <;> omega

theorem rv498 (i : S8x4.Idx) : val_main_v498 (F := Ideal) a.x0 a.x1 a.x4 a.x7 i =
    sMl a.P (a.X (i 0).val) (i 1).val 13 := by
  have h0 : (i 0).val < 8 := (i 0).isLt
  have h1 : (i 1).val < 4 := (i 1).isLt
  simp only [val_main_v498_apply, val_main_v497_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v498, idx_main_v497]) <;> omega

theorem rv500 (i : S8x4x128x128.Idx) : val_main_v500 (F := Ideal) a.x0 a.x1 a.x2 a.x4 a.x5 a.x6 a.x7 i =
    sCl a.P (a.X (i 0).val) (i 1).val 13 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v500_apply, val_main_v499_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v500, idx_main_v499]) <;> omega

theorem rv502 (i : S8x4x128.Idx) : val_main_v502 (F := Ideal) a.x0 a.x1 a.x2 a.x4 a.x5 a.x6 a.x7 i =
    sNl a.P (a.X (i 0).val) (i 1).val 13 (i 2).val := by
  have h0 : (i 0).val < 8 := (i 0).isLt
  have h1 : (i 1).val < 4 := (i 1).isLt
  have h2 : (i 2).val < 128 := (i 2).isLt
  simp only [val_main_v502_apply, val_main_v501_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v502, idx_main_v501]) <;> omega

theorem rv504 (i : S8x4.Idx) : val_main_v504 (F := Ideal) a.x0 a.x1 a.x4 a.x7 i =
    sM a.P (a.X (i 0).val) (i 1).val 14 := by
  simp only [val_main_v504_apply, val_main_v503_apply, rv498, rv496, rv475, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv507 (i : S8x4.Idx) : val_main_v507 (F := Ideal) a.x0 a.x1 a.x4 a.x7 i =
    sP a.P (a.X (i 0).val) (i 1).val 13 := by
  simp only [val_main_v507_apply, val_main_v506_apply, val_main_v505_apply, rv504, rv496, rv475, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv509 (i : S8x4.Idx) : val_main_v509 (F := Ideal) a.x0 a.x1 a.x4 a.x7 i =
    sW a.P (a.X (i 0).val) (i 1).val 13 := by
  simp only [val_main_v509_apply, val_main_v508_apply, rv498, rv504, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv516 (i : S8x4x128x128.Idx) : val_main_v516 (F := Ideal) a.x0 a.x1 a.x2 a.x4 a.x5 a.x6 a.x7 i =
    sC a.P (a.X (i 0).val) (i 1).val (i 2).val (i 3).val 14 := by
  simp only [val_main_v516_apply, val_main_v512_apply, val_main_v511_apply, val_main_v510_apply, val_main_v515_apply, val_main_v514_apply, val_main_v513_apply, rv487, rv507, rv500, rv509, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv523 (i : S8x4x128.Idx) : val_main_v523 (F := Ideal) a.x0 a.x1 a.x2 a.x4 a.x5 a.x6 a.x7 i =
    sN a.P (a.X (i 0).val) (i 1).val (i 2).val 14 := by
  simp only [val_main_v523_apply, val_main_v519_apply, val_main_v518_apply, val_main_v517_apply, val_main_v522_apply, val_main_v521_apply, val_main_v520_apply, rv494, rv507, rv502, rv509, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv525 (i : S8x4.Idx) : val_main_v525 (F := Ideal) a.x0 a.x1 a.x4 a.x7 i =
    sA a.P (a.X (i 0).val) (i 1).val 14 := by
  have h0 : (i 0).val < 8 := (i 0).isLt
  have h1 : (i 1).val < 4 := (i 1).isLt
  simp only [val_main_v525_apply, val_main_v524_apply, rv89, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sA a.P (a.X s) h c) ?_ ?_ ?_ <;> (try dsimp only [idx_main_v525, idx_main_v524]) <;> omega

theorem rv527 (i : S8x4.Idx) : val_main_v527 (F := Ideal) a.x0 a.x1 a.x4 a.x7 i =
    sMl a.P (a.X (i 0).val) (i 1).val 14 := by
  have h0 : (i 0).val < 8 := (i 0).isLt
  have h1 : (i 1).val < 4 := (i 1).isLt
  simp only [val_main_v527_apply, val_main_v526_apply, rv105, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s h c => sMl a.P (a.X s) h c) ?_ ?_ ?_ <;> (try dsimp only [idx_main_v527, idx_main_v526]) <;> omega

theorem rv529 (i : S8x4x128x128.Idx) : val_main_v529 (F := Ideal) a.x0 a.x1 a.x2 a.x4 a.x5 a.x6 a.x7 i =
    sCl a.P (a.X (i 0).val) (i 1).val 14 (i 2).val (i 3).val := by
  have h0 : (i 0).val < 8 := (i 0).isLt
  have h1 : (i 1).val < 4 := (i 1).isLt
  have h2 : (i 2).val < 128 := (i 2).isLt
  have h3 : (i 3).val < 128 := (i 3).isLt
  simp only [val_main_v529_apply, val_main_v528_apply, rv113, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c k l => sCl a.P (a.X s) h c k l) ?_ ?_ ?_ ?_ ?_ <;> (try dsimp only [idx_main_v529, idx_main_v528]) <;> omega

theorem rv531 (i : S8x4x128.Idx) : val_main_v531 (F := Ideal) a.x0 a.x1 a.x2 a.x4 a.x5 a.x6 a.x7 i =
    sNl a.P (a.X (i 0).val) (i 1).val 14 (i 2).val := by
  have h0 : (i 0).val < 8 := (i 0).isLt
  have h1 : (i 1).val < 4 := (i 1).isLt
  have h2 : (i 2).val < 128 := (i 2).isLt
  simp only [val_main_v531_apply, val_main_v530_apply, rv114, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg4 (fun s h c k => sNl a.P (a.X s) h c k) ?_ ?_ ?_ ?_ <;> (try dsimp only [idx_main_v531, idx_main_v530]) <;> omega

theorem rv533 (i : S8x4.Idx) : val_main_v533 (F := Ideal) a.x0 a.x1 a.x4 a.x7 i =
    sM a.P (a.X (i 0).val) (i 1).val 15 := by
  simp only [val_main_v533_apply, val_main_v532_apply, rv527, rv525, rv504, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv536 (i : S8x4.Idx) : val_main_v536 (F := Ideal) a.x0 a.x1 a.x4 a.x7 i =
    sP a.P (a.X (i 0).val) (i 1).val 14 := by
  simp only [val_main_v536_apply, val_main_v535_apply, val_main_v534_apply, rv533, rv525, rv504, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv538 (i : S8x4.Idx) : val_main_v538 (F := Ideal) a.x0 a.x1 a.x4 a.x7 i =
    sW a.P (a.X (i 0).val) (i 1).val 14 := by
  simp only [val_main_v538_apply, val_main_v537_apply, rv527, rv533, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv545 (i : S8x4x128x128.Idx) : val_main_v545 (F := Ideal) a.x0 a.x1 a.x2 a.x4 a.x5 a.x6 a.x7 i =
    sC a.P (a.X (i 0).val) (i 1).val (i 2).val (i 3).val 15 := by
  simp only [val_main_v545_apply, val_main_v541_apply, val_main_v540_apply, val_main_v539_apply, val_main_v544_apply, val_main_v543_apply, val_main_v542_apply, rv516, rv536, rv529, rv538, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv552 (i : S8x4x128.Idx) : val_main_v552 (F := Ideal) a.x0 a.x1 a.x2 a.x4 a.x5 a.x6 a.x7 i =
    sN a.P (a.X (i 0).val) (i 1).val (i 2).val 15 := by
  simp only [val_main_v552_apply, val_main_v548_apply, val_main_v547_apply, val_main_v546_apply, val_main_v551_apply, val_main_v550_apply, val_main_v549_apply, rv523, rv536, rv531, rv538, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

end Cert.MixerRefIdeal.Spec
end
-- ==== Proof.RefD.lean ====
/- The memory each chunk of the reference starts from, as the layer's formulas. -/
module

public import proofs.«01_k».proof.Proof.RefC

@[expose] public section

set_option maxHeartbeats 4000000

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv598 (i : S8x4x16x128x128.Idx) : val_main_v598 (F := Ideal) a.x0 a.x1 a.x2 a.x4 a.x5 a.x6 a.x7 i =
    sC a.P (a.X (i 0).val) (i 1).val (i 3).val (i 4).val (i 2).val := by
  have h0 : (i 0).val < 8 := (i 0).isLt
  have h1 : (i 1).val < 4 := (i 1).isLt
  have h2 : (i 2).val < 16 := (i 2).isLt
  have h3 : (i 3).val < 128 := (i 3).isLt
  have h4 : (i 4).val < 128 := (i 4).isLt
  unfold val_main_v598
  rcases (by omega : (i 2).val = 0 ∨ (i 2).val = 1 ∨ (i 2).val = 2 ∨ (i 2).val = 3 ∨ (i 2).val = 4 ∨ (i 2).val = 5 ∨ (i 2).val = 6 ∨ (i 2).val = 7 ∨ (i 2).val = 8 ∨ (i 2).val = 9 ∨ (i 2).val = 10 ∨ (i 2).val = 11 ∨ (i 2).val = 12 ∨ (i 2).val = 13 ∨ (i 2).val = 14 ∨ (i 2).val = 15) with e | e | e | e | e | e | e | e | e | e | e | e | e | e | e | e
  · rw [e]
    refine (concatenate_apply_piece 2 _ _ i 0 (by show 0 < 16; omega) S8x4x1x128x128 (val_main_v582 (F := Ideal) ) rfl rfl 0 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 0 + 0 = (i 2).val; omega)).trans ?_
    simp only [val_main_v582_apply, rv115]
    all_goals rfl
  · rw [e]
    refine (concatenate_apply_piece 2 _ _ i 1 (by show 1 < 16; omega) S8x4x1x128x128 (val_main_v583 (F := Ideal) a.x0 a.x1 a.x2 a.x4 a.x5 a.x6 a.x7 ) rfl rfl 1 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 1 + 0 = (i 2).val; omega)).trans ?_
    simp only [val_main_v583_apply, rv139]
    all_goals rfl
  · rw [e]
    refine (concatenate_apply_piece 2 _ _ i 2 (by show 2 < 16; omega) S8x4x1x128x128 (val_main_v584 (F := Ideal) a.x0 a.x1 a.x2 a.x4 a.x5 a.x6 a.x7 ) rfl rfl 2 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 2 + 0 = (i 2).val; omega)).trans ?_
    simp only [val_main_v584_apply, rv168]
    all_goals rfl
  · rw [e]
    refine (concatenate_apply_piece 2 _ _ i 3 (by show 3 < 16; omega) S8x4x1x128x128 (val_main_v585 (F := Ideal) a.x0 a.x1 a.x2 a.x4 a.x5 a.x6 a.x7 ) rfl rfl 3 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 3 + 0 = (i 2).val; omega)).trans ?_
    simp only [val_main_v585_apply, rv197]
    all_goals rfl
  · rw [e]
    refine (concatenate_apply_piece 2 _ _ i 4 (by show 4 < 16; omega) S8x4x1x128x128 (val_main_v586 (F := Ideal) a.x0 a.x1 a.x2 a.x4 a.x5 a.x6 a.x7 ) rfl rfl 4 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 4 + 0 = (i 2).val; omega)).trans ?_
    simp only [val_main_v586_apply, rv226]
    all_goals rfl
  · rw [e]
    refine (concatenate_apply_piece 2 _ _ i 5 (by show 5 < 16; omega) S8x4x1x128x128 (val_main_v587 (F := Ideal) a.x0 a.x1 a.x2 a.x4 a.x5 a.x6 a.x7 ) rfl rfl 5 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 5 + 0 = (i 2).val; omega)).trans ?_
    simp only [val_main_v587_apply, rv255]
    all_goals rfl
  · rw [e]
    refine (concatenate_apply_piece 2 _ _ i 6 (by show 6 < 16; omega) S8x4x1x128x128 (val_main_v588 (F := Ideal) a.x0 a.x1 a.x2 a.x4 a.x5 a.x6 a.x7 ) rfl rfl 6 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 6 + 0 = (i 2).val; omega)).trans ?_
    simp only [val_main_v588_apply, rv284]
    all_goals rfl
  · rw [e]
    refine (concatenate_apply_piece 2 _ _ i 7 (by show 7 < 16; omega) S8x4x1x128x128 (val_main_v589 (F := Ideal) a.x0 a.x1 a.x2 a.x4 a.x5 a.x6 a.x7 ) rfl rfl 7 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 7 + 0 = (i 2).val; omega)).trans ?_
    simp only [val_main_v589_apply, rv313]
    all_goals rfl
  · rw [e]
    refine (concatenate_apply_piece 2 _ _ i 8 (by show 8 < 16; omega) S8x4x1x128x128 (val_main_v590 (F := Ideal) a.x0 a.x1 a.x2 a.x4 a.x5 a.x6 a.x7 ) rfl rfl 8 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 8 + 0 = (i 2).val; omega)).trans ?_
    simp only [val_main_v590_apply, rv342]
    all_goals rfl
  · rw [e]
    refine (concatenate_apply_piece 2 _ _ i 9 (by show 9 < 16; omega) S8x4x1x128x128 (val_main_v591 (F := Ideal) a.x0 a.x1 a.x2 a.x4 a.x5 a.x6 a.x7 ) rfl rfl 9 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 9 + 0 = (i 2).val; omega)).trans ?_
    simp only [val_main_v591_apply, rv371]
    all_goals rfl
  · rw [e]
    refine (concatenate_apply_piece 2 _ _ i 10 (by show 10 < 16; omega) S8x4x1x128x128 (val_main_v592 (F := Ideal) a.x0 a.x1 a.x2 a.x4 a.x5 a.x6 a.x7 ) rfl rfl 10 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 10 + 0 = (i 2).val; omega)).trans ?_
    simp only [val_main_v592_apply, rv400]
    all_goals rfl
  · rw [e]
    refine (concatenate_apply_piece 2 _ _ i 11 (by show 11 < 16; omega) S8x4x1x128x128 (val_main_v593 (F := Ideal) a.x0 a.x1 a.x2 a.x4 a.x5 a.x6 a.x7 ) rfl rfl 11 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 11 + 0 = (i 2).val; omega)).trans ?_
    simp only [val_main_v593_apply, rv429]
    all_goals rfl
  · rw [e]
    refine (concatenate_apply_piece 2 _ _ i 12 (by show 12 < 16; omega) S8x4x1x128x128 (val_main_v594 (F := Ideal) a.x0 a.x1 a.x2 a.x4 a.x5 a.x6 a.x7 ) rfl rfl 12 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 12 + 0 = (i 2).val; omega)).trans ?_
    simp only [val_main_v594_apply, rv458]
    all_goals rfl
  · rw [e]
    refine (concatenate_apply_piece 2 _ _ i 13 (by show 13 < 16; omega) S8x4x1x128x128 (val_main_v595 (F := Ideal) a.x0 a.x1 a.x2 a.x4 a.x5 a.x6 a.x7 ) rfl rfl 13 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 13 + 0 = (i 2).val; omega)).trans ?_
    simp only [val_main_v595_apply, rv487]
    all_goals rfl
  · rw [e]
    refine (concatenate_apply_piece 2 _ _ i 14 (by show 14 < 16; omega) S8x4x1x128x128 (val_main_v596 (F := Ideal) a.x0 a.x1 a.x2 a.x4 a.x5 a.x6 a.x7 ) rfl rfl 14 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 14 + 0 = (i 2).val; omega)).trans ?_
    simp only [val_main_v596_apply, rv516]
    all_goals rfl
  · rw [e]
    refine (concatenate_apply_piece 2 _ _ i 15 (by show 15 < 16; omega) S8x4x1x128x128 (val_main_v597 (F := Ideal) a.x0 a.x1 a.x2 a.x4 a.x5 a.x6 a.x7 ) rfl rfl 15 rfl (ValueIdx.ix5 ⟨(i 0).val, h0⟩ ⟨(i 1).val, h1⟩ ⟨0, by omega⟩ ⟨(i 3).val, h3⟩ ⟨(i 4).val, h4⟩ : S8x4x1x128x128.Idx)
      (fun b hb => by fin_cases b <;> first | rfl | exact absurd rfl hb) (by show 15 + 0 = (i 2).val; omega)).trans ?_
    simp only [val_main_v597_apply, rv545]
    all_goals rfl

theorem rv615 (i : S8x4x16x128.Idx) : val_main_v615 (F := Ideal) a.x0 a.x1 a.x2 a.x4 a.x5 a.x6 a.x7 i =
    sN a.P (a.X (i 0).val) (i 1).val (i 3).val (i 2).val := by
  have h0 : (i 0).val < 8 := (i 0).isLt
  have h1 : (i 1).val < 4 := (i 1).isLt
  have h2 : (i 2).val < 16 := (i 2).isLt
  have h3 : (i 3).val < 128 := (i 3).isLt
  unfold val_main_v615
  rcases (by omega : (i 2).val = 0 ∨ (i 2).val = 1 ∨ (i 2).val = 2 ∨ (i 2).val = 3 ∨ (i 2).val = 4 ∨ (i 2).val = 5 ∨ (i 2).val = 6 ∨ (i 2).val = 7 ∨ (i 2).val = 8 ∨ (i 2).val = 9 ∨ (i 2).val = 10 ∨ (i 2).val = 11 ∨ (i 2).val = 12 ∨ (i 2).val = 13 ∨ (i 2).val = 14 ∨ (i 2).val = 15) with e | e | e | e | e | e | e | e | e | e | e | e | e | e | e | e
  · rw [e]
    refine (concatenate_apply_piece 2 _ _ i 0 (by show 0 < 16; omega) S8x4x1x128 (val_main_v599 (F := Ideal) ) rfl rfl 0 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 0 + 0 = (i 2).val; omega)).trans ?_
    simp only [val_main_v599_apply, rv116]
    all_goals rfl
  · rw [e]
    refine (concatenate_apply_piece 2 _ _ i 1 (by show 1 < 16; omega) S8x4x1x128 (val_main_v600 (F := Ideal) a.x0 a.x1 a.x2 a.x4 a.x5 a.x6 a.x7 ) rfl rfl 1 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 1 + 0 = (i 2).val; omega)).trans ?_
    simp only [val_main_v600_apply, rv146]
    all_goals rfl
  · rw [e]
    refine (concatenate_apply_piece 2 _ _ i 2 (by show 2 < 16; omega) S8x4x1x128 (val_main_v601 (F := Ideal) a.x0 a.x1 a.x2 a.x4 a.x5 a.x6 a.x7 ) rfl rfl 2 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 2 + 0 = (i 2).val; omega)).trans ?_
    simp only [val_main_v601_apply, rv175]
    all_goals rfl
  · rw [e]
    refine (concatenate_apply_piece 2 _ _ i 3 (by show 3 < 16; omega) S8x4x1x128 (val_main_v602 (F := Ideal) a.x0 a.x1 a.x2 a.x4 a.x5 a.x6 a.x7 ) rfl rfl 3 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 3 + 0 = (i 2).val; omega)).trans ?_
    simp only [val_main_v602_apply, rv204]
    all_goals rfl
  · rw [e]
    refine (concatenate_apply_piece 2 _ _ i 4 (by show 4 < 16; omega) S8x4x1x128 (val_main_v603 (F := Ideal) a.x0 a.x1 a.x2 a.x4 a.x5 a.x6 a.x7 ) rfl rfl 4 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 4 + 0 = (i 2).val; omega)).trans ?_
    simp only [val_main_v603_apply, rv233]
    all_goals rfl
  · rw [e]
    refine (concatenate_apply_piece 2 _ _ i 5 (by show 5 < 16; omega) S8x4x1x128 (val_main_v604 (F := Ideal) a.x0 a.x1 a.x2 a.x4 a.x5 a.x6 a.x7 ) rfl rfl 5 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 5 + 0 = (i 2).val; omega)).trans ?_
    simp only [val_main_v604_apply, rv262]
    all_goals rfl
  · rw [e]
    refine (concatenate_apply_piece 2 _ _ i 6 (by show 6 < 16; omega) S8x4x1x128 (val_main_v605 (F := Ideal) a.x0 a.x1 a.x2 a.x4 a.x5 a.x6 a.x7 ) rfl rfl 6 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 6 + 0 = (i 2).val; omega)).trans ?_
    simp only [val_main_v605_apply, rv291]
    all_goals rfl
  · rw [e]
    refine (concatenate_apply_piece 2 _ _ i 7 (by show 7 < 16; omega) S8x4x1x128 (val_main_v606 (F := Ideal) a.x0 a.x1 a.x2 a.x4 a.x5 a.x6 a.x7 ) rfl rfl 7 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 7 + 0 = (i 2).val; omega)).trans ?_
    simp only [val_main_v606_apply, rv320]
    all_goals rfl
  · rw [e]
    refine (concatenate_apply_piece 2 _ _ i 8 (by show 8 < 16; omega) S8x4x1x128 (val_main_v607 (F := Ideal) a.x0 a.x1 a.x2 a.x4 a.x5 a.x6 a.x7 ) rfl rfl 8 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 8 + 0 = (i 2).val; omega)).trans ?_
    simp only [val_main_v607_apply, rv349]
    all_goals rfl
  · rw [e]
    refine (concatenate_apply_piece 2 _ _ i 9 (by show 9 < 16; omega) S8x4x1x128 (val_main_v608 (F := Ideal) a.x0 a.x1 a.x2 a.x4 a.x5 a.x6 a.x7 ) rfl rfl 9 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 9 + 0 = (i 2).val; omega)).trans ?_
    simp only [val_main_v608_apply, rv378]
    all_goals rfl
  · rw [e]
    refine (concatenate_apply_piece 2 _ _ i 10 (by show 10 < 16; omega) S8x4x1x128 (val_main_v609 (F := Ideal) a.x0 a.x1 a.x2 a.x4 a.x5 a.x6 a.x7 ) rfl rfl 10 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 10 + 0 = (i 2).val; omega)).trans ?_
    simp only [val_main_v609_apply, rv407]
    all_goals rfl
  · rw [e]
    refine (concatenate_apply_piece 2 _ _ i 11 (by show 11 < 16; omega) S8x4x1x128 (val_main_v610 (F := Ideal) a.x0 a.x1 a.x2 a.x4 a.x5 a.x6 a.x7 ) rfl rfl 11 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 11 + 0 = (i 2).val; omega)).trans ?_
    simp only [val_main_v610_apply, rv436]
    all_goals rfl
  · rw [e]
    refine (concatenate_apply_piece 2 _ _ i 12 (by show 12 < 16; omega) S8x4x1x128 (val_main_v611 (F := Ideal) a.x0 a.x1 a.x2 a.x4 a.x5 a.x6 a.x7 ) rfl rfl 12 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 12 + 0 = (i 2).val; omega)).trans ?_
    simp only [val_main_v611_apply, rv465]
    all_goals rfl
  · rw [e]
    refine (concatenate_apply_piece 2 _ _ i 13 (by show 13 < 16; omega) S8x4x1x128 (val_main_v612 (F := Ideal) a.x0 a.x1 a.x2 a.x4 a.x5 a.x6 a.x7 ) rfl rfl 13 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 13 + 0 = (i 2).val; omega)).trans ?_
    simp only [val_main_v612_apply, rv494]
    all_goals rfl
  · rw [e]
    refine (concatenate_apply_piece 2 _ _ i 14 (by show 14 < 16; omega) S8x4x1x128 (val_main_v613 (F := Ideal) a.x0 a.x1 a.x2 a.x4 a.x5 a.x6 a.x7 ) rfl rfl 14 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 14 + 0 = (i 2).val; omega)).trans ?_
    simp only [val_main_v613_apply, rv523]
    all_goals rfl
  · rw [e]
    refine (concatenate_apply_piece 2 _ _ i 15 (by show 15 < 16; omega) S8x4x1x128 (val_main_v614 (F := Ideal) a.x0 a.x1 a.x2 a.x4 a.x5 a.x6 a.x7 ) rfl rfl 15 rfl (ValueIdx.ix4 ⟨(i 0).val, h0⟩ ⟨(i 1).val, h1⟩ ⟨0, by omega⟩ ⟨(i 3).val, h3⟩ : S8x4x1x128.Idx)
      (fun b hb => by fin_cases b <;> first | rfl | exact absurd rfl hb) (by show 15 + 0 = (i 2).val; omega)).trans ?_
    simp only [val_main_v614_apply, rv552]
    all_goals rfl

theorem rv632 (i : S8x4x16.Idx) : val_main_v632 (F := Ideal) a.x0 a.x1 a.x4 a.x7 i =
    sM a.P (a.X (i 0).val) (i 1).val (i 2).val := by
  have h0 : (i 0).val < 8 := (i 0).isLt
  have h1 : (i 1).val < 4 := (i 1).isLt
  have h2 : (i 2).val < 16 := (i 2).isLt
  unfold val_main_v632
  rcases (by omega : (i 2).val = 0 ∨ (i 2).val = 1 ∨ (i 2).val = 2 ∨ (i 2).val = 3 ∨ (i 2).val = 4 ∨ (i 2).val = 5 ∨ (i 2).val = 6 ∨ (i 2).val = 7 ∨ (i 2).val = 8 ∨ (i 2).val = 9 ∨ (i 2).val = 10 ∨ (i 2).val = 11 ∨ (i 2).val = 12 ∨ (i 2).val = 13 ∨ (i 2).val = 14 ∨ (i 2).val = 15) with e | e | e | e | e | e | e | e | e | e | e | e | e | e | e | e
  · rw [e]
    refine (concatenate_apply_piece 2 _ _ i 0 (by show 0 < 16; omega) S8x4x1 (val_main_v616 (F := Ideal) ) rfl rfl 0 rfl (ValueIdx.ix3 ⟨(i 0).val, h0⟩ ⟨(i 1).val, h1⟩ ⟨0, by omega⟩ : S8x4x1.Idx)
      (fun b hb => by fin_cases b <;> first | rfl | exact absurd rfl hb) (by show 0 + 0 = (i 2).val; omega)).trans ?_
    simp only [val_main_v616_apply, rv117]
    all_goals rfl
  · rw [e]
    refine (concatenate_apply_piece 2 _ _ i 1 (by show 1 < 16; omega) S8x4x1 (val_main_v617 (F := Ideal) a.x0 a.x1 a.x4 a.x7 ) rfl rfl 1 rfl (ValueIdx.ix3 ⟨(i 0).val, h0⟩ ⟨(i 1).val, h1⟩ ⟨0, by omega⟩ : S8x4x1.Idx)
      (fun b hb => by fin_cases b <;> first | rfl | exact absurd rfl hb) (by show 1 + 0 = (i 2).val; omega)).trans ?_
    simp only [val_main_v617_apply, rv127]
    all_goals rfl
  · rw [e]
    refine (concatenate_apply_piece 2 _ _ i 2 (by show 2 < 16; omega) S8x4x1 (val_main_v618 (F := Ideal) a.x0 a.x1 a.x4 a.x7 ) rfl rfl 2 rfl (ValueIdx.ix3 ⟨(i 0).val, h0⟩ ⟨(i 1).val, h1⟩ ⟨0, by omega⟩ : S8x4x1.Idx)
      (fun b hb => by fin_cases b <;> first | rfl | exact absurd rfl hb) (by show 2 + 0 = (i 2).val; omega)).trans ?_
    simp only [val_main_v618_apply, rv156]
    all_goals rfl
  · rw [e]
    refine (concatenate_apply_piece 2 _ _ i 3 (by show 3 < 16; omega) S8x4x1 (val_main_v619 (F := Ideal) a.x0 a.x1 a.x4 a.x7 ) rfl rfl 3 rfl (ValueIdx.ix3 ⟨(i 0).val, h0⟩ ⟨(i 1).val, h1⟩ ⟨0, by omega⟩ : S8x4x1.Idx)
      (fun b hb => by fin_cases b <;> first | rfl | exact absurd rfl hb) (by show 3 + 0 = (i 2).val; omega)).trans ?_
    simp only [val_main_v619_apply, rv185]
    all_goals rfl
  · rw [e]
    refine (concatenate_apply_piece 2 _ _ i 4 (by show 4 < 16; omega) S8x4x1 (val_main_v620 (F := Ideal) a.x0 a.x1 a.x4 a.x7 ) rfl rfl 4 rfl (ValueIdx.ix3 ⟨(i 0).val, h0⟩ ⟨(i 1).val, h1⟩ ⟨0, by omega⟩ : S8x4x1.Idx)
      (fun b hb => by fin_cases b <;> first | rfl | exact absurd rfl hb) (by show 4 + 0 = (i 2).val; omega)).trans ?_
    simp only [val_main_v620_apply, rv214]
    all_goals rfl
  · rw [e]
    refine (concatenate_apply_piece 2 _ _ i 5 (by show 5 < 16; omega) S8x4x1 (val_main_v621 (F := Ideal) a.x0 a.x1 a.x4 a.x7 ) rfl rfl 5 rfl (ValueIdx.ix3 ⟨(i 0).val, h0⟩ ⟨(i 1).val, h1⟩ ⟨0, by omega⟩ : S8x4x1.Idx)
      (fun b hb => by fin_cases b <;> first | rfl | exact absurd rfl hb) (by show 5 + 0 = (i 2).val; omega)).trans ?_
    simp only [val_main_v621_apply, rv243]
    all_goals rfl
  · rw [e]
    refine (concatenate_apply_piece 2 _ _ i 6 (by show 6 < 16; omega) S8x4x1 (val_main_v622 (F := Ideal) a.x0 a.x1 a.x4 a.x7 ) rfl rfl 6 rfl (ValueIdx.ix3 ⟨(i 0).val, h0⟩ ⟨(i 1).val, h1⟩ ⟨0, by omega⟩ : S8x4x1.Idx)
      (fun b hb => by fin_cases b <;> first | rfl | exact absurd rfl hb) (by show 6 + 0 = (i 2).val; omega)).trans ?_
    simp only [val_main_v622_apply, rv272]
    all_goals rfl
  · rw [e]
    refine (concatenate_apply_piece 2 _ _ i 7 (by show 7 < 16; omega) S8x4x1 (val_main_v623 (F := Ideal) a.x0 a.x1 a.x4 a.x7 ) rfl rfl 7 rfl (ValueIdx.ix3 ⟨(i 0).val, h0⟩ ⟨(i 1).val, h1⟩ ⟨0, by omega⟩ : S8x4x1.Idx)
      (fun b hb => by fin_cases b <;> first | rfl | exact absurd rfl hb) (by show 7 + 0 = (i 2).val; omega)).trans ?_
    simp only [val_main_v623_apply, rv301]
    all_goals rfl
  · rw [e]
    refine (concatenate_apply_piece 2 _ _ i 8 (by show 8 < 16; omega) S8x4x1 (val_main_v624 (F := Ideal) a.x0 a.x1 a.x4 a.x7 ) rfl rfl 8 rfl (ValueIdx.ix3 ⟨(i 0).val, h0⟩ ⟨(i 1).val, h1⟩ ⟨0, by omega⟩ : S8x4x1.Idx)
      (fun b hb => by fin_cases b <;> first | rfl | exact absurd rfl hb) (by show 8 + 0 = (i 2).val; omega)).trans ?_
    simp only [val_main_v624_apply, rv330]
    all_goals rfl
  · rw [e]
    refine (concatenate_apply_piece 2 _ _ i 9 (by show 9 < 16; omega) S8x4x1 (val_main_v625 (F := Ideal) a.x0 a.x1 a.x4 a.x7 ) rfl rfl 9 rfl (ValueIdx.ix3 ⟨(i 0).val, h0⟩ ⟨(i 1).val, h1⟩ ⟨0, by omega⟩ : S8x4x1.Idx)
      (fun b hb => by fin_cases b <;> first | rfl | exact absurd rfl hb) (by show 9 + 0 = (i 2).val; omega)).trans ?_
    simp only [val_main_v625_apply, rv359]
    all_goals rfl
  · rw [e]
    refine (concatenate_apply_piece 2 _ _ i 10 (by show 10 < 16; omega) S8x4x1 (val_main_v626 (F := Ideal) a.x0 a.x1 a.x4 a.x7 ) rfl rfl 10 rfl (ValueIdx.ix3 ⟨(i 0).val, h0⟩ ⟨(i 1).val, h1⟩ ⟨0, by omega⟩ : S8x4x1.Idx)
      (fun b hb => by fin_cases b <;> first | rfl | exact absurd rfl hb) (by show 10 + 0 = (i 2).val; omega)).trans ?_
    simp only [val_main_v626_apply, rv388]
    all_goals rfl
  · rw [e]
    refine (concatenate_apply_piece 2 _ _ i 11 (by show 11 < 16; omega) S8x4x1 (val_main_v627 (F := Ideal) a.x0 a.x1 a.x4 a.x7 ) rfl rfl 11 rfl (ValueIdx.ix3 ⟨(i 0).val, h0⟩ ⟨(i 1).val, h1⟩ ⟨0, by omega⟩ : S8x4x1.Idx)
      (fun b hb => by fin_cases b <;> first | rfl | exact absurd rfl hb) (by show 11 + 0 = (i 2).val; omega)).trans ?_
    simp only [val_main_v627_apply, rv417]
    all_goals rfl
  · rw [e]
    refine (concatenate_apply_piece 2 _ _ i 12 (by show 12 < 16; omega) S8x4x1 (val_main_v628 (F := Ideal) a.x0 a.x1 a.x4 a.x7 ) rfl rfl 12 rfl (ValueIdx.ix3 ⟨(i 0).val, h0⟩ ⟨(i 1).val, h1⟩ ⟨0, by omega⟩ : S8x4x1.Idx)
      (fun b hb => by fin_cases b <;> first | rfl | exact absurd rfl hb) (by show 12 + 0 = (i 2).val; omega)).trans ?_
    simp only [val_main_v628_apply, rv446]
    all_goals rfl
  · rw [e]
    refine (concatenate_apply_piece 2 _ _ i 13 (by show 13 < 16; omega) S8x4x1 (val_main_v629 (F := Ideal) a.x0 a.x1 a.x4 a.x7 ) rfl rfl 13 rfl (ValueIdx.ix3 ⟨(i 0).val, h0⟩ ⟨(i 1).val, h1⟩ ⟨0, by omega⟩ : S8x4x1.Idx)
      (fun b hb => by fin_cases b <;> first | rfl | exact absurd rfl hb) (by show 13 + 0 = (i 2).val; omega)).trans ?_
    simp only [val_main_v629_apply, rv475]
    all_goals rfl
  · rw [e]
    refine (concatenate_apply_piece 2 _ _ i 14 (by show 14 < 16; omega) S8x4x1 (val_main_v630 (F := Ideal) a.x0 a.x1 a.x4 a.x7 ) rfl rfl 14 rfl (ValueIdx.ix3 ⟨(i 0).val, h0⟩ ⟨(i 1).val, h1⟩ ⟨0, by omega⟩ : S8x4x1.Idx)
      (fun b hb => by fin_cases b <;> first | rfl | exact absurd rfl hb) (by show 14 + 0 = (i 2).val; omega)).trans ?_
    simp only [val_main_v630_apply, rv504]
    all_goals rfl
  · rw [e]
    refine (concatenate_apply_piece 2 _ _ i 15 (by show 15 < 16; omega) S8x4x1 (val_main_v631 (F := Ideal) a.x0 a.x1 a.x4 a.x7 ) rfl rfl 15 rfl (ValueIdx.ix3 ⟨(i 0).val, h0⟩ ⟨(i 1).val, h1⟩ ⟨0, by omega⟩ : S8x4x1.Idx)
      (fun b hb => by fin_cases b <;> first | rfl | exact absurd rfl hb) (by show 15 + 0 = (i 2).val; omega)).trans ?_
    simp only [val_main_v631_apply, rv533]
    all_goals rfl

end Cert.MixerRefIdeal.Spec
end
-- ==== Proof.RefE.lean ====
/- The read-out of the memory of the reference, as the layer's formulas. -/
module

public import proofs.«01_k».proof.Proof.RefD

@[expose] public section

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv635 (i : S8x4x16x128.Idx) : val_main_v635 (F := Ideal) a.x0 a.x1 a.x4 a.x7 i =
    sIn a.P (a.X (i 0).val) (i 1).val (i 2).val (i 3).val := by
  simp -implicitDefEqProofs only [val_main_v635_apply, val_main_v634_apply, val_main_v633_apply, rv87, rv632, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv636 (i : S8x4x16x128.Idx) : val_main_v636 (F := Ideal) a.x0 a.x1 a.x4 a.x7 i =
    (Finset.univ : Finset (Fin 128)).sup fun s => sT a.P (a.X (i 0).val) (i 1).val (i 2).val (i 3).val s := by
  unfold val_main_v636
  refine (max_last5 (val_main_v100 (F := Ideal) a.x0 a.x1 a.x4 a.x7 ) _ _ _ ?_ i).trans ?_
  · simp only [val_main_cst_11_apply]; exact wd_bot
  · refine Finset.sup_congr rfl fun k _ => ?_
    rw [rv100]
    all_goals rfl

theorem rv637 (i : S8x4x16x128.Idx) : val_main_v637 (F := Ideal) a.x0 a.x1 a.x4 a.x7 i =
    sMt a.P (a.X (i 0).val) (i 1).val (i 2).val (i 3).val := by
  simp -implicitDefEqProofs only [val_main_v637_apply, rv635, rv636, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv639 (i : S8x4x16x128.Idx) : val_main_v639 (F := Ideal) a.x0 a.x1 a.x4 a.x7 i =
    sEi a.P (a.X (i 0).val) (i 1).val (i 2).val (i 3).val := by
  simp -implicitDefEqProofs only [val_main_v639_apply, val_main_v638_apply, rv635, rv637, a.l0, a.l1, a.l4, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv644 (i : S8x4x16x128x128.Idx) : val_main_v644 (F := Ideal) a.x0 a.x1 a.x2 a.x5 a.x6 i =
    sS a.P (a.X (i 0).val) (i 1).val (i 2).val (i 3).val (i 4).val := by
  simp -implicitDefEqProofs only [val_main_v644_apply, rv82, rv83, a.l0, a.l1, a.l2, a.l5, a.l6, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv645 (i : S8x4x16x128x128.Idx) : val_main_v645 (F := Ideal) a.x0 a.x1 a.x2 a.x4 a.x5 a.x6 a.x7 i =
    sSE a.P (a.X (i 0).val) (i 1).val (i 2).val (i 3).val (i 4).val := by
  simp -implicitDefEqProofs only [val_main_v645_apply, val_main_v643_apply, val_main_v642_apply, val_main_v641_apply, val_main_v640_apply, rv644, rv100, rv637, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv651 (i : S8x4x16x128x128.Idx) : val_main_v651 (F := Ideal) a.x0 a.x1 a.x2 a.x4 a.x5 a.x6 a.x7 i =
    sNum a.P (a.X (i 0).val) (i 1).val (i 2).val (i 3).val (i 4).val := by
  simp -implicitDefEqProofs only [val_main_v651_apply, val_main_v649_apply, val_main_v648_apply, val_main_v646_apply, val_main_v647_apply, val_main_v650_apply, rv639, rv82, rv598, rv645, rv84, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv655 (i : S8x4x16x128.Idx) : val_main_v655 (F := Ideal) a.x0 a.x1 a.x2 a.x4 a.x5 a.x6 a.x7 i =
    sDen a.P (a.X (i 0).val) (i 1).val (i 2).val (i 3).val := by
  simp -implicitDefEqProofs only [val_main_v655_apply, val_main_v653_apply, val_main_v652_apply, val_main_v654_apply, val_main_cst_12_apply, rv639, rv82, rv615, rv645, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, zero_add]
  all_goals rfl

theorem rv662 (i : S8x4x16x128x128.Idx) : val_main_v662 (F := Ideal) a.x0 a.x1 a.x2 a.x4 a.x5 a.x6 a.x7 i =
    sH a.P (a.X (i 0).val) (i 1).val (i 2).val (i 3).val (i 4).val := by
  simp -implicitDefEqProofs only [val_main_v662_apply, val_main_v661_apply, val_main_v660_apply, val_main_v659_apply, val_main_v656_apply, val_main_v658_apply, val_main_v657_apply, rv651, rv655, rv637, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, Ideal.absf_def]
  all_goals rfl

theorem rv663 (i : S8x4x2048x128.Idx) : val_main_v663 (F := Ideal) a.x0 a.x1 a.x2 a.x4 a.x5 a.x6 a.x7 i =
    sH a.P (a.X (i 0).val) (i 1).val ((i 2).val / 128) ((i 2).val % 128) (i 3).val := by
  have h0 : (i 0).val < 8 := (i 0).isLt
  have h1 : (i 1).val < 4 := (i 1).isLt
  have h2 : (i 2).val < 2048 := (i 2).isLt
  have h3 : (i 3).val < 128 := (i 3).isLt
  simp -implicitDefEqProofs only [val_main_v663_apply, rv662, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s h c t l => sH a.P (a.X s) h c t l) ?_ ?_ ?_ ?_ ?_ <;> (try dsimp only [idx_main_v663]) <;> omega

theorem rv664 (i : S8x2048x4x128.Idx) : val_main_v664 (F := Ideal) a.x0 a.x1 a.x2 a.x4 a.x5 a.x6 a.x7 i =
    sH a.P (a.X (i 0).val) (i 2).val ((i 1).val / 128) ((i 1).val % 128) (i 3).val := by
  simp -implicitDefEqProofs only [val_main_v664_apply, rv663, a.l0, a.l1, a.l2, a.l4, a.l5, a.l6, a.l7, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv675 (i : S4x128.Idx) : val_main_v675 (F := Ideal) a.x8 i =
    a.P.mhg 0 (128 * (i 0).val + (i 1).val) := by
  have h0 : (i 0).val < 4 := (i 0).isLt
  have h1 : (i 1).val < 128 := (i 1).isLt
  simp -implicitDefEqProofs only [val_main_v675_apply, a.l8, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun z k => a.P.mhg z k) ?_ ?_ <;> (try dsimp only [idx_main_v675]) <;> omega

theorem rv678 (i : S8x2048x4x128.Idx) : val_main_v678 (F := Ideal) a.x0 a.x1 a.x2 a.x4 a.x5 a.x6 a.x7 a.x8 i =
    (sH a.P (a.X (i 0).val) (i 2).val ((i 1).val / 128) ((i 1).val % 128) (i 3).val * Ideal.rsqrt (Ideal.div (∑ l : Fin 128, sH a.P (a.X (i 0).val) (i 2).val ((i 1).val / 128) ((i 1).val % 128) l * sH a.P (a.X (i 0).val) (i 2).val ((i 1).val / 128) ((i 1).val % 128) l) (wd 0x43000000#32) + wd 0x358637BD#32)) * a.P.mhg 0 (128 * (i 2).val + (i 3).val) := by
  simp -implicitDefEqProofs only [val_main_v678_apply, val_main_v674_apply, val_main_v673_apply, val_main_v672_apply, val_main_v671_apply, val_main_v669_apply, val_main_v667_apply, val_main_v666_apply, val_main_cst_13_apply, val_main_v665_apply, val_main_v668_apply, val_main_cst_14_apply, val_main_v670_apply, val_main_cst_15_apply, val_main_v677_apply, val_main_v676_apply, rv664, rv675, a.l0, a.l1, a.l2, a.l4, a.l5, a.l6, a.l7, a.l8, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, zero_add]
  all_goals rfl

theorem rv679 (i : S8x2048x512.Idx) : val_main_v679 (F := Ideal) a.x0 a.x1 a.x2 a.x4 a.x5 a.x6 a.x7 a.x8 i =
    (sH a.P (a.X (i 0).val) ((i 2).val / 128) ((i 1).val / 128) ((i 1).val % 128) ((i 2).val % 128) * Ideal.rsqrt (Ideal.div (∑ l : Fin 128, sH a.P (a.X (i 0).val) ((i 2).val / 128) ((i 1).val / 128) ((i 1).val % 128) l * sH a.P (a.X (i 0).val) ((i 2).val / 128) ((i 1).val / 128) ((i 1).val % 128) l) (wd 0x43000000#32) + wd 0x358637BD#32)) * a.P.mhg 0 (128 * ((i 2).val / 128) + ((i 2).val % 128)) := by
  have h0 : (i 0).val < 8 := (i 0).isLt
  have h1 : (i 1).val < 2048 := (i 1).isLt
  have h2 : (i 2).val < 512 := (i 2).isLt
  simp -implicitDefEqProofs only [val_main_v679_apply, rv678, a.l0, a.l1, a.l2, a.l4, a.l5, a.l6, a.l7, a.l8, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s hd c t l => (sH a.P (a.X s) hd c t l * Ideal.rsqrt (Ideal.div (∑ l : Fin 128, sH a.P (a.X s) hd c t l * sH a.P (a.X s) hd c t l) (wd 0x43000000#32) + wd 0x358637BD#32)) * a.P.mhg 0 (128 * hd + l)) ?_ ?_ ?_ ?_ ?_ <;> (try dsimp only [idx_main_v679]) <;> omega

theorem rv686 (i : S8x2048x512.Idx) : val_main_v686 (F := Ideal) a.x0 a.x1 a.x2 a.x4 a.x5 a.x6 a.x7 a.x8 i =
    sHm a.P (a.X (i 0).val) ((i 2).val / 128) ((i 1).val / 128) ((i 1).val % 128) ((i 2).val % 128) := by
  have h0 : (i 0).val < 8 := (i 0).isLt
  have h1 : (i 1).val < 2048 := (i 1).isLt
  have h2 : (i 2).val < 512 := (i 2).isLt
  simp -implicitDefEqProofs only [val_main_v686_apply, val_main_v685_apply, val_main_v684_apply, val_main_cst_17_apply, val_main_v683_apply, val_main_v682_apply, val_main_cst_16_apply, val_main_v681_apply, val_main_v680_apply, val_main_v20_apply, rv679, rv17, a.l0, a.l1, a.l2, a.l4, a.l5, a.l6, a.l7, a.l8, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, sHm, sSig]
  rw [show 128 * ((i 1).val / 128) + (i 1).val % 128 = (i 1).val by omega, show 128 * ((i 2).val / 128) + (i 2).val % 128 = (i 2).val by omega]
  all_goals rfl

end Cert.MixerRefIdeal.Spec
end
-- ==== Proof.RefG.lean ====
/- The gated half of the reference, as the layer's formulas. -/
module

public import proofs.«01_k».proof.Proof.RefA
public import proofs.«01_k».proof.Proof.RefLib

@[expose] public section

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv693 (i : S8x2048x512.Idx) : val_main_v693 (F := Ideal) a.x0 a.x1 a.x3 i =
    sGelu (kU a.P (a.X (i 0).val) (i 1).val (i 2).val) := by
  simp only [val_main_v693_apply, val_main_v688_apply, val_main_v687_apply, val_main_cst_18_apply, val_main_v26_apply, val_main_v692_apply, val_main_v691_apply, val_main_v689_apply, val_main_v690_apply, val_main_cst_19_apply, rv25, a.l0, a.l1, a.l3, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv700 (i : S8x2048x512.Idx) : val_main_v700 (F := Ideal) a.x0 a.x1 a.x3 i =
    sVg a.P (a.X (i 0).val) (i 1).val (i 2).val := by
  simp only [val_main_v700_apply, val_main_v695_apply, val_main_v694_apply, val_main_cst_20_apply, val_main_v27_apply, val_main_v699_apply, val_main_v698_apply, val_main_v696_apply, val_main_v697_apply, val_main_cst_21_apply, rv25, a.l0, a.l1, a.l3, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv724 (i : S8x2048x512.Idx) : val_main_v724 (F := Ideal) a.x0 a.x1 a.x3 a.x9 a.x10 i =
    sVN a.P (a.X (i 0).val) (i 1).val (i 2).val := by
  simp only [val_main_v724_apply, val_main_v721_apply, val_main_v718_apply, val_main_v713_apply, val_main_v712_apply, val_main_v704_apply, val_main_v702_apply, val_main_v701_apply, val_main_cst_22_apply, val_main_v703_apply, val_main_cst_23_apply, val_main_v717_apply, val_main_v716_apply, val_main_v715_apply, val_main_v711_apply, val_main_v709_apply, val_main_v708_apply, val_main_cst_24_apply, val_main_v707_apply, val_main_v706_apply, val_main_v705_apply, val_main_v710_apply, val_main_cst_25_apply, val_main_v714_apply, val_main_cst_26_apply, val_main_v720_apply, val_main_v719_apply, val_main_v723_apply, val_main_v722_apply, rv700, a.l0, a.l1, a.l10, a.l3, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, zero_add]
  all_goals rfl

theorem rv725 (i : S8x16x128x4x128.Idx) : val_main_v725 (F := Ideal) a.x0 a.x1 a.x3 a.x9 a.x10 i =
    sVN a.P (a.X (i 0).val) (128 * (i 1).val + (i 2).val) (128 * (i 3).val + (i 4).val) := by
  have h0 : (i 0).val < 8 := (i 0).isLt
  have h1 : (i 1).val < 16 := (i 1).isLt
  have h2 : (i 2).val < 128 := (i 2).isLt
  have h3 : (i 3).val < 4 := (i 3).isLt
  have h4 : (i 4).val < 128 := (i 4).isLt
  simp only [val_main_v725_apply, rv724, a.l0, a.l1, a.l10, a.l3, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sVN a.P (a.X s) r k) ?_ ?_ ?_ <;> (try dsimp only [idx_main_v725]) <;> omega

theorem rv727 (i : S128x128.Idx) : val_main_v727 (F := Ideal) i =
    if (i 1).val ≤ (i 0).val then 1#1 else 0#1 := by
  simp only [val_main_v727_apply, val_main_call5_v4_apply, val_main_call5_v2_apply, val_main_call5_v0_apply, val_main_call5_v1_apply, val_main_call5_c_apply, val_main_call5_v3_apply, val_main_v726_apply, val_main_c_27_apply, val_main_call5_v5_apply, val_main_call5_c_0_apply, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  exact causal (i 0) (i 1)

theorem rv729 (i : S4x128x128.Idx) : val_main_v729 (F := Ideal) a.x11 i =
    if (i 2).val ≤ (i 1).val then a.P.ws (i 0).val (i 1).val (i 2).val else 0 := by
  simp only [val_main_v729_apply, val_main_call6_v0_apply, val_main_v728_apply, val_main_cst_28_apply, rv727, a.l11, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine (sel_le _ _ _ _).trans ?_
  refine Eq.trans ?_ (if_congr Iff.rfl rfl wd_zero)
  all_goals rfl

theorem rv736 (i : S8x16x128x4x128.Idx) : val_main_v736 (F := Ideal) a.x0 a.x1 a.x3 a.x9 a.x10 a.x11 a.x12 i =
    (∑ s : Fin 128, sVN a.P (a.X (i 0).val) (128 * (i 1).val + s) (128 * (i 3).val + (i 4).val) * (if (s : ℕ) ≤ (i 2).val then a.P.ws (i 3).val (i 2).val s else 0)) + a.P.bs (i 2).val (i 3).val := by
  simp only [val_main_v736_apply, val_main_v731_apply, val_main_v730_apply, val_main_v735_apply, val_main_v734_apply, val_main_v733_apply, val_main_v732_apply, rv725, rv729, a.l0, a.l1, a.l10, a.l11, a.l12, a.l3, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv737 (i : S8x2048x512.Idx) : val_main_v737 (F := Ideal) a.x0 a.x1 a.x3 a.x9 a.x10 a.x11 a.x12 i =
    (∑ s : Fin 128, sVN a.P (a.X (i 0).val) (128 * ((i 1).val / 128) + s) (128 * ((i 2).val / 128) + (i 2).val % 128) * (if (s : ℕ) ≤ (i 1).val % 128 then a.P.ws ((i 2).val / 128) ((i 1).val % 128) s else 0)) + a.P.bs ((i 1).val % 128) ((i 2).val / 128) := by
  have h0 : (i 0).val < 8 := (i 0).isLt
  have h1 : (i 1).val < 2048 := (i 1).isLt
  have h2 : (i 2).val < 512 := (i 2).isLt
  simp only [val_main_v737_apply, rv736, a.l0, a.l1, a.l10, a.l11, a.l12, a.l3, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg5 (fun s c t hd l => (∑ q : Fin 128, sVN a.P (a.X s) (128 * c + q) (128 * hd + l) * (if (q : ℕ) ≤ t then a.P.ws hd t q else 0)) + a.P.bs t hd) ?_ ?_ ?_ ?_ ?_ <;> (try dsimp only [idx_main_v737]) <;> omega

theorem rv738 (i : S8x2048x512.Idx) : val_main_v738 (F := Ideal) a.x0 a.x1 a.x3 a.x9 a.x10 a.x11 a.x12 i =
    sGm a.P (a.X (i 0).val) ((i 2).val / 128) ((i 1).val / 128) ((i 1).val % 128) ((i 2).val % 128) := by
  have h0 : (i 0).val < 8 := (i 0).isLt
  have h1 : (i 1).val < 2048 := (i 1).isLt
  have h2 : (i 2).val < 512 := (i 2).isLt
  simp only [val_main_v738_apply, rv693, rv737, a.l0, a.l1, a.l10, a.l11, a.l12, a.l3, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, sGm]
  rw [show 128 * ((i 1).val / 128) + (i 1).val % 128 = (i 1).val by omega, show 128 * ((i 2).val / 128) + (i 2).val % 128 = (i 2).val by omega]

end Cert.MixerRefIdeal.Spec
end
-- ==== Proof.RefOut.lean ====
/- The result of the reference, as the layer's formulas. -/
module

public import proofs.«01_k».proof.Proof.RefE
public import proofs.«01_k».proof.Proof.RefG

@[expose] public section

noncomputable section

namespace Cert.MixerRefIdeal.Spec

open Cert.Sym Cert.MixerRefIdeal Cert.MixerRefIdeal.Gen Cert.MixerRefIdeal.Read Idealize.ShloMosaic Idealize.ShloMosaic.ValueIdx

variable (a : Args)

theorem rv739 (i : S8x2048x1024.Idx) : val_main_v739 (F := Ideal) a.x0 a.x1 a.x2 a.x3 a.x4 a.x5 a.x6 a.x7 a.x8 a.x9 a.x10 a.x11 a.x12 i =
    sMix a.P (a.X (i 0).val) (i 1).val (i 2).val := by
  have h0 : (i 0).val < 8 := (i 0).isLt
  have h1 : (i 1).val < 2048 := (i 1).isLt
  have h2 : (i 2).val < 1024 := (i 2).isLt
  unfold val_main_v739 sMix
  split_ifs with h
  · rw [concatenate_pair_apply_left (s₁ := S8x2048x512) (s₂ := S8x2048x512) 2 _ _ _ i rfl (ValueIdx.ix3 ⟨(i 0).val, h0⟩ ⟨(i 1).val, h1⟩ ⟨(i 2).val, h⟩ : S8x2048x512.Idx)
      (fun b => by fin_cases b <;> rfl)]
    rw [rv686]
    all_goals rfl
  · rw [concatenate_pair_apply_right (s₁ := S8x2048x512) (s₂ := S8x2048x512) 2 _ _ _ i rfl rfl (ValueIdx.ix3 ⟨(i 0).val, h0⟩ ⟨(i 1).val, h1⟩ ⟨(i 2).val - 512, by omega⟩ : S8x2048x512.Idx)
      (fun b hb => by fin_cases b <;> first | rfl | exact absurd rfl hb) (by show (i 2).val - 512 + 512 = (i 2).val; omega)]
    rw [rv738]
    all_goals rfl

theorem rv740 (i : S8x2048x1024.Idx) : val_main_v740 (F := Ideal) a.x0 a.x1 a.x2 a.x3 a.x4 a.x5 a.x6 a.x7 a.x8 a.x9 a.x10 a.x11 a.x12 a.x13 i =
    mm 1024 (sMix a.P (a.X (i 0).val)) a.P.wo (i 1).val (i 2).val := by
  simp -implicitDefEqProofs only [val_main_v740_apply, rv739, a.l0, a.l1, a.l10, a.l11, a.l12, a.l13, a.l2, a.l3, a.l4, a.l5, a.l6, a.l7, a.l8, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  all_goals rfl

theorem rv742 (i : S1024.Idx) : val_main_v742 (F := Ideal) a.x1 i =
    a.P.gains 3 (i 0).val := by
  have h0 : (i 0).val < 1024 := (i 0).isLt
  simp -implicitDefEqProofs only [val_main_v742_apply, val_main_v741_apply, a.l1, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg2 (fun q k => a.P.gains q k) ?_ ?_ <;> (try dsimp only [idx_main_v742, idx_main_v741]) <;> omega

theorem rv756 (i : S8x2048x1024.Idx) : val_main_v756 (F := Ideal) a.x0 a.x1 a.x2 a.x3 a.x4 a.x5 a.x6 a.x7 a.x8 a.x9 a.x10 a.x11 a.x12 a.x13 i =
    sOut a.P (a.X (i 0).val) (i 1).val (i 2).val := by
  simp -implicitDefEqProofs only [val_main_v756_apply, val_main_v755_apply, val_main_v752_apply, val_main_v751_apply, val_main_v750_apply, val_main_v749_apply, val_main_v747_apply, val_main_v745_apply, val_main_v744_apply, val_main_cst_29_apply, val_main_v743_apply, val_main_v746_apply, val_main_cst_30_apply, val_main_v748_apply, val_main_cst_31_apply, val_main_v754_apply, val_main_v753_apply, rv0, rv740, rv742, a.l0, a.l1, a.l10, a.l11, a.l12, a.l13, a.l2, a.l3, a.l4, a.l5, a.l6, a.l7, a.l8, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def, wd_zero, zero_add]
  simp only [sOut, rms2, mul2, colb, rowb, rsqrt2, add2, div2, c1, rsum, sh2, k2, Nat.zero_add, Nat.add_zero]

theorem rv757 (i : S4x2x2048x1024.Idx) : val_main_v757 (F := Ideal) a.x0 a.x1 a.x2 a.x3 a.x4 a.x5 a.x6 a.x7 a.x8 a.x9 a.x10 a.x11 a.x12 a.x13 i =
    sOut a.P (a.X (2 * (i 0).val + (i 1).val)) (i 2).val (i 3).val := by
  have h0 : (i 0).val < 4 := (i 0).isLt
  have h1 : (i 1).val < 2 := (i 1).isLt
  have h2 : (i 2).val < 2048 := (i 2).isLt
  have h3 : (i 3).val < 1024 := (i 3).isLt
  simp -implicitDefEqProofs only [val_main_v757_apply, rv756, a.l0, a.l1, a.l10, a.l11, a.l12, a.l13, a.l2, a.l3, a.l4, a.l5, a.l6, a.l7, a.l8, a.l9, Ideal.addf_def, Ideal.subf_def, Ideal.mulf_def, Ideal.negf_def, Ideal.maximumf_def, Ideal.hostDivf_def, Ideal.hostUnary_exp_def, Ideal.hostUnary_rsqrt_def, Ideal.hostUnary_log1p_def, Ideal.hostUnary_erfc_def]
  refine cg3 (fun s r k => sOut a.P (a.X s) r k) ?_ ?_ ?_ <;> (try dsimp only [idx_main_v757]) <;> omega

end Cert.MixerRefIdeal.Spec
end
-- ==== Proof.MixerClaims.lean ====
/- The claims of the mixer: the reference's frame, and the kernel's result array equal to the reference's. -/
module

public import proofs.«01_k».proof.Defs
public import proofs.«01_k».proof.Proof.Finite
public import proofs.«01_k».proof.Proof.MixerRun
public import proofs.«01_k».proof.Proof.RefOut
public import Idealize.ShloMosaic.Lib.Quiescent

@[expose] public section

set_option maxRecDepth 16384

noncomputable section

namespace Cert.Proof

open Idealize.ShloMosaic Idealize.ShloMosaic.TcCoe Idealize.SL.Sem

/-- The mixer's reference runs, keeps its arguments and leaves no semaphore raised. -/
theorem quiescent_MixerRefIdeal : Cert.quiescent_MixerRefIdeal := fun m ρ _ =>
  (θ_run Cert.MixerRefIdeal.defs _ _).mono (fun r h => ⟨fun c => (h c).2, sem_eq_zero_of_no_sems (by decide) r.2⟩)
    (Cert.MixerRefIdeal.Value.run (F := Ideal) m ρ)

/-- The same, from arguments of which the precondition is stated. -/
theorem quiescent_MixerRefIdeal_finite : Cert.quiescent_MixerRefIdeal_pre_finite := fun m ρ _ => quiescent_MixerRefIdeal m ρ trivial

/-- The precondition makes the kernel's weights and sequences real where the gates and the memory read them. -/
theorem fine (m : (ℓ : Loc Cert.MixerIdeal.nD Cert.MixerIdeal.τ Cert.MixerIdeal.sig) → Buf (Elt Ideal) ℓ) (h : Cert.Pre_MixerIdeal_finite m) (c : Dev Cert.MixerIdeal.nD) (s : ℕ) :
    Cert.Sym.Fine (Cert.MixerIdeal.Value.par m c) (Cert.MixerIdeal.Value.seq m c s) :=
  Cert.Sym.fine_of _ _ _ _ _ _ _ _ _ _ _ _ _ _ (h c) s

/-- Equal arrays make equal lists of arguments. -/
theorem args_eq {a b : Cert.MixerRefIdeal.Spec.Args} (h0 : a.x0 = b.x0) (h1 : a.x1 = b.x1) (h2 : a.x2 = b.x2) (h3 : a.x3 = b.x3) (h4 : a.x4 = b.x4) (h5 : a.x5 = b.x5) (h6 : a.x6 = b.x6) (h7 : a.x7 = b.x7) (h8 : a.x8 = b.x8) (h9 : a.x9 = b.x9) (h10 : a.x10 = b.x10) (h11 : a.x11 = b.x11) (h12 : a.x12 = b.x12) (h13 : a.x13 = b.x13) : a = b := by
  cases a; cases b; simp only at *; subst h0 h1 h2 h3 h4 h5 h6 h7 h8 h9 h10 h11 h12 h13; rfl

/-- Equal lists of arguments make equal results. -/
theorem out_eq {a b : Cert.MixerRefIdeal.Spec.Args} (h : a = b) (s r k : ℕ) : Cert.Sym.sOut a.P (a.X s) r k = Cert.Sym.sOut b.P (b.X s) r k := by rw [h]

/-- The mixer kernel and its reference leave equal arrays, if what the gates and the memory are computed from is finite. -/
theorem algebraic_Mixer : Cert.algebraic_MixerIdeal_MixerRefIdeal_pre_finite := by
  intro m ρ m' ρ' hpre hagree
  refine ⟨fun c => Cert.MixerIdeal.Value.G17 m c, ?_, ?_⟩
  · exact Cert.MixerIdeal.Value.run (F := Ideal) m ρ
  · refine (θ_run Cert.MixerRefIdeal.defs _ _).mono (fun _ h c => ⟨(h c).1.trans ?_, (h c).2⟩) (Cert.MixerRefIdeal.Value.run (F := Ideal) m' ρ')
    obtain ⟨h0, h1, h2, h3, h4, h5, h6, h7, h8, h9, h10, h11, h12, h13⟩ := hagree c
    refine (Cert.MixerRefIdeal.Read.val_main_v757_eq (StableHlo.launchContents m' c)).trans ?_
    funext j
    refine Eq.trans ?_ (Cert.MixerIdeal.Value.result m c (fine m hpre c) j).symm
    refine (Cert.MixerRefIdeal.Spec.rv757 ⟨_, _, _, _, _, _, _, _, _, _, _, _, _, _⟩ j).trans ?_
    exact out_eq (b := ⟨m ((c.tc : Thread Cert.MixerIdeal.nD Cert.MixerIdeal.τ).loc Cert.MixerIdeal.main_arg0), m ((c.tc : Thread Cert.MixerIdeal.nD Cert.MixerIdeal.τ).loc Cert.MixerIdeal.main_arg1), m ((c.tc : Thread Cert.MixerIdeal.nD Cert.MixerIdeal.τ).loc Cert.MixerIdeal.main_arg2), m ((c.tc : Thread Cert.MixerIdeal.nD Cert.MixerIdeal.τ).loc Cert.MixerIdeal.main_arg3), m ((c.tc : Thread Cert.MixerIdeal.nD Cert.MixerIdeal.τ).loc Cert.MixerIdeal.main_arg4), m ((c.tc : Thread Cert.MixerIdeal.nD Cert.MixerIdeal.τ).loc Cert.MixerIdeal.main_arg5), m ((c.tc : Thread Cert.MixerIdeal.nD Cert.MixerIdeal.τ).loc Cert.MixerIdeal.main_arg6), m ((c.tc : Thread Cert.MixerIdeal.nD Cert.MixerIdeal.τ).loc Cert.MixerIdeal.main_arg7), m ((c.tc : Thread Cert.MixerIdeal.nD Cert.MixerIdeal.τ).loc Cert.MixerIdeal.main_arg8), m ((c.tc : Thread Cert.MixerIdeal.nD Cert.MixerIdeal.τ).loc Cert.MixerIdeal.main_arg9), m ((c.tc : Thread Cert.MixerIdeal.nD Cert.MixerIdeal.τ).loc Cert.MixerIdeal.main_arg10), m ((c.tc : Thread Cert.MixerIdeal.nD Cert.MixerIdeal.τ).loc Cert.MixerIdeal.main_arg11), m ((c.tc : Thread Cert.MixerIdeal.nD Cert.MixerIdeal.τ).loc Cert.MixerIdeal.main_arg12), m ((c.tc : Thread Cert.MixerIdeal.nD Cert.MixerIdeal.τ).loc Cert.MixerIdeal.main_arg13)⟩)
      (args_eq h0 h1 h2 h3 h4 h5 h6 h7 h8 h9 h10 h11 h12 h13) (2 * (j 0).val + (j 1).val) (j 2).val (j 3).val

end Cert.Proof

end
-- ==== Proof.Rows.lean ====
/- The feed-forward layer, row by row, on extended reals: the plain functions both programs compute on one token. -/
module

public import Idealize.ShloMosaic.Lib.Pointwise

@[expose] public section

noncomputable section

namespace Cert.Rows

open Idealize.ShloMosaic

/-- Root-mean-square normalisation of one row of 1024 entries, scaled by `g`. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- The logistic function. -/
def sig (x : EReal) : EReal := Ideal.div 1 (1 + Ideal.exp (-x))

/-- One entry of the gated product: the gate through silu, times the up-projection. -/
def glu (g u : EReal) : EReal := g * sig g * u

/-- The hidden activation of one normalised row `a`: gate column `f`, up column `2816 + f` of the joint weight. -/
def hid (a : Fin 1024 → EReal) (w : Fin 1024 → Fin 5632 → EReal) (f : Fin 2816) : EReal :=
  glu (∑ k, a k * w k ⟨f.val, by omega⟩) (∑ k, a k * w k ⟨2816 + f.val, by omega⟩)

/-- The half-weighted feed-forward step of one row: `x + rms (hid · d) / 2`. -/
def ffn (x g₀ g₁ : Fin 1024 → EReal) (w : Fin 1024 → Fin 5632 → EReal) (d : Fin 2816 → Fin 1024 → EReal) (l : Fin 1024) : EReal :=
  x l + Ideal.ofBits .f32 0x3F000000#32 * rms (fun c => ∑ f, hid (rms x g₀) w f * d f c) g₁ l

/-- The per-layer embedding of one row `h`: the gate `sig (rms h · wg)` times the embedding `p · wp`, normalised and added to `h`. -/
def ple (h g₆ g₇ : Fin 1024 → EReal) (p : Fin 256 → EReal) (wg : Fin 1024 → Fin 1024 → EReal) (wp : Fin 256 → Fin 1024 → EReal) (l : Fin 1024) : EReal :=
  h l + rms (fun c => sig (∑ k, rms h g₆ k * wg k c) * ∑ k, p k * wp k c) g₇ l

end Cert.Rows
-- ==== Proof.FfnRefRows.lean ====
/- The feed-forward reference, read at one token and one lane. -/
module

public import proofs.«01_k».proof.Proof.Rows
public import proofs.«01_k».proof.Proof.Gen.FfnRefIdeal.Run

@[expose] public section

set_option maxRecDepth 16384

noncomputable section

namespace Cert.FfnRefIdeal.Value

open Cert.FfnRefIdeal Cert.FfnRefIdeal.Gen Idealize.ShloMosaic Idealize.ShloMosaic.TcCoe

/-- The reference's result at token `r`, lane `l` is the feed-forward step of row `r` of the argument. -/
theorem ref_at (m : (ℓ : Loc nD τ sig) → Buf (Elt Ideal) ℓ) (c : Dev nD)
    (x : FVec Ideal S16384x1024 .f32) (g : FVec Ideal S8x1024 .f32) (w : FVec Ideal S1024x5632 .f32) (d : FVec Ideal S2816x1024 .f32)
    (hx : m ((c.tc : Thread nD τ).loc main_arg0) = x) (hg : m ((c.tc : Thread nD τ).loc main_arg1) = g)
    (hw : m ((c.tc : Thread nD τ).loc main_arg2) = w) (hd : m ((c.tc : Thread nD τ).loc main_arg3) = d)
    (r : Fin 16384) (l : Fin 1024) :
    (res_main_v38 m c : FVec Ideal S16384x1024 .f32) (ix2 r l)
      = Rows.ffn (fun k => x (ix2 r k)) (fun k => g (ix2 0 k)) (fun k => g (ix2 1 k)) (fun k f => w (ix2 k f)) (fun f k => d (ix2 f k)) l := by
  unfold res_main_v38
  rw [hx, hg, hw, hd]
  pointwise [Rows.ffn, Rows.rms, Rows.hid, Rows.glu, Rows.sig]

end Cert.FfnRefIdeal.Value
-- ==== Proof.FfnPleRefRows.lean ====
/- The reference of the second feed-forward with the per-layer embedding, read at one token and one lane. -/
module

public import proofs.«01_k».proof.Proof.Rows
public import proofs.«01_k».proof.Proof.Gen.FfnPleRefIdeal.Run

@[expose] public section

set_option maxRecDepth 16384

noncomputable section

namespace Cert.FfnPleRefIdeal.Value

open Cert.FfnPleRefIdeal Cert.FfnPleRefIdeal.Gen Idealize.ShloMosaic Idealize.ShloMosaic.TcCoe

/-- The feed-forward part of the reference at token `r`, lane `l`. -/
theorem ffn_at (V : Valuation τ sig (Elt Ideal))
    (x : FVec Ideal S16384x1024 .f32) (g : FVec Ideal S8x1024 .f32) (w : FVec Ideal S1024x5632 .f32) (d : FVec Ideal S2816x1024 .f32)
    (hx : V (Proc.devRef .tc main_arg0) = x) (hg : V (Proc.devRef .tc main_arg1) = g)
    (hw : V (Proc.devRef .tc main_arg2) = w) (hd : V (Proc.devRef .tc main_arg3) = d)
    (r : Fin 16384) (l : Fin 1024) :
    (res_main_v38 V : FVec Ideal S16384x1024 .f32) (ix2 r l)
      = Rows.ffn (fun k => x (ix2 r k)) (fun k => g (ix2 4 k)) (fun k => g (ix2 5 k)) (fun k f => w (ix2 k f)) (fun f k => d (ix2 f k)) l := by
  unfold res_main_v38 res_main_v20 res_main_v16 res_main_v15
  rw [hx, hg, hw, hd]
  pointwise [Rows.ffn, Rows.rms, Rows.hid, Rows.glu, Rows.sig]

/-- The reference's result at token `r`, lane `l`: the feed-forward step of row `r`, then its per-layer embedding. -/
theorem ref_at (V : Valuation τ sig (Elt Ideal))
    (x : FVec Ideal S16384x1024 .f32) (g : FVec Ideal S8x1024 .f32) (w : FVec Ideal S1024x5632 .f32) (d : FVec Ideal S2816x1024 .f32)
    (p : FVec Ideal S16384x256 .f32) (wg : FVec Ideal S1024x1024 .f32) (wp : FVec Ideal S256x1024 .f32)
    (hx : V (Proc.devRef .tc main_arg0) = x) (hg : V (Proc.devRef .tc main_arg1) = g)
    (hw : V (Proc.devRef .tc main_arg2) = w) (hd : V (Proc.devRef .tc main_arg3) = d)
    (hp : V (Proc.devRef .tc main_arg4) = p) (hwg : V (Proc.devRef .tc main_arg5) = wg) (hwp : V (Proc.devRef .tc main_arg6) = wp)
    (r : Fin 16384) (l : Fin 1024) :
    (val2 V (Proc.devRef .tc main_v78) : FVec Ideal S16384x1024 .f32) (ix2 r l)
      = Rows.ple (Rows.ffn (fun k => x (ix2 r k)) (fun k => g (ix2 4 k)) (fun k => g (ix2 5 k)) (fun k f => w (ix2 k f)) (fun f k => d (ix2 f k)))
          (fun k => g (ix2 6 k)) (fun k => g (ix2 7 k)) (fun k => p (ix2 r k)) (fun k f => wg (ix2 k f)) (fun k f => wp (ix2 k f)) l := by
  rw [val2_main_v78]
  unfold res_main_v62
  rw [hg, hp, hwg, hwp]
  pointwise [Rows.ple, Rows.rms, Rows.sig, ffn_at V x g w d hx hg hw hd]

end Cert.FfnPleRefIdeal.Value
-- ==== Proof.Loads.lean ====
/- Reading back what a kernel body wrote into a buffer, and equations of bounded numbers. -/
module

public import Idealize.ShloMosaic.Lib.Pipeline.ValueKit

@[expose] public section

noncomputable section

namespace Cert.Loads

open Idealize.ShloMosaic Idealize.SL.Sem

variable {sg : RefSig} {κ : Kind} {sp : Space}

/-- A load of writes over a buffer is a load of the array those writes spell. -/
theorem readCov_of_canon {s : Shape} {e : EltTy} (v : View sg κ sp s e) (L : List (View.Piece (Elt Ideal) s e)) (G : s.Idx → Elt Ideal e)
    (h : ∀ y, View.canon L y = G y) (R : Rect s) : v.readCov L R.toLoadRect = View.ld G R := by
  rw [View.readCov_eq_canon', funext h]

/-- A load of one write that fills a 512 by 1024 buffer is a load of the written array. -/
theorem readCov_whole (v : View sg κ sp ⟨2, ![512, 1024]⟩ .bf16) (inb) (w : (⟨2, ![512, 1024]⟩ : Shape).Idx → Elt Ideal .bf16)
    (R : Rect ⟨2, ![512, 1024]⟩) :
    v.readCov (Val := Elt Ideal) [⟨Rect.unit ![0, 0] ![512, 1024] inb, w⟩] R.toLoadRect = View.ld (Val := Elt Ideal) (e' := .bf16) w R :=
  readCov_of_canon v _ w (fun y => by rw [View.canon_cons_unit_lit]; decide) R

/-- A load of the writes that build a 512 by 2816 array is a load of it. -/
theorem readCov_act (v : View sg κ sp ⟨2, ![512, 2816]⟩ .bf16) (L : List (View.Piece (Elt Ideal) ⟨2, ![512, 2816]⟩ .bf16))
    (G : (⟨2, ![512, 2816]⟩ : Shape).Idx → Elt Ideal .bf16) (h : ∀ y, View.canon L y = G y) (R : Rect ⟨2, ![512, 2816]⟩) :
    v.readCov (Val := Elt Ideal) L R.toLoadRect = View.ld (Val := Elt Ideal) (e' := .bf16) G R :=
  readCov_of_canon v _ G h R

/-- A bounded number with value `v` is the bounded number `v`. -/
theorem fin_val {n v : ℕ} {a : Fin n} (h : (a : ℕ) = v) : ∃ hv : v < n, a = ⟨v, hv⟩ := ⟨h ▸ a.isLt, Fin.ext h⟩

end Cert.Loads
-- ==== Proof.FfnValue.lean ====
/- The first feed-forward kernel: the array it leaves is the feed-forward step of every row of its argument. -/
module

public import proofs.«01_k».proof.Proof.Rows
public import proofs.«01_k».proof.Proof.Loads
public import proofs.«01_k».proof.Proof.Gen.FfnIdeal.Value

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The gated product of a block of 512 rows: each row normalised, multiplied by the joint weight, gated. -/
def act (x : FVec Ideal S512x1024 .f32) (g : FVec Ideal S8x1024 .f32) (w : FVec Ideal S1024x5632 .f32) : FVec Ideal S512x2816 .bf16 := fun j =>
  Rows.hid (Rows.rms (fun k => x (ix2 (j 0) k)) (fun k => g (ix2 0 k))) (fun k f => w (ix2 k f)) (j 1)

/-- The feed-forward step of every row of the whole array. -/
def out (x : FVec Ideal S16384x1024 .f32) (g : FVec Ideal S8x1024 .f32) (w : FVec Ideal S1024x5632 .f32) (d : FVec Ideal S2816x1024 .f32) :
    FVec Ideal S16384x1024 .f32 := fun j =>
  Rows.ffn (fun k => x (ix2 (j 0) k)) (fun k => g (ix2 0 k)) (fun k => g (ix2 1 k)) (fun k f => w (ix2 k f)) (fun f k => d (ix2 f k)) (j 1)

/-- Where each window's block lies at each grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ t.val < 32 :=
  (by decide +kernel : ∀ t : Fin grid0.N, _)

theorem row_lt (t : Fin cfg0.N) (r : Fin 512) : t.val * 512 + r.val < 16384 := by
  have := (idx t).2.2.2.2.2; omega

/-- Row `r` of the block at point `t` is row `512 t + r` of the array. -/
theorem blk0_at (c : Dev nD) (t : Fin cfg0.N) (r : Fin 512) (k : Fin 1024) :
    (iblk m c 0 t : FVec Ideal S512x1024 .f32) (ix2 r k) = (m ((c : Thread nD τ).loc main_arg0) : FVec Ideal S16384x1024 .f32) (ix2 ⟨t.val * 512 + r.val, row_lt t r⟩ k) := by
  blk_ext [iblk, V, idx t]

theorem blk1 (c : Dev nD) (t : Fin cfg0.N) : (iblk m c 1 t : FVec Ideal S8x1024 .f32) = (m ((c : Thread nD τ).loc main_arg1) : FVec Ideal S8x1024 .f32) := by
  funext j; blk_ext [iblk, V, idx t]

theorem blk2 (c : Dev nD) (t : Fin cfg0.N) : (iblk m c 2 t : FVec Ideal S1024x5632 .f32) = (m ((c : Thread nD τ).loc main_arg2) : FVec Ideal S1024x5632 .f32) := by
  funext j; blk_ext [iblk, V, idx t]

theorem blk3 (c : Dev nD) (t : Fin cfg0.N) : (iblk m c 3 t : FVec Ideal S2816x1024 .f32) = (m ((c : Thread nD τ).loc main_arg3) : FVec Ideal S2816x1024 .f32) := by
  funext j; blk_ext [iblk, V, idx t]

/-- The kernel's result array, whole. -/
theorem final (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold Gen.outsAt0
  frame_out
  simp only [Loads.readCov_whole]
  rw [Loads.readCov_act _ _ (act (iblk m c 0 t) (iblk m c 1 t) (iblk m c 2 t)), Loads.readCov_act _ _ (act (iblk m c 0 t) (iblk m c 1 t) (iblk m c 2 t))]
  case h | h =>
    intro y
    idx_vars y
    canon_tiles x h using (View.cover_of_tiledBy _ ![128, 256] (by sl_kernel_rfl) _)
    all_goals
      open_payloads
      idx_vars x
      obtain ⟨_, rfl⟩ := Loads.fin_val h0
      obtain ⟨_, rfl⟩ := Loads.fin_val h1
      pointwise [act, Rows.hid, Rows.glu, Rows.sig, Rows.rms, zero_sub]
      try simp only [← Nat.add_assoc, Nat.reduceAdd]
  rw [blk1, blk2, blk3]
  have he : ∀ (r : Fin 512) (l : Fin 1024), (y 0 : ℕ) = r → (y 1 : ℕ) = l →
      ((View.whole main_v0).slice (win0_4.rect t)).emb y = (ix2 ⟨t.val * 512 + r.val, row_lt t r⟩ l : S16384x1024.Idx) := by
    intro r l h0 h1
    blk_ext [idx t]
  canon_tiles x h
  all_goals
    open_payloads
    idx_vars x
  case piece0 =>
    rw [he ⟨256 + x0.val, by omega⟩ x1 h0 h1]
    pointwise [out, act, Rows.ffn, Rows.rms, blk0_at]
  case piece1 =>
    rw [he ⟨x0.val, by omega⟩ x1 h0 h1]
    pointwise [out, act, Rows.ffn, Rows.rms, blk0_at]

end Cert.FfnIdeal.Value
-- ==== Proof.FfnPleValue.lean ====
/- The second feed-forward kernel: the array it leaves is, row by row, the feed-forward step and then the per-layer embedding. -/
module

public import proofs.«01_k».proof.Proof.Rows
public import proofs.«01_k».proof.Proof.Loads
public import proofs.«01_k».proof.Proof.Gen.FfnPleIdeal.Value

@[expose] public section

set_option maxRecDepth 16384

noncomputable section

namespace Cert.FfnPleIdeal.Value

open Cert.FfnPleIdeal Cert.FfnPleIdeal.Gen Idealize.ShloMosaic Idealize.ShloMosaic.TcCoe Idealize.SL.Sem
open Idealize.ShloMosaic.Pipeline (Dat)

variable (m : (ℓ : Loc nD τ sig) → Buf (Elt Ideal) ℓ)

/-- The gated product of a block of 512 rows: each row normalised, multiplied by the joint weight, gated. -/
def act (x : FVec Ideal S512x1024 .f32) (g : FVec Ideal S8x1024 .f32) (w : FVec Ideal S1024x5632 .f32) : FVec Ideal S512x2816 .bf16 := fun j =>
  Rows.hid (Rows.rms (fun k => x (ix2 (j 0) k)) (fun k => g (ix2 4 k))) (fun k f => w (ix2 k f)) (j 1)

/-- The feed-forward step and the per-layer embedding of every row of the whole array. -/
def out (x : FVec Ideal S16384x1024 .f32) (g : FVec Ideal S8x1024 .f32) (w : FVec Ideal S1024x5632 .f32) (d : FVec Ideal S2816x1024 .f32)
    (p : FVec Ideal S16384x256 .f32) (wg : FVec Ideal S1024x1024 .f32) (wp : FVec Ideal S256x1024 .f32) : FVec Ideal S16384x1024 .f32 := fun j =>
  Rows.ple (Rows.ffn (fun k => x (ix2 (j 0) k)) (fun k => g (ix2 4 k)) (fun k => g (ix2 5 k)) (fun k f => w (ix2 k f)) (fun f k => d (ix2 f k)))
    (fun k => g (ix2 6 k)) (fun k => g (ix2 7 k)) (fun k => p (ix2 (j 0) k)) (fun k f => wg (ix2 k f)) (fun k f => wp (ix2 k f)) (j 1)

/-- Where each window's block lies at each grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, 0] ∧ win0_6.index t = ![0, 0] ∧ win0_7.index t = ![t.val, 0] ∧ t.val < 32 :=
  (by decide +kernel : ∀ t : Fin grid0.N, _)

theorem row_lt (t : Fin cfg0.N) (r : Fin 512) : t.val * 512 + r.val < 16384 := by
  have := (idx t).2.2.2.2.2.2.2.2; omega

/-- Row `r` of the block at point `t` is row `512 t + r` of the array. -/
theorem blk0_at (c : Dev nD) (t : Fin cfg0.N) (r : Fin 512) (k : Fin 1024) :
    (iblk m c 0 t : FVec Ideal S512x1024 .f32) (ix2 r k) = (m ((c : Thread nD τ).loc main_arg0) : FVec Ideal S16384x1024 .f32) (ix2 ⟨t.val * 512 + r.val, row_lt t r⟩ k) := by
  blk_ext [iblk, V, idx t]

/-- Row `r` of the embedding block at point `t` is row `512 t + r` of the embeddings. -/
theorem blk4_at (c : Dev nD) (t : Fin cfg0.N) (r : Fin 512) (k : Fin 256) :
    (iblk m c 4 t : FVec Ideal S512x256 .f32) (ix2 r k) = (m ((c : Thread nD τ).loc main_arg4) : FVec Ideal S16384x256 .f32) (ix2 ⟨t.val * 512 + r.val, row_lt t r⟩ k) := by
  blk_ext [iblk, V, idx t]

theorem blk1 (c : Dev nD) (t : Fin cfg0.N) : (iblk m c 1 t : FVec Ideal S8x1024 .f32) = (m ((c : Thread nD τ).loc main_arg1) : FVec Ideal S8x1024 .f32) := by
  funext j; blk_ext [iblk, V, idx t]

theorem blk2 (c : Dev nD) (t : Fin cfg0.N) : (iblk m c 2 t : FVec Ideal S1024x5632 .f32) = (m ((c : Thread nD τ).loc main_arg2) : FVec Ideal S1024x5632 .f32) := by
  funext j; blk_ext [iblk, V, idx t]

theorem blk3 (c : Dev nD) (t : Fin cfg0.N) : (iblk m c 3 t : FVec Ideal S2816x1024 .f32) = (m ((c : Thread nD τ).loc main_arg3) : FVec Ideal S2816x1024 .f32) := by
  funext j; blk_ext [iblk, V, idx t]

theorem blk5 (c : Dev nD) (t : Fin cfg0.N) : (iblk m c 5 t : FVec Ideal S1024x1024 .bf16) = (m ((c : Thread nD τ).loc main_arg5) : FVec Ideal S1024x1024 .f32) := by
  funext j; blk_ext [iblk, V, idx t]

theorem blk6 (c : Dev nD) (t : Fin cfg0.N) : (iblk m c 6 t : FVec Ideal S256x1024 .bf16) = (m ((c : Thread nD τ).loc main_arg6) : FVec Ideal S256x1024 .f32) := by
  funext j; blk_ext [iblk, V, idx t]

/-- The kernel's result array, whole. -/
theorem final (c : Dev nD) : (dats m 0 c).arrAt 7 (cfgs 0).N
    = out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  unfold Gen.outsAt0
  frame_out
  simp only [Loads.readCov_whole]
  rw [Loads.readCov_act _ _ (act (iblk m c 0 t) (iblk m c 1 t) (iblk m c 2 t)), Loads.readCov_act _ _ (act (iblk m c 0 t) (iblk m c 1 t) (iblk m c 2 t))]
  case h | h =>
    intro y
    idx_vars y
    canon_tiles x h using (View.cover_of_tiledBy _ ![128, 256] (by sl_kernel_rfl) _)
    all_goals
      open_payloads
      idx_vars x
      obtain ⟨_, rfl⟩ := Loads.fin_val h0
      obtain ⟨_, rfl⟩ := Loads.fin_val h1
      pointwise [act, Rows.hid, Rows.glu, Rows.sig, Rows.rms, zero_sub]
      try simp only [← Nat.add_assoc, Nat.reduceAdd]
  rw [blk1, blk2, blk3, blk5, blk6]
  have he : ∀ (r : Fin 512) (l : Fin 1024), (y 0 : ℕ) = r → (y 1 : ℕ) = l →
      ((View.whole main_v2).slice (win0_7.rect t)).emb y = (ix2 ⟨t.val * 512 + r.val, row_lt t r⟩ l : S16384x1024.Idx) := by
    intro r l h0 h1
    blk_ext [idx t]
  canon_tiles x h
  all_goals
    open_payloads
    idx_vars x
  case piece0 =>
    rw [he ⟨256 + x0.val, by omega⟩ x1 h0 h1]
    pointwise [out, act, Rows.ple, Rows.ffn, Rows.rms, Rows.sig, blk0_at, blk4_at, zero_sub]
  case piece1 =>
    rw [he ⟨x0.val, by omega⟩ x1 h0 h1]
    pointwise [out, act, Rows.ple, Rows.ffn, Rows.rms, Rows.sig, blk0_at, blk4_at, zero_sub]

end Cert.FfnPleIdeal.Value
-- ==== Proof.FfnClaims.lean ====
/- The claims of the two feed-forward kernels: the references' frames, and the kernels' result arrays equal to the references'. -/
module

public import proofs.«01_k».proof.Defs
public import proofs.«01_k».proof.Proof.FfnRefRows
public import proofs.«01_k».proof.Proof.FfnPleRefRows
public import proofs.«01_k».proof.Proof.FfnValue
public import proofs.«01_k».proof.Proof.FfnPleValue
public import Idealize.ShloMosaic.Lib.Quiescent

@[expose] public section

set_option maxRecDepth 16384

noncomputable section

namespace Cert.Proof

open Idealize.ShloMosaic Idealize.ShloMosaic.TcCoe Idealize.SL.Sem

/-- The feed-forward reference runs, keeps its arguments and leaves no semaphore raised. -/
theorem quiescent_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The second feed-forward reference runs, keeps its arguments and leaves no semaphore raised. -/
theorem quiescent_FfnPleRefIdeal : Cert.quiescent_FfnPleRefIdeal := fun m ρ _ =>
  (θ_run Cert.FfnPleRefIdeal.defs _ _).mono (fun r h => ⟨fun c => (h c).2, sem_eq_zero_of_no_sems (by decide) r.2⟩)
    (Cert.FfnPleRefIdeal.Value.run (F := Ideal) m ρ)

/-- The first feed-forward kernel and its reference leave equal arrays. -/
theorem algebraic_Ffn : Cert.algebraic_FfnIdeal_FfnRefIdeal := by
  intro m ρ m' ρ' _ hagree
  refine ⟨fun c => Cert.FfnIdeal.Value.out (m ((c.tc : Thread Cert.FfnIdeal.nD Cert.FfnIdeal.τ).loc Cert.FfnIdeal.main_arg0)) (m ((c.tc : Thread Cert.FfnIdeal.nD Cert.FfnIdeal.τ).loc Cert.FfnIdeal.main_arg1))
    (m ((c.tc : Thread Cert.FfnIdeal.nD Cert.FfnIdeal.τ).loc Cert.FfnIdeal.main_arg2)) (m ((c.tc : Thread Cert.FfnIdeal.nD Cert.FfnIdeal.τ).loc Cert.FfnIdeal.main_arg3)), ?_, ?_⟩
  · exact (θ_run Cert.FfnIdeal.defs _ _).mono (fun _ h c => ⟨(h c).1.trans (Cert.FfnIdeal.Value.final m c), (h c).2⟩) (Cert.FfnIdeal.Value.run_blocks (F := Ideal) m ρ)
  · refine (θ_run Cert.FfnRefIdeal.defs _ _).mono (fun _ h c => ⟨(h c).1.trans ?_, (h c).2⟩) (Cert.FfnRefIdeal.Value.run (F := Ideal) m' ρ')
    obtain ⟨h0, h1, h2, h3⟩ := hagree c
    funext j
    rw [eq_ix2 j]
    exact Cert.FfnRefIdeal.Value.ref_at m' c _ _ _ _ h0 h1 h2 h3 (j 0) (j 1)

/-- The second feed-forward kernel, with the per-layer embedding, and its reference leave equal arrays. -/
theorem algebraic_FfnPle : Cert.algebraic_FfnPleIdeal_FfnPleRefIdeal := by
  intro m ρ m' ρ' _ hagree
  refine ⟨fun c => Cert.FfnPleIdeal.Value.out (m ((c.tc : Thread Cert.FfnPleIdeal.nD Cert.FfnPleIdeal.τ).loc Cert.FfnPleIdeal.main_arg0)) (m ((c.tc : Thread Cert.FfnPleIdeal.nD Cert.FfnPleIdeal.τ).loc Cert.FfnPleIdeal.main_arg1))
    (m ((c.tc : Thread Cert.FfnPleIdeal.nD Cert.FfnPleIdeal.τ).loc Cert.FfnPleIdeal.main_arg2)) (m ((c.tc : Thread Cert.FfnPleIdeal.nD Cert.FfnPleIdeal.τ).loc Cert.FfnPleIdeal.main_arg3))
    (m ((c.tc : Thread Cert.FfnPleIdeal.nD Cert.FfnPleIdeal.τ).loc Cert.FfnPleIdeal.main_arg4)) (m ((c.tc : Thread Cert.FfnPleIdeal.nD Cert.FfnPleIdeal.τ).loc Cert.FfnPleIdeal.main_arg5))
    (m ((c.tc : Thread Cert.FfnPleIdeal.nD Cert.FfnPleIdeal.τ).loc Cert.FfnPleIdeal.main_arg6)), ?_, ?_⟩
  · exact (θ_run Cert.FfnPleIdeal.defs _ _).mono (fun _ h c => ⟨(h c).1.trans (Cert.FfnPleIdeal.Value.final m c), (h c).2⟩) (Cert.FfnPleIdeal.Value.run_blocks (F := Ideal) m ρ)
  · refine (θ_run Cert.FfnPleRefIdeal.defs _ _).mono (fun _ h c => ⟨(h c).1.trans ?_, (h c).2⟩) (Cert.FfnPleRefIdeal.Value.run (F := Ideal) m' ρ')
    obtain ⟨h0, h1, h2, h3, h4, h5, h6⟩ := hagree c
    rw [← Cert.FfnPleRefIdeal.Value.val2_main_v78]
    funext j
    rw [eq_ix2 j]
    exact Cert.FfnPleRefIdeal.Value.ref_at (StableHlo.launchContents m' c) _ _ _ _ _ _ _ h0 h1 h2 h3 h4 h5 h6 (j 0) (j 1)

end Cert.Proof

end
-- ==== Proof.lean ====
/- The claims, assembled: the mixer and each feed-forward kernel runs, keeps its arguments and leaves no semaphore raised; its ideal form is the
   same program over the extended reals; and that form's result array equals the reference's. -/
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnPle
public import proofs.«01_k».proof.Proof.Gen.FfnPle.Skeleton
public import proofs.«01_k».proof.Proof.Gen.FfnPle.Launch
public import proofs.«01_k».proof.Proof.Gen.FfnPle.Points
public import proofs.«01_k».proof.Proof.Gen.FfnPle.Frame
public import proofs.«01_k».proof.Proof.Gen.FfnPleIdeal
public import proofs.«01_k».proof.Proof.Gen.FfnPleIdeal.Skeleton
public import proofs.«01_k».proof.Proof.Gen.FfnPleIdeal.Launch
public import proofs.«01_k».proof.Proof.Gen.FfnPleIdeal.Points
public import proofs.«01_k».proof.Proof.Gen.FfnPleIdeal.Frame
public import proofs.«01_k».proof.Proof.Gen.FfnPleRefIdeal
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.FfnIdeal.Value
public import proofs.«01_k».proof.Proof.Gen.FfnPleIdeal.Value
public import proofs.«01_k».proof.Proof.Gen.FfnRefIdeal.Run
public import proofs.«01_k».proof.Proof.Gen.FfnPleRefIdeal.Run
public import proofs.«01_k».proof.Proof.MixerClaims
public import proofs.«01_k».proof.Proof.FfnClaims
public import Idealize.ShloMosaic.Adequacy
public import Idealize.ShloMosaic.Init

@[expose] public section

noncomputable section

namespace Cert.Proof

open Idealize.ShloMosaic Idealize.SL.Sem Cert.Ffn

/-- Everything this certificate claims. -/
theorem claim : Cert.Claim := ⟨Cert.Mixer.Gen.facts, Cert.MixerIdeal.Gen.facts, Cert.MixerRefIdeal.Gen.facts, Cert.Ffn.Gen.facts, Cert.FfnIdeal.Gen.facts, Cert.FfnRefIdeal.Gen.facts, Cert.FfnPle.Gen.facts, Cert.FfnPleIdeal.Gen.facts, Cert.FfnPleRefIdeal.Gen.facts, Cert.Pre_finite.Gen.facts,
  fun m g _ => Cert.Mixer.Gen.frame m g,
  fun m g _ => Cert.MixerIdeal.Gen.frame m g,
  fun m g _ => Cert.MixerIdeal.Gen.frame m g,
  quiescent_MixerRefIdeal,
  quiescent_MixerRefIdeal_finite,
  fun m g _ => Cert.Ffn.Gen.frame m g,
  fun m g _ => Cert.FfnIdeal.Gen.frame m g,
  quiescent_FfnRefIdeal,
  fun m g _ => Cert.FfnPle.Gen.frame m g,
  fun m g _ => Cert.FfnPleIdeal.Gen.frame m g,
  quiescent_FfnPleRefIdeal,
  trivial,
  algebraic_Mixer,
  trivial,
  algebraic_Ffn,
  trivial,
  algebraic_FfnPle⟩

end Cert.Proof

end
